-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v7_0)) (v2 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_v7_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S3x128x768 : Shape := ⟨3, ![3, 128, 768]⟩
abbrev S768 : Shape := ⟨1, ![768]⟩
abbrev S400000x384 : Shape := ⟨2, ![400000, 384]⟩
abbrev S400000 : Shape := ⟨1, ![400000]⟩
abbrev S400000x768 : Shape := ⟨2, ![400000, 768]⟩
abbrev S3x128x100 : Shape := ⟨3, ![3, 128, 100]⟩
abbrev S_ : Shape := ⟨0, ![]⟩

class Facts : Prop where
  bcast_S_S3x128x100 : S_.BroadcastsInDim S3x128x100 (![] : Fin 0 → Fin S3x128x100.rank)
  reducesTo_S3x128x100_S_d0_1_2 : S3x128x100.ReducesTo [0, 1, 2] S_
  h_S_ : 0 < S_.numel

variable [Facts]

def fn {F : FTy → Type} [FloatOps F] (main_arg0 : FVec F S3x128x768 .bf16) (main_arg1 : FVec F S768 .f32) (main_arg2 : IVec S400000x384 8) (main_arg3 : IVec S400000 16) (main_arg4 : IVec S400000 16) (main_arg5 : IVec S400000x768 8) (main_arg6 : IVec S3x128x100 32) : IVec S_ 1 :=
  let main_c : IVec S_ 32 := constantI S_ 32 0#32
  let main_v0 : IVec S3x128x100 32 := broadcastInDim S3x128x100 ![] bcast_S_S3x128x100 main_c
  let main_v1 : IVec S3x128x100 1 := cmpi .sge main_arg6 main_v0
  let main_c_0 : IVec S_ 32 := constantI S_ 32 400000#32
  let main_v2 : IVec S3x128x100 32 := broadcastInDim S3x128x100 ![] bcast_S_S3x128x100 main_c_0
  let main_v3 : IVec S3x128x100 1 := cmpi .slt main_arg6 main_v2
  let main_v4 : IVec S3x128x100 1 := andi main_v1 main_v3
  let main_c_1 : IVec S_ 1 := constantI S_ 1 1#1
  let main_v5 : IVec S_ 1 := (fun x v => Host.reduce IntOp.andi x v reducesTo_S3x128x100_S_d0_1_2 h_S_) main_v4 main_c_1
  main_v5
-- ==== Kernel.lean ====
abbrev S3x128x768 : Shape := ⟨3, ![3, 128, 768]⟩
abbrev S768 : Shape := ⟨1, ![768]⟩
abbrev S400000x384 : Shape := ⟨2, ![400000, 384]⟩
abbrev S400000 : Shape := ⟨1, ![400000]⟩
abbrev S400000x768 : Shape := ⟨2, ![400000, 768]⟩
abbrev S3x128x100 : Shape := ⟨3, ![3, 128, 100]⟩
abbrev S_ : Shape := ⟨0, ![]⟩
abbrev S384x768 : Shape := ⟨2, ![384, 768]⟩
abbrev S1x768 : Shape := ⟨2, ![1, 768]⟩
abbrev S384x1 : Shape := ⟨2, ![384, 1]⟩
abbrev S384x128 : Shape := ⟨2, ![384, 128]⟩
abbrev S384 : Shape := ⟨1, ![384]⟩
abbrev S768x768 : Shape := ⟨2, ![768, 768]⟩
abbrev S192x1x200 : Shape := ⟨3, ![192, 1, 200]⟩
abbrev S100000x4x768 : Shape := ⟨3, ![100000, 4, 768]⟩
abbrev S100000x768x4 : Shape := ⟨3, ![100000, 768, 4]⟩
abbrev S100000x768 : Shape := ⟨2, ![100000, 768]⟩
abbrev S384x400000 : Shape := ⟨2, ![384, 400000]⟩
abbrev S3x104x128 : Shape := ⟨3, ![3, 104, 128]⟩
abbrev S1x1x200 : Shape := ⟨3, ![1, 1, 200]⟩
abbrev S2048x384 : Shape := ⟨2, ![2048, 384]⟩
abbrev S2048 : Shape := ⟨1, ![2048]⟩
abbrev S384x2048 : Shape := ⟨2, ![384, 2048]⟩
abbrev S1x104x128 : Shape := ⟨3, ![1, 104, 128]⟩
abbrev S2x208x768 : Shape := ⟨3, ![2, 208, 768]⟩
abbrev S2x208x128 : Shape := ⟨3, ![2, 208, 128]⟩
abbrev S2 : Shape := ⟨1, ![2]⟩
abbrev S1x1x1 : Shape := ⟨3, ![1, 1, 1]⟩
abbrev S1 : Shape := ⟨1, ![1]⟩
abbrev S1x1x768 : Shape := ⟨3, ![1, 1, 768]⟩
abbrev S1x128 : Shape := ⟨2, ![1, 128]⟩
abbrev S1x1x128 : Shape := ⟨3, ![1, 1, 128]⟩
abbrev S512x384 : Shape := ⟨2, ![512, 384]⟩
abbrev S2048x768 : Shape := ⟨2, ![2048, 768]⟩
abbrev S1x2048 : Shape := ⟨2, ![1, 2048]⟩
abbrev S1x200x768 : Shape := ⟨3, ![1, 200, 768]⟩
abbrev S200x768 : Shape := ⟨2, ![200, 768]⟩
abbrev S104x128 : Shape := ⟨2, ![104, 128]⟩
abbrev S8x128 : Shape := ⟨2, ![8, 128]⟩
abbrev S128 : Shape := ⟨1, ![128]⟩
abbrev S104 : Shape := ⟨1, ![104]⟩
abbrev S104x1 : Shape := ⟨2, ![104, 1]⟩

abbrev nBuf : Space → Nat
  | .hbm => 28
  | .vmem => 24
  | .smem => 2
  | _ => 0

abbrev bufTy : (tb : Table) → Fin (tcTables nBuf tb) → BufTy
  | .hbm, ⟨0, _⟩ => ⟨S3x128x768, .bf16⟩
  | .hbm, ⟨1, _⟩ => ⟨S768, .f32⟩
  | .hbm, ⟨2, _⟩ => ⟨S400000x384, .i8⟩
  | .hbm, ⟨3, _⟩ => ⟨S400000, .i16⟩
  | .hbm, ⟨4, _⟩ => ⟨S400000, .i16⟩
  | .hbm, ⟨5, _⟩ => ⟨S400000x768, .i8⟩
  | .hbm, ⟨6, _⟩ => ⟨S3x128x100, .i32⟩
  | .hbm, ⟨7, _⟩ => ⟨S400000, .i32⟩
  | .hbm, ⟨8, _⟩ => ⟨S400000, .i32⟩
  | .hbm, ⟨9, _⟩ => ⟨S_, .i32⟩
  | .hbm, ⟨10, _⟩ => ⟨S400000, .i32⟩
  | .hbm, ⟨11, _⟩ => ⟨S400000, .i32⟩
  | .hbm, ⟨12, _⟩ => ⟨S400000, .i32⟩
  | .hbm, ⟨13, _⟩ => ⟨S384x768, .bf16⟩
  | .hbm, ⟨14, _⟩ => ⟨S1x768, .f32⟩
  | .hbm, ⟨15, _⟩ => ⟨S384x768, .i8⟩
  | .hbm, ⟨16, _⟩ => ⟨S384x1, .f32⟩
  | .hbm, ⟨17, _⟩ => ⟨S384x768, .bf16⟩
  | .hbm, ⟨18, _⟩ => ⟨S384x768, .f32⟩
  | .hbm, ⟨19, _⟩ => ⟨S384x128, .f32⟩
  | .hbm, ⟨20, _⟩ => ⟨S384x128, .f32⟩
  | .hbm, ⟨21, _⟩ => ⟨S384x128, .f32⟩
  | .hbm, ⟨22, _⟩ => ⟨S192x1x200, .i32⟩
  | .hbm, ⟨23, _⟩ => ⟨S100000x4x768, .i8⟩
  | .hbm, ⟨24, _⟩ => ⟨S100000x768x4, .i8⟩
  | .hbm, ⟨25, _⟩ => ⟨S100000x768, .i32⟩
  | .hbm, ⟨26, _⟩ => ⟨S384x400000, .f32⟩
  | .hbm, ⟨27, _⟩ => ⟨S3x104x128, .f32⟩
  | .local _ .vmem, ⟨0, _⟩ => ⟨S384x768, .bf16⟩
  | .local _ .vmem, ⟨1, _⟩ => ⟨S1x768, .f32⟩
  | .local _ .vmem, ⟨2, _⟩ => ⟨S384x768, .i8⟩
  | .local _ .vmem, ⟨3, _⟩ => ⟨S384x1, .f32⟩
  | .local _ .vmem, ⟨4, _⟩ => ⟨S384x768, .bf16⟩
  | .local _ .vmem, ⟨5, _⟩ => ⟨S384x768, .f32⟩
  | .local _ .vmem, ⟨6, _⟩ => ⟨S384x128, .f32⟩
  | .local _ .vmem, ⟨7, _⟩ => ⟨S384x128, .f32⟩
  | .local _ .vmem, ⟨8, _⟩ => ⟨S384x128, .f32⟩
  | .local _ .vmem, ⟨9, _⟩ => ⟨S384x768, .bf16⟩
  | .local _ .vmem, ⟨10, _⟩ => ⟨S2048x384, .i8⟩
  | .local _ .vmem, ⟨11, _⟩ => ⟨S2048x384, .i8⟩
  | .local _ .vmem, ⟨12, _⟩ => ⟨S2048, .i32⟩
  | .local _ .vmem, ⟨13, _⟩ => ⟨S2048, .i32⟩
  | .local _ .vmem, ⟨14, _⟩ => ⟨S384x128, .f32⟩
  | .local _ .vmem, ⟨15, _⟩ => ⟨S384x128, .f32⟩
  | .local _ .vmem, ⟨16, _⟩ => ⟨S384x128, .f32⟩
  | .local _ .vmem, ⟨17, _⟩ => ⟨S384x768, .f32⟩
  | .local _ .vmem, ⟨18, _⟩ => ⟨S384x2048, .f32⟩
  | .local _ .vmem, ⟨19, _⟩ => ⟨S384x2048, .f32⟩
  | .local _ .vmem, ⟨20, _⟩ => ⟨S1x104x128, .f32⟩
  | .local _ .vmem, ⟨21, _⟩ => ⟨S1x104x128, .f32⟩
  | .local _ .vmem, ⟨22, _⟩ => ⟨S2x208x768, .i32⟩
  | .local _ .vmem, ⟨23, _⟩ => ⟨S2x208x128, .i32⟩
  | .local _ .smem, ⟨0, _⟩ => ⟨S1x1x200, .i32⟩
  | .local _ .smem, ⟨1, _⟩ => ⟨S1x1x200, .i32⟩
  | _, _ => ⟨S3x128x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v7_5 : Ref sig .tc := ⟨.hbm, 20, rfl⟩
abbrev main_v7_6 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_stg9_1 : Ref sig .tc := ⟨.vmem, 21, rfl⟩
abbrev cc1_scratch0 : Ref sig .tc := ⟨.vmem, 22, rfl⟩
abbrev cc1_scratch1 : Ref sig .tc := ⟨.vmem, 23, rfl⟩
abbrev cc1_stg0_0 : Ref sig .tc := ⟨.smem, 0, rfl⟩
abbrev cc1_stg0_1 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21
abbrev cc1_sem9_0 : DmaSem sig := 22
abbrev cc1_sem9_1 : DmaSem sig := 23

abbrev nD : Nat := 1
abbrev τ : Topo := Topo.v7x

variable {F : FTy → Type} [FloatOps F]

abbrev grid0 : Pipeline.Grid := .none

abbrev stage0_0 : Fin 1 → Memref sig .tc .vmem S384x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S384x768 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S384x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S384x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S384x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S384x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S384x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S384x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := ⟨1, ![196], ![false]⟩

def k1_cond2 (i : grid1.Coords) : BitVec 1 :=
  let arg0 : BitVec 32 := BitVec.ofNat 32 (i 0).val
  let c192_i32 : BitVec 32 := 192#32
  let v13 : BitVec 1 := Scalar.cmpi .slt arg0 c192_i32
  let v14 : BitVec 32 := Scalar.extui v13
  let c0_i32_5 : BitVec 32 := 0#32
  let v15 : BitVec 1 := Scalar.cmpi .ne v14 c0_i32_5
  v15

def k1_off1 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off2 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_26 : BitVec 32 := 0#32
  let c0_i32_27 : BitVec 32 := 0#32
  ![v9.toNat, 0, 0]
def k1_off3 (v63 : BitVec 32) : Fin 2 → Nat :=
  let c2_i32_25 : BitVec 32 := 2#32
  let v64 : BitVec 32 := Scalar.shrui v63 c2_i32_25
  let c0_i32_28 : BitVec 32 := 0#32
  ![v64.toNat, 0]

def k1_chk1 (i : grid1.Coords) (v63 : BitVec 32) : Prop :=
  (∀ (k1_h2 : k1_cond2 i = 1#1), ∀ a, (k1_off3 v63) a + S1x768.size a ≤ S100000x768.size a)
theorem k1_off3_inb : ∀ (i : grid1.Coords) (v63 : BitVec 32) (k1_hw1 : k1_chk1 i v63), ∀ (k1_h2 : k1_cond2 i = 1#1), ∀ a, (k1_off3 v63) a + S1x768.size a ≤ S100000x768.size a := fun i v63 k1_hw1 k1_h2 => k1_hw1 k1_h2

def k1_off4 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v73 : Index := Scalar.indexCast v9
  let c0_30 : Index := 0#32
  let c0_31 : Index := 0#32
  ![v73.toNat, 0, 0]
def k1_off5 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off6 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_35 : BitVec 32 := 1#32
  let c0_i32_36 : BitVec 32 := 0#32
  ![v9.toNat, 1, 0]
def k1_off7 (v77 : BitVec 32) : Fin 2 → Nat :=
  let c2_i32_34 : BitVec 32 := 2#32
  let v78 : BitVec 32 := Scalar.shrui v77 c2_i32_34
  let c0_i32_37 : BitVec 32 := 0#32
  ![v78.toNat, 0]

def k1_chk2 (i : grid1.Coords) (v77 : BitVec 32) : Prop :=
  (∀ (k1_h2 : k1_cond2 i = 1#1), ∀ a, (k1_off7 v77) a + S1x768.size a ≤ S100000x768.size a)
theorem k1_off7_inb : ∀ (i : grid1.Coords) (v77 : BitVec 32) (k1_hw2 : k1_chk2 i v77), ∀ (k1_h2 : k1_cond2 i = 1#1), ∀ a, (k1_off7 v77) a + S1x768.size a ≤ S100000x768.size a := fun i v77 k1_hw2 k1_h2 => k1_hw2 k1_h2

def k1_off8 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v87 : Index := Scalar.indexCast v9
  let c1_40 : Index := 1#32
  let c0_41 : Index := 0#32
  ![v87.toNat, 1, 0]
def k1_off9 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off10 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32_45 : BitVec 32 := 2#32
  let c0_i32_46 : BitVec 32 := 0#32
  ![v9.toNat, 2, 0]
def k1_off11 (v91 : BitVec 32) : Fin 2 → Nat :=
  let c2_i32_44 : BitVec 32 := 2#32
  let v92 : BitVec 32 := Scalar.shrui v91 c2_i32_44
  let c0_i32_47 : BitVec 32 := 0#32
  ![v92.toNat, 0]

def k1_chk3 (i : grid1.Coords) (v91 : BitVec 32) : Prop :=
  (∀ (k1_h2 : k1_cond2 i = 1#1), ∀ a, (k1_off11 v91) a + S1x768.size a ≤ S100000x768.size a)
theorem k1_off11_inb : ∀ (i : grid1.Coords) (v91 : BitVec 32) (k1_hw3 : k1_chk3 i v91), ∀ (k1_h2 : k1_cond2 i = 1#1), ∀ a, (k1_off11 v91) a + S1x768.size a ≤ S100000x768.size a := fun i v91 k1_hw3 k1_h2 => k1_hw3 k1_h2

def k1_off12 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v101 : Index := Scalar.indexCast v9
  let c2_50 : Index := 2#32
  let c0_51 : Index := 0#32
  ![v101.toNat, 2, 0]
def k1_off13 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off14 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c3_i32_55 : BitVec 32 := 3#32
  let c0_i32_56 : BitVec 32 := 0#32
  ![v9.toNat, 3, 0]
def k1_off15 (v105 : BitVec 32) : Fin 2 → Nat :=
  let c2_i32_54 : BitVec 32 := 2#32
  let v106 : BitVec 32 := Scalar.shrui v105 c2_i32_54
  let c0_i32_57 : BitVec 32 := 0#32
  ![v106.toNat, 0]

def k1_chk4 (i : grid1.Coords) (v105 : BitVec 32) : Prop :=
  (∀ (k1_h2 : k1_cond2 i = 1#1), ∀ a, (k1_off15 v105) a + S1x768.size a ≤ S100000x768.size a)
theorem k1_off15_inb : ∀ (i : grid1.Coords) (v105 : BitVec 32) (k1_hw4 : k1_chk4 i v105), ∀ (k1_h2 : k1_cond2 i = 1#1), ∀ a, (k1_off15 v105) a + S1x768.size a ≤ S100000x768.size a := fun i v105 k1_hw4 k1_h2 => k1_hw4 k1_h2

def k1_off16 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v115 : Index := Scalar.indexCast v9
  let c3_60 : Index := 3#32
  let c0_61 : Index := 0#32
  ![v115.toNat, 3, 0]
def k1_off17 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off18 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32_65 : BitVec 32 := 4#32
  let c0_i32_66 : BitVec 32 := 0#32
  ![v9.toNat, 4, 0]
def k1_off19 (v119 : BitVec 32) : Fin 2 → Nat :=
  let c2_i32_64 : BitVec 32 := 2#32
  let v120 : BitVec 32 := Scalar.shrui v119 c2_i32_64
  let c0_i32_67 : BitVec 32 := 0#32
  ![v120.toNat, 0]

def k1_chk5 (i : grid1.Coords) (v119 : BitVec 32) : Prop :=
  (∀ (k1_h2 : k1_cond2 i = 1#1), ∀ a, (k1_off19 v119) a + S1x768.size a ≤ S100000x768.size a)
theorem k1_off19_inb : ∀ (i : grid1.Coords) (v119 : BitVec 32) (k1_hw5 : k1_chk5 i v119), ∀ (k1_h2 : k1_cond2 i = 1#1), ∀ a, (k1_off19 v119) a + S1x768.size a ≤ S100000x768.size a := fun i v119 k1_hw5 k1_h2 => k1_hw5 k1_h2

def k1_off20 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v129 : Index := Scalar.indexCast v9
  let c4_70 : Index := 4#32
  let c0_71 : Index := 0#32
  ![v129.toNat, 4, 0]
def k1_off21 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off22 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c5_i32 : BitVec 32 := 5#32
  let c0_i32_75 : BitVec 32 := 0#32
  ![v9.toNat, 5, 0]
def k1_off23 (v133 : BitVec 32) : Fin 2 → Nat :=
  let c2_i32_74 : BitVec 32 := 2#32
  let v134 : BitVec 32 := Scalar.shrui v133 c2_i32_74
  let c0_i32_76 : BitVec 32 := 0#32
  ![v134.toNat, 0]

def k1_chk6 (i : grid1.Coords) (v133 : BitVec 32) : Prop :=
  (∀ (k1_h2 : k1_cond2 i = 1#1), ∀ a, (k1_off23 v133) a + S1x768.size a ≤ S100000x768.size a)
theorem k1_off23_inb : ∀ (i : grid1.Coords) (v133 : BitVec 32) (k1_hw6 : k1_chk6 i v133), ∀ (k1_h2 : k1_cond2 i = 1#1), ∀ a, (k1_off23 v133) a + S1x768.size a ≤ S100000x768.size a := fun i v133 k1_hw6 k1_h2 => k1_hw6 k1_h2

def k1_off24 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v143 : Index := Scalar.indexCast v9
  let c5_79 : Index := 5#32
  let c0_80 : Index := 0#32
  ![v143.toNat, 5, 0]
def k1_off25 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off26 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c6_i32 : BitVec 32 := 6#32
  let c0_i32_84 : BitVec 32 := 0#32
  ![v9.toNat, 6, 0]
def k1_off27 (v147 : BitVec 32) : Fin 2 → Nat :=
  let c2_i32_83 : BitVec 32 := 2#32
  let v148 : BitVec 32 := Scalar.shrui v147 c2_i32_83
  let c0_i32_85 : BitVec 32 := 0#32
  ![v148.toNat, 0]

def k1_chk7 (i : grid1.Coords) (v147 : BitVec 32) : Prop :=
  (∀ (k1_h2 : k1_cond2 i = 1#1), ∀ a, (k1_off27 v147) a + S1x768.size a ≤ S100000x768.size a)
theorem k1_off27_inb : ∀ (i : grid1.Coords) (v147 : BitVec 32) (k1_hw7 : k1_chk7 i v147), ∀ (k1_h2 : k1_cond2 i = 1#1), ∀ a, (k1_off27 v147) a + S1x768.size a ≤ S100000x768.size a := fun i v147 k1_hw7 k1_h2 => k1_hw7 k1_h2

def k1_off28 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v157 : Index := Scalar.indexCast v9
  let c6_88 : Index := 6#32
  let c0_89 : Index := 0#32
  ![v157.toNat, 6, 0]
def k1_off29 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off30 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c7_i32 : BitVec 32 := 7#32
  let c0_i32_93 : BitVec 32 := 0#32
  ![v9.toNat, 7, 0]
def k1_off31 (v161 : BitVec 32) : Fin 2 → Nat :=
  let c2_i32_92 : BitVec 32 := 2#32
  let v162 : BitVec 32 := Scalar.shrui v161 c2_i32_92
  let c0_i32_94 : BitVec 32 := 0#32
  ![v162.toNat, 0]

def k1_chk8 (i : grid1.Coords) (v161 : BitVec 32) : Prop :=
  (∀ (k1_h2 : k1_cond2 i = 1#1), ∀ a, (k1_off31 v161) a + S1x768.size a ≤ S100000x768.size a)
theorem k1_off31_inb : ∀ (i : grid1.Coords) (v161 : BitVec 32) (k1_hw8 : k1_chk8 i v161), ∀ (k1_h2 : k1_cond2 i = 1#1), ∀ a, (k1_off31 v161) a + S1x768.size a ≤ S100000x768.size a := fun i v161 k1_hw8 k1_h2 => k1_hw8 k1_h2

def k1_off32 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v171 : Index := Scalar.indexCast v9
  let c7_97 : Index := 7#32
  let c0_98 : Index := 0#32
  ![v171.toNat, 7, 0]
def k1_off33 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off34 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let c0_i32_102 : BitVec 32 := 0#32
  ![v9.toNat, 8, 0]
def k1_off35 (v175 : BitVec 32) : Fin 2 → Nat :=
  let c2_i32_101 : BitVec 32 := 2#32
  let v176 : BitVec 32 := Scalar.shrui v175 c2_i32_101
  let c0_i32_103 : BitVec 32 := 0#32
  ![v176.toNat, 0]

def k1_chk9 (i : grid1.Coords) (v175 : BitVec 32) : Prop :=
  (∀ (k1_h2 : k1_cond2 i = 1#1), ∀ a, (k1_off35 v175) a + S1x768.size a ≤ S100000x768.size a)
theorem k1_off35_inb : ∀ (i : grid1.Coords) (v175 : BitVec 32) (k1_hw9 : k1_chk9 i v175), ∀ (k1_h2 : k1_cond2 i = 1#1), ∀ a, (k1_off35 v175) a + S1x768.size a ≤ S100000x768.size a := fun i v175 k1_hw9 k1_h2 => k1_hw9 k1_h2

def k1_off36 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v185 : Index := Scalar.indexCast v9
  let c8_106 : Index := 8#32
  let c0_107 : Index := 0#32
  ![v185.toNat, 8, 0]
def k1_off37 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off38 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c9_i32 : BitVec 32 := 9#32
  let c0_i32_111 : BitVec 32 := 0#32
  ![v9.toNat, 9, 0]
def k1_off39 (v189 : BitVec 32) : Fin 2 → Nat :=
  let c2_i32_110 : BitVec 32 := 2#32
  let v190 : BitVec 32 := Scalar.shrui v189 c2_i32_110
  let c0_i32_112 : BitVec 32 := 0#32
  ![v190.toNat, 0]

def k1_chk10 (i : grid1.Coords) (v189 : BitVec 32) : Prop :=
  (∀ (k1_h2 : k1_cond2 i = 1#1), ∀ a, (k1_off39 v189) a + S1x768.size a ≤ S100000x768.size a)
theorem k1_off39_inb : ∀ (i : grid1.Coords) (v189 : BitVec 32) (k1_hw10 : k1_chk10 i v189), ∀ (k1_h2 : k1_cond2 i = 1#1), ∀ a, (k1_off39 v189) a + S1x768.size a ≤ S100000x768.size a := fun i v189 k1_hw10 k1_h2 => k1_hw10 k1_h2

def k1_off40 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v199 : Index := Scalar.indexCast v9
  let c9_115 : Index := 9#32
  let c0_116 : Index := 0#32
  ![v199.toNat, 9, 0]
def k1_off41 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off42 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c10_i32 : BitVec 32 := 10#32
  let c0_i32_120 : BitVec 32 := 0#32
  ![v9.toNat, 10, 0]
def k1_off43 (v203 : BitVec 32) : Fin 2 → Nat :=
  let c2_i32_119 : BitVec 32 := 2#32
  let v204 : BitVec 32 := Scalar.shrui v203 c2_i32_119
  let c0_i32_121 : BitVec 32 := 0#32
  ![v204.toNat, 0]

def k1_chk11 (i : grid1.Coords) (v203 : BitVec 32) : Prop :=
  (∀ (k1_h2 : k1_cond2 i = 1#1), ∀ a, (k1_off43 v203) a + S1x768.size a ≤ S100000x768.size a)
theorem k1_off43_inb : ∀ (i : grid1.Coords) (v203 : BitVec 32) (k1_hw11 : k1_chk11 i v203), ∀ (k1_h2 : k1_cond2 i = 1#1), ∀ a, (k1_off43 v203) a + S1x768.size a ≤ S100000x768.size a := fun i v203 k1_hw11 k1_h2 => k1_hw11 k1_h2

def k1_off44 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v213 : Index := Scalar.indexCast v9
  let c10_124 : Index := 10#32
  let c0_125 : Index := 0#32
  ![v213.toNat, 10, 0]
def k1_off45 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off46 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c11_i32 : BitVec 32 := 11#32
  let c0_i32_129 : BitVec 32 := 0#32
  ![v9.toNat, 11, 0]
def k1_off47 (v217 : BitVec 32) : Fin 2 → Nat :=
  let c2_i32_128 : BitVec 32 := 2#32
  let v218 : BitVec 32 := Scalar.shrui v217 c2_i32_128
  let c0_i32_130 : BitVec 32 := 0#32
  ![v218.toNat, 0]

def k1_chk12 (i : grid1.Coords) (v217 : BitVec 32) : Prop :=
  (∀ (k1_h2 : k1_cond2 i = 1#1), ∀ a, (k1_off47 v217) a + S1x768.size a ≤ S100000x768.size a)
theorem k1_off47_inb : ∀ (i : grid1.Coords) (v217 : BitVec 32) (k1_hw12 : k1_chk12 i v217), ∀ (k1_h2 : k1_cond2 i = 1#1), ∀ a, (k1_off47 v217) a + S1x768.size a ≤ S100000x768.size a := fun i v217 k1_hw12 k1_h2 => k1_hw12 k1_h2

def k1_off48 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v227 : Index := Scalar.indexCast v9
  let c11_133 : Index := 11#32
  let c0_134 : Index := 0#32
  ![v227.toNat, 11, 0]
def k1_off49 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off50 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c12_i32 : BitVec 32 := 12#32
  let c0_i32_138 : BitVec 32 := 0#32
  ![v9.toNat, 12, 0]
def k1_off51 (v231 : BitVec 32) : Fin 2 → Nat :=
  let c2_i32_137 : BitVec 32 := 2#32
  let v232 : BitVec 32 := Scalar.shrui v231 c2_i32_137
  let c0_i32_139 : BitVec 32 := 0#32
  ![v232.toNat, 0]

def k1_chk13 (i : grid1.Coords) (v231 : BitVec 32) : Prop :=
  (∀ (k1_h2 : k1_cond2 i = 1#1), ∀ a, (k1_off51 v231) a + S1x768.size a ≤ S100000x768.size a)
theorem k1_off51_inb : ∀ (i : grid1.Coords) (v231 : BitVec 32) (k1_hw13 : k1_chk13 i v231), ∀ (k1_h2 : k1_cond2 i = 1#1), ∀ a, (k1_off51 v231) a + S1x768.size a ≤ S100000x768.size a := fun i v231 k1_hw13 k1_h2 => k1_hw13 k1_h2

def k1_off52 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v241 : Index := Scalar.indexCast v9
  let c12_142 : Index := 12#32
  let c0_143 : Index := 0#32
  ![v241.toNat, 12, 0]
def k1_off53 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off54 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c13_i32 : BitVec 32 := 13#32
  let c0_i32_147 : BitVec 32 := 0#32
  ![v9.toNat, 13, 0]
def k1_off55 (v245 : BitVec 32) : Fin 2 → Nat :=
  let c2_i32_146 : BitVec 32 := 2#32
  let v246 : BitVec 32 := Scalar.shrui v245 c2_i32_146
  let c0_i32_148 : BitVec 32 := 0#32
  ![v246.toNat, 0]

def k1_chk14 (i : grid1.Coords) (v245 : BitVec 32) : Prop :=
  (∀ (k1_h2 : k1_cond2 i = 1#1), ∀ a, (k1_off55 v245) a + S1x768.size a ≤ S100000x768.size a)
theorem k1_off55_inb : ∀ (i : grid1.Coords) (v245 : BitVec 32) (k1_hw14 : k1_chk14 i v245), ∀ (k1_h2 : k1_cond2 i = 1#1), ∀ a, (k1_off55 v245) a + S1x768.size a ≤ S100000x768.size a := fun i v245 k1_hw14 k1_h2 => k1_hw14 k1_h2

def k1_off56 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v255 : Index := Scalar.indexCast v9
  let c13_151 : Index := 13#32
  let c0_152 : Index := 0#32
  ![v255.toNat, 13, 0]
def k1_off57 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off58 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c14_i32 : BitVec 32 := 14#32
  let c0_i32_156 : BitVec 32 := 0#32
  ![v9.toNat, 14, 0]
def k1_off59 (v259 : BitVec 32) : Fin 2 → Nat :=
  let c2_i32_155 : BitVec 32 := 2#32
  let v260 : BitVec 32 := Scalar.shrui v259 c2_i32_155
  let c0_i32_157 : BitVec 32 := 0#32
  ![v260.toNat, 0]

def k1_chk15 (i : grid1.Coords) (v259 : BitVec 32) : Prop :=
  (∀ (k1_h2 : k1_cond2 i = 1#1), ∀ a, (k1_off59 v259) a + S1x768.size a ≤ S100000x768.size a)
theorem k1_off59_inb : ∀ (i : grid1.Coords) (v259 : BitVec 32) (k1_hw15 : k1_chk15 i v259), ∀ (k1_h2 : k1_cond2 i = 1#1), ∀ a, (k1_off59 v259) a + S1x768.size a ≤ S100000x768.size a := fun i v259 k1_hw15 k1_h2 => k1_hw15 k1_h2

def k1_off60 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v269 : Index := Scalar.indexCast v9
  let c14_160 : Index := 14#32
  let c0_161 : Index := 0#32
  ![v269.toNat, 14, 0]
def k1_off61 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off62 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c15_i32 : BitVec 32 := 15#32
  let c0_i32_165 : BitVec 32 := 0#32
  ![v9.toNat, 15, 0]
def k1_off63 (v273 : BitVec 32) : Fin 2 → Nat :=
  let c2_i32_164 : BitVec 32 := 2#32
  let v274 : BitVec 32 := Scalar.shrui v273 c2_i32_164
  let c0_i32_166 : BitVec 32 := 0#32
  ![v274.toNat, 0]

def k1_chk16 (i : grid1.Coords) (v273 : BitVec 32) : Prop :=
  (∀ (k1_h2 : k1_cond2 i = 1#1), ∀ a, (k1_off63 v273) a + S1x768.size a ≤ S100000x768.size a)
theorem k1_off63_inb : ∀ (i : grid1.Coords) (v273 : BitVec 32) (k1_hw16 : k1_chk16 i v273), ∀ (k1_h2 : k1_cond2 i = 1#1), ∀ a, (k1_off63 v273) a + S1x768.size a ≤ S100000x768.size a := fun i v273 k1_hw16 k1_h2 => k1_hw16 k1_h2

def k1_off64 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v283 : Index := Scalar.indexCast v9
  let c15_169 : Index := 15#32
  let c0_170 : Index := 0#32
  ![v283.toNat, 15, 0]
def k1_off65 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off66 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c16_i32_174 : BitVec 32 := 16#32
  let c0_i32_175 : BitVec 32 := 0#32
  ![v9.toNat, 16, 0]
def k1_off67 (v287 : BitVec 32) : Fin 2 → Nat :=
  let c2_i32_173 : BitVec 32 := 2#32
  let v288 : BitVec 32 := Scalar.shrui v287 c2_i32_173
  let c0_i32_176 : BitVec 32 := 0#32
  ![v288.toNat, 0]

def k1_chk17 (i : grid1.Coords) (v287 : BitVec 32) : Prop :=
  (∀ (k1_h2 : k1_cond2 i = 1#1), ∀ a, (k1_off67 v287) a + S1x768.size a ≤ S100000x768.size a)
theorem k1_off67_inb : ∀ (i : grid1.Coords) (v287 : BitVec 32) (k1_hw17 : k1_chk17 i v287), ∀ (k1_h2 : k1_cond2 i = 1#1), ∀ a, (k1_off67 v287) a + S1x768.size a ≤ S100000x768.size a := fun i v287 k1_hw17 k1_h2 => k1_hw17 k1_h2

def k1_off68 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v297 : Index := Scalar.indexCast v9
  let c16_179 : Index := 16#32
  let c0_180 : Index := 0#32
  ![v297.toNat, 16, 0]
def k1_off69 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off70 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c17_i32 : BitVec 32 := 17#32
  let c0_i32_184 : BitVec 32 := 0#32
  ![v9.toNat, 17, 0]
def k1_off71 (v301 : BitVec 32) : Fin 2 → Nat :=
  let c2_i32_183 : BitVec 32 := 2#32
  let v302 : BitVec 32 := Scalar.shrui v301 c2_i32_183
  let c0_i32_185 : BitVec 32 := 0#32
  ![v302.toNat, 0]

def k1_chk18 (i : grid1.Coords) (v301 : BitVec 32) : Prop :=
  (∀ (k1_h2 : k1_cond2 i = 1#1), ∀ a, (k1_off71 v301) a + S1x768.size a ≤ S100000x768.size a)
theorem k1_off71_inb : ∀ (i : grid1.Coords) (v301 : BitVec 32) (k1_hw18 : k1_chk18 i v301), ∀ (k1_h2 : k1_cond2 i = 1#1), ∀ a, (k1_off71 v301) a + S1x768.size a ≤ S100000x768.size a := fun i v301 k1_hw18 k1_h2 => k1_hw18 k1_h2

def k1_off72 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v311 : Index := Scalar.indexCast v9
  let c17_188 : Index := 17#32
  let c0_189 : Index := 0#32
  ![v311.toNat, 17, 0]
def k1_off73 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off74 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c18_i32 : BitVec 32 := 18#32
  let c0_i32_193 : BitVec 32 := 0#32
  ![v9.toNat, 18, 0]
def k1_off75 (v315 : BitVec 32) : Fin 2 → Nat :=
  let c2_i32_192 : BitVec 32 := 2#32
  let v316 : BitVec 32 := Scalar.shrui v315 c2_i32_192
  let c0_i32_194 : BitVec 32 := 0#32
  ![v316.toNat, 0]

def k1_chk19 (i : grid1.Coords) (v315 : BitVec 32) : Prop :=
  (∀ (k1_h2 : k1_cond2 i = 1#1), ∀ a, (k1_off75 v315) a + S1x768.size a ≤ S100000x768.size a)
theorem k1_off75_inb : ∀ (i : grid1.Coords) (v315 : BitVec 32) (k1_hw19 : k1_chk19 i v315), ∀ (k1_h2 : k1_cond2 i = 1#1), ∀ a, (k1_off75 v315) a + S1x768.size a ≤ S100000x768.size a := fun i v315 k1_hw19 k1_h2 => k1_hw19 k1_h2

def k1_off76 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v325 : Index := Scalar.indexCast v9
  let c18_197 : Index := 18#32
  let c0_198 : Index := 0#32
  ![v325.toNat, 18, 0]
def k1_off77 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off78 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c19_i32 : BitVec 32 := 19#32
  let c0_i32_202 : BitVec 32 := 0#32
  ![v9.toNat, 19, 0]
def k1_off79 (v329 : BitVec 32) : Fin 2 → Nat :=
  let c2_i32_201 : BitVec 32 := 2#32
  let v330 : BitVec 32 := Scalar.shrui v329 c2_i32_201
  let c0_i32_203 : BitVec 32 := 0#32
  ![v330.toNat, 0]

def k1_chk20 (i : grid1.Coords) (v329 : BitVec 32) : Prop :=
  (∀ (k1_h2 : k1_cond2 i = 1#1), ∀ a, (k1_off79 v329) a + S1x768.size a ≤ S100000x768.size a)
theorem k1_off79_inb : ∀ (i : grid1.Coords) (v329 : BitVec 32) (k1_hw20 : k1_chk20 i v329), ∀ (k1_h2 : k1_cond2 i = 1#1), ∀ a, (k1_off79 v329) a + S1x768.size a ≤ S100000x768.size a := fun i v329 k1_hw20 k1_h2 => k1_hw20 k1_h2

def k1_off80 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v339 : Index := Scalar.indexCast v9
  let c19_206 : Index := 19#32
  let c0_207 : Index := 0#32
  ![v339.toNat, 19, 0]
def k1_off81 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off82 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c20_i32 : BitVec 32 := 20#32
  let c0_i32_211 : BitVec 32 := 0#32
  ![v9.toNat, 20, 0]
def k1_off83 (v343 : BitVec 32) : Fin 2 → Nat :=
  let c2_i32_210 : BitVec 32 := 2#32
  let v344 : BitVec 32 := Scalar.shrui v343 c2_i32_210
  let c0_i32_212 : BitVec 32 := 0#32
  ![v344.toNat, 0]

def k1_chk21 (i : grid1.Coords) (v343 : BitVec 32) : Prop :=
  (∀ (k1_h2 : k1_cond2 i = 1#1), ∀ a, (k1_off83 v343) a + S1x768.size a ≤ S100000x768.size a)
theorem k1_off83_inb : ∀ (i : grid1.Coords) (v343 : BitVec 32) (k1_hw21 : k1_chk21 i v343), ∀ (k1_h2 : k1_cond2 i = 1#1), ∀ a, (k1_off83 v343) a + S1x768.size a ≤ S100000x768.size a := fun i v343 k1_hw21 k1_h2 => k1_hw21 k1_h2

def k1_off84 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v353 : Index := Scalar.indexCast v9
  let c20_215 : Index := 20#32
  let c0_216 : Index := 0#32
  ![v353.toNat, 20, 0]
def k1_off85 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off86 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c21_i32 : BitVec 32 := 21#32
  let c0_i32_220 : BitVec 32 := 0#32
  ![v9.toNat, 21, 0]
def k1_off87 (v357 : BitVec 32) : Fin 2 → Nat :=
  let c2_i32_219 : BitVec 32 := 2#32
  let v358 : BitVec 32 := Scalar.shrui v357 c2_i32_219
  let c0_i32_221 : BitVec 32 := 0#32
  ![v358.toNat, 0]

def k1_chk22 (i : grid1.Coords) (v357 : BitVec 32) : Prop :=
  (∀ (k1_h2 : k1_cond2 i = 1#1), ∀ a, (k1_off87 v357) a + S1x768.size a ≤ S100000x768.size a)
theorem k1_off87_inb : ∀ (i : grid1.Coords) (v357 : BitVec 32) (k1_hw22 : k1_chk22 i v357), ∀ (k1_h2 : k1_cond2 i = 1#1), ∀ a, (k1_off87 v357) a + S1x768.size a ≤ S100000x768.size a := fun i v357 k1_hw22 k1_h2 => k1_hw22 k1_h2

def k1_off88 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v367 : Index := Scalar.indexCast v9
  let c21_224 : Index := 21#32
  let c0_225 : Index := 0#32
  ![v367.toNat, 21, 0]
def k1_off89 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off90 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c22_i32 : BitVec 32 := 22#32
  let c0_i32_229 : BitVec 32 := 0#32
  ![v9.toNat, 22, 0]
def k1_off91 (v371 : BitVec 32) : Fin 2 → Nat :=
  let c2_i32_228 : BitVec 32 := 2#32
  let v372 : BitVec 32 := Scalar.shrui v371 c2_i32_228
  let c0_i32_230 : BitVec 32 := 0#32
  ![v372.toNat, 0]

def k1_chk23 (i : grid1.Coords) (v371 : BitVec 32) : Prop :=
  (∀ (k1_h2 : k1_cond2 i = 1#1), ∀ a, (k1_off91 v371) a + S1x768.size a ≤ S100000x768.size a)
theorem k1_off91_inb : ∀ (i : grid1.Coords) (v371 : BitVec 32) (k1_hw23 : k1_chk23 i v371), ∀ (k1_h2 : k1_cond2 i = 1#1), ∀ a, (k1_off91 v371) a + S1x768.size a ≤ S100000x768.size a := fun i v371 k1_hw23 k1_h2 => k1_hw23 k1_h2

def k1_off92 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v381 : Index := Scalar.indexCast v9
  let c22_233 : Index := 22#32
  let c0_234 : Index := 0#32
  ![v381.toNat, 22, 0]
def k1_off93 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off94 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c23_i32 : BitVec 32 := 23#32
  let c0_i32_238 : BitVec 32 := 0#32
  ![v9.toNat, 23, 0]
def k1_off95 (v385 : BitVec 32) : Fin 2 → Nat :=
  let c2_i32_237 : BitVec 32 := 2#32
  let v386 : BitVec 32 := Scalar.shrui v385 c2_i32_237
  let c0_i32_239 : BitVec 32 := 0#32
  ![v386.toNat, 0]

def k1_chk24 (i : grid1.Coords) (v385 : BitVec 32) : Prop :=
  (∀ (k1_h2 : k1_cond2 i = 1#1), ∀ a, (k1_off95 v385) a + S1x768.size a ≤ S100000x768.size a)
theorem k1_off95_inb : ∀ (i : grid1.Coords) (v385 : BitVec 32) (k1_hw24 : k1_chk24 i v385), ∀ (k1_h2 : k1_cond2 i = 1#1), ∀ a, (k1_off95 v385) a + S1x768.size a ≤ S100000x768.size a := fun i v385 k1_hw24 k1_h2 => k1_hw24 k1_h2

def k1_off96 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v395 : Index := Scalar.indexCast v9
  let c23_242 : Index := 23#32
  let c0_243 : Index := 0#32
  ![v395.toNat, 23, 0]
def k1_off97 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off98 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c24_i32 : BitVec 32 := 24#32
  let c0_i32_247 : BitVec 32 := 0#32
  ![v9.toNat, 24, 0]
def k1_off99 (v399 : BitVec 32) : Fin 2 → Nat :=
  let c2_i32_246 : BitVec 32 := 2#32
  let v400 : BitVec 32 := Scalar.shrui v399 c2_i32_246
  let c0_i32_248 : BitVec 32 := 0#32
  ![v400.toNat, 0]

def k1_chk25 (i : grid1.Coords) (v399 : BitVec 32) : Prop :=
  (∀ (k1_h2 : k1_cond2 i = 1#1), ∀ a, (k1_off99 v399) a + S1x768.size a ≤ S100000x768.size a)
theorem k1_off99_inb : ∀ (i : grid1.Coords) (v399 : BitVec 32) (k1_hw25 : k1_chk25 i v399), ∀ (k1_h2 : k1_cond2 i = 1#1), ∀ a, (k1_off99 v399) a + S1x768.size a ≤ S100000x768.size a := fun i v399 k1_hw25 k1_h2 => k1_hw25 k1_h2

def k1_off100 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v409 : Index := Scalar.indexCast v9
  let c24_251 : Index := 24#32
  let c0_252 : Index := 0#32
  ![v409.toNat, 24, 0]
def k1_off101 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off102 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c25_i32 : BitVec 32 := 25#32
  let c0_i32_256 : BitVec 32 := 0#32
  ![v9.toNat, 25, 0]
def k1_off103 (v413 : BitVec 32) : Fin 2 → Nat :=
  let c2_i32_255 : BitVec 32 := 2#32
  let v414 : BitVec 32 := Scalar.shrui v413 c2_i32_255
  let c0_i32_257 : BitVec 32 := 0#32
  ![v414.toNat, 0]

def k1_chk26 (i : grid1.Coords) (v413 : BitVec 32) : Prop :=
  (∀ (k1_h2 : k1_cond2 i = 1#1), ∀ a, (k1_off103 v413) a + S1x768.size a ≤ S100000x768.size a)
theorem k1_off103_inb : ∀ (i : grid1.Coords) (v413 : BitVec 32) (k1_hw26 : k1_chk26 i v413), ∀ (k1_h2 : k1_cond2 i = 1#1), ∀ a, (k1_off103 v413) a + S1x768.size a ≤ S100000x768.size a := fun i v413 k1_hw26 k1_h2 => k1_hw26 k1_h2

def k1_off104 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v423 : Index := Scalar.indexCast v9
  let c25_260 : Index := 25#32
  let c0_261 : Index := 0#32
  ![v423.toNat, 25, 0]
def k1_off105 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off106 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c26_i32 : BitVec 32 := 26#32
  let c0_i32_265 : BitVec 32 := 0#32
  ![v9.toNat, 26, 0]
def k1_off107 (v427 : BitVec 32) : Fin 2 → Nat :=
  let c2_i32_264 : BitVec 32 := 2#32
  let v428 : BitVec 32 := Scalar.shrui v427 c2_i32_264
  let c0_i32_266 : BitVec 32 := 0#32
  ![v428.toNat, 0]

def k1_chk27 (i : grid1.Coords) (v427 : BitVec 32) : Prop :=
  (∀ (k1_h2 : k1_cond2 i = 1#1), ∀ a, (k1_off107 v427) a + S1x768.size a ≤ S100000x768.size a)
theorem k1_off107_inb : ∀ (i : grid1.Coords) (v427 : BitVec 32) (k1_hw27 : k1_chk27 i v427), ∀ (k1_h2 : k1_cond2 i = 1#1), ∀ a, (k1_off107 v427) a + S1x768.size a ≤ S100000x768.size a := fun i v427 k1_hw27 k1_h2 => k1_hw27 k1_h2

def k1_off108 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v437 : Index := Scalar.indexCast v9
  let c26_269 : Index := 26#32
  let c0_270 : Index := 0#32
  ![v437.toNat, 26, 0]
def k1_off109 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off110 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c27_i32 : BitVec 32 := 27#32
  let c0_i32_274 : BitVec 32 := 0#32
  ![v9.toNat, 27, 0]
def k1_off111 (v441 : BitVec 32) : Fin 2 → Nat :=
  let c2_i32_273 : BitVec 32 := 2#32
  let v442 : BitVec 32 := Scalar.shrui v441 c2_i32_273
  let c0_i32_275 : BitVec 32 := 0#32
  ![v442.toNat, 0]

def k1_chk28 (i : grid1.Coords) (v441 : BitVec 32) : Prop :=
  (∀ (k1_h2 : k1_cond2 i = 1#1), ∀ a, (k1_off111 v441) a + S1x768.size a ≤ S100000x768.size a)
theorem k1_off111_inb : ∀ (i : grid1.Coords) (v441 : BitVec 32) (k1_hw28 : k1_chk28 i v441), ∀ (k1_h2 : k1_cond2 i = 1#1), ∀ a, (k1_off111 v441) a + S1x768.size a ≤ S100000x768.size a := fun i v441 k1_hw28 k1_h2 => k1_hw28 k1_h2

def k1_off112 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v451 : Index := Scalar.indexCast v9
  let c27_278 : Index := 27#32
  let c0_279 : Index := 0#32
  ![v451.toNat, 27, 0]
def k1_off113 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off114 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c28_i32 : BitVec 32 := 28#32
  let c0_i32_283 : BitVec 32 := 0#32
  ![v9.toNat, 28, 0]
def k1_off115 (v455 : BitVec 32) : Fin 2 → Nat :=
  let c2_i32_282 : BitVec 32 := 2#32
  let v456 : BitVec 32 := Scalar.shrui v455 c2_i32_282
  let c0_i32_284 : BitVec 32 := 0#32
  ![v456.toNat, 0]

def k1_chk29 (i : grid1.Coords) (v455 : BitVec 32) : Prop :=
  (∀ (k1_h2 : k1_cond2 i = 1#1), ∀ a, (k1_off115 v455) a + S1x768.size a ≤ S100000x768.size a)
theorem k1_off115_inb : ∀ (i : grid1.Coords) (v455 : BitVec 32) (k1_hw29 : k1_chk29 i v455), ∀ (k1_h2 : k1_cond2 i = 1#1), ∀ a, (k1_off115 v455) a + S1x768.size a ≤ S100000x768.size a := fun i v455 k1_hw29 k1_h2 => k1_hw29 k1_h2

def k1_off116 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v465 : Index := Scalar.indexCast v9
  let c28_287 : Index := 28#32
  let c0_288 : Index := 0#32
  ![v465.toNat, 28, 0]
def k1_off117 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off118 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c29_i32 : BitVec 32 := 29#32
  let c0_i32_292 : BitVec 32 := 0#32
  ![v9.toNat, 29, 0]
def k1_off119 (v469 : BitVec 32) : Fin 2 → Nat :=
  let c2_i32_291 : BitVec 32 := 2#32
  let v470 : BitVec 32 := Scalar.shrui v469 c2_i32_291
  let c0_i32_293 : BitVec 32 := 0#32
  ![v470.toNat, 0]

def k1_chk30 (i : grid1.Coords) (v469 : BitVec 32) : Prop :=
  (∀ (k1_h2 : k1_cond2 i = 1#1), ∀ a, (k1_off119 v469) a + S1x768.size a ≤ S100000x768.size a)
theorem k1_off119_inb : ∀ (i : grid1.Coords) (v469 : BitVec 32) (k1_hw30 : k1_chk30 i v469), ∀ (k1_h2 : k1_cond2 i = 1#1), ∀ a, (k1_off119 v469) a + S1x768.size a ≤ S100000x768.size a := fun i v469 k1_hw30 k1_h2 => k1_hw30 k1_h2

def k1_off120 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v479 : Index := Scalar.indexCast v9
  let c29_296 : Index := 29#32
  let c0_297 : Index := 0#32
  ![v479.toNat, 29, 0]
def k1_off121 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off122 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c30_i32 : BitVec 32 := 30#32
  let c0_i32_301 : BitVec 32 := 0#32
  ![v9.toNat, 30, 0]
def k1_off123 (v483 : BitVec 32) : Fin 2 → Nat :=
  let c2_i32_300 : BitVec 32 := 2#32
  let v484 : BitVec 32 := Scalar.shrui v483 c2_i32_300
  let c0_i32_302 : BitVec 32 := 0#32
  ![v484.toNat, 0]

def k1_chk31 (i : grid1.Coords) (v483 : BitVec 32) : Prop :=
  (∀ (k1_h2 : k1_cond2 i = 1#1), ∀ a, (k1_off123 v483) a + S1x768.size a ≤ S100000x768.size a)
theorem k1_off123_inb : ∀ (i : grid1.Coords) (v483 : BitVec 32) (k1_hw31 : k1_chk31 i v483), ∀ (k1_h2 : k1_cond2 i = 1#1), ∀ a, (k1_off123 v483) a + S1x768.size a ≤ S100000x768.size a := fun i v483 k1_hw31 k1_h2 => k1_hw31 k1_h2

def k1_off124 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v493 : Index := Scalar.indexCast v9
  let c30_305 : Index := 30#32
  let c0_306 : Index := 0#32
  ![v493.toNat, 30, 0]
def k1_off125 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off126 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c31_i32 : BitVec 32 := 31#32
  let c0_i32_310 : BitVec 32 := 0#32
  ![v9.toNat, 31, 0]
def k1_off127 (v497 : BitVec 32) : Fin 2 → Nat :=
  let c2_i32_309 : BitVec 32 := 2#32
  let v498 : BitVec 32 := Scalar.shrui v497 c2_i32_309
  let c0_i32_311 : BitVec 32 := 0#32
  ![v498.toNat, 0]

def k1_chk32 (i : grid1.Coords) (v497 : BitVec 32) : Prop :=
  (∀ (k1_h2 : k1_cond2 i = 1#1), ∀ a, (k1_off127 v497) a + S1x768.size a ≤ S100000x768.size a)
theorem k1_off127_inb : ∀ (i : grid1.Coords) (v497 : BitVec 32) (k1_hw32 : k1_chk32 i v497), ∀ (k1_h2 : k1_cond2 i = 1#1), ∀ a, (k1_off127 v497) a + S1x768.size a ≤ S100000x768.size a := fun i v497 k1_hw32 k1_h2 => k1_hw32 k1_h2

def k1_off128 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v507 : Index := Scalar.indexCast v9
  let c31_314 : Index := 31#32
  let c0_315 : Index := 0#32
  ![v507.toNat, 31, 0]
def k1_off129 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off130 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c32_i32 : BitVec 32 := 32#32
  let c0_i32_319 : BitVec 32 := 0#32
  ![v9.toNat, 32, 0]
def k1_off131 (v511 : BitVec 32) : Fin 2 → Nat :=
  let c2_i32_318 : BitVec 32 := 2#32
  let v512 : BitVec 32 := Scalar.shrui v511 c2_i32_318
  let c0_i32_320 : BitVec 32 := 0#32
  ![v512.toNat, 0]

def k1_chk33 (i : grid1.Coords) (v511 : BitVec 32) : Prop :=
  (∀ (k1_h2 : k1_cond2 i = 1#1), ∀ a, (k1_off131 v511) a + S1x768.size a ≤ S100000x768.size a)
theorem k1_off131_inb : ∀ (i : grid1.Coords) (v511 : BitVec 32) (k1_hw33 : k1_chk33 i v511), ∀ (k1_h2 : k1_cond2 i = 1#1), ∀ a, (k1_off131 v511) a + S1x768.size a ≤ S100000x768.size a := fun i v511 k1_hw33 k1_h2 => k1_hw33 k1_h2

def k1_off132 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v521 : Index := Scalar.indexCast v9
  let c32_323 : Index := 32#32
  let c0_324 : Index := 0#32
  ![v521.toNat, 32, 0]
def k1_off133 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off134 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c33_i32 : BitVec 32 := 33#32
  let c0_i32_328 : BitVec 32 := 0#32
  ![v9.toNat, 33, 0]
def k1_off135 (v525 : BitVec 32) : Fin 2 → Nat :=
  let c2_i32_327 : BitVec 32 := 2#32
  let v526 : BitVec 32 := Scalar.shrui v525 c2_i32_327
  let c0_i32_329 : BitVec 32 := 0#32
  ![v526.toNat, 0]

def k1_chk34 (i : grid1.Coords) (v525 : BitVec 32) : Prop :=
  (∀ (k1_h2 : k1_cond2 i = 1#1), ∀ a, (k1_off135 v525) a + S1x768.size a ≤ S100000x768.size a)
theorem k1_off135_inb : ∀ (i : grid1.Coords) (v525 : BitVec 32) (k1_hw34 : k1_chk34 i v525), ∀ (k1_h2 : k1_cond2 i = 1#1), ∀ a, (k1_off135 v525) a + S1x768.size a ≤ S100000x768.size a := fun i v525 k1_hw34 k1_h2 => k1_hw34 k1_h2

def k1_off136 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v535 : Index := Scalar.indexCast v9
  let c33_332 : Index := 33#32
  let c0_333 : Index := 0#32
  ![v535.toNat, 33, 0]
def k1_off137 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off138 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c34_i32 : BitVec 32 := 34#32
  let c0_i32_337 : BitVec 32 := 0#32
  ![v9.toNat, 34, 0]
def k1_off139 (v539 : BitVec 32) : Fin 2 → Nat :=
  let c2_i32_336 : BitVec 32 := 2#32
  let v540 : BitVec 32 := Scalar.shrui v539 c2_i32_336
  let c0_i32_338 : BitVec 32 := 0#32
  ![v540.toNat, 0]

def k1_chk35 (i : grid1.Coords) (v539 : BitVec 32) : Prop :=
  (∀ (k1_h2 : k1_cond2 i = 1#1), ∀ a, (k1_off139 v539) a + S1x768.size a ≤ S100000x768.size a)
theorem k1_off139_inb : ∀ (i : grid1.Coords) (v539 : BitVec 32) (k1_hw35 : k1_chk35 i v539), ∀ (k1_h2 : k1_cond2 i = 1#1), ∀ a, (k1_off139 v539) a + S1x768.size a ≤ S100000x768.size a := fun i v539 k1_hw35 k1_h2 => k1_hw35 k1_h2

def k1_off140 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v549 : Index := Scalar.indexCast v9
  let c34_341 : Index := 34#32
  let c0_342 : Index := 0#32
  ![v549.toNat, 34, 0]
def k1_off141 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off142 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c35_i32 : BitVec 32 := 35#32
  let c0_i32_346 : BitVec 32 := 0#32
  ![v9.toNat, 35, 0]
def k1_off143 (v553 : BitVec 32) : Fin 2 → Nat :=
  let c2_i32_345 : BitVec 32 := 2#32
  let v554 : BitVec 32 := Scalar.shrui v553 c2_i32_345
  let c0_i32_347 : BitVec 32 := 0#32
  ![v554.toNat, 0]

def k1_chk36 (i : grid1.Coords) (v553 : BitVec 32) : Prop :=
  (∀ (k1_h2 : k1_cond2 i = 1#1), ∀ a, (k1_off143 v553) a + S1x768.size a ≤ S100000x768.size a)
theorem k1_off143_inb : ∀ (i : grid1.Coords) (v553 : BitVec 32) (k1_hw36 : k1_chk36 i v553), ∀ (k1_h2 : k1_cond2 i = 1#1), ∀ a, (k1_off143 v553) a + S1x768.size a ≤ S100000x768.size a := fun i v553 k1_hw36 k1_h2 => k1_hw36 k1_h2

def k1_off144 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v563 : Index := Scalar.indexCast v9
  let c35_350 : Index := 35#32
  let c0_351 : Index := 0#32
  ![v563.toNat, 35, 0]
def k1_off145 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off146 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c36_i32 : BitVec 32 := 36#32
  let c0_i32_355 : BitVec 32 := 0#32
  ![v9.toNat, 36, 0]
def k1_off147 (v567 : BitVec 32) : Fin 2 → Nat :=
  let c2_i32_354 : BitVec 32 := 2#32
  let v568 : BitVec 32 := Scalar.shrui v567 c2_i32_354
  let c0_i32_356 : BitVec 32 := 0#32
  ![v568.toNat, 0]

def k1_chk37 (i : grid1.Coords) (v567 : BitVec 32) : Prop :=
  (∀ (k1_h2 : k1_cond2 i = 1#1), ∀ a, (k1_off147 v567) a + S1x768.size a ≤ S100000x768.size a)
theorem k1_off147_inb : ∀ (i : grid1.Coords) (v567 : BitVec 32) (k1_hw37 : k1_chk37 i v567), ∀ (k1_h2 : k1_cond2 i = 1#1), ∀ a, (k1_off147 v567) a + S1x768.size a ≤ S100000x768.size a := fun i v567 k1_hw37 k1_h2 => k1_hw37 k1_h2

def k1_off148 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v577 : Index := Scalar.indexCast v9
  let c36_359 : Index := 36#32
  let c0_360 : Index := 0#32
  ![v577.toNat, 36, 0]
def k1_off149 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off150 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c37_i32 : BitVec 32 := 37#32
  let c0_i32_364 : BitVec 32 := 0#32
  ![v9.toNat, 37, 0]
def k1_off151 (v581 : BitVec 32) : Fin 2 → Nat :=
  let c2_i32_363 : BitVec 32 := 2#32
  let v582 : BitVec 32 := Scalar.shrui v581 c2_i32_363
  let c0_i32_365 : BitVec 32 := 0#32
  ![v582.toNat, 0]

def k1_chk38 (i : grid1.Coords) (v581 : BitVec 32) : Prop :=
  (∀ (k1_h2 : k1_cond2 i = 1#1), ∀ a, (k1_off151 v581) a + S1x768.size a ≤ S100000x768.size a)
theorem k1_off151_inb : ∀ (i : grid1.Coords) (v581 : BitVec 32) (k1_hw38 : k1_chk38 i v581), ∀ (k1_h2 : k1_cond2 i = 1#1), ∀ a, (k1_off151 v581) a + S1x768.size a ≤ S100000x768.size a := fun i v581 k1_hw38 k1_h2 => k1_hw38 k1_h2

def k1_off152 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v591 : Index := Scalar.indexCast v9
  let c37_368 : Index := 37#32
  let c0_369 : Index := 0#32
  ![v591.toNat, 37, 0]
def k1_off153 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off154 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c38_i32 : BitVec 32 := 38#32
  let c0_i32_373 : BitVec 32 := 0#32
  ![v9.toNat, 38, 0]
def k1_off155 (v595 : BitVec 32) : Fin 2 → Nat :=
  let c2_i32_372 : BitVec 32 := 2#32
  let v596 : BitVec 32 := Scalar.shrui v595 c2_i32_372
  let c0_i32_374 : BitVec 32 := 0#32
  ![v596.toNat, 0]

def k1_chk39 (i : grid1.Coords) (v595 : BitVec 32) : Prop :=
  (∀ (k1_h2 : k1_cond2 i = 1#1), ∀ a, (k1_off155 v595) a + S1x768.size a ≤ S100000x768.size a)
theorem k1_off155_inb : ∀ (i : grid1.Coords) (v595 : BitVec 32) (k1_hw39 : k1_chk39 i v595), ∀ (k1_h2 : k1_cond2 i = 1#1), ∀ a, (k1_off155 v595) a + S1x768.size a ≤ S100000x768.size a := fun i v595 k1_hw39 k1_h2 => k1_hw39 k1_h2

def k1_off156 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v605 : Index := Scalar.indexCast v9
  let c38_377 : Index := 38#32
  let c0_378 : Index := 0#32
  ![v605.toNat, 38, 0]
def k1_off157 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off158 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c39_i32 : BitVec 32 := 39#32
  let c0_i32_382 : BitVec 32 := 0#32
  ![v9.toNat, 39, 0]
def k1_off159 (v609 : BitVec 32) : Fin 2 → Nat :=
  let c2_i32_381 : BitVec 32 := 2#32
  let v610 : BitVec 32 := Scalar.shrui v609 c2_i32_381
  let c0_i32_383 : BitVec 32 := 0#32
  ![v610.toNat, 0]

def k1_chk40 (i : grid1.Coords) (v609 : BitVec 32) : Prop :=
  (∀ (k1_h2 : k1_cond2 i = 1#1), ∀ a, (k1_off159 v609) a + S1x768.size a ≤ S100000x768.size a)
theorem k1_off159_inb : ∀ (i : grid1.Coords) (v609 : BitVec 32) (k1_hw40 : k1_chk40 i v609), ∀ (k1_h2 : k1_cond2 i = 1#1), ∀ a, (k1_off159 v609) a + S1x768.size a ≤ S100000x768.size a := fun i v609 k1_hw40 k1_h2 => k1_hw40 k1_h2

def k1_off160 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v619 : Index := Scalar.indexCast v9
  let c39_386 : Index := 39#32
  let c0_387 : Index := 0#32
  ![v619.toNat, 39, 0]
def k1_off161 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off162 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c40_i32 : BitVec 32 := 40#32
  let c0_i32_391 : BitVec 32 := 0#32
  ![v9.toNat, 40, 0]
def k1_off163 (v623 : BitVec 32) : Fin 2 → Nat :=
  let c2_i32_390 : BitVec 32 := 2#32
  let v624 : BitVec 32 := Scalar.shrui v623 c2_i32_390
  let c0_i32_392 : BitVec 32 := 0#32
  ![v624.toNat, 0]

def k1_chk41 (i : grid1.Coords) (v623 : BitVec 32) : Prop :=
  (∀ (k1_h2 : k1_cond2 i = 1#1), ∀ a, (k1_off163 v623) a + S1x768.size a ≤ S100000x768.size a)
theorem k1_off163_inb : ∀ (i : grid1.Coords) (v623 : BitVec 32) (k1_hw41 : k1_chk41 i v623), ∀ (k1_h2 : k1_cond2 i = 1#1), ∀ a, (k1_off163 v623) a + S1x768.size a ≤ S100000x768.size a := fun i v623 k1_hw41 k1_h2 => k1_hw41 k1_h2

def k1_off164 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v633 : Index := Scalar.indexCast v9
  let c40_395 : Index := 40#32
  let c0_396 : Index := 0#32
  ![v633.toNat, 40, 0]
def k1_off165 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off166 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c41_i32 : BitVec 32 := 41#32
  let c0_i32_400 : BitVec 32 := 0#32
  ![v9.toNat, 41, 0]
def k1_off167 (v637 : BitVec 32) : Fin 2 → Nat :=
  let c2_i32_399 : BitVec 32 := 2#32
  let v638 : BitVec 32 := Scalar.shrui v637 c2_i32_399
  let c0_i32_401 : BitVec 32 := 0#32
  ![v638.toNat, 0]

def k1_chk42 (i : grid1.Coords) (v637 : BitVec 32) : Prop :=
  (∀ (k1_h2 : k1_cond2 i = 1#1), ∀ a, (k1_off167 v637) a + S1x768.size a ≤ S100000x768.size a)
theorem k1_off167_inb : ∀ (i : grid1.Coords) (v637 : BitVec 32) (k1_hw42 : k1_chk42 i v637), ∀ (k1_h2 : k1_cond2 i = 1#1), ∀ a, (k1_off167 v637) a + S1x768.size a ≤ S100000x768.size a := fun i v637 k1_hw42 k1_h2 => k1_hw42 k1_h2

def k1_off168 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v647 : Index := Scalar.indexCast v9
  let c41_404 : Index := 41#32
  let c0_405 : Index := 0#32
  ![v647.toNat, 41, 0]
def k1_off169 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off170 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c42_i32 : BitVec 32 := 42#32
  let c0_i32_409 : BitVec 32 := 0#32
  ![v9.toNat, 42, 0]
def k1_off171 (v651 : BitVec 32) : Fin 2 → Nat :=
  let c2_i32_408 : BitVec 32 := 2#32
  let v652 : BitVec 32 := Scalar.shrui v651 c2_i32_408
  let c0_i32_410 : BitVec 32 := 0#32
  ![v652.toNat, 0]

def k1_chk43 (i : grid1.Coords) (v651 : BitVec 32) : Prop :=
  (∀ (k1_h2 : k1_cond2 i = 1#1), ∀ a, (k1_off171 v651) a + S1x768.size a ≤ S100000x768.size a)
theorem k1_off171_inb : ∀ (i : grid1.Coords) (v651 : BitVec 32) (k1_hw43 : k1_chk43 i v651), ∀ (k1_h2 : k1_cond2 i = 1#1), ∀ a, (k1_off171 v651) a + S1x768.size a ≤ S100000x768.size a := fun i v651 k1_hw43 k1_h2 => k1_hw43 k1_h2

def k1_off172 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v661 : Index := Scalar.indexCast v9
  let c42_413 : Index := 42#32
  let c0_414 : Index := 0#32
  ![v661.toNat, 42, 0]
def k1_off173 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off174 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c43_i32 : BitVec 32 := 43#32
  let c0_i32_418 : BitVec 32 := 0#32
  ![v9.toNat, 43, 0]
def k1_off175 (v665 : BitVec 32) : Fin 2 → Nat :=
  let c2_i32_417 : BitVec 32 := 2#32
  let v666 : BitVec 32 := Scalar.shrui v665 c2_i32_417
  let c0_i32_419 : BitVec 32 := 0#32
  ![v666.toNat, 0]

def k1_chk44 (i : grid1.Coords) (v665 : BitVec 32) : Prop :=
  (∀ (k1_h2 : k1_cond2 i = 1#1), ∀ a, (k1_off175 v665) a + S1x768.size a ≤ S100000x768.size a)
theorem k1_off175_inb : ∀ (i : grid1.Coords) (v665 : BitVec 32) (k1_hw44 : k1_chk44 i v665), ∀ (k1_h2 : k1_cond2 i = 1#1), ∀ a, (k1_off175 v665) a + S1x768.size a ≤ S100000x768.size a := fun i v665 k1_hw44 k1_h2 => k1_hw44 k1_h2

def k1_off176 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v675 : Index := Scalar.indexCast v9
  let c43_422 : Index := 43#32
  let c0_423 : Index := 0#32
  ![v675.toNat, 43, 0]
def k1_off177 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off178 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c44_i32 : BitVec 32 := 44#32
  let c0_i32_427 : BitVec 32 := 0#32
  ![v9.toNat, 44, 0]
def k1_off179 (v679 : BitVec 32) : Fin 2 → Nat :=
  let c2_i32_426 : BitVec 32 := 2#32
  let v680 : BitVec 32 := Scalar.shrui v679 c2_i32_426
  let c0_i32_428 : BitVec 32 := 0#32
  ![v680.toNat, 0]

def k1_chk45 (i : grid1.Coords) (v679 : BitVec 32) : Prop :=
  (∀ (k1_h2 : k1_cond2 i = 1#1), ∀ a, (k1_off179 v679) a + S1x768.size a ≤ S100000x768.size a)
theorem k1_off179_inb : ∀ (i : grid1.Coords) (v679 : BitVec 32) (k1_hw45 : k1_chk45 i v679), ∀ (k1_h2 : k1_cond2 i = 1#1), ∀ a, (k1_off179 v679) a + S1x768.size a ≤ S100000x768.size a := fun i v679 k1_hw45 k1_h2 => k1_hw45 k1_h2

def k1_off180 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v689 : Index := Scalar.indexCast v9
  let c44_431 : Index := 44#32
  let c0_432 : Index := 0#32
  ![v689.toNat, 44, 0]
def k1_off181 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off182 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c45_i32 : BitVec 32 := 45#32
  let c0_i32_436 : BitVec 32 := 0#32
  ![v9.toNat, 45, 0]
def k1_off183 (v693 : BitVec 32) : Fin 2 → Nat :=
  let c2_i32_435 : BitVec 32 := 2#32
  let v694 : BitVec 32 := Scalar.shrui v693 c2_i32_435
  let c0_i32_437 : BitVec 32 := 0#32
  ![v694.toNat, 0]

def k1_chk46 (i : grid1.Coords) (v693 : BitVec 32) : Prop :=
  (∀ (k1_h2 : k1_cond2 i = 1#1), ∀ a, (k1_off183 v693) a + S1x768.size a ≤ S100000x768.size a)
theorem k1_off183_inb : ∀ (i : grid1.Coords) (v693 : BitVec 32) (k1_hw46 : k1_chk46 i v693), ∀ (k1_h2 : k1_cond2 i = 1#1), ∀ a, (k1_off183 v693) a + S1x768.size a ≤ S100000x768.size a := fun i v693 k1_hw46 k1_h2 => k1_hw46 k1_h2

def k1_off184 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v703 : Index := Scalar.indexCast v9
  let c45_440 : Index := 45#32
  let c0_441 : Index := 0#32
  ![v703.toNat, 45, 0]
def k1_off185 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off186 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c46_i32 : BitVec 32 := 46#32
  let c0_i32_445 : BitVec 32 := 0#32
  ![v9.toNat, 46, 0]
def k1_off187 (v707 : BitVec 32) : Fin 2 → Nat :=
  let c2_i32_444 : BitVec 32 := 2#32
  let v708 : BitVec 32 := Scalar.shrui v707 c2_i32_444
  let c0_i32_446 : BitVec 32 := 0#32
  ![v708.toNat, 0]

def k1_chk47 (i : grid1.Coords) (v707 : BitVec 32) : Prop :=
  (∀ (k1_h2 : k1_cond2 i = 1#1), ∀ a, (k1_off187 v707) a + S1x768.size a ≤ S100000x768.size a)
theorem k1_off187_inb : ∀ (i : grid1.Coords) (v707 : BitVec 32) (k1_hw47 : k1_chk47 i v707), ∀ (k1_h2 : k1_cond2 i = 1#1), ∀ a, (k1_off187 v707) a + S1x768.size a ≤ S100000x768.size a := fun i v707 k1_hw47 k1_h2 => k1_hw47 k1_h2

def k1_off188 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v717 : Index := Scalar.indexCast v9
  let c46_449 : Index := 46#32
  let c0_450 : Index := 0#32
  ![v717.toNat, 46, 0]
def k1_off189 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off190 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c47_i32 : BitVec 32 := 47#32
  let c0_i32_454 : BitVec 32 := 0#32
  ![v9.toNat, 47, 0]
def k1_off191 (v721 : BitVec 32) : Fin 2 → Nat :=
  let c2_i32_453 : BitVec 32 := 2#32
  let v722 : BitVec 32 := Scalar.shrui v721 c2_i32_453
  let c0_i32_455 : BitVec 32 := 0#32
  ![v722.toNat, 0]

def k1_chk48 (i : grid1.Coords) (v721 : BitVec 32) : Prop :=
  (∀ (k1_h2 : k1_cond2 i = 1#1), ∀ a, (k1_off191 v721) a + S1x768.size a ≤ S100000x768.size a)
theorem k1_off191_inb : ∀ (i : grid1.Coords) (v721 : BitVec 32) (k1_hw48 : k1_chk48 i v721), ∀ (k1_h2 : k1_cond2 i = 1#1), ∀ a, (k1_off191 v721) a + S1x768.size a ≤ S100000x768.size a := fun i v721 k1_hw48 k1_h2 => k1_hw48 k1_h2

def k1_off192 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v731 : Index := Scalar.indexCast v9
  let c47_458 : Index := 47#32
  let c0_459 : Index := 0#32
  ![v731.toNat, 47, 0]
def k1_off193 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off194 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c48_i32 : BitVec 32 := 48#32
  let c0_i32_463 : BitVec 32 := 0#32
  ![v9.toNat, 48, 0]
def k1_off195 (v735 : BitVec 32) : Fin 2 → Nat :=
  let c2_i32_462 : BitVec 32 := 2#32
  let v736 : BitVec 32 := Scalar.shrui v735 c2_i32_462
  let c0_i32_464 : BitVec 32 := 0#32
  ![v736.toNat, 0]

def k1_chk49 (i : grid1.Coords) (v735 : BitVec 32) : Prop :=
  (∀ (k1_h2 : k1_cond2 i = 1#1), ∀ a, (k1_off195 v735) a + S1x768.size a ≤ S100000x768.size a)
theorem k1_off195_inb : ∀ (i : grid1.Coords) (v735 : BitVec 32) (k1_hw49 : k1_chk49 i v735), ∀ (k1_h2 : k1_cond2 i = 1#1), ∀ a, (k1_off195 v735) a + S1x768.size a ≤ S100000x768.size a := fun i v735 k1_hw49 k1_h2 => k1_hw49 k1_h2

def k1_off196 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v745 : Index := Scalar.indexCast v9
  let c48_467 : Index := 48#32
  let c0_468 : Index := 0#32
  ![v745.toNat, 48, 0]
def k1_off197 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off198 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c49_i32 : BitVec 32 := 49#32
  let c0_i32_472 : BitVec 32 := 0#32
  ![v9.toNat, 49, 0]
def k1_off199 (v749 : BitVec 32) : Fin 2 → Nat :=
  let c2_i32_471 : BitVec 32 := 2#32
  let v750 : BitVec 32 := Scalar.shrui v749 c2_i32_471
  let c0_i32_473 : BitVec 32 := 0#32
  ![v750.toNat, 0]

def k1_chk50 (i : grid1.Coords) (v749 : BitVec 32) : Prop :=
  (∀ (k1_h2 : k1_cond2 i = 1#1), ∀ a, (k1_off199 v749) a + S1x768.size a ≤ S100000x768.size a)
theorem k1_off199_inb : ∀ (i : grid1.Coords) (v749 : BitVec 32) (k1_hw50 : k1_chk50 i v749), ∀ (k1_h2 : k1_cond2 i = 1#1), ∀ a, (k1_off199 v749) a + S1x768.size a ≤ S100000x768.size a := fun i v749 k1_hw50 k1_h2 => k1_hw50 k1_h2

def k1_off200 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v759 : Index := Scalar.indexCast v9
  let c49_476 : Index := 49#32
  let c0_477 : Index := 0#32
  ![v759.toNat, 49, 0]
def k1_off201 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off202 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c50_i32 : BitVec 32 := 50#32
  let c0_i32_481 : BitVec 32 := 0#32
  ![v9.toNat, 50, 0]
def k1_off203 (v763 : BitVec 32) : Fin 2 → Nat :=
  let c2_i32_480 : BitVec 32 := 2#32
  let v764 : BitVec 32 := Scalar.shrui v763 c2_i32_480
  let c0_i32_482 : BitVec 32 := 0#32
  ![v764.toNat, 0]

def k1_chk51 (i : grid1.Coords) (v763 : BitVec 32) : Prop :=
  (∀ (k1_h2 : k1_cond2 i = 1#1), ∀ a, (k1_off203 v763) a + S1x768.size a ≤ S100000x768.size a)
theorem k1_off203_inb : ∀ (i : grid1.Coords) (v763 : BitVec 32) (k1_hw51 : k1_chk51 i v763), ∀ (k1_h2 : k1_cond2 i = 1#1), ∀ a, (k1_off203 v763) a + S1x768.size a ≤ S100000x768.size a := fun i v763 k1_hw51 k1_h2 => k1_hw51 k1_h2

def k1_off204 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v773 : Index := Scalar.indexCast v9
  let c50_485 : Index := 50#32
  let c0_486 : Index := 0#32
  ![v773.toNat, 50, 0]
def k1_off205 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off206 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c51_i32 : BitVec 32 := 51#32
  let c0_i32_490 : BitVec 32 := 0#32
  ![v9.toNat, 51, 0]
def k1_off207 (v777 : BitVec 32) : Fin 2 → Nat :=
  let c2_i32_489 : BitVec 32 := 2#32
  let v778 : BitVec 32 := Scalar.shrui v777 c2_i32_489
  let c0_i32_491 : BitVec 32 := 0#32
  ![v778.toNat, 0]

def k1_chk52 (i : grid1.Coords) (v777 : BitVec 32) : Prop :=
  (∀ (k1_h2 : k1_cond2 i = 1#1), ∀ a, (k1_off207 v777) a + S1x768.size a ≤ S100000x768.size a)
theorem k1_off207_inb : ∀ (i : grid1.Coords) (v777 : BitVec 32) (k1_hw52 : k1_chk52 i v777), ∀ (k1_h2 : k1_cond2 i = 1#1), ∀ a, (k1_off207 v777) a + S1x768.size a ≤ S100000x768.size a := fun i v777 k1_hw52 k1_h2 => k1_hw52 k1_h2

def k1_off208 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v787 : Index := Scalar.indexCast v9
  let c51_494 : Index := 51#32
  let c0_495 : Index := 0#32
  ![v787.toNat, 51, 0]
def k1_off209 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off210 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c52_i32 : BitVec 32 := 52#32
  let c0_i32_499 : BitVec 32 := 0#32
  ![v9.toNat, 52, 0]
def k1_off211 (v791 : BitVec 32) : Fin 2 → Nat :=
  let c2_i32_498 : BitVec 32 := 2#32
  let v792 : BitVec 32 := Scalar.shrui v791 c2_i32_498
  let c0_i32_500 : BitVec 32 := 0#32
  ![v792.toNat, 0]

def k1_chk53 (i : grid1.Coords) (v791 : BitVec 32) : Prop :=
  (∀ (k1_h2 : k1_cond2 i = 1#1), ∀ a, (k1_off211 v791) a + S1x768.size a ≤ S100000x768.size a)
theorem k1_off211_inb : ∀ (i : grid1.Coords) (v791 : BitVec 32) (k1_hw53 : k1_chk53 i v791), ∀ (k1_h2 : k1_cond2 i = 1#1), ∀ a, (k1_off211 v791) a + S1x768.size a ≤ S100000x768.size a := fun i v791 k1_hw53 k1_h2 => k1_hw53 k1_h2

def k1_off212 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v801 : Index := Scalar.indexCast v9
  let c52_503 : Index := 52#32
  let c0_504 : Index := 0#32
  ![v801.toNat, 52, 0]
def k1_off213 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off214 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c53_i32 : BitVec 32 := 53#32
  let c0_i32_508 : BitVec 32 := 0#32
  ![v9.toNat, 53, 0]
def k1_off215 (v805 : BitVec 32) : Fin 2 → Nat :=
  let c2_i32_507 : BitVec 32 := 2#32
  let v806 : BitVec 32 := Scalar.shrui v805 c2_i32_507
  let c0_i32_509 : BitVec 32 := 0#32
  ![v806.toNat, 0]

def k1_chk54 (i : grid1.Coords) (v805 : BitVec 32) : Prop :=
  (∀ (k1_h2 : k1_cond2 i = 1#1), ∀ a, (k1_off215 v805) a + S1x768.size a ≤ S100000x768.size a)
theorem k1_off215_inb : ∀ (i : grid1.Coords) (v805 : BitVec 32) (k1_hw54 : k1_chk54 i v805), ∀ (k1_h2 : k1_cond2 i = 1#1), ∀ a, (k1_off215 v805) a + S1x768.size a ≤ S100000x768.size a := fun i v805 k1_hw54 k1_h2 => k1_hw54 k1_h2

def k1_off216 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v815 : Index := Scalar.indexCast v9
  let c53_512 : Index := 53#32
  let c0_513 : Index := 0#32
  ![v815.toNat, 53, 0]
def k1_off217 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off218 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c54_i32 : BitVec 32 := 54#32
  let c0_i32_517 : BitVec 32 := 0#32
  ![v9.toNat, 54, 0]
def k1_off219 (v819 : BitVec 32) : Fin 2 → Nat :=
  let c2_i32_516 : BitVec 32 := 2#32
  let v820 : BitVec 32 := Scalar.shrui v819 c2_i32_516
  let c0_i32_518 : BitVec 32 := 0#32
  ![v820.toNat, 0]

def k1_chk55 (i : grid1.Coords) (v819 : BitVec 32) : Prop :=
  (∀ (k1_h2 : k1_cond2 i = 1#1), ∀ a, (k1_off219 v819) a + S1x768.size a ≤ S100000x768.size a)
theorem k1_off219_inb : ∀ (i : grid1.Coords) (v819 : BitVec 32) (k1_hw55 : k1_chk55 i v819), ∀ (k1_h2 : k1_cond2 i = 1#1), ∀ a, (k1_off219 v819) a + S1x768.size a ≤ S100000x768.size a := fun i v819 k1_hw55 k1_h2 => k1_hw55 k1_h2

def k1_off220 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v829 : Index := Scalar.indexCast v9
  let c54_521 : Index := 54#32
  let c0_522 : Index := 0#32
  ![v829.toNat, 54, 0]
def k1_off221 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off222 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c55_i32 : BitVec 32 := 55#32
  let c0_i32_526 : BitVec 32 := 0#32
  ![v9.toNat, 55, 0]
def k1_off223 (v833 : BitVec 32) : Fin 2 → Nat :=
  let c2_i32_525 : BitVec 32 := 2#32
  let v834 : BitVec 32 := Scalar.shrui v833 c2_i32_525
  let c0_i32_527 : BitVec 32 := 0#32
  ![v834.toNat, 0]

def k1_chk56 (i : grid1.Coords) (v833 : BitVec 32) : Prop :=
  (∀ (k1_h2 : k1_cond2 i = 1#1), ∀ a, (k1_off223 v833) a + S1x768.size a ≤ S100000x768.size a)
theorem k1_off223_inb : ∀ (i : grid1.Coords) (v833 : BitVec 32) (k1_hw56 : k1_chk56 i v833), ∀ (k1_h2 : k1_cond2 i = 1#1), ∀ a, (k1_off223 v833) a + S1x768.size a ≤ S100000x768.size a := fun i v833 k1_hw56 k1_h2 => k1_hw56 k1_h2

def k1_off224 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v843 : Index := Scalar.indexCast v9
  let c55_530 : Index := 55#32
  let c0_531 : Index := 0#32
  ![v843.toNat, 55, 0]
def k1_off225 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off226 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c56_i32 : BitVec 32 := 56#32
  let c0_i32_535 : BitVec 32 := 0#32
  ![v9.toNat, 56, 0]
def k1_off227 (v847 : BitVec 32) : Fin 2 → Nat :=
  let c2_i32_534 : BitVec 32 := 2#32
  let v848 : BitVec 32 := Scalar.shrui v847 c2_i32_534
  let c0_i32_536 : BitVec 32 := 0#32
  ![v848.toNat, 0]

def k1_chk57 (i : grid1.Coords) (v847 : BitVec 32) : Prop :=
  (∀ (k1_h2 : k1_cond2 i = 1#1), ∀ a, (k1_off227 v847) a + S1x768.size a ≤ S100000x768.size a)
theorem k1_off227_inb : ∀ (i : grid1.Coords) (v847 : BitVec 32) (k1_hw57 : k1_chk57 i v847), ∀ (k1_h2 : k1_cond2 i = 1#1), ∀ a, (k1_off227 v847) a + S1x768.size a ≤ S100000x768.size a := fun i v847 k1_hw57 k1_h2 => k1_hw57 k1_h2

def k1_off228 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v857 : Index := Scalar.indexCast v9
  let c56_539 : Index := 56#32
  let c0_540 : Index := 0#32
  ![v857.toNat, 56, 0]
def k1_off229 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off230 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c57_i32 : BitVec 32 := 57#32
  let c0_i32_544 : BitVec 32 := 0#32
  ![v9.toNat, 57, 0]
def k1_off231 (v861 : BitVec 32) : Fin 2 → Nat :=
  let c2_i32_543 : BitVec 32 := 2#32
  let v862 : BitVec 32 := Scalar.shrui v861 c2_i32_543
  let c0_i32_545 : BitVec 32 := 0#32
  ![v862.toNat, 0]

def k1_chk58 (i : grid1.Coords) (v861 : BitVec 32) : Prop :=
  (∀ (k1_h2 : k1_cond2 i = 1#1), ∀ a, (k1_off231 v861) a + S1x768.size a ≤ S100000x768.size a)
theorem k1_off231_inb : ∀ (i : grid1.Coords) (v861 : BitVec 32) (k1_hw58 : k1_chk58 i v861), ∀ (k1_h2 : k1_cond2 i = 1#1), ∀ a, (k1_off231 v861) a + S1x768.size a ≤ S100000x768.size a := fun i v861 k1_hw58 k1_h2 => k1_hw58 k1_h2

def k1_off232 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v871 : Index := Scalar.indexCast v9
  let c57_548 : Index := 57#32
  let c0_549 : Index := 0#32
  ![v871.toNat, 57, 0]
def k1_off233 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off234 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c58_i32 : BitVec 32 := 58#32
  let c0_i32_553 : BitVec 32 := 0#32
  ![v9.toNat, 58, 0]
def k1_off235 (v875 : BitVec 32) : Fin 2 → Nat :=
  let c2_i32_552 : BitVec 32 := 2#32
  let v876 : BitVec 32 := Scalar.shrui v875 c2_i32_552
  let c0_i32_554 : BitVec 32 := 0#32
  ![v876.toNat, 0]

def k1_chk59 (i : grid1.Coords) (v875 : BitVec 32) : Prop :=
  (∀ (k1_h2 : k1_cond2 i = 1#1), ∀ a, (k1_off235 v875) a + S1x768.size a ≤ S100000x768.size a)
theorem k1_off235_inb : ∀ (i : grid1.Coords) (v875 : BitVec 32) (k1_hw59 : k1_chk59 i v875), ∀ (k1_h2 : k1_cond2 i = 1#1), ∀ a, (k1_off235 v875) a + S1x768.size a ≤ S100000x768.size a := fun i v875 k1_hw59 k1_h2 => k1_hw59 k1_h2

def k1_off236 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v885 : Index := Scalar.indexCast v9
  let c58_557 : Index := 58#32
  let c0_558 : Index := 0#32
  ![v885.toNat, 58, 0]
def k1_off237 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off238 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c59_i32 : BitVec 32 := 59#32
  let c0_i32_562 : BitVec 32 := 0#32
  ![v9.toNat, 59, 0]
def k1_off239 (v889 : BitVec 32) : Fin 2 → Nat :=
  let c2_i32_561 : BitVec 32 := 2#32
  let v890 : BitVec 32 := Scalar.shrui v889 c2_i32_561
  let c0_i32_563 : BitVec 32 := 0#32
  ![v890.toNat, 0]

def k1_chk60 (i : grid1.Coords) (v889 : BitVec 32) : Prop :=
  (∀ (k1_h2 : k1_cond2 i = 1#1), ∀ a, (k1_off239 v889) a + S1x768.size a ≤ S100000x768.size a)
theorem k1_off239_inb : ∀ (i : grid1.Coords) (v889 : BitVec 32) (k1_hw60 : k1_chk60 i v889), ∀ (k1_h2 : k1_cond2 i = 1#1), ∀ a, (k1_off239 v889) a + S1x768.size a ≤ S100000x768.size a := fun i v889 k1_hw60 k1_h2 => k1_hw60 k1_h2

def k1_off240 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v899 : Index := Scalar.indexCast v9
  let c59_566 : Index := 59#32
  let c0_567 : Index := 0#32
  ![v899.toNat, 59, 0]
def k1_off241 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off242 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c60_i32 : BitVec 32 := 60#32
  let c0_i32_571 : BitVec 32 := 0#32
  ![v9.toNat, 60, 0]
def k1_off243 (v903 : BitVec 32) : Fin 2 → Nat :=
  let c2_i32_570 : BitVec 32 := 2#32
  let v904 : BitVec 32 := Scalar.shrui v903 c2_i32_570
  let c0_i32_572 : BitVec 32 := 0#32
  ![v904.toNat, 0]

def k1_chk61 (i : grid1.Coords) (v903 : BitVec 32) : Prop :=
  (∀ (k1_h2 : k1_cond2 i = 1#1), ∀ a, (k1_off243 v903) a + S1x768.size a ≤ S100000x768.size a)
theorem k1_off243_inb : ∀ (i : grid1.Coords) (v903 : BitVec 32) (k1_hw61 : k1_chk61 i v903), ∀ (k1_h2 : k1_cond2 i = 1#1), ∀ a, (k1_off243 v903) a + S1x768.size a ≤ S100000x768.size a := fun i v903 k1_hw61 k1_h2 => k1_hw61 k1_h2

def k1_off244 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v913 : Index := Scalar.indexCast v9
  let c60_575 : Index := 60#32
  let c0_576 : Index := 0#32
  ![v913.toNat, 60, 0]
def k1_off245 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off246 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c61_i32 : BitVec 32 := 61#32
  let c0_i32_580 : BitVec 32 := 0#32
  ![v9.toNat, 61, 0]
def k1_off247 (v917 : BitVec 32) : Fin 2 → Nat :=
  let c2_i32_579 : BitVec 32 := 2#32
  let v918 : BitVec 32 := Scalar.shrui v917 c2_i32_579
  let c0_i32_581 : BitVec 32 := 0#32
  ![v918.toNat, 0]

def k1_chk62 (i : grid1.Coords) (v917 : BitVec 32) : Prop :=
  (∀ (k1_h2 : k1_cond2 i = 1#1), ∀ a, (k1_off247 v917) a + S1x768.size a ≤ S100000x768.size a)
theorem k1_off247_inb : ∀ (i : grid1.Coords) (v917 : BitVec 32) (k1_hw62 : k1_chk62 i v917), ∀ (k1_h2 : k1_cond2 i = 1#1), ∀ a, (k1_off247 v917) a + S1x768.size a ≤ S100000x768.size a := fun i v917 k1_hw62 k1_h2 => k1_hw62 k1_h2

def k1_off248 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v927 : Index := Scalar.indexCast v9
  let c61_584 : Index := 61#32
  let c0_585 : Index := 0#32
  ![v927.toNat, 61, 0]
def k1_off249 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off250 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c62_i32 : BitVec 32 := 62#32
  let c0_i32_589 : BitVec 32 := 0#32
  ![v9.toNat, 62, 0]
def k1_off251 (v931 : BitVec 32) : Fin 2 → Nat :=
  let c2_i32_588 : BitVec 32 := 2#32
  let v932 : BitVec 32 := Scalar.shrui v931 c2_i32_588
  let c0_i32_590 : BitVec 32 := 0#32
  ![v932.toNat, 0]

def k1_chk63 (i : grid1.Coords) (v931 : BitVec 32) : Prop :=
  (∀ (k1_h2 : k1_cond2 i = 1#1), ∀ a, (k1_off251 v931) a + S1x768.size a ≤ S100000x768.size a)
theorem k1_off251_inb : ∀ (i : grid1.Coords) (v931 : BitVec 32) (k1_hw63 : k1_chk63 i v931), ∀ (k1_h2 : k1_cond2 i = 1#1), ∀ a, (k1_off251 v931) a + S1x768.size a ≤ S100000x768.size a := fun i v931 k1_hw63 k1_h2 => k1_hw63 k1_h2

def k1_off252 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v941 : Index := Scalar.indexCast v9
  let c62_593 : Index := 62#32
  let c0_594 : Index := 0#32
  ![v941.toNat, 62, 0]
def k1_off253 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off254 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c63_i32 : BitVec 32 := 63#32
  let c0_i32_598 : BitVec 32 := 0#32
  ![v9.toNat, 63, 0]
def k1_off255 (v945 : BitVec 32) : Fin 2 → Nat :=
  let c2_i32_597 : BitVec 32 := 2#32
  let v946 : BitVec 32 := Scalar.shrui v945 c2_i32_597
  let c0_i32_599 : BitVec 32 := 0#32
  ![v946.toNat, 0]

def k1_chk64 (i : grid1.Coords) (v945 : BitVec 32) : Prop :=
  (∀ (k1_h2 : k1_cond2 i = 1#1), ∀ a, (k1_off255 v945) a + S1x768.size a ≤ S100000x768.size a)
theorem k1_off255_inb : ∀ (i : grid1.Coords) (v945 : BitVec 32) (k1_hw64 : k1_chk64 i v945), ∀ (k1_h2 : k1_cond2 i = 1#1), ∀ a, (k1_off255 v945) a + S1x768.size a ≤ S100000x768.size a := fun i v945 k1_hw64 k1_h2 => k1_hw64 k1_h2

def k1_off256 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v955 : Index := Scalar.indexCast v9
  let c63_602 : Index := 63#32
  let c0_603 : Index := 0#32
  ![v955.toNat, 63, 0]
def k1_off257 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off258 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32 : BitVec 32 := 64#32
  let c0_i32_607 : BitVec 32 := 0#32
  ![v9.toNat, 64, 0]
def k1_off259 (v959 : BitVec 32) : Fin 2 → Nat :=
  let c2_i32_606 : BitVec 32 := 2#32
  let v960 : BitVec 32 := Scalar.shrui v959 c2_i32_606
  let c0_i32_608 : BitVec 32 := 0#32
  ![v960.toNat, 0]

def k1_chk65 (i : grid1.Coords) (v959 : BitVec 32) : Prop :=
  (∀ (k1_h2 : k1_cond2 i = 1#1), ∀ a, (k1_off259 v959) a + S1x768.size a ≤ S100000x768.size a)
theorem k1_off259_inb : ∀ (i : grid1.Coords) (v959 : BitVec 32) (k1_hw65 : k1_chk65 i v959), ∀ (k1_h2 : k1_cond2 i = 1#1), ∀ a, (k1_off259 v959) a + S1x768.size a ≤ S100000x768.size a := fun i v959 k1_hw65 k1_h2 => k1_hw65 k1_h2

def k1_off260 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v969 : Index := Scalar.indexCast v9
  let c64_611 : Index := 64#32
  let c0_612 : Index := 0#32
  ![v969.toNat, 64, 0]
def k1_off261 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off262 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c65_i32 : BitVec 32 := 65#32
  let c0_i32_616 : BitVec 32 := 0#32
  ![v9.toNat, 65, 0]
def k1_off263 (v973 : BitVec 32) : Fin 2 → Nat :=
  let c2_i32_615 : BitVec 32 := 2#32
  let v974 : BitVec 32 := Scalar.shrui v973 c2_i32_615
  let c0_i32_617 : BitVec 32 := 0#32
  ![v974.toNat, 0]

def k1_chk66 (i : grid1.Coords) (v973 : BitVec 32) : Prop :=
  (∀ (k1_h2 : k1_cond2 i = 1#1), ∀ a, (k1_off263 v973) a + S1x768.size a ≤ S100000x768.size a)
theorem k1_off263_inb : ∀ (i : grid1.Coords) (v973 : BitVec 32) (k1_hw66 : k1_chk66 i v973), ∀ (k1_h2 : k1_cond2 i = 1#1), ∀ a, (k1_off263 v973) a + S1x768.size a ≤ S100000x768.size a := fun i v973 k1_hw66 k1_h2 => k1_hw66 k1_h2

def k1_off264 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v983 : Index := Scalar.indexCast v9
  let c65_620 : Index := 65#32
  let c0_621 : Index := 0#32
  ![v983.toNat, 65, 0]
def k1_off265 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off266 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c66_i32 : BitVec 32 := 66#32
  let c0_i32_625 : BitVec 32 := 0#32
  ![v9.toNat, 66, 0]
def k1_off267 (v987 : BitVec 32) : Fin 2 → Nat :=
  let c2_i32_624 : BitVec 32 := 2#32
  let v988 : BitVec 32 := Scalar.shrui v987 c2_i32_624
  let c0_i32_626 : BitVec 32 := 0#32
  ![v988.toNat, 0]

def k1_chk67 (i : grid1.Coords) (v987 : BitVec 32) : Prop :=
  (∀ (k1_h2 : k1_cond2 i = 1#1), ∀ a, (k1_off267 v987) a + S1x768.size a ≤ S100000x768.size a)
theorem k1_off267_inb : ∀ (i : grid1.Coords) (v987 : BitVec 32) (k1_hw67 : k1_chk67 i v987), ∀ (k1_h2 : k1_cond2 i = 1#1), ∀ a, (k1_off267 v987) a + S1x768.size a ≤ S100000x768.size a := fun i v987 k1_hw67 k1_h2 => k1_hw67 k1_h2

def k1_off268 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v997 : Index := Scalar.indexCast v9
  let c66_629 : Index := 66#32
  let c0_630 : Index := 0#32
  ![v997.toNat, 66, 0]
def k1_off269 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off270 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c67_i32 : BitVec 32 := 67#32
  let c0_i32_634 : BitVec 32 := 0#32
  ![v9.toNat, 67, 0]
def k1_off271 (v1001 : BitVec 32) : Fin 2 → Nat :=
  let c2_i32_633 : BitVec 32 := 2#32
  let v1002 : BitVec 32 := Scalar.shrui v1001 c2_i32_633
  let c0_i32_635 : BitVec 32 := 0#32
  ![v1002.toNat, 0]

def k1_chk68 (i : grid1.Coords) (v1001 : BitVec 32) : Prop :=
  (∀ (k1_h2 : k1_cond2 i = 1#1), ∀ a, (k1_off271 v1001) a + S1x768.size a ≤ S100000x768.size a)
theorem k1_off271_inb : ∀ (i : grid1.Coords) (v1001 : BitVec 32) (k1_hw68 : k1_chk68 i v1001), ∀ (k1_h2 : k1_cond2 i = 1#1), ∀ a, (k1_off271 v1001) a + S1x768.size a ≤ S100000x768.size a := fun i v1001 k1_hw68 k1_h2 => k1_hw68 k1_h2

def k1_off272 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1011 : Index := Scalar.indexCast v9
  let c67_638 : Index := 67#32
  let c0_639 : Index := 0#32
  ![v1011.toNat, 67, 0]
def k1_off273 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off274 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c68_i32 : BitVec 32 := 68#32
  let c0_i32_643 : BitVec 32 := 0#32
  ![v9.toNat, 68, 0]
def k1_off275 (v1015 : BitVec 32) : Fin 2 → Nat :=
  let c2_i32_642 : BitVec 32 := 2#32
  let v1016 : BitVec 32 := Scalar.shrui v1015 c2_i32_642
  let c0_i32_644 : BitVec 32 := 0#32
  ![v1016.toNat, 0]

def k1_chk69 (i : grid1.Coords) (v1015 : BitVec 32) : Prop :=
  (∀ (k1_h2 : k1_cond2 i = 1#1), ∀ a, (k1_off275 v1015) a + S1x768.size a ≤ S100000x768.size a)
theorem k1_off275_inb : ∀ (i : grid1.Coords) (v1015 : BitVec 32) (k1_hw69 : k1_chk69 i v1015), ∀ (k1_h2 : k1_cond2 i = 1#1), ∀ a, (k1_off275 v1015) a + S1x768.size a ≤ S100000x768.size a := fun i v1015 k1_hw69 k1_h2 => k1_hw69 k1_h2

def k1_off276 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1025 : Index := Scalar.indexCast v9
  let c68_647 : Index := 68#32
  let c0_648 : Index := 0#32
  ![v1025.toNat, 68, 0]
def k1_off277 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off278 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c69_i32 : BitVec 32 := 69#32
  let c0_i32_652 : BitVec 32 := 0#32
  ![v9.toNat, 69, 0]
def k1_off279 (v1029 : BitVec 32) : Fin 2 → Nat :=
  let c2_i32_651 : BitVec 32 := 2#32
  let v1030 : BitVec 32 := Scalar.shrui v1029 c2_i32_651
  let c0_i32_653 : BitVec 32 := 0#32
  ![v1030.toNat, 0]

def k1_chk70 (i : grid1.Coords) (v1029 : BitVec 32) : Prop :=
  (∀ (k1_h2 : k1_cond2 i = 1#1), ∀ a, (k1_off279 v1029) a + S1x768.size a ≤ S100000x768.size a)
theorem k1_off279_inb : ∀ (i : grid1.Coords) (v1029 : BitVec 32) (k1_hw70 : k1_chk70 i v1029), ∀ (k1_h2 : k1_cond2 i = 1#1), ∀ a, (k1_off279 v1029) a + S1x768.size a ≤ S100000x768.size a := fun i v1029 k1_hw70 k1_h2 => k1_hw70 k1_h2

def k1_off280 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1039 : Index := Scalar.indexCast v9
  let c69_656 : Index := 69#32
  let c0_657 : Index := 0#32
  ![v1039.toNat, 69, 0]
def k1_off281 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off282 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c70_i32 : BitVec 32 := 70#32
  let c0_i32_661 : BitVec 32 := 0#32
  ![v9.toNat, 70, 0]
def k1_off283 (v1043 : BitVec 32) : Fin 2 → Nat :=
  let c2_i32_660 : BitVec 32 := 2#32
  let v1044 : BitVec 32 := Scalar.shrui v1043 c2_i32_660
  let c0_i32_662 : BitVec 32 := 0#32
  ![v1044.toNat, 0]

def k1_chk71 (i : grid1.Coords) (v1043 : BitVec 32) : Prop :=
  (∀ (k1_h2 : k1_cond2 i = 1#1), ∀ a, (k1_off283 v1043) a + S1x768.size a ≤ S100000x768.size a)
theorem k1_off283_inb : ∀ (i : grid1.Coords) (v1043 : BitVec 32) (k1_hw71 : k1_chk71 i v1043), ∀ (k1_h2 : k1_cond2 i = 1#1), ∀ a, (k1_off283 v1043) a + S1x768.size a ≤ S100000x768.size a := fun i v1043 k1_hw71 k1_h2 => k1_hw71 k1_h2

def k1_off284 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1053 : Index := Scalar.indexCast v9
  let c70_665 : Index := 70#32
  let c0_666 : Index := 0#32
  ![v1053.toNat, 70, 0]
def k1_off285 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off286 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c71_i32 : BitVec 32 := 71#32
  let c0_i32_670 : BitVec 32 := 0#32
  ![v9.toNat, 71, 0]
def k1_off287 (v1057 : BitVec 32) : Fin 2 → Nat :=
  let c2_i32_669 : BitVec 32 := 2#32
  let v1058 : BitVec 32 := Scalar.shrui v1057 c2_i32_669
  let c0_i32_671 : BitVec 32 := 0#32
  ![v1058.toNat, 0]

def k1_chk72 (i : grid1.Coords) (v1057 : BitVec 32) : Prop :=
  (∀ (k1_h2 : k1_cond2 i = 1#1), ∀ a, (k1_off287 v1057) a + S1x768.size a ≤ S100000x768.size a)
theorem k1_off287_inb : ∀ (i : grid1.Coords) (v1057 : BitVec 32) (k1_hw72 : k1_chk72 i v1057), ∀ (k1_h2 : k1_cond2 i = 1#1), ∀ a, (k1_off287 v1057) a + S1x768.size a ≤ S100000x768.size a := fun i v1057 k1_hw72 k1_h2 => k1_hw72 k1_h2

def k1_off288 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1067 : Index := Scalar.indexCast v9
  let c71_674 : Index := 71#32
  let c0_675 : Index := 0#32
  ![v1067.toNat, 71, 0]
def k1_off289 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off290 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c72_i32 : BitVec 32 := 72#32
  let c0_i32_679 : BitVec 32 := 0#32
  ![v9.toNat, 72, 0]
def k1_off291 (v1071 : BitVec 32) : Fin 2 → Nat :=
  let c2_i32_678 : BitVec 32 := 2#32
  let v1072 : BitVec 32 := Scalar.shrui v1071 c2_i32_678
  let c0_i32_680 : BitVec 32 := 0#32
  ![v1072.toNat, 0]

def k1_chk73 (i : grid1.Coords) (v1071 : BitVec 32) : Prop :=
  (∀ (k1_h2 : k1_cond2 i = 1#1), ∀ a, (k1_off291 v1071) a + S1x768.size a ≤ S100000x768.size a)
theorem k1_off291_inb : ∀ (i : grid1.Coords) (v1071 : BitVec 32) (k1_hw73 : k1_chk73 i v1071), ∀ (k1_h2 : k1_cond2 i = 1#1), ∀ a, (k1_off291 v1071) a + S1x768.size a ≤ S100000x768.size a := fun i v1071 k1_hw73 k1_h2 => k1_hw73 k1_h2

def k1_off292 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1081 : Index := Scalar.indexCast v9
  let c72_683 : Index := 72#32
  let c0_684 : Index := 0#32
  ![v1081.toNat, 72, 0]
def k1_off293 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off294 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c73_i32 : BitVec 32 := 73#32
  let c0_i32_688 : BitVec 32 := 0#32
  ![v9.toNat, 73, 0]
def k1_off295 (v1085 : BitVec 32) : Fin 2 → Nat :=
  let c2_i32_687 : BitVec 32 := 2#32
  let v1086 : BitVec 32 := Scalar.shrui v1085 c2_i32_687
  let c0_i32_689 : BitVec 32 := 0#32
  ![v1086.toNat, 0]

def k1_chk74 (i : grid1.Coords) (v1085 : BitVec 32) : Prop :=
  (∀ (k1_h2 : k1_cond2 i = 1#1), ∀ a, (k1_off295 v1085) a + S1x768.size a ≤ S100000x768.size a)
theorem k1_off295_inb : ∀ (i : grid1.Coords) (v1085 : BitVec 32) (k1_hw74 : k1_chk74 i v1085), ∀ (k1_h2 : k1_cond2 i = 1#1), ∀ a, (k1_off295 v1085) a + S1x768.size a ≤ S100000x768.size a := fun i v1085 k1_hw74 k1_h2 => k1_hw74 k1_h2

def k1_off296 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1095 : Index := Scalar.indexCast v9
  let c73_692 : Index := 73#32
  let c0_693 : Index := 0#32
  ![v1095.toNat, 73, 0]
def k1_off297 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off298 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c74_i32 : BitVec 32 := 74#32
  let c0_i32_697 : BitVec 32 := 0#32
  ![v9.toNat, 74, 0]
def k1_off299 (v1099 : BitVec 32) : Fin 2 → Nat :=
  let c2_i32_696 : BitVec 32 := 2#32
  let v1100 : BitVec 32 := Scalar.shrui v1099 c2_i32_696
  let c0_i32_698 : BitVec 32 := 0#32
  ![v1100.toNat, 0]

def k1_chk75 (i : grid1.Coords) (v1099 : BitVec 32) : Prop :=
  (∀ (k1_h2 : k1_cond2 i = 1#1), ∀ a, (k1_off299 v1099) a + S1x768.size a ≤ S100000x768.size a)
theorem k1_off299_inb : ∀ (i : grid1.Coords) (v1099 : BitVec 32) (k1_hw75 : k1_chk75 i v1099), ∀ (k1_h2 : k1_cond2 i = 1#1), ∀ a, (k1_off299 v1099) a + S1x768.size a ≤ S100000x768.size a := fun i v1099 k1_hw75 k1_h2 => k1_hw75 k1_h2

def k1_off300 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1109 : Index := Scalar.indexCast v9
  let c74_701 : Index := 74#32
  let c0_702 : Index := 0#32
  ![v1109.toNat, 74, 0]
def k1_off301 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off302 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c75_i32 : BitVec 32 := 75#32
  let c0_i32_706 : BitVec 32 := 0#32
  ![v9.toNat, 75, 0]
def k1_off303 (v1113 : BitVec 32) : Fin 2 → Nat :=
  let c2_i32_705 : BitVec 32 := 2#32
  let v1114 : BitVec 32 := Scalar.shrui v1113 c2_i32_705
  let c0_i32_707 : BitVec 32 := 0#32
  ![v1114.toNat, 0]

def k1_chk76 (i : grid1.Coords) (v1113 : BitVec 32) : Prop :=
  (∀ (k1_h2 : k1_cond2 i = 1#1), ∀ a, (k1_off303 v1113) a + S1x768.size a ≤ S100000x768.size a)
theorem k1_off303_inb : ∀ (i : grid1.Coords) (v1113 : BitVec 32) (k1_hw76 : k1_chk76 i v1113), ∀ (k1_h2 : k1_cond2 i = 1#1), ∀ a, (k1_off303 v1113) a + S1x768.size a ≤ S100000x768.size a := fun i v1113 k1_hw76 k1_h2 => k1_hw76 k1_h2

def k1_off304 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1123 : Index := Scalar.indexCast v9
  let c75_710 : Index := 75#32
  let c0_711 : Index := 0#32
  ![v1123.toNat, 75, 0]
def k1_off305 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off306 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c76_i32 : BitVec 32 := 76#32
  let c0_i32_715 : BitVec 32 := 0#32
  ![v9.toNat, 76, 0]
def k1_off307 (v1127 : BitVec 32) : Fin 2 → Nat :=
  let c2_i32_714 : BitVec 32 := 2#32
  let v1128 : BitVec 32 := Scalar.shrui v1127 c2_i32_714
  let c0_i32_716 : BitVec 32 := 0#32
  ![v1128.toNat, 0]

def k1_chk77 (i : grid1.Coords) (v1127 : BitVec 32) : Prop :=
  (∀ (k1_h2 : k1_cond2 i = 1#1), ∀ a, (k1_off307 v1127) a + S1x768.size a ≤ S100000x768.size a)
theorem k1_off307_inb : ∀ (i : grid1.Coords) (v1127 : BitVec 32) (k1_hw77 : k1_chk77 i v1127), ∀ (k1_h2 : k1_cond2 i = 1#1), ∀ a, (k1_off307 v1127) a + S1x768.size a ≤ S100000x768.size a := fun i v1127 k1_hw77 k1_h2 => k1_hw77 k1_h2

def k1_off308 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1137 : Index := Scalar.indexCast v9
  let c76_719 : Index := 76#32
  let c0_720 : Index := 0#32
  ![v1137.toNat, 76, 0]
def k1_off309 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off310 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c77_i32 : BitVec 32 := 77#32
  let c0_i32_724 : BitVec 32 := 0#32
  ![v9.toNat, 77, 0]
def k1_off311 (v1141 : BitVec 32) : Fin 2 → Nat :=
  let c2_i32_723 : BitVec 32 := 2#32
  let v1142 : BitVec 32 := Scalar.shrui v1141 c2_i32_723
  let c0_i32_725 : BitVec 32 := 0#32
  ![v1142.toNat, 0]

def k1_chk78 (i : grid1.Coords) (v1141 : BitVec 32) : Prop :=
  (∀ (k1_h2 : k1_cond2 i = 1#1), ∀ a, (k1_off311 v1141) a + S1x768.size a ≤ S100000x768.size a)
theorem k1_off311_inb : ∀ (i : grid1.Coords) (v1141 : BitVec 32) (k1_hw78 : k1_chk78 i v1141), ∀ (k1_h2 : k1_cond2 i = 1#1), ∀ a, (k1_off311 v1141) a + S1x768.size a ≤ S100000x768.size a := fun i v1141 k1_hw78 k1_h2 => k1_hw78 k1_h2

def k1_off312 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1151 : Index := Scalar.indexCast v9
  let c77_728 : Index := 77#32
  let c0_729 : Index := 0#32
  ![v1151.toNat, 77, 0]
def k1_off313 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off314 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c78_i32 : BitVec 32 := 78#32
  let c0_i32_733 : BitVec 32 := 0#32
  ![v9.toNat, 78, 0]
def k1_off315 (v1155 : BitVec 32) : Fin 2 → Nat :=
  let c2_i32_732 : BitVec 32 := 2#32
  let v1156 : BitVec 32 := Scalar.shrui v1155 c2_i32_732
  let c0_i32_734 : BitVec 32 := 0#32
  ![v1156.toNat, 0]

def k1_chk79 (i : grid1.Coords) (v1155 : BitVec 32) : Prop :=
  (∀ (k1_h2 : k1_cond2 i = 1#1), ∀ a, (k1_off315 v1155) a + S1x768.size a ≤ S100000x768.size a)
theorem k1_off315_inb : ∀ (i : grid1.Coords) (v1155 : BitVec 32) (k1_hw79 : k1_chk79 i v1155), ∀ (k1_h2 : k1_cond2 i = 1#1), ∀ a, (k1_off315 v1155) a + S1x768.size a ≤ S100000x768.size a := fun i v1155 k1_hw79 k1_h2 => k1_hw79 k1_h2

def k1_off316 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1165 : Index := Scalar.indexCast v9
  let c78_737 : Index := 78#32
  let c0_738 : Index := 0#32
  ![v1165.toNat, 78, 0]
def k1_off317 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off318 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c79_i32 : BitVec 32 := 79#32
  let c0_i32_742 : BitVec 32 := 0#32
  ![v9.toNat, 79, 0]
def k1_off319 (v1169 : BitVec 32) : Fin 2 → Nat :=
  let c2_i32_741 : BitVec 32 := 2#32
  let v1170 : BitVec 32 := Scalar.shrui v1169 c2_i32_741
  let c0_i32_743 : BitVec 32 := 0#32
  ![v1170.toNat, 0]

def k1_chk80 (i : grid1.Coords) (v1169 : BitVec 32) : Prop :=
  (∀ (k1_h2 : k1_cond2 i = 1#1), ∀ a, (k1_off319 v1169) a + S1x768.size a ≤ S100000x768.size a)
theorem k1_off319_inb : ∀ (i : grid1.Coords) (v1169 : BitVec 32) (k1_hw80 : k1_chk80 i v1169), ∀ (k1_h2 : k1_cond2 i = 1#1), ∀ a, (k1_off319 v1169) a + S1x768.size a ≤ S100000x768.size a := fun i v1169 k1_hw80 k1_h2 => k1_hw80 k1_h2

def k1_off320 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1179 : Index := Scalar.indexCast v9
  let c79_746 : Index := 79#32
  let c0_747 : Index := 0#32
  ![v1179.toNat, 79, 0]
def k1_off321 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off322 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c80_i32 : BitVec 32 := 80#32
  let c0_i32_751 : BitVec 32 := 0#32
  ![v9.toNat, 80, 0]
def k1_off323 (v1183 : BitVec 32) : Fin 2 → Nat :=
  let c2_i32_750 : BitVec 32 := 2#32
  let v1184 : BitVec 32 := Scalar.shrui v1183 c2_i32_750
  let c0_i32_752 : BitVec 32 := 0#32
  ![v1184.toNat, 0]

def k1_chk81 (i : grid1.Coords) (v1183 : BitVec 32) : Prop :=
  (∀ (k1_h2 : k1_cond2 i = 1#1), ∀ a, (k1_off323 v1183) a + S1x768.size a ≤ S100000x768.size a)
theorem k1_off323_inb : ∀ (i : grid1.Coords) (v1183 : BitVec 32) (k1_hw81 : k1_chk81 i v1183), ∀ (k1_h2 : k1_cond2 i = 1#1), ∀ a, (k1_off323 v1183) a + S1x768.size a ≤ S100000x768.size a := fun i v1183 k1_hw81 k1_h2 => k1_hw81 k1_h2

def k1_off324 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1193 : Index := Scalar.indexCast v9
  let c80_755 : Index := 80#32
  let c0_756 : Index := 0#32
  ![v1193.toNat, 80, 0]
def k1_off325 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off326 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c81_i32 : BitVec 32 := 81#32
  let c0_i32_760 : BitVec 32 := 0#32
  ![v9.toNat, 81, 0]
def k1_off327 (v1197 : BitVec 32) : Fin 2 → Nat :=
  let c2_i32_759 : BitVec 32 := 2#32
  let v1198 : BitVec 32 := Scalar.shrui v1197 c2_i32_759
  let c0_i32_761 : BitVec 32 := 0#32
  ![v1198.toNat, 0]

def k1_chk82 (i : grid1.Coords) (v1197 : BitVec 32) : Prop :=
  (∀ (k1_h2 : k1_cond2 i = 1#1), ∀ a, (k1_off327 v1197) a + S1x768.size a ≤ S100000x768.size a)
theorem k1_off327_inb : ∀ (i : grid1.Coords) (v1197 : BitVec 32) (k1_hw82 : k1_chk82 i v1197), ∀ (k1_h2 : k1_cond2 i = 1#1), ∀ a, (k1_off327 v1197) a + S1x768.size a ≤ S100000x768.size a := fun i v1197 k1_hw82 k1_h2 => k1_hw82 k1_h2

def k1_off328 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1207 : Index := Scalar.indexCast v9
  let c81_764 : Index := 81#32
  let c0_765 : Index := 0#32
  ![v1207.toNat, 81, 0]
def k1_off329 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off330 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c82_i32 : BitVec 32 := 82#32
  let c0_i32_769 : BitVec 32 := 0#32
  ![v9.toNat, 82, 0]
def k1_off331 (v1211 : BitVec 32) : Fin 2 → Nat :=
  let c2_i32_768 : BitVec 32 := 2#32
  let v1212 : BitVec 32 := Scalar.shrui v1211 c2_i32_768
  let c0_i32_770 : BitVec 32 := 0#32
  ![v1212.toNat, 0]

def k1_chk83 (i : grid1.Coords) (v1211 : BitVec 32) : Prop :=
  (∀ (k1_h2 : k1_cond2 i = 1#1), ∀ a, (k1_off331 v1211) a + S1x768.size a ≤ S100000x768.size a)
theorem k1_off331_inb : ∀ (i : grid1.Coords) (v1211 : BitVec 32) (k1_hw83 : k1_chk83 i v1211), ∀ (k1_h2 : k1_cond2 i = 1#1), ∀ a, (k1_off331 v1211) a + S1x768.size a ≤ S100000x768.size a := fun i v1211 k1_hw83 k1_h2 => k1_hw83 k1_h2

def k1_off332 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1221 : Index := Scalar.indexCast v9
  let c82_773 : Index := 82#32
  let c0_774 : Index := 0#32
  ![v1221.toNat, 82, 0]
def k1_off333 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off334 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c83_i32 : BitVec 32 := 83#32
  let c0_i32_778 : BitVec 32 := 0#32
  ![v9.toNat, 83, 0]
def k1_off335 (v1225 : BitVec 32) : Fin 2 → Nat :=
  let c2_i32_777 : BitVec 32 := 2#32
  let v1226 : BitVec 32 := Scalar.shrui v1225 c2_i32_777
  let c0_i32_779 : BitVec 32 := 0#32
  ![v1226.toNat, 0]

def k1_chk84 (i : grid1.Coords) (v1225 : BitVec 32) : Prop :=
  (∀ (k1_h2 : k1_cond2 i = 1#1), ∀ a, (k1_off335 v1225) a + S1x768.size a ≤ S100000x768.size a)
theorem k1_off335_inb : ∀ (i : grid1.Coords) (v1225 : BitVec 32) (k1_hw84 : k1_chk84 i v1225), ∀ (k1_h2 : k1_cond2 i = 1#1), ∀ a, (k1_off335 v1225) a + S1x768.size a ≤ S100000x768.size a := fun i v1225 k1_hw84 k1_h2 => k1_hw84 k1_h2

def k1_off336 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1235 : Index := Scalar.indexCast v9
  let c83_782 : Index := 83#32
  let c0_783 : Index := 0#32
  ![v1235.toNat, 83, 0]
def k1_off337 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off338 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c84_i32 : BitVec 32 := 84#32
  let c0_i32_787 : BitVec 32 := 0#32
  ![v9.toNat, 84, 0]
def k1_off339 (v1239 : BitVec 32) : Fin 2 → Nat :=
  let c2_i32_786 : BitVec 32 := 2#32
  let v1240 : BitVec 32 := Scalar.shrui v1239 c2_i32_786
  let c0_i32_788 : BitVec 32 := 0#32
  ![v1240.toNat, 0]

def k1_chk85 (i : grid1.Coords) (v1239 : BitVec 32) : Prop :=
  (∀ (k1_h2 : k1_cond2 i = 1#1), ∀ a, (k1_off339 v1239) a + S1x768.size a ≤ S100000x768.size a)
theorem k1_off339_inb : ∀ (i : grid1.Coords) (v1239 : BitVec 32) (k1_hw85 : k1_chk85 i v1239), ∀ (k1_h2 : k1_cond2 i = 1#1), ∀ a, (k1_off339 v1239) a + S1x768.size a ≤ S100000x768.size a := fun i v1239 k1_hw85 k1_h2 => k1_hw85 k1_h2

def k1_off340 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1249 : Index := Scalar.indexCast v9
  let c84_791 : Index := 84#32
  let c0_792 : Index := 0#32
  ![v1249.toNat, 84, 0]
def k1_off341 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off342 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c85_i32 : BitVec 32 := 85#32
  let c0_i32_796 : BitVec 32 := 0#32
  ![v9.toNat, 85, 0]
def k1_off343 (v1253 : BitVec 32) : Fin 2 → Nat :=
  let c2_i32_795 : BitVec 32 := 2#32
  let v1254 : BitVec 32 := Scalar.shrui v1253 c2_i32_795
  let c0_i32_797 : BitVec 32 := 0#32
  ![v1254.toNat, 0]

def k1_chk86 (i : grid1.Coords) (v1253 : BitVec 32) : Prop :=
  (∀ (k1_h2 : k1_cond2 i = 1#1), ∀ a, (k1_off343 v1253) a + S1x768.size a ≤ S100000x768.size a)
theorem k1_off343_inb : ∀ (i : grid1.Coords) (v1253 : BitVec 32) (k1_hw86 : k1_chk86 i v1253), ∀ (k1_h2 : k1_cond2 i = 1#1), ∀ a, (k1_off343 v1253) a + S1x768.size a ≤ S100000x768.size a := fun i v1253 k1_hw86 k1_h2 => k1_hw86 k1_h2

def k1_off344 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1263 : Index := Scalar.indexCast v9
  let c85_800 : Index := 85#32
  let c0_801 : Index := 0#32
  ![v1263.toNat, 85, 0]
def k1_off345 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off346 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c86_i32 : BitVec 32 := 86#32
  let c0_i32_805 : BitVec 32 := 0#32
  ![v9.toNat, 86, 0]
def k1_off347 (v1267 : BitVec 32) : Fin 2 → Nat :=
  let c2_i32_804 : BitVec 32 := 2#32
  let v1268 : BitVec 32 := Scalar.shrui v1267 c2_i32_804
  let c0_i32_806 : BitVec 32 := 0#32
  ![v1268.toNat, 0]

def k1_chk87 (i : grid1.Coords) (v1267 : BitVec 32) : Prop :=
  (∀ (k1_h2 : k1_cond2 i = 1#1), ∀ a, (k1_off347 v1267) a + S1x768.size a ≤ S100000x768.size a)
theorem k1_off347_inb : ∀ (i : grid1.Coords) (v1267 : BitVec 32) (k1_hw87 : k1_chk87 i v1267), ∀ (k1_h2 : k1_cond2 i = 1#1), ∀ a, (k1_off347 v1267) a + S1x768.size a ≤ S100000x768.size a := fun i v1267 k1_hw87 k1_h2 => k1_hw87 k1_h2

def k1_off348 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1277 : Index := Scalar.indexCast v9
  let c86_809 : Index := 86#32
  let c0_810 : Index := 0#32
  ![v1277.toNat, 86, 0]
def k1_off349 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off350 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c87_i32 : BitVec 32 := 87#32
  let c0_i32_814 : BitVec 32 := 0#32
  ![v9.toNat, 87, 0]
def k1_off351 (v1281 : BitVec 32) : Fin 2 → Nat :=
  let c2_i32_813 : BitVec 32 := 2#32
  let v1282 : BitVec 32 := Scalar.shrui v1281 c2_i32_813
  let c0_i32_815 : BitVec 32 := 0#32
  ![v1282.toNat, 0]

def k1_chk88 (i : grid1.Coords) (v1281 : BitVec 32) : Prop :=
  (∀ (k1_h2 : k1_cond2 i = 1#1), ∀ a, (k1_off351 v1281) a + S1x768.size a ≤ S100000x768.size a)
theorem k1_off351_inb : ∀ (i : grid1.Coords) (v1281 : BitVec 32) (k1_hw88 : k1_chk88 i v1281), ∀ (k1_h2 : k1_cond2 i = 1#1), ∀ a, (k1_off351 v1281) a + S1x768.size a ≤ S100000x768.size a := fun i v1281 k1_hw88 k1_h2 => k1_hw88 k1_h2

def k1_off352 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1291 : Index := Scalar.indexCast v9
  let c87_818 : Index := 87#32
  let c0_819 : Index := 0#32
  ![v1291.toNat, 87, 0]
def k1_off353 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off354 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c88_i32 : BitVec 32 := 88#32
  let c0_i32_823 : BitVec 32 := 0#32
  ![v9.toNat, 88, 0]
def k1_off355 (v1295 : BitVec 32) : Fin 2 → Nat :=
  let c2_i32_822 : BitVec 32 := 2#32
  let v1296 : BitVec 32 := Scalar.shrui v1295 c2_i32_822
  let c0_i32_824 : BitVec 32 := 0#32
  ![v1296.toNat, 0]

def k1_chk89 (i : grid1.Coords) (v1295 : BitVec 32) : Prop :=
  (∀ (k1_h2 : k1_cond2 i = 1#1), ∀ a, (k1_off355 v1295) a + S1x768.size a ≤ S100000x768.size a)
theorem k1_off355_inb : ∀ (i : grid1.Coords) (v1295 : BitVec 32) (k1_hw89 : k1_chk89 i v1295), ∀ (k1_h2 : k1_cond2 i = 1#1), ∀ a, (k1_off355 v1295) a + S1x768.size a ≤ S100000x768.size a := fun i v1295 k1_hw89 k1_h2 => k1_hw89 k1_h2

def k1_off356 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1305 : Index := Scalar.indexCast v9
  let c88_827 : Index := 88#32
  let c0_828 : Index := 0#32
  ![v1305.toNat, 88, 0]
def k1_off357 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off358 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c89_i32 : BitVec 32 := 89#32
  let c0_i32_832 : BitVec 32 := 0#32
  ![v9.toNat, 89, 0]
def k1_off359 (v1309 : BitVec 32) : Fin 2 → Nat :=
  let c2_i32_831 : BitVec 32 := 2#32
  let v1310 : BitVec 32 := Scalar.shrui v1309 c2_i32_831
  let c0_i32_833 : BitVec 32 := 0#32
  ![v1310.toNat, 0]

def k1_chk90 (i : grid1.Coords) (v1309 : BitVec 32) : Prop :=
  (∀ (k1_h2 : k1_cond2 i = 1#1), ∀ a, (k1_off359 v1309) a + S1x768.size a ≤ S100000x768.size a)
theorem k1_off359_inb : ∀ (i : grid1.Coords) (v1309 : BitVec 32) (k1_hw90 : k1_chk90 i v1309), ∀ (k1_h2 : k1_cond2 i = 1#1), ∀ a, (k1_off359 v1309) a + S1x768.size a ≤ S100000x768.size a := fun i v1309 k1_hw90 k1_h2 => k1_hw90 k1_h2

def k1_off360 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1319 : Index := Scalar.indexCast v9
  let c89_836 : Index := 89#32
  let c0_837 : Index := 0#32
  ![v1319.toNat, 89, 0]
def k1_off361 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off362 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c90_i32 : BitVec 32 := 90#32
  let c0_i32_841 : BitVec 32 := 0#32
  ![v9.toNat, 90, 0]
def k1_off363 (v1323 : BitVec 32) : Fin 2 → Nat :=
  let c2_i32_840 : BitVec 32 := 2#32
  let v1324 : BitVec 32 := Scalar.shrui v1323 c2_i32_840
  let c0_i32_842 : BitVec 32 := 0#32
  ![v1324.toNat, 0]

def k1_chk91 (i : grid1.Coords) (v1323 : BitVec 32) : Prop :=
  (∀ (k1_h2 : k1_cond2 i = 1#1), ∀ a, (k1_off363 v1323) a + S1x768.size a ≤ S100000x768.size a)
theorem k1_off363_inb : ∀ (i : grid1.Coords) (v1323 : BitVec 32) (k1_hw91 : k1_chk91 i v1323), ∀ (k1_h2 : k1_cond2 i = 1#1), ∀ a, (k1_off363 v1323) a + S1x768.size a ≤ S100000x768.size a := fun i v1323 k1_hw91 k1_h2 => k1_hw91 k1_h2

def k1_off364 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1333 : Index := Scalar.indexCast v9
  let c90_845 : Index := 90#32
  let c0_846 : Index := 0#32
  ![v1333.toNat, 90, 0]
def k1_off365 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off366 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c91_i32 : BitVec 32 := 91#32
  let c0_i32_850 : BitVec 32 := 0#32
  ![v9.toNat, 91, 0]
def k1_off367 (v1337 : BitVec 32) : Fin 2 → Nat :=
  let c2_i32_849 : BitVec 32 := 2#32
  let v1338 : BitVec 32 := Scalar.shrui v1337 c2_i32_849
  let c0_i32_851 : BitVec 32 := 0#32
  ![v1338.toNat, 0]

def k1_chk92 (i : grid1.Coords) (v1337 : BitVec 32) : Prop :=
  (∀ (k1_h2 : k1_cond2 i = 1#1), ∀ a, (k1_off367 v1337) a + S1x768.size a ≤ S100000x768.size a)
theorem k1_off367_inb : ∀ (i : grid1.Coords) (v1337 : BitVec 32) (k1_hw92 : k1_chk92 i v1337), ∀ (k1_h2 : k1_cond2 i = 1#1), ∀ a, (k1_off367 v1337) a + S1x768.size a ≤ S100000x768.size a := fun i v1337 k1_hw92 k1_h2 => k1_hw92 k1_h2

def k1_off368 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1347 : Index := Scalar.indexCast v9
  let c91_854 : Index := 91#32
  let c0_855 : Index := 0#32
  ![v1347.toNat, 91, 0]
def k1_off369 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off370 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c92_i32 : BitVec 32 := 92#32
  let c0_i32_859 : BitVec 32 := 0#32
  ![v9.toNat, 92, 0]
def k1_off371 (v1351 : BitVec 32) : Fin 2 → Nat :=
  let c2_i32_858 : BitVec 32 := 2#32
  let v1352 : BitVec 32 := Scalar.shrui v1351 c2_i32_858
  let c0_i32_860 : BitVec 32 := 0#32
  ![v1352.toNat, 0]

def k1_chk93 (i : grid1.Coords) (v1351 : BitVec 32) : Prop :=
  (∀ (k1_h2 : k1_cond2 i = 1#1), ∀ a, (k1_off371 v1351) a + S1x768.size a ≤ S100000x768.size a)
theorem k1_off371_inb : ∀ (i : grid1.Coords) (v1351 : BitVec 32) (k1_hw93 : k1_chk93 i v1351), ∀ (k1_h2 : k1_cond2 i = 1#1), ∀ a, (k1_off371 v1351) a + S1x768.size a ≤ S100000x768.size a := fun i v1351 k1_hw93 k1_h2 => k1_hw93 k1_h2

def k1_off372 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1361 : Index := Scalar.indexCast v9
  let c92_863 : Index := 92#32
  let c0_864 : Index := 0#32
  ![v1361.toNat, 92, 0]
def k1_off373 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off374 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c93_i32 : BitVec 32 := 93#32
  let c0_i32_868 : BitVec 32 := 0#32
  ![v9.toNat, 93, 0]
def k1_off375 (v1365 : BitVec 32) : Fin 2 → Nat :=
  let c2_i32_867 : BitVec 32 := 2#32
  let v1366 : BitVec 32 := Scalar.shrui v1365 c2_i32_867
  let c0_i32_869 : BitVec 32 := 0#32
  ![v1366.toNat, 0]

def k1_chk94 (i : grid1.Coords) (v1365 : BitVec 32) : Prop :=
  (∀ (k1_h2 : k1_cond2 i = 1#1), ∀ a, (k1_off375 v1365) a + S1x768.size a ≤ S100000x768.size a)
theorem k1_off375_inb : ∀ (i : grid1.Coords) (v1365 : BitVec 32) (k1_hw94 : k1_chk94 i v1365), ∀ (k1_h2 : k1_cond2 i = 1#1), ∀ a, (k1_off375 v1365) a + S1x768.size a ≤ S100000x768.size a := fun i v1365 k1_hw94 k1_h2 => k1_hw94 k1_h2

def k1_off376 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1375 : Index := Scalar.indexCast v9
  let c93_872 : Index := 93#32
  let c0_873 : Index := 0#32
  ![v1375.toNat, 93, 0]
def k1_off377 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off378 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c94_i32 : BitVec 32 := 94#32
  let c0_i32_877 : BitVec 32 := 0#32
  ![v9.toNat, 94, 0]
def k1_off379 (v1379 : BitVec 32) : Fin 2 → Nat :=
  let c2_i32_876 : BitVec 32 := 2#32
  let v1380 : BitVec 32 := Scalar.shrui v1379 c2_i32_876
  let c0_i32_878 : BitVec 32 := 0#32
  ![v1380.toNat, 0]

def k1_chk95 (i : grid1.Coords) (v1379 : BitVec 32) : Prop :=
  (∀ (k1_h2 : k1_cond2 i = 1#1), ∀ a, (k1_off379 v1379) a + S1x768.size a ≤ S100000x768.size a)
theorem k1_off379_inb : ∀ (i : grid1.Coords) (v1379 : BitVec 32) (k1_hw95 : k1_chk95 i v1379), ∀ (k1_h2 : k1_cond2 i = 1#1), ∀ a, (k1_off379 v1379) a + S1x768.size a ≤ S100000x768.size a := fun i v1379 k1_hw95 k1_h2 => k1_hw95 k1_h2

def k1_off380 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1389 : Index := Scalar.indexCast v9
  let c94_881 : Index := 94#32
  let c0_882 : Index := 0#32
  ![v1389.toNat, 94, 0]
def k1_off381 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off382 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c95_i32 : BitVec 32 := 95#32
  let c0_i32_886 : BitVec 32 := 0#32
  ![v9.toNat, 95, 0]
def k1_off383 (v1393 : BitVec 32) : Fin 2 → Nat :=
  let c2_i32_885 : BitVec 32 := 2#32
  let v1394 : BitVec 32 := Scalar.shrui v1393 c2_i32_885
  let c0_i32_887 : BitVec 32 := 0#32
  ![v1394.toNat, 0]

def k1_chk96 (i : grid1.Coords) (v1393 : BitVec 32) : Prop :=
  (∀ (k1_h2 : k1_cond2 i = 1#1), ∀ a, (k1_off383 v1393) a + S1x768.size a ≤ S100000x768.size a)
theorem k1_off383_inb : ∀ (i : grid1.Coords) (v1393 : BitVec 32) (k1_hw96 : k1_chk96 i v1393), ∀ (k1_h2 : k1_cond2 i = 1#1), ∀ a, (k1_off383 v1393) a + S1x768.size a ≤ S100000x768.size a := fun i v1393 k1_hw96 k1_h2 => k1_hw96 k1_h2

def k1_off384 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1403 : Index := Scalar.indexCast v9
  let c95_890 : Index := 95#32
  let c0_891 : Index := 0#32
  ![v1403.toNat, 95, 0]
def k1_off385 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off386 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c96_i32 : BitVec 32 := 96#32
  let c0_i32_895 : BitVec 32 := 0#32
  ![v9.toNat, 96, 0]
def k1_off387 (v1407 : BitVec 32) : Fin 2 → Nat :=
  let c2_i32_894 : BitVec 32 := 2#32
  let v1408 : BitVec 32 := Scalar.shrui v1407 c2_i32_894
  let c0_i32_896 : BitVec 32 := 0#32
  ![v1408.toNat, 0]

def k1_chk97 (i : grid1.Coords) (v1407 : BitVec 32) : Prop :=
  (∀ (k1_h2 : k1_cond2 i = 1#1), ∀ a, (k1_off387 v1407) a + S1x768.size a ≤ S100000x768.size a)
theorem k1_off387_inb : ∀ (i : grid1.Coords) (v1407 : BitVec 32) (k1_hw97 : k1_chk97 i v1407), ∀ (k1_h2 : k1_cond2 i = 1#1), ∀ a, (k1_off387 v1407) a + S1x768.size a ≤ S100000x768.size a := fun i v1407 k1_hw97 k1_h2 => k1_hw97 k1_h2

def k1_off388 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1417 : Index := Scalar.indexCast v9
  let c96_899 : Index := 96#32
  let c0_900 : Index := 0#32
  ![v1417.toNat, 96, 0]
def k1_off389 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off390 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c97_i32 : BitVec 32 := 97#32
  let c0_i32_904 : BitVec 32 := 0#32
  ![v9.toNat, 97, 0]
def k1_off391 (v1421 : BitVec 32) : Fin 2 → Nat :=
  let c2_i32_903 : BitVec 32 := 2#32
  let v1422 : BitVec 32 := Scalar.shrui v1421 c2_i32_903
  let c0_i32_905 : BitVec 32 := 0#32
  ![v1422.toNat, 0]

def k1_chk98 (i : grid1.Coords) (v1421 : BitVec 32) : Prop :=
  (∀ (k1_h2 : k1_cond2 i = 1#1), ∀ a, (k1_off391 v1421) a + S1x768.size a ≤ S100000x768.size a)
theorem k1_off391_inb : ∀ (i : grid1.Coords) (v1421 : BitVec 32) (k1_hw98 : k1_chk98 i v1421), ∀ (k1_h2 : k1_cond2 i = 1#1), ∀ a, (k1_off391 v1421) a + S1x768.size a ≤ S100000x768.size a := fun i v1421 k1_hw98 k1_h2 => k1_hw98 k1_h2

def k1_off392 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1431 : Index := Scalar.indexCast v9
  let c97_908 : Index := 97#32
  let c0_909 : Index := 0#32
  ![v1431.toNat, 97, 0]
def k1_off393 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off394 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c98_i32 : BitVec 32 := 98#32
  let c0_i32_913 : BitVec 32 := 0#32
  ![v9.toNat, 98, 0]
def k1_off395 (v1435 : BitVec 32) : Fin 2 → Nat :=
  let c2_i32_912 : BitVec 32 := 2#32
  let v1436 : BitVec 32 := Scalar.shrui v1435 c2_i32_912
  let c0_i32_914 : BitVec 32 := 0#32
  ![v1436.toNat, 0]

def k1_chk99 (i : grid1.Coords) (v1435 : BitVec 32) : Prop :=
  (∀ (k1_h2 : k1_cond2 i = 1#1), ∀ a, (k1_off395 v1435) a + S1x768.size a ≤ S100000x768.size a)
theorem k1_off395_inb : ∀ (i : grid1.Coords) (v1435 : BitVec 32) (k1_hw99 : k1_chk99 i v1435), ∀ (k1_h2 : k1_cond2 i = 1#1), ∀ a, (k1_off395 v1435) a + S1x768.size a ≤ S100000x768.size a := fun i v1435 k1_hw99 k1_h2 => k1_hw99 k1_h2

def k1_off396 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1445 : Index := Scalar.indexCast v9
  let c98_917 : Index := 98#32
  let c0_918 : Index := 0#32
  ![v1445.toNat, 98, 0]
def k1_off397 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off398 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c99_i32 : BitVec 32 := 99#32
  let c0_i32_922 : BitVec 32 := 0#32
  ![v9.toNat, 99, 0]
def k1_off399 (v1449 : BitVec 32) : Fin 2 → Nat :=
  let c2_i32_921 : BitVec 32 := 2#32
  let v1450 : BitVec 32 := Scalar.shrui v1449 c2_i32_921
  let c0_i32_923 : BitVec 32 := 0#32
  ![v1450.toNat, 0]

def k1_chk100 (i : grid1.Coords) (v1449 : BitVec 32) : Prop :=
  (∀ (k1_h2 : k1_cond2 i = 1#1), ∀ a, (k1_off399 v1449) a + S1x768.size a ≤ S100000x768.size a)
theorem k1_off399_inb : ∀ (i : grid1.Coords) (v1449 : BitVec 32) (k1_hw100 : k1_chk100 i v1449), ∀ (k1_h2 : k1_cond2 i = 1#1), ∀ a, (k1_off399 v1449) a + S1x768.size a ≤ S100000x768.size a := fun i v1449 k1_hw100 k1_h2 => k1_hw100 k1_h2

def k1_off400 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1459 : Index := Scalar.indexCast v9
  let c99_926 : Index := 99#32
  let c0_927 : Index := 0#32
  ![v1459.toNat, 99, 0]
def k1_off401 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off402 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c104_i32 : BitVec 32 := 104#32
  let c0_i32_931 : BitVec 32 := 0#32
  ![v9.toNat, 104, 0]
def k1_off403 (v1463 : BitVec 32) : Fin 2 → Nat :=
  let c2_i32_930 : BitVec 32 := 2#32
  let v1464 : BitVec 32 := Scalar.shrui v1463 c2_i32_930
  let c0_i32_932 : BitVec 32 := 0#32
  ![v1464.toNat, 0]

def k1_chk101 (i : grid1.Coords) (v1463 : BitVec 32) : Prop :=
  (∀ (k1_h2 : k1_cond2 i = 1#1), ∀ a, (k1_off403 v1463) a + S1x768.size a ≤ S100000x768.size a)
theorem k1_off403_inb : ∀ (i : grid1.Coords) (v1463 : BitVec 32) (k1_hw101 : k1_chk101 i v1463), ∀ (k1_h2 : k1_cond2 i = 1#1), ∀ a, (k1_off403 v1463) a + S1x768.size a ≤ S100000x768.size a := fun i v1463 k1_hw101 k1_h2 => k1_hw101 k1_h2

def k1_off404 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1473 : Index := Scalar.indexCast v9
  let c104 : Index := 104#32
  let c0_935 : Index := 0#32
  ![v1473.toNat, 104, 0]
def k1_off405 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off406 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c105_i32 : BitVec 32 := 105#32
  let c0_i32_939 : BitVec 32 := 0#32
  ![v9.toNat, 105, 0]
def k1_off407 (v1477 : BitVec 32) : Fin 2 → Nat :=
  let c2_i32_938 : BitVec 32 := 2#32
  let v1478 : BitVec 32 := Scalar.shrui v1477 c2_i32_938
  let c0_i32_940 : BitVec 32 := 0#32
  ![v1478.toNat, 0]

def k1_chk102 (i : grid1.Coords) (v1477 : BitVec 32) : Prop :=
  (∀ (k1_h2 : k1_cond2 i = 1#1), ∀ a, (k1_off407 v1477) a + S1x768.size a ≤ S100000x768.size a)
theorem k1_off407_inb : ∀ (i : grid1.Coords) (v1477 : BitVec 32) (k1_hw102 : k1_chk102 i v1477), ∀ (k1_h2 : k1_cond2 i = 1#1), ∀ a, (k1_off407 v1477) a + S1x768.size a ≤ S100000x768.size a := fun i v1477 k1_hw102 k1_h2 => k1_hw102 k1_h2

def k1_off408 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1487 : Index := Scalar.indexCast v9
  let c105 : Index := 105#32
  let c0_943 : Index := 0#32
  ![v1487.toNat, 105, 0]
def k1_off409 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off410 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c106_i32 : BitVec 32 := 106#32
  let c0_i32_947 : BitVec 32 := 0#32
  ![v9.toNat, 106, 0]
def k1_off411 (v1491 : BitVec 32) : Fin 2 → Nat :=
  let c2_i32_946 : BitVec 32 := 2#32
  let v1492 : BitVec 32 := Scalar.shrui v1491 c2_i32_946
  let c0_i32_948 : BitVec 32 := 0#32
  ![v1492.toNat, 0]

def k1_chk103 (i : grid1.Coords) (v1491 : BitVec 32) : Prop :=
  (∀ (k1_h2 : k1_cond2 i = 1#1), ∀ a, (k1_off411 v1491) a + S1x768.size a ≤ S100000x768.size a)
theorem k1_off411_inb : ∀ (i : grid1.Coords) (v1491 : BitVec 32) (k1_hw103 : k1_chk103 i v1491), ∀ (k1_h2 : k1_cond2 i = 1#1), ∀ a, (k1_off411 v1491) a + S1x768.size a ≤ S100000x768.size a := fun i v1491 k1_hw103 k1_h2 => k1_hw103 k1_h2

def k1_off412 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1501 : Index := Scalar.indexCast v9
  let c106 : Index := 106#32
  let c0_951 : Index := 0#32
  ![v1501.toNat, 106, 0]
def k1_off413 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off414 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c107_i32 : BitVec 32 := 107#32
  let c0_i32_955 : BitVec 32 := 0#32
  ![v9.toNat, 107, 0]
def k1_off415 (v1505 : BitVec 32) : Fin 2 → Nat :=
  let c2_i32_954 : BitVec 32 := 2#32
  let v1506 : BitVec 32 := Scalar.shrui v1505 c2_i32_954
  let c0_i32_956 : BitVec 32 := 0#32
  ![v1506.toNat, 0]

def k1_chk104 (i : grid1.Coords) (v1505 : BitVec 32) : Prop :=
  (∀ (k1_h2 : k1_cond2 i = 1#1), ∀ a, (k1_off415 v1505) a + S1x768.size a ≤ S100000x768.size a)
theorem k1_off415_inb : ∀ (i : grid1.Coords) (v1505 : BitVec 32) (k1_hw104 : k1_chk104 i v1505), ∀ (k1_h2 : k1_cond2 i = 1#1), ∀ a, (k1_off415 v1505) a + S1x768.size a ≤ S100000x768.size a := fun i v1505 k1_hw104 k1_h2 => k1_hw104 k1_h2

def k1_off416 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1515 : Index := Scalar.indexCast v9
  let c107 : Index := 107#32
  let c0_959 : Index := 0#32
  ![v1515.toNat, 107, 0]
def k1_off417 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off418 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c108_i32 : BitVec 32 := 108#32
  let c0_i32_964 : BitVec 32 := 0#32
  ![v9.toNat, 108, 0]
def k1_off419 (v1519 : BitVec 32) : Fin 2 → Nat :=
  let c2_i32_963 : BitVec 32 := 2#32
  let v1520 : BitVec 32 := Scalar.shrui v1519 c2_i32_963
  let c0_i32_965 : BitVec 32 := 0#32
  ![v1520.toNat, 0]

def k1_chk105 (i : grid1.Coords) (v1519 : BitVec 32) : Prop :=
  (∀ (k1_h2 : k1_cond2 i = 1#1), ∀ a, (k1_off419 v1519) a + S1x768.size a ≤ S100000x768.size a)
theorem k1_off419_inb : ∀ (i : grid1.Coords) (v1519 : BitVec 32) (k1_hw105 : k1_chk105 i v1519), ∀ (k1_h2 : k1_cond2 i = 1#1), ∀ a, (k1_off419 v1519) a + S1x768.size a ≤ S100000x768.size a := fun i v1519 k1_hw105 k1_h2 => k1_hw105 k1_h2

def k1_off420 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1529 : Index := Scalar.indexCast v9
  let c108 : Index := 108#32
  let c0_968 : Index := 0#32
  ![v1529.toNat, 108, 0]
def k1_off421 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off422 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c109_i32 : BitVec 32 := 109#32
  let c0_i32_973 : BitVec 32 := 0#32
  ![v9.toNat, 109, 0]
def k1_off423 (v1533 : BitVec 32) : Fin 2 → Nat :=
  let c2_i32_972 : BitVec 32 := 2#32
  let v1534 : BitVec 32 := Scalar.shrui v1533 c2_i32_972
  let c0_i32_974 : BitVec 32 := 0#32
  ![v1534.toNat, 0]

def k1_chk106 (i : grid1.Coords) (v1533 : BitVec 32) : Prop :=
  (∀ (k1_h2 : k1_cond2 i = 1#1), ∀ a, (k1_off423 v1533) a + S1x768.size a ≤ S100000x768.size a)
theorem k1_off423_inb : ∀ (i : grid1.Coords) (v1533 : BitVec 32) (k1_hw106 : k1_chk106 i v1533), ∀ (k1_h2 : k1_cond2 i = 1#1), ∀ a, (k1_off423 v1533) a + S1x768.size a ≤ S100000x768.size a := fun i v1533 k1_hw106 k1_h2 => k1_hw106 k1_h2

def k1_off424 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1543 : Index := Scalar.indexCast v9
  let c109 : Index := 109#32
  let c0_977 : Index := 0#32
  ![v1543.toNat, 109, 0]
def k1_off425 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off426 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c110_i32 : BitVec 32 := 110#32
  let c0_i32_982 : BitVec 32 := 0#32
  ![v9.toNat, 110, 0]
def k1_off427 (v1547 : BitVec 32) : Fin 2 → Nat :=
  let c2_i32_981 : BitVec 32 := 2#32
  let v1548 : BitVec 32 := Scalar.shrui v1547 c2_i32_981
  let c0_i32_983 : BitVec 32 := 0#32
  ![v1548.toNat, 0]

def k1_chk107 (i : grid1.Coords) (v1547 : BitVec 32) : Prop :=
  (∀ (k1_h2 : k1_cond2 i = 1#1), ∀ a, (k1_off427 v1547) a + S1x768.size a ≤ S100000x768.size a)
theorem k1_off427_inb : ∀ (i : grid1.Coords) (v1547 : BitVec 32) (k1_hw107 : k1_chk107 i v1547), ∀ (k1_h2 : k1_cond2 i = 1#1), ∀ a, (k1_off427 v1547) a + S1x768.size a ≤ S100000x768.size a := fun i v1547 k1_hw107 k1_h2 => k1_hw107 k1_h2

def k1_off428 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1557 : Index := Scalar.indexCast v9
  let c110 : Index := 110#32
  let c0_986 : Index := 0#32
  ![v1557.toNat, 110, 0]
def k1_off429 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off430 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c111_i32 : BitVec 32 := 111#32
  let c0_i32_991 : BitVec 32 := 0#32
  ![v9.toNat, 111, 0]
def k1_off431 (v1561 : BitVec 32) : Fin 2 → Nat :=
  let c2_i32_990 : BitVec 32 := 2#32
  let v1562 : BitVec 32 := Scalar.shrui v1561 c2_i32_990
  let c0_i32_992 : BitVec 32 := 0#32
  ![v1562.toNat, 0]

def k1_chk108 (i : grid1.Coords) (v1561 : BitVec 32) : Prop :=
  (∀ (k1_h2 : k1_cond2 i = 1#1), ∀ a, (k1_off431 v1561) a + S1x768.size a ≤ S100000x768.size a)
theorem k1_off431_inb : ∀ (i : grid1.Coords) (v1561 : BitVec 32) (k1_hw108 : k1_chk108 i v1561), ∀ (k1_h2 : k1_cond2 i = 1#1), ∀ a, (k1_off431 v1561) a + S1x768.size a ≤ S100000x768.size a := fun i v1561 k1_hw108 k1_h2 => k1_hw108 k1_h2

def k1_off432 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1571 : Index := Scalar.indexCast v9
  let c111 : Index := 111#32
  let c0_995 : Index := 0#32
  ![v1571.toNat, 111, 0]
def k1_off433 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off434 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c112_i32 : BitVec 32 := 112#32
  let c0_i32_1000 : BitVec 32 := 0#32
  ![v9.toNat, 112, 0]
def k1_off435 (v1575 : BitVec 32) : Fin 2 → Nat :=
  let c2_i32_999 : BitVec 32 := 2#32
  let v1576 : BitVec 32 := Scalar.shrui v1575 c2_i32_999
  let c0_i32_1001 : BitVec 32 := 0#32
  ![v1576.toNat, 0]

def k1_chk109 (i : grid1.Coords) (v1575 : BitVec 32) : Prop :=
  (∀ (k1_h2 : k1_cond2 i = 1#1), ∀ a, (k1_off435 v1575) a + S1x768.size a ≤ S100000x768.size a)
theorem k1_off435_inb : ∀ (i : grid1.Coords) (v1575 : BitVec 32) (k1_hw109 : k1_chk109 i v1575), ∀ (k1_h2 : k1_cond2 i = 1#1), ∀ a, (k1_off435 v1575) a + S1x768.size a ≤ S100000x768.size a := fun i v1575 k1_hw109 k1_h2 => k1_hw109 k1_h2

def k1_off436 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1585 : Index := Scalar.indexCast v9
  let c112 : Index := 112#32
  let c0_1004 : Index := 0#32
  ![v1585.toNat, 112, 0]
def k1_off437 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off438 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c113_i32 : BitVec 32 := 113#32
  let c0_i32_1009 : BitVec 32 := 0#32
  ![v9.toNat, 113, 0]
def k1_off439 (v1589 : BitVec 32) : Fin 2 → Nat :=
  let c2_i32_1008 : BitVec 32 := 2#32
  let v1590 : BitVec 32 := Scalar.shrui v1589 c2_i32_1008
  let c0_i32_1010 : BitVec 32 := 0#32
  ![v1590.toNat, 0]

def k1_chk110 (i : grid1.Coords) (v1589 : BitVec 32) : Prop :=
  (∀ (k1_h2 : k1_cond2 i = 1#1), ∀ a, (k1_off439 v1589) a + S1x768.size a ≤ S100000x768.size a)
theorem k1_off439_inb : ∀ (i : grid1.Coords) (v1589 : BitVec 32) (k1_hw110 : k1_chk110 i v1589), ∀ (k1_h2 : k1_cond2 i = 1#1), ∀ a, (k1_off439 v1589) a + S1x768.size a ≤ S100000x768.size a := fun i v1589 k1_hw110 k1_h2 => k1_hw110 k1_h2

def k1_off440 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1599 : Index := Scalar.indexCast v9
  let c113 : Index := 113#32
  let c0_1013 : Index := 0#32
  ![v1599.toNat, 113, 0]
def k1_off441 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off442 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c114_i32 : BitVec 32 := 114#32
  let c0_i32_1018 : BitVec 32 := 0#32
  ![v9.toNat, 114, 0]
def k1_off443 (v1603 : BitVec 32) : Fin 2 → Nat :=
  let c2_i32_1017 : BitVec 32 := 2#32
  let v1604 : BitVec 32 := Scalar.shrui v1603 c2_i32_1017
  let c0_i32_1019 : BitVec 32 := 0#32
  ![v1604.toNat, 0]

def k1_chk111 (i : grid1.Coords) (v1603 : BitVec 32) : Prop :=
  (∀ (k1_h2 : k1_cond2 i = 1#1), ∀ a, (k1_off443 v1603) a + S1x768.size a ≤ S100000x768.size a)
theorem k1_off443_inb : ∀ (i : grid1.Coords) (v1603 : BitVec 32) (k1_hw111 : k1_chk111 i v1603), ∀ (k1_h2 : k1_cond2 i = 1#1), ∀ a, (k1_off443 v1603) a + S1x768.size a ≤ S100000x768.size a := fun i v1603 k1_hw111 k1_h2 => k1_hw111 k1_h2

def k1_off444 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1613 : Index := Scalar.indexCast v9
  let c114 : Index := 114#32
  let c0_1022 : Index := 0#32
  ![v1613.toNat, 114, 0]
def k1_off445 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off446 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c115_i32 : BitVec 32 := 115#32
  let c0_i32_1027 : BitVec 32 := 0#32
  ![v9.toNat, 115, 0]
def k1_off447 (v1617 : BitVec 32) : Fin 2 → Nat :=
  let c2_i32_1026 : BitVec 32 := 2#32
  let v1618 : BitVec 32 := Scalar.shrui v1617 c2_i32_1026
  let c0_i32_1028 : BitVec 32 := 0#32
  ![v1618.toNat, 0]

def k1_chk112 (i : grid1.Coords) (v1617 : BitVec 32) : Prop :=
  (∀ (k1_h2 : k1_cond2 i = 1#1), ∀ a, (k1_off447 v1617) a + S1x768.size a ≤ S100000x768.size a)
theorem k1_off447_inb : ∀ (i : grid1.Coords) (v1617 : BitVec 32) (k1_hw112 : k1_chk112 i v1617), ∀ (k1_h2 : k1_cond2 i = 1#1), ∀ a, (k1_off447 v1617) a + S1x768.size a ≤ S100000x768.size a := fun i v1617 k1_hw112 k1_h2 => k1_hw112 k1_h2

def k1_off448 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1627 : Index := Scalar.indexCast v9
  let c115 : Index := 115#32
  let c0_1031 : Index := 0#32
  ![v1627.toNat, 115, 0]
def k1_off449 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off450 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c116_i32 : BitVec 32 := 116#32
  let c0_i32_1036 : BitVec 32 := 0#32
  ![v9.toNat, 116, 0]
def k1_off451 (v1631 : BitVec 32) : Fin 2 → Nat :=
  let c2_i32_1035 : BitVec 32 := 2#32
  let v1632 : BitVec 32 := Scalar.shrui v1631 c2_i32_1035
  let c0_i32_1037 : BitVec 32 := 0#32
  ![v1632.toNat, 0]

def k1_chk113 (i : grid1.Coords) (v1631 : BitVec 32) : Prop :=
  (∀ (k1_h2 : k1_cond2 i = 1#1), ∀ a, (k1_off451 v1631) a + S1x768.size a ≤ S100000x768.size a)
theorem k1_off451_inb : ∀ (i : grid1.Coords) (v1631 : BitVec 32) (k1_hw113 : k1_chk113 i v1631), ∀ (k1_h2 : k1_cond2 i = 1#1), ∀ a, (k1_off451 v1631) a + S1x768.size a ≤ S100000x768.size a := fun i v1631 k1_hw113 k1_h2 => k1_hw113 k1_h2

def k1_off452 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1641 : Index := Scalar.indexCast v9
  let c116 : Index := 116#32
  let c0_1040 : Index := 0#32
  ![v1641.toNat, 116, 0]
def k1_off453 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off454 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c117_i32 : BitVec 32 := 117#32
  let c0_i32_1045 : BitVec 32 := 0#32
  ![v9.toNat, 117, 0]
def k1_off455 (v1645 : BitVec 32) : Fin 2 → Nat :=
  let c2_i32_1044 : BitVec 32 := 2#32
  let v1646 : BitVec 32 := Scalar.shrui v1645 c2_i32_1044
  let c0_i32_1046 : BitVec 32 := 0#32
  ![v1646.toNat, 0]

def k1_chk114 (i : grid1.Coords) (v1645 : BitVec 32) : Prop :=
  (∀ (k1_h2 : k1_cond2 i = 1#1), ∀ a, (k1_off455 v1645) a + S1x768.size a ≤ S100000x768.size a)
theorem k1_off455_inb : ∀ (i : grid1.Coords) (v1645 : BitVec 32) (k1_hw114 : k1_chk114 i v1645), ∀ (k1_h2 : k1_cond2 i = 1#1), ∀ a, (k1_off455 v1645) a + S1x768.size a ≤ S100000x768.size a := fun i v1645 k1_hw114 k1_h2 => k1_hw114 k1_h2

def k1_off456 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1655 : Index := Scalar.indexCast v9
  let c117 : Index := 117#32
  let c0_1049 : Index := 0#32
  ![v1655.toNat, 117, 0]
def k1_off457 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off458 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c118_i32 : BitVec 32 := 118#32
  let c0_i32_1054 : BitVec 32 := 0#32
  ![v9.toNat, 118, 0]
def k1_off459 (v1659 : BitVec 32) : Fin 2 → Nat :=
  let c2_i32_1053 : BitVec 32 := 2#32
  let v1660 : BitVec 32 := Scalar.shrui v1659 c2_i32_1053
  let c0_i32_1055 : BitVec 32 := 0#32
  ![v1660.toNat, 0]

def k1_chk115 (i : grid1.Coords) (v1659 : BitVec 32) : Prop :=
  (∀ (k1_h2 : k1_cond2 i = 1#1), ∀ a, (k1_off459 v1659) a + S1x768.size a ≤ S100000x768.size a)
theorem k1_off459_inb : ∀ (i : grid1.Coords) (v1659 : BitVec 32) (k1_hw115 : k1_chk115 i v1659), ∀ (k1_h2 : k1_cond2 i = 1#1), ∀ a, (k1_off459 v1659) a + S1x768.size a ≤ S100000x768.size a := fun i v1659 k1_hw115 k1_h2 => k1_hw115 k1_h2

def k1_off460 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1669 : Index := Scalar.indexCast v9
  let c118 : Index := 118#32
  let c0_1058 : Index := 0#32
  ![v1669.toNat, 118, 0]
def k1_off461 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off462 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c119_i32 : BitVec 32 := 119#32
  let c0_i32_1063 : BitVec 32 := 0#32
  ![v9.toNat, 119, 0]
def k1_off463 (v1673 : BitVec 32) : Fin 2 → Nat :=
  let c2_i32_1062 : BitVec 32 := 2#32
  let v1674 : BitVec 32 := Scalar.shrui v1673 c2_i32_1062
  let c0_i32_1064 : BitVec 32 := 0#32
  ![v1674.toNat, 0]

def k1_chk116 (i : grid1.Coords) (v1673 : BitVec 32) : Prop :=
  (∀ (k1_h2 : k1_cond2 i = 1#1), ∀ a, (k1_off463 v1673) a + S1x768.size a ≤ S100000x768.size a)
theorem k1_off463_inb : ∀ (i : grid1.Coords) (v1673 : BitVec 32) (k1_hw116 : k1_chk116 i v1673), ∀ (k1_h2 : k1_cond2 i = 1#1), ∀ a, (k1_off463 v1673) a + S1x768.size a ≤ S100000x768.size a := fun i v1673 k1_hw116 k1_h2 => k1_hw116 k1_h2

def k1_off464 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1683 : Index := Scalar.indexCast v9
  let c119 : Index := 119#32
  let c0_1067 : Index := 0#32
  ![v1683.toNat, 119, 0]
def k1_off465 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off466 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c120_i32 : BitVec 32 := 120#32
  let c0_i32_1072 : BitVec 32 := 0#32
  ![v9.toNat, 120, 0]
def k1_off467 (v1687 : BitVec 32) : Fin 2 → Nat :=
  let c2_i32_1071 : BitVec 32 := 2#32
  let v1688 : BitVec 32 := Scalar.shrui v1687 c2_i32_1071
  let c0_i32_1073 : BitVec 32 := 0#32
  ![v1688.toNat, 0]

def k1_chk117 (i : grid1.Coords) (v1687 : BitVec 32) : Prop :=
  (∀ (k1_h2 : k1_cond2 i = 1#1), ∀ a, (k1_off467 v1687) a + S1x768.size a ≤ S100000x768.size a)
theorem k1_off467_inb : ∀ (i : grid1.Coords) (v1687 : BitVec 32) (k1_hw117 : k1_chk117 i v1687), ∀ (k1_h2 : k1_cond2 i = 1#1), ∀ a, (k1_off467 v1687) a + S1x768.size a ≤ S100000x768.size a := fun i v1687 k1_hw117 k1_h2 => k1_hw117 k1_h2

def k1_off468 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1697 : Index := Scalar.indexCast v9
  let c120 : Index := 120#32
  let c0_1076 : Index := 0#32
  ![v1697.toNat, 120, 0]
def k1_off469 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off470 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c121_i32 : BitVec 32 := 121#32
  let c0_i32_1081 : BitVec 32 := 0#32
  ![v9.toNat, 121, 0]
def k1_off471 (v1701 : BitVec 32) : Fin 2 → Nat :=
  let c2_i32_1080 : BitVec 32 := 2#32
  let v1702 : BitVec 32 := Scalar.shrui v1701 c2_i32_1080
  let c0_i32_1082 : BitVec 32 := 0#32
  ![v1702.toNat, 0]

def k1_chk118 (i : grid1.Coords) (v1701 : BitVec 32) : Prop :=
  (∀ (k1_h2 : k1_cond2 i = 1#1), ∀ a, (k1_off471 v1701) a + S1x768.size a ≤ S100000x768.size a)
theorem k1_off471_inb : ∀ (i : grid1.Coords) (v1701 : BitVec 32) (k1_hw118 : k1_chk118 i v1701), ∀ (k1_h2 : k1_cond2 i = 1#1), ∀ a, (k1_off471 v1701) a + S1x768.size a ≤ S100000x768.size a := fun i v1701 k1_hw118 k1_h2 => k1_hw118 k1_h2

def k1_off472 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1711 : Index := Scalar.indexCast v9
  let c121 : Index := 121#32
  let c0_1085 : Index := 0#32
  ![v1711.toNat, 121, 0]
def k1_off473 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off474 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c122_i32 : BitVec 32 := 122#32
  let c0_i32_1090 : BitVec 32 := 0#32
  ![v9.toNat, 122, 0]
def k1_off475 (v1715 : BitVec 32) : Fin 2 → Nat :=
  let c2_i32_1089 : BitVec 32 := 2#32
  let v1716 : BitVec 32 := Scalar.shrui v1715 c2_i32_1089
  let c0_i32_1091 : BitVec 32 := 0#32
  ![v1716.toNat, 0]

def k1_chk119 (i : grid1.Coords) (v1715 : BitVec 32) : Prop :=
  (∀ (k1_h2 : k1_cond2 i = 1#1), ∀ a, (k1_off475 v1715) a + S1x768.size a ≤ S100000x768.size a)
theorem k1_off475_inb : ∀ (i : grid1.Coords) (v1715 : BitVec 32) (k1_hw119 : k1_chk119 i v1715), ∀ (k1_h2 : k1_cond2 i = 1#1), ∀ a, (k1_off475 v1715) a + S1x768.size a ≤ S100000x768.size a := fun i v1715 k1_hw119 k1_h2 => k1_hw119 k1_h2

def k1_off476 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1725 : Index := Scalar.indexCast v9
  let c122 : Index := 122#32
  let c0_1094 : Index := 0#32
  ![v1725.toNat, 122, 0]
def k1_off477 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off478 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c123_i32 : BitVec 32 := 123#32
  let c0_i32_1099 : BitVec 32 := 0#32
  ![v9.toNat, 123, 0]
def k1_off479 (v1729 : BitVec 32) : Fin 2 → Nat :=
  let c2_i32_1098 : BitVec 32 := 2#32
  let v1730 : BitVec 32 := Scalar.shrui v1729 c2_i32_1098
  let c0_i32_1100 : BitVec 32 := 0#32
  ![v1730.toNat, 0]

def k1_chk120 (i : grid1.Coords) (v1729 : BitVec 32) : Prop :=
  (∀ (k1_h2 : k1_cond2 i = 1#1), ∀ a, (k1_off479 v1729) a + S1x768.size a ≤ S100000x768.size a)
theorem k1_off479_inb : ∀ (i : grid1.Coords) (v1729 : BitVec 32) (k1_hw120 : k1_chk120 i v1729), ∀ (k1_h2 : k1_cond2 i = 1#1), ∀ a, (k1_off479 v1729) a + S1x768.size a ≤ S100000x768.size a := fun i v1729 k1_hw120 k1_h2 => k1_hw120 k1_h2

def k1_off480 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1739 : Index := Scalar.indexCast v9
  let c123 : Index := 123#32
  let c0_1103 : Index := 0#32
  ![v1739.toNat, 123, 0]
def k1_off481 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off482 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c124_i32 : BitVec 32 := 124#32
  let c0_i32_1108 : BitVec 32 := 0#32
  ![v9.toNat, 124, 0]
def k1_off483 (v1743 : BitVec 32) : Fin 2 → Nat :=
  let c2_i32_1107 : BitVec 32 := 2#32
  let v1744 : BitVec 32 := Scalar.shrui v1743 c2_i32_1107
  let c0_i32_1109 : BitVec 32 := 0#32
  ![v1744.toNat, 0]

def k1_chk121 (i : grid1.Coords) (v1743 : BitVec 32) : Prop :=
  (∀ (k1_h2 : k1_cond2 i = 1#1), ∀ a, (k1_off483 v1743) a + S1x768.size a ≤ S100000x768.size a)
theorem k1_off483_inb : ∀ (i : grid1.Coords) (v1743 : BitVec 32) (k1_hw121 : k1_chk121 i v1743), ∀ (k1_h2 : k1_cond2 i = 1#1), ∀ a, (k1_off483 v1743) a + S1x768.size a ≤ S100000x768.size a := fun i v1743 k1_hw121 k1_h2 => k1_hw121 k1_h2

def k1_off484 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1753 : Index := Scalar.indexCast v9
  let c124 : Index := 124#32
  let c0_1112 : Index := 0#32
  ![v1753.toNat, 124, 0]
def k1_off485 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off486 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c125_i32 : BitVec 32 := 125#32
  let c0_i32_1117 : BitVec 32 := 0#32
  ![v9.toNat, 125, 0]
def k1_off487 (v1757 : BitVec 32) : Fin 2 → Nat :=
  let c2_i32_1116 : BitVec 32 := 2#32
  let v1758 : BitVec 32 := Scalar.shrui v1757 c2_i32_1116
  let c0_i32_1118 : BitVec 32 := 0#32
  ![v1758.toNat, 0]

def k1_chk122 (i : grid1.Coords) (v1757 : BitVec 32) : Prop :=
  (∀ (k1_h2 : k1_cond2 i = 1#1), ∀ a, (k1_off487 v1757) a + S1x768.size a ≤ S100000x768.size a)
theorem k1_off487_inb : ∀ (i : grid1.Coords) (v1757 : BitVec 32) (k1_hw122 : k1_chk122 i v1757), ∀ (k1_h2 : k1_cond2 i = 1#1), ∀ a, (k1_off487 v1757) a + S1x768.size a ≤ S100000x768.size a := fun i v1757 k1_hw122 k1_h2 => k1_hw122 k1_h2

def k1_off488 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1767 : Index := Scalar.indexCast v9
  let c125 : Index := 125#32
  let c0_1121 : Index := 0#32
  ![v1767.toNat, 125, 0]
def k1_off489 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off490 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c126_i32 : BitVec 32 := 126#32
  let c0_i32_1126 : BitVec 32 := 0#32
  ![v9.toNat, 126, 0]
def k1_off491 (v1771 : BitVec 32) : Fin 2 → Nat :=
  let c2_i32_1125 : BitVec 32 := 2#32
  let v1772 : BitVec 32 := Scalar.shrui v1771 c2_i32_1125
  let c0_i32_1127 : BitVec 32 := 0#32
  ![v1772.toNat, 0]

def k1_chk123 (i : grid1.Coords) (v1771 : BitVec 32) : Prop :=
  (∀ (k1_h2 : k1_cond2 i = 1#1), ∀ a, (k1_off491 v1771) a + S1x768.size a ≤ S100000x768.size a)
theorem k1_off491_inb : ∀ (i : grid1.Coords) (v1771 : BitVec 32) (k1_hw123 : k1_chk123 i v1771), ∀ (k1_h2 : k1_cond2 i = 1#1), ∀ a, (k1_off491 v1771) a + S1x768.size a ≤ S100000x768.size a := fun i v1771 k1_hw123 k1_h2 => k1_hw123 k1_h2

def k1_off492 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1781 : Index := Scalar.indexCast v9
  let c126 : Index := 126#32
  let c0_1130 : Index := 0#32
  ![v1781.toNat, 126, 0]
def k1_off493 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off494 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c127_i32 : BitVec 32 := 127#32
  let c0_i32_1135 : BitVec 32 := 0#32
  ![v9.toNat, 127, 0]
def k1_off495 (v1785 : BitVec 32) : Fin 2 → Nat :=
  let c2_i32_1134 : BitVec 32 := 2#32
  let v1786 : BitVec 32 := Scalar.shrui v1785 c2_i32_1134
  let c0_i32_1136 : BitVec 32 := 0#32
  ![v1786.toNat, 0]

def k1_chk124 (i : grid1.Coords) (v1785 : BitVec 32) : Prop :=
  (∀ (k1_h2 : k1_cond2 i = 1#1), ∀ a, (k1_off495 v1785) a + S1x768.size a ≤ S100000x768.size a)
theorem k1_off495_inb : ∀ (i : grid1.Coords) (v1785 : BitVec 32) (k1_hw124 : k1_chk124 i v1785), ∀ (k1_h2 : k1_cond2 i = 1#1), ∀ a, (k1_off495 v1785) a + S1x768.size a ≤ S100000x768.size a := fun i v1785 k1_hw124 k1_h2 => k1_hw124 k1_h2

def k1_off496 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1795 : Index := Scalar.indexCast v9
  let c127 : Index := 127#32
  let c0_1139 : Index := 0#32
  ![v1795.toNat, 127, 0]
def k1_off497 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off498 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c128_i32 : BitVec 32 := 128#32
  let c0_i32_1144 : BitVec 32 := 0#32
  ![v9.toNat, 128, 0]
def k1_off499 (v1799 : BitVec 32) : Fin 2 → Nat :=
  let c2_i32_1143 : BitVec 32 := 2#32
  let v1800 : BitVec 32 := Scalar.shrui v1799 c2_i32_1143
  let c0_i32_1145 : BitVec 32 := 0#32
  ![v1800.toNat, 0]

def k1_chk125 (i : grid1.Coords) (v1799 : BitVec 32) : Prop :=
  (∀ (k1_h2 : k1_cond2 i = 1#1), ∀ a, (k1_off499 v1799) a + S1x768.size a ≤ S100000x768.size a)
theorem k1_off499_inb : ∀ (i : grid1.Coords) (v1799 : BitVec 32) (k1_hw125 : k1_chk125 i v1799), ∀ (k1_h2 : k1_cond2 i = 1#1), ∀ a, (k1_off499 v1799) a + S1x768.size a ≤ S100000x768.size a := fun i v1799 k1_hw125 k1_h2 => k1_hw125 k1_h2

def k1_off500 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1809 : Index := Scalar.indexCast v9
  let c128 : Index := 128#32
  let c0_1148 : Index := 0#32
  ![v1809.toNat, 128, 0]
def k1_off501 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off502 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c129_i32 : BitVec 32 := 129#32
  let c0_i32_1153 : BitVec 32 := 0#32
  ![v9.toNat, 129, 0]
def k1_off503 (v1813 : BitVec 32) : Fin 2 → Nat :=
  let c2_i32_1152 : BitVec 32 := 2#32
  let v1814 : BitVec 32 := Scalar.shrui v1813 c2_i32_1152
  let c0_i32_1154 : BitVec 32 := 0#32
  ![v1814.toNat, 0]

def k1_chk126 (i : grid1.Coords) (v1813 : BitVec 32) : Prop :=
  (∀ (k1_h2 : k1_cond2 i = 1#1), ∀ a, (k1_off503 v1813) a + S1x768.size a ≤ S100000x768.size a)
theorem k1_off503_inb : ∀ (i : grid1.Coords) (v1813 : BitVec 32) (k1_hw126 : k1_chk126 i v1813), ∀ (k1_h2 : k1_cond2 i = 1#1), ∀ a, (k1_off503 v1813) a + S1x768.size a ≤ S100000x768.size a := fun i v1813 k1_hw126 k1_h2 => k1_hw126 k1_h2

def k1_off504 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1823 : Index := Scalar.indexCast v9
  let c129 : Index := 129#32
  let c0_1157 : Index := 0#32
  ![v1823.toNat, 129, 0]
def k1_off505 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off506 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c130_i32 : BitVec 32 := 130#32
  let c0_i32_1162 : BitVec 32 := 0#32
  ![v9.toNat, 130, 0]
def k1_off507 (v1827 : BitVec 32) : Fin 2 → Nat :=
  let c2_i32_1161 : BitVec 32 := 2#32
  let v1828 : BitVec 32 := Scalar.shrui v1827 c2_i32_1161
  let c0_i32_1163 : BitVec 32 := 0#32
  ![v1828.toNat, 0]

def k1_chk127 (i : grid1.Coords) (v1827 : BitVec 32) : Prop :=
  (∀ (k1_h2 : k1_cond2 i = 1#1), ∀ a, (k1_off507 v1827) a + S1x768.size a ≤ S100000x768.size a)
theorem k1_off507_inb : ∀ (i : grid1.Coords) (v1827 : BitVec 32) (k1_hw127 : k1_chk127 i v1827), ∀ (k1_h2 : k1_cond2 i = 1#1), ∀ a, (k1_off507 v1827) a + S1x768.size a ≤ S100000x768.size a := fun i v1827 k1_hw127 k1_h2 => k1_hw127 k1_h2

def k1_off508 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1837 : Index := Scalar.indexCast v9
  let c130 : Index := 130#32
  let c0_1166 : Index := 0#32
  ![v1837.toNat, 130, 0]
def k1_off509 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off510 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c131_i32 : BitVec 32 := 131#32
  let c0_i32_1171 : BitVec 32 := 0#32
  ![v9.toNat, 131, 0]
def k1_off511 (v1841 : BitVec 32) : Fin 2 → Nat :=
  let c2_i32_1170 : BitVec 32 := 2#32
  let v1842 : BitVec 32 := Scalar.shrui v1841 c2_i32_1170
  let c0_i32_1172 : BitVec 32 := 0#32
  ![v1842.toNat, 0]

def k1_chk128 (i : grid1.Coords) (v1841 : BitVec 32) : Prop :=
  (∀ (k1_h2 : k1_cond2 i = 1#1), ∀ a, (k1_off511 v1841) a + S1x768.size a ≤ S100000x768.size a)
theorem k1_off511_inb : ∀ (i : grid1.Coords) (v1841 : BitVec 32) (k1_hw128 : k1_chk128 i v1841), ∀ (k1_h2 : k1_cond2 i = 1#1), ∀ a, (k1_off511 v1841) a + S1x768.size a ≤ S100000x768.size a := fun i v1841 k1_hw128 k1_h2 => k1_hw128 k1_h2

def k1_off512 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1851 : Index := Scalar.indexCast v9
  let c131 : Index := 131#32
  let c0_1175 : Index := 0#32
  ![v1851.toNat, 131, 0]
def k1_off513 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off514 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c132_i32 : BitVec 32 := 132#32
  let c0_i32_1180 : BitVec 32 := 0#32
  ![v9.toNat, 132, 0]
def k1_off515 (v1855 : BitVec 32) : Fin 2 → Nat :=
  let c2_i32_1179 : BitVec 32 := 2#32
  let v1856 : BitVec 32 := Scalar.shrui v1855 c2_i32_1179
  let c0_i32_1181 : BitVec 32 := 0#32
  ![v1856.toNat, 0]

def k1_chk129 (i : grid1.Coords) (v1855 : BitVec 32) : Prop :=
  (∀ (k1_h2 : k1_cond2 i = 1#1), ∀ a, (k1_off515 v1855) a + S1x768.size a ≤ S100000x768.size a)
theorem k1_off515_inb : ∀ (i : grid1.Coords) (v1855 : BitVec 32) (k1_hw129 : k1_chk129 i v1855), ∀ (k1_h2 : k1_cond2 i = 1#1), ∀ a, (k1_off515 v1855) a + S1x768.size a ≤ S100000x768.size a := fun i v1855 k1_hw129 k1_h2 => k1_hw129 k1_h2

def k1_off516 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1865 : Index := Scalar.indexCast v9
  let c132 : Index := 132#32
  let c0_1184 : Index := 0#32
  ![v1865.toNat, 132, 0]
def k1_off517 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off518 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c133_i32 : BitVec 32 := 133#32
  let c0_i32_1189 : BitVec 32 := 0#32
  ![v9.toNat, 133, 0]
def k1_off519 (v1869 : BitVec 32) : Fin 2 → Nat :=
  let c2_i32_1188 : BitVec 32 := 2#32
  let v1870 : BitVec 32 := Scalar.shrui v1869 c2_i32_1188
  let c0_i32_1190 : BitVec 32 := 0#32
  ![v1870.toNat, 0]

def k1_chk130 (i : grid1.Coords) (v1869 : BitVec 32) : Prop :=
  (∀ (k1_h2 : k1_cond2 i = 1#1), ∀ a, (k1_off519 v1869) a + S1x768.size a ≤ S100000x768.size a)
theorem k1_off519_inb : ∀ (i : grid1.Coords) (v1869 : BitVec 32) (k1_hw130 : k1_chk130 i v1869), ∀ (k1_h2 : k1_cond2 i = 1#1), ∀ a, (k1_off519 v1869) a + S1x768.size a ≤ S100000x768.size a := fun i v1869 k1_hw130 k1_h2 => k1_hw130 k1_h2

def k1_off520 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1879 : Index := Scalar.indexCast v9
  let c133 : Index := 133#32
  let c0_1193 : Index := 0#32
  ![v1879.toNat, 133, 0]
def k1_off521 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off522 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c134_i32 : BitVec 32 := 134#32
  let c0_i32_1198 : BitVec 32 := 0#32
  ![v9.toNat, 134, 0]
def k1_off523 (v1883 : BitVec 32) : Fin 2 → Nat :=
  let c2_i32_1197 : BitVec 32 := 2#32
  let v1884 : BitVec 32 := Scalar.shrui v1883 c2_i32_1197
  let c0_i32_1199 : BitVec 32 := 0#32
  ![v1884.toNat, 0]

def k1_chk131 (i : grid1.Coords) (v1883 : BitVec 32) : Prop :=
  (∀ (k1_h2 : k1_cond2 i = 1#1), ∀ a, (k1_off523 v1883) a + S1x768.size a ≤ S100000x768.size a)
theorem k1_off523_inb : ∀ (i : grid1.Coords) (v1883 : BitVec 32) (k1_hw131 : k1_chk131 i v1883), ∀ (k1_h2 : k1_cond2 i = 1#1), ∀ a, (k1_off523 v1883) a + S1x768.size a ≤ S100000x768.size a := fun i v1883 k1_hw131 k1_h2 => k1_hw131 k1_h2

def k1_off524 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1893 : Index := Scalar.indexCast v9
  let c134 : Index := 134#32
  let c0_1202 : Index := 0#32
  ![v1893.toNat, 134, 0]
def k1_off525 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off526 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c135_i32 : BitVec 32 := 135#32
  let c0_i32_1207 : BitVec 32 := 0#32
  ![v9.toNat, 135, 0]
def k1_off527 (v1897 : BitVec 32) : Fin 2 → Nat :=
  let c2_i32_1206 : BitVec 32 := 2#32
  let v1898 : BitVec 32 := Scalar.shrui v1897 c2_i32_1206
  let c0_i32_1208 : BitVec 32 := 0#32
  ![v1898.toNat, 0]

def k1_chk132 (i : grid1.Coords) (v1897 : BitVec 32) : Prop :=
  (∀ (k1_h2 : k1_cond2 i = 1#1), ∀ a, (k1_off527 v1897) a + S1x768.size a ≤ S100000x768.size a)
theorem k1_off527_inb : ∀ (i : grid1.Coords) (v1897 : BitVec 32) (k1_hw132 : k1_chk132 i v1897), ∀ (k1_h2 : k1_cond2 i = 1#1), ∀ a, (k1_off527 v1897) a + S1x768.size a ≤ S100000x768.size a := fun i v1897 k1_hw132 k1_h2 => k1_hw132 k1_h2

def k1_off528 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1907 : Index := Scalar.indexCast v9
  let c135 : Index := 135#32
  let c0_1211 : Index := 0#32
  ![v1907.toNat, 135, 0]
def k1_off529 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off530 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c136_i32 : BitVec 32 := 136#32
  let c0_i32_1216 : BitVec 32 := 0#32
  ![v9.toNat, 136, 0]
def k1_off531 (v1911 : BitVec 32) : Fin 2 → Nat :=
  let c2_i32_1215 : BitVec 32 := 2#32
  let v1912 : BitVec 32 := Scalar.shrui v1911 c2_i32_1215
  let c0_i32_1217 : BitVec 32 := 0#32
  ![v1912.toNat, 0]

def k1_chk133 (i : grid1.Coords) (v1911 : BitVec 32) : Prop :=
  (∀ (k1_h2 : k1_cond2 i = 1#1), ∀ a, (k1_off531 v1911) a + S1x768.size a ≤ S100000x768.size a)
theorem k1_off531_inb : ∀ (i : grid1.Coords) (v1911 : BitVec 32) (k1_hw133 : k1_chk133 i v1911), ∀ (k1_h2 : k1_cond2 i = 1#1), ∀ a, (k1_off531 v1911) a + S1x768.size a ≤ S100000x768.size a := fun i v1911 k1_hw133 k1_h2 => k1_hw133 k1_h2

def k1_off532 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1921 : Index := Scalar.indexCast v9
  let c136 : Index := 136#32
  let c0_1220 : Index := 0#32
  ![v1921.toNat, 136, 0]
def k1_off533 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off534 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c137_i32 : BitVec 32 := 137#32
  let c0_i32_1225 : BitVec 32 := 0#32
  ![v9.toNat, 137, 0]
def k1_off535 (v1925 : BitVec 32) : Fin 2 → Nat :=
  let c2_i32_1224 : BitVec 32 := 2#32
  let v1926 : BitVec 32 := Scalar.shrui v1925 c2_i32_1224
  let c0_i32_1226 : BitVec 32 := 0#32
  ![v1926.toNat, 0]

def k1_chk134 (i : grid1.Coords) (v1925 : BitVec 32) : Prop :=
  (∀ (k1_h2 : k1_cond2 i = 1#1), ∀ a, (k1_off535 v1925) a + S1x768.size a ≤ S100000x768.size a)
theorem k1_off535_inb : ∀ (i : grid1.Coords) (v1925 : BitVec 32) (k1_hw134 : k1_chk134 i v1925), ∀ (k1_h2 : k1_cond2 i = 1#1), ∀ a, (k1_off535 v1925) a + S1x768.size a ≤ S100000x768.size a := fun i v1925 k1_hw134 k1_h2 => k1_hw134 k1_h2

def k1_off536 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1935 : Index := Scalar.indexCast v9
  let c137 : Index := 137#32
  let c0_1229 : Index := 0#32
  ![v1935.toNat, 137, 0]
def k1_off537 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off538 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c138_i32 : BitVec 32 := 138#32
  let c0_i32_1234 : BitVec 32 := 0#32
  ![v9.toNat, 138, 0]
def k1_off539 (v1939 : BitVec 32) : Fin 2 → Nat :=
  let c2_i32_1233 : BitVec 32 := 2#32
  let v1940 : BitVec 32 := Scalar.shrui v1939 c2_i32_1233
  let c0_i32_1235 : BitVec 32 := 0#32
  ![v1940.toNat, 0]

def k1_chk135 (i : grid1.Coords) (v1939 : BitVec 32) : Prop :=
  (∀ (k1_h2 : k1_cond2 i = 1#1), ∀ a, (k1_off539 v1939) a + S1x768.size a ≤ S100000x768.size a)
theorem k1_off539_inb : ∀ (i : grid1.Coords) (v1939 : BitVec 32) (k1_hw135 : k1_chk135 i v1939), ∀ (k1_h2 : k1_cond2 i = 1#1), ∀ a, (k1_off539 v1939) a + S1x768.size a ≤ S100000x768.size a := fun i v1939 k1_hw135 k1_h2 => k1_hw135 k1_h2

def k1_off540 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1949 : Index := Scalar.indexCast v9
  let c138 : Index := 138#32
  let c0_1238 : Index := 0#32
  ![v1949.toNat, 138, 0]
def k1_off541 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off542 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c139_i32 : BitVec 32 := 139#32
  let c0_i32_1243 : BitVec 32 := 0#32
  ![v9.toNat, 139, 0]
def k1_off543 (v1953 : BitVec 32) : Fin 2 → Nat :=
  let c2_i32_1242 : BitVec 32 := 2#32
  let v1954 : BitVec 32 := Scalar.shrui v1953 c2_i32_1242
  let c0_i32_1244 : BitVec 32 := 0#32
  ![v1954.toNat, 0]

def k1_chk136 (i : grid1.Coords) (v1953 : BitVec 32) : Prop :=
  (∀ (k1_h2 : k1_cond2 i = 1#1), ∀ a, (k1_off543 v1953) a + S1x768.size a ≤ S100000x768.size a)
theorem k1_off543_inb : ∀ (i : grid1.Coords) (v1953 : BitVec 32) (k1_hw136 : k1_chk136 i v1953), ∀ (k1_h2 : k1_cond2 i = 1#1), ∀ a, (k1_off543 v1953) a + S1x768.size a ≤ S100000x768.size a := fun i v1953 k1_hw136 k1_h2 => k1_hw136 k1_h2

def k1_off544 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1963 : Index := Scalar.indexCast v9
  let c139 : Index := 139#32
  let c0_1247 : Index := 0#32
  ![v1963.toNat, 139, 0]
def k1_off545 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off546 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c140_i32 : BitVec 32 := 140#32
  let c0_i32_1252 : BitVec 32 := 0#32
  ![v9.toNat, 140, 0]
def k1_off547 (v1967 : BitVec 32) : Fin 2 → Nat :=
  let c2_i32_1251 : BitVec 32 := 2#32
  let v1968 : BitVec 32 := Scalar.shrui v1967 c2_i32_1251
  let c0_i32_1253 : BitVec 32 := 0#32
  ![v1968.toNat, 0]

def k1_chk137 (i : grid1.Coords) (v1967 : BitVec 32) : Prop :=
  (∀ (k1_h2 : k1_cond2 i = 1#1), ∀ a, (k1_off547 v1967) a + S1x768.size a ≤ S100000x768.size a)
theorem k1_off547_inb : ∀ (i : grid1.Coords) (v1967 : BitVec 32) (k1_hw137 : k1_chk137 i v1967), ∀ (k1_h2 : k1_cond2 i = 1#1), ∀ a, (k1_off547 v1967) a + S1x768.size a ≤ S100000x768.size a := fun i v1967 k1_hw137 k1_h2 => k1_hw137 k1_h2

def k1_off548 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1977 : Index := Scalar.indexCast v9
  let c140 : Index := 140#32
  let c0_1256 : Index := 0#32
  ![v1977.toNat, 140, 0]
def k1_off549 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off550 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c141_i32 : BitVec 32 := 141#32
  let c0_i32_1261 : BitVec 32 := 0#32
  ![v9.toNat, 141, 0]
def k1_off551 (v1981 : BitVec 32) : Fin 2 → Nat :=
  let c2_i32_1260 : BitVec 32 := 2#32
  let v1982 : BitVec 32 := Scalar.shrui v1981 c2_i32_1260
  let c0_i32_1262 : BitVec 32 := 0#32
  ![v1982.toNat, 0]

def k1_chk138 (i : grid1.Coords) (v1981 : BitVec 32) : Prop :=
  (∀ (k1_h2 : k1_cond2 i = 1#1), ∀ a, (k1_off551 v1981) a + S1x768.size a ≤ S100000x768.size a)
theorem k1_off551_inb : ∀ (i : grid1.Coords) (v1981 : BitVec 32) (k1_hw138 : k1_chk138 i v1981), ∀ (k1_h2 : k1_cond2 i = 1#1), ∀ a, (k1_off551 v1981) a + S1x768.size a ≤ S100000x768.size a := fun i v1981 k1_hw138 k1_h2 => k1_hw138 k1_h2

def k1_off552 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1991 : Index := Scalar.indexCast v9
  let c141 : Index := 141#32
  let c0_1265 : Index := 0#32
  ![v1991.toNat, 141, 0]
def k1_off553 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off554 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c142_i32 : BitVec 32 := 142#32
  let c0_i32_1270 : BitVec 32 := 0#32
  ![v9.toNat, 142, 0]
def k1_off555 (v1995 : BitVec 32) : Fin 2 → Nat :=
  let c2_i32_1269 : BitVec 32 := 2#32
  let v1996 : BitVec 32 := Scalar.shrui v1995 c2_i32_1269
  let c0_i32_1271 : BitVec 32 := 0#32
  ![v1996.toNat, 0]

def k1_chk139 (i : grid1.Coords) (v1995 : BitVec 32) : Prop :=
  (∀ (k1_h2 : k1_cond2 i = 1#1), ∀ a, (k1_off555 v1995) a + S1x768.size a ≤ S100000x768.size a)
theorem k1_off555_inb : ∀ (i : grid1.Coords) (v1995 : BitVec 32) (k1_hw139 : k1_chk139 i v1995), ∀ (k1_h2 : k1_cond2 i = 1#1), ∀ a, (k1_off555 v1995) a + S1x768.size a ≤ S100000x768.size a := fun i v1995 k1_hw139 k1_h2 => k1_hw139 k1_h2

def k1_off556 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2005 : Index := Scalar.indexCast v9
  let c142 : Index := 142#32
  let c0_1274 : Index := 0#32
  ![v2005.toNat, 142, 0]
def k1_off557 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off558 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c143_i32 : BitVec 32 := 143#32
  let c0_i32_1279 : BitVec 32 := 0#32
  ![v9.toNat, 143, 0]
def k1_off559 (v2009 : BitVec 32) : Fin 2 → Nat :=
  let c2_i32_1278 : BitVec 32 := 2#32
  let v2010 : BitVec 32 := Scalar.shrui v2009 c2_i32_1278
  let c0_i32_1280 : BitVec 32 := 0#32
  ![v2010.toNat, 0]

def k1_chk140 (i : grid1.Coords) (v2009 : BitVec 32) : Prop :=
  (∀ (k1_h2 : k1_cond2 i = 1#1), ∀ a, (k1_off559 v2009) a + S1x768.size a ≤ S100000x768.size a)
theorem k1_off559_inb : ∀ (i : grid1.Coords) (v2009 : BitVec 32) (k1_hw140 : k1_chk140 i v2009), ∀ (k1_h2 : k1_cond2 i = 1#1), ∀ a, (k1_off559 v2009) a + S1x768.size a ≤ S100000x768.size a := fun i v2009 k1_hw140 k1_h2 => k1_hw140 k1_h2

def k1_off560 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2019 : Index := Scalar.indexCast v9
  let c143 : Index := 143#32
  let c0_1283 : Index := 0#32
  ![v2019.toNat, 143, 0]
def k1_off561 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off562 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c144_i32 : BitVec 32 := 144#32
  let c0_i32_1288 : BitVec 32 := 0#32
  ![v9.toNat, 144, 0]
def k1_off563 (v2023 : BitVec 32) : Fin 2 → Nat :=
  let c2_i32_1287 : BitVec 32 := 2#32
  let v2024 : BitVec 32 := Scalar.shrui v2023 c2_i32_1287
  let c0_i32_1289 : BitVec 32 := 0#32
  ![v2024.toNat, 0]

def k1_chk141 (i : grid1.Coords) (v2023 : BitVec 32) : Prop :=
  (∀ (k1_h2 : k1_cond2 i = 1#1), ∀ a, (k1_off563 v2023) a + S1x768.size a ≤ S100000x768.size a)
theorem k1_off563_inb : ∀ (i : grid1.Coords) (v2023 : BitVec 32) (k1_hw141 : k1_chk141 i v2023), ∀ (k1_h2 : k1_cond2 i = 1#1), ∀ a, (k1_off563 v2023) a + S1x768.size a ≤ S100000x768.size a := fun i v2023 k1_hw141 k1_h2 => k1_hw141 k1_h2

def k1_off564 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2033 : Index := Scalar.indexCast v9
  let c144 : Index := 144#32
  let c0_1292 : Index := 0#32
  ![v2033.toNat, 144, 0]
def k1_off565 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off566 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c145_i32 : BitVec 32 := 145#32
  let c0_i32_1297 : BitVec 32 := 0#32
  ![v9.toNat, 145, 0]
def k1_off567 (v2037 : BitVec 32) : Fin 2 → Nat :=
  let c2_i32_1296 : BitVec 32 := 2#32
  let v2038 : BitVec 32 := Scalar.shrui v2037 c2_i32_1296
  let c0_i32_1298 : BitVec 32 := 0#32
  ![v2038.toNat, 0]

def k1_chk142 (i : grid1.Coords) (v2037 : BitVec 32) : Prop :=
  (∀ (k1_h2 : k1_cond2 i = 1#1), ∀ a, (k1_off567 v2037) a + S1x768.size a ≤ S100000x768.size a)
theorem k1_off567_inb : ∀ (i : grid1.Coords) (v2037 : BitVec 32) (k1_hw142 : k1_chk142 i v2037), ∀ (k1_h2 : k1_cond2 i = 1#1), ∀ a, (k1_off567 v2037) a + S1x768.size a ≤ S100000x768.size a := fun i v2037 k1_hw142 k1_h2 => k1_hw142 k1_h2

def k1_off568 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2047 : Index := Scalar.indexCast v9
  let c145 : Index := 145#32
  let c0_1301 : Index := 0#32
  ![v2047.toNat, 145, 0]
def k1_off569 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off570 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c146_i32 : BitVec 32 := 146#32
  let c0_i32_1306 : BitVec 32 := 0#32
  ![v9.toNat, 146, 0]
def k1_off571 (v2051 : BitVec 32) : Fin 2 → Nat :=
  let c2_i32_1305 : BitVec 32 := 2#32
  let v2052 : BitVec 32 := Scalar.shrui v2051 c2_i32_1305
  let c0_i32_1307 : BitVec 32 := 0#32
  ![v2052.toNat, 0]

def k1_chk143 (i : grid1.Coords) (v2051 : BitVec 32) : Prop :=
  (∀ (k1_h2 : k1_cond2 i = 1#1), ∀ a, (k1_off571 v2051) a + S1x768.size a ≤ S100000x768.size a)
theorem k1_off571_inb : ∀ (i : grid1.Coords) (v2051 : BitVec 32) (k1_hw143 : k1_chk143 i v2051), ∀ (k1_h2 : k1_cond2 i = 1#1), ∀ a, (k1_off571 v2051) a + S1x768.size a ≤ S100000x768.size a := fun i v2051 k1_hw143 k1_h2 => k1_hw143 k1_h2

def k1_off572 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2061 : Index := Scalar.indexCast v9
  let c146 : Index := 146#32
  let c0_1310 : Index := 0#32
  ![v2061.toNat, 146, 0]
def k1_off573 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off574 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c147_i32 : BitVec 32 := 147#32
  let c0_i32_1315 : BitVec 32 := 0#32
  ![v9.toNat, 147, 0]
def k1_off575 (v2065 : BitVec 32) : Fin 2 → Nat :=
  let c2_i32_1314 : BitVec 32 := 2#32
  let v2066 : BitVec 32 := Scalar.shrui v2065 c2_i32_1314
  let c0_i32_1316 : BitVec 32 := 0#32
  ![v2066.toNat, 0]

def k1_chk144 (i : grid1.Coords) (v2065 : BitVec 32) : Prop :=
  (∀ (k1_h2 : k1_cond2 i = 1#1), ∀ a, (k1_off575 v2065) a + S1x768.size a ≤ S100000x768.size a)
theorem k1_off575_inb : ∀ (i : grid1.Coords) (v2065 : BitVec 32) (k1_hw144 : k1_chk144 i v2065), ∀ (k1_h2 : k1_cond2 i = 1#1), ∀ a, (k1_off575 v2065) a + S1x768.size a ≤ S100000x768.size a := fun i v2065 k1_hw144 k1_h2 => k1_hw144 k1_h2

def k1_off576 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2075 : Index := Scalar.indexCast v9
  let c147 : Index := 147#32
  let c0_1319 : Index := 0#32
  ![v2075.toNat, 147, 0]
def k1_off577 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off578 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c148_i32 : BitVec 32 := 148#32
  let c0_i32_1324 : BitVec 32 := 0#32
  ![v9.toNat, 148, 0]
def k1_off579 (v2079 : BitVec 32) : Fin 2 → Nat :=
  let c2_i32_1323 : BitVec 32 := 2#32
  let v2080 : BitVec 32 := Scalar.shrui v2079 c2_i32_1323
  let c0_i32_1325 : BitVec 32 := 0#32
  ![v2080.toNat, 0]

def k1_chk145 (i : grid1.Coords) (v2079 : BitVec 32) : Prop :=
  (∀ (k1_h2 : k1_cond2 i = 1#1), ∀ a, (k1_off579 v2079) a + S1x768.size a ≤ S100000x768.size a)
theorem k1_off579_inb : ∀ (i : grid1.Coords) (v2079 : BitVec 32) (k1_hw145 : k1_chk145 i v2079), ∀ (k1_h2 : k1_cond2 i = 1#1), ∀ a, (k1_off579 v2079) a + S1x768.size a ≤ S100000x768.size a := fun i v2079 k1_hw145 k1_h2 => k1_hw145 k1_h2

def k1_off580 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2089 : Index := Scalar.indexCast v9
  let c148 : Index := 148#32
  let c0_1328 : Index := 0#32
  ![v2089.toNat, 148, 0]
def k1_off581 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off582 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c149_i32 : BitVec 32 := 149#32
  let c0_i32_1333 : BitVec 32 := 0#32
  ![v9.toNat, 149, 0]
def k1_off583 (v2093 : BitVec 32) : Fin 2 → Nat :=
  let c2_i32_1332 : BitVec 32 := 2#32
  let v2094 : BitVec 32 := Scalar.shrui v2093 c2_i32_1332
  let c0_i32_1334 : BitVec 32 := 0#32
  ![v2094.toNat, 0]

def k1_chk146 (i : grid1.Coords) (v2093 : BitVec 32) : Prop :=
  (∀ (k1_h2 : k1_cond2 i = 1#1), ∀ a, (k1_off583 v2093) a + S1x768.size a ≤ S100000x768.size a)
theorem k1_off583_inb : ∀ (i : grid1.Coords) (v2093 : BitVec 32) (k1_hw146 : k1_chk146 i v2093), ∀ (k1_h2 : k1_cond2 i = 1#1), ∀ a, (k1_off583 v2093) a + S1x768.size a ≤ S100000x768.size a := fun i v2093 k1_hw146 k1_h2 => k1_hw146 k1_h2

def k1_off584 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2103 : Index := Scalar.indexCast v9
  let c149 : Index := 149#32
  let c0_1337 : Index := 0#32
  ![v2103.toNat, 149, 0]
def k1_off585 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off586 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c150_i32 : BitVec 32 := 150#32
  let c0_i32_1342 : BitVec 32 := 0#32
  ![v9.toNat, 150, 0]
def k1_off587 (v2107 : BitVec 32) : Fin 2 → Nat :=
  let c2_i32_1341 : BitVec 32 := 2#32
  let v2108 : BitVec 32 := Scalar.shrui v2107 c2_i32_1341
  let c0_i32_1343 : BitVec 32 := 0#32
  ![v2108.toNat, 0]

def k1_chk147 (i : grid1.Coords) (v2107 : BitVec 32) : Prop :=
  (∀ (k1_h2 : k1_cond2 i = 1#1), ∀ a, (k1_off587 v2107) a + S1x768.size a ≤ S100000x768.size a)
theorem k1_off587_inb : ∀ (i : grid1.Coords) (v2107 : BitVec 32) (k1_hw147 : k1_chk147 i v2107), ∀ (k1_h2 : k1_cond2 i = 1#1), ∀ a, (k1_off587 v2107) a + S1x768.size a ≤ S100000x768.size a := fun i v2107 k1_hw147 k1_h2 => k1_hw147 k1_h2

def k1_off588 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2117 : Index := Scalar.indexCast v9
  let c150 : Index := 150#32
  let c0_1346 : Index := 0#32
  ![v2117.toNat, 150, 0]
def k1_off589 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off590 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c151_i32 : BitVec 32 := 151#32
  let c0_i32_1351 : BitVec 32 := 0#32
  ![v9.toNat, 151, 0]
def k1_off591 (v2121 : BitVec 32) : Fin 2 → Nat :=
  let c2_i32_1350 : BitVec 32 := 2#32
  let v2122 : BitVec 32 := Scalar.shrui v2121 c2_i32_1350
  let c0_i32_1352 : BitVec 32 := 0#32
  ![v2122.toNat, 0]

def k1_chk148 (i : grid1.Coords) (v2121 : BitVec 32) : Prop :=
  (∀ (k1_h2 : k1_cond2 i = 1#1), ∀ a, (k1_off591 v2121) a + S1x768.size a ≤ S100000x768.size a)
theorem k1_off591_inb : ∀ (i : grid1.Coords) (v2121 : BitVec 32) (k1_hw148 : k1_chk148 i v2121), ∀ (k1_h2 : k1_cond2 i = 1#1), ∀ a, (k1_off591 v2121) a + S1x768.size a ≤ S100000x768.size a := fun i v2121 k1_hw148 k1_h2 => k1_hw148 k1_h2

def k1_off592 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2131 : Index := Scalar.indexCast v9
  let c151 : Index := 151#32
  let c0_1355 : Index := 0#32
  ![v2131.toNat, 151, 0]
def k1_off593 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off594 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c152_i32 : BitVec 32 := 152#32
  let c0_i32_1360 : BitVec 32 := 0#32
  ![v9.toNat, 152, 0]
def k1_off595 (v2135 : BitVec 32) : Fin 2 → Nat :=
  let c2_i32_1359 : BitVec 32 := 2#32
  let v2136 : BitVec 32 := Scalar.shrui v2135 c2_i32_1359
  let c0_i32_1361 : BitVec 32 := 0#32
  ![v2136.toNat, 0]

def k1_chk149 (i : grid1.Coords) (v2135 : BitVec 32) : Prop :=
  (∀ (k1_h2 : k1_cond2 i = 1#1), ∀ a, (k1_off595 v2135) a + S1x768.size a ≤ S100000x768.size a)
theorem k1_off595_inb : ∀ (i : grid1.Coords) (v2135 : BitVec 32) (k1_hw149 : k1_chk149 i v2135), ∀ (k1_h2 : k1_cond2 i = 1#1), ∀ a, (k1_off595 v2135) a + S1x768.size a ≤ S100000x768.size a := fun i v2135 k1_hw149 k1_h2 => k1_hw149 k1_h2

def k1_off596 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2145 : Index := Scalar.indexCast v9
  let c152 : Index := 152#32
  let c0_1364 : Index := 0#32
  ![v2145.toNat, 152, 0]
def k1_off597 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off598 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c153_i32 : BitVec 32 := 153#32
  let c0_i32_1369 : BitVec 32 := 0#32
  ![v9.toNat, 153, 0]
def k1_off599 (v2149 : BitVec 32) : Fin 2 → Nat :=
  let c2_i32_1368 : BitVec 32 := 2#32
  let v2150 : BitVec 32 := Scalar.shrui v2149 c2_i32_1368
  let c0_i32_1370 : BitVec 32 := 0#32
  ![v2150.toNat, 0]

def k1_chk150 (i : grid1.Coords) (v2149 : BitVec 32) : Prop :=
  (∀ (k1_h2 : k1_cond2 i = 1#1), ∀ a, (k1_off599 v2149) a + S1x768.size a ≤ S100000x768.size a)
theorem k1_off599_inb : ∀ (i : grid1.Coords) (v2149 : BitVec 32) (k1_hw150 : k1_chk150 i v2149), ∀ (k1_h2 : k1_cond2 i = 1#1), ∀ a, (k1_off599 v2149) a + S1x768.size a ≤ S100000x768.size a := fun i v2149 k1_hw150 k1_h2 => k1_hw150 k1_h2

def k1_off600 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2159 : Index := Scalar.indexCast v9
  let c153 : Index := 153#32
  let c0_1373 : Index := 0#32
  ![v2159.toNat, 153, 0]
def k1_off601 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off602 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c154_i32 : BitVec 32 := 154#32
  let c0_i32_1378 : BitVec 32 := 0#32
  ![v9.toNat, 154, 0]
def k1_off603 (v2163 : BitVec 32) : Fin 2 → Nat :=
  let c2_i32_1377 : BitVec 32 := 2#32
  let v2164 : BitVec 32 := Scalar.shrui v2163 c2_i32_1377
  let c0_i32_1379 : BitVec 32 := 0#32
  ![v2164.toNat, 0]

def k1_chk151 (i : grid1.Coords) (v2163 : BitVec 32) : Prop :=
  (∀ (k1_h2 : k1_cond2 i = 1#1), ∀ a, (k1_off603 v2163) a + S1x768.size a ≤ S100000x768.size a)
theorem k1_off603_inb : ∀ (i : grid1.Coords) (v2163 : BitVec 32) (k1_hw151 : k1_chk151 i v2163), ∀ (k1_h2 : k1_cond2 i = 1#1), ∀ a, (k1_off603 v2163) a + S1x768.size a ≤ S100000x768.size a := fun i v2163 k1_hw151 k1_h2 => k1_hw151 k1_h2

def k1_off604 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2173 : Index := Scalar.indexCast v9
  let c154 : Index := 154#32
  let c0_1382 : Index := 0#32
  ![v2173.toNat, 154, 0]
def k1_off605 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off606 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c155_i32 : BitVec 32 := 155#32
  let c0_i32_1387 : BitVec 32 := 0#32
  ![v9.toNat, 155, 0]
def k1_off607 (v2177 : BitVec 32) : Fin 2 → Nat :=
  let c2_i32_1386 : BitVec 32 := 2#32
  let v2178 : BitVec 32 := Scalar.shrui v2177 c2_i32_1386
  let c0_i32_1388 : BitVec 32 := 0#32
  ![v2178.toNat, 0]

def k1_chk152 (i : grid1.Coords) (v2177 : BitVec 32) : Prop :=
  (∀ (k1_h2 : k1_cond2 i = 1#1), ∀ a, (k1_off607 v2177) a + S1x768.size a ≤ S100000x768.size a)
theorem k1_off607_inb : ∀ (i : grid1.Coords) (v2177 : BitVec 32) (k1_hw152 : k1_chk152 i v2177), ∀ (k1_h2 : k1_cond2 i = 1#1), ∀ a, (k1_off607 v2177) a + S1x768.size a ≤ S100000x768.size a := fun i v2177 k1_hw152 k1_h2 => k1_hw152 k1_h2

def k1_off608 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2187 : Index := Scalar.indexCast v9
  let c155 : Index := 155#32
  let c0_1391 : Index := 0#32
  ![v2187.toNat, 155, 0]
def k1_off609 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off610 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c156_i32 : BitVec 32 := 156#32
  let c0_i32_1396 : BitVec 32 := 0#32
  ![v9.toNat, 156, 0]
def k1_off611 (v2191 : BitVec 32) : Fin 2 → Nat :=
  let c2_i32_1395 : BitVec 32 := 2#32
  let v2192 : BitVec 32 := Scalar.shrui v2191 c2_i32_1395
  let c0_i32_1397 : BitVec 32 := 0#32
  ![v2192.toNat, 0]

def k1_chk153 (i : grid1.Coords) (v2191 : BitVec 32) : Prop :=
  (∀ (k1_h2 : k1_cond2 i = 1#1), ∀ a, (k1_off611 v2191) a + S1x768.size a ≤ S100000x768.size a)
theorem k1_off611_inb : ∀ (i : grid1.Coords) (v2191 : BitVec 32) (k1_hw153 : k1_chk153 i v2191), ∀ (k1_h2 : k1_cond2 i = 1#1), ∀ a, (k1_off611 v2191) a + S1x768.size a ≤ S100000x768.size a := fun i v2191 k1_hw153 k1_h2 => k1_hw153 k1_h2

def k1_off612 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2201 : Index := Scalar.indexCast v9
  let c156 : Index := 156#32
  let c0_1400 : Index := 0#32
  ![v2201.toNat, 156, 0]
def k1_off613 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off614 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c157_i32 : BitVec 32 := 157#32
  let c0_i32_1405 : BitVec 32 := 0#32
  ![v9.toNat, 157, 0]
def k1_off615 (v2205 : BitVec 32) : Fin 2 → Nat :=
  let c2_i32_1404 : BitVec 32 := 2#32
  let v2206 : BitVec 32 := Scalar.shrui v2205 c2_i32_1404
  let c0_i32_1406 : BitVec 32 := 0#32
  ![v2206.toNat, 0]

def k1_chk154 (i : grid1.Coords) (v2205 : BitVec 32) : Prop :=
  (∀ (k1_h2 : k1_cond2 i = 1#1), ∀ a, (k1_off615 v2205) a + S1x768.size a ≤ S100000x768.size a)
theorem k1_off615_inb : ∀ (i : grid1.Coords) (v2205 : BitVec 32) (k1_hw154 : k1_chk154 i v2205), ∀ (k1_h2 : k1_cond2 i = 1#1), ∀ a, (k1_off615 v2205) a + S1x768.size a ≤ S100000x768.size a := fun i v2205 k1_hw154 k1_h2 => k1_hw154 k1_h2

def k1_off616 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2215 : Index := Scalar.indexCast v9
  let c157 : Index := 157#32
  let c0_1409 : Index := 0#32
  ![v2215.toNat, 157, 0]
def k1_off617 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off618 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c158_i32 : BitVec 32 := 158#32
  let c0_i32_1414 : BitVec 32 := 0#32
  ![v9.toNat, 158, 0]
def k1_off619 (v2219 : BitVec 32) : Fin 2 → Nat :=
  let c2_i32_1413 : BitVec 32 := 2#32
  let v2220 : BitVec 32 := Scalar.shrui v2219 c2_i32_1413
  let c0_i32_1415 : BitVec 32 := 0#32
  ![v2220.toNat, 0]

def k1_chk155 (i : grid1.Coords) (v2219 : BitVec 32) : Prop :=
  (∀ (k1_h2 : k1_cond2 i = 1#1), ∀ a, (k1_off619 v2219) a + S1x768.size a ≤ S100000x768.size a)
theorem k1_off619_inb : ∀ (i : grid1.Coords) (v2219 : BitVec 32) (k1_hw155 : k1_chk155 i v2219), ∀ (k1_h2 : k1_cond2 i = 1#1), ∀ a, (k1_off619 v2219) a + S1x768.size a ≤ S100000x768.size a := fun i v2219 k1_hw155 k1_h2 => k1_hw155 k1_h2

def k1_off620 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2229 : Index := Scalar.indexCast v9
  let c158 : Index := 158#32
  let c0_1418 : Index := 0#32
  ![v2229.toNat, 158, 0]
def k1_off621 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off622 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c159_i32 : BitVec 32 := 159#32
  let c0_i32_1423 : BitVec 32 := 0#32
  ![v9.toNat, 159, 0]
def k1_off623 (v2233 : BitVec 32) : Fin 2 → Nat :=
  let c2_i32_1422 : BitVec 32 := 2#32
  let v2234 : BitVec 32 := Scalar.shrui v2233 c2_i32_1422
  let c0_i32_1424 : BitVec 32 := 0#32
  ![v2234.toNat, 0]

def k1_chk156 (i : grid1.Coords) (v2233 : BitVec 32) : Prop :=
  (∀ (k1_h2 : k1_cond2 i = 1#1), ∀ a, (k1_off623 v2233) a + S1x768.size a ≤ S100000x768.size a)
theorem k1_off623_inb : ∀ (i : grid1.Coords) (v2233 : BitVec 32) (k1_hw156 : k1_chk156 i v2233), ∀ (k1_h2 : k1_cond2 i = 1#1), ∀ a, (k1_off623 v2233) a + S1x768.size a ≤ S100000x768.size a := fun i v2233 k1_hw156 k1_h2 => k1_hw156 k1_h2

def k1_off624 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2243 : Index := Scalar.indexCast v9
  let c159 : Index := 159#32
  let c0_1427 : Index := 0#32
  ![v2243.toNat, 159, 0]
def k1_off625 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off626 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c160_i32 : BitVec 32 := 160#32
  let c0_i32_1432 : BitVec 32 := 0#32
  ![v9.toNat, 160, 0]
def k1_off627 (v2247 : BitVec 32) : Fin 2 → Nat :=
  let c2_i32_1431 : BitVec 32 := 2#32
  let v2248 : BitVec 32 := Scalar.shrui v2247 c2_i32_1431
  let c0_i32_1433 : BitVec 32 := 0#32
  ![v2248.toNat, 0]

def k1_chk157 (i : grid1.Coords) (v2247 : BitVec 32) : Prop :=
  (∀ (k1_h2 : k1_cond2 i = 1#1), ∀ a, (k1_off627 v2247) a + S1x768.size a ≤ S100000x768.size a)
theorem k1_off627_inb : ∀ (i : grid1.Coords) (v2247 : BitVec 32) (k1_hw157 : k1_chk157 i v2247), ∀ (k1_h2 : k1_cond2 i = 1#1), ∀ a, (k1_off627 v2247) a + S1x768.size a ≤ S100000x768.size a := fun i v2247 k1_hw157 k1_h2 => k1_hw157 k1_h2

def k1_off628 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2257 : Index := Scalar.indexCast v9
  let c160 : Index := 160#32
  let c0_1436 : Index := 0#32
  ![v2257.toNat, 160, 0]
def k1_off629 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off630 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c161_i32 : BitVec 32 := 161#32
  let c0_i32_1441 : BitVec 32 := 0#32
  ![v9.toNat, 161, 0]
def k1_off631 (v2261 : BitVec 32) : Fin 2 → Nat :=
  let c2_i32_1440 : BitVec 32 := 2#32
  let v2262 : BitVec 32 := Scalar.shrui v2261 c2_i32_1440
  let c0_i32_1442 : BitVec 32 := 0#32
  ![v2262.toNat, 0]

def k1_chk158 (i : grid1.Coords) (v2261 : BitVec 32) : Prop :=
  (∀ (k1_h2 : k1_cond2 i = 1#1), ∀ a, (k1_off631 v2261) a + S1x768.size a ≤ S100000x768.size a)
theorem k1_off631_inb : ∀ (i : grid1.Coords) (v2261 : BitVec 32) (k1_hw158 : k1_chk158 i v2261), ∀ (k1_h2 : k1_cond2 i = 1#1), ∀ a, (k1_off631 v2261) a + S1x768.size a ≤ S100000x768.size a := fun i v2261 k1_hw158 k1_h2 => k1_hw158 k1_h2

def k1_off632 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2271 : Index := Scalar.indexCast v9
  let c161 : Index := 161#32
  let c0_1445 : Index := 0#32
  ![v2271.toNat, 161, 0]
def k1_off633 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off634 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c162_i32 : BitVec 32 := 162#32
  let c0_i32_1450 : BitVec 32 := 0#32
  ![v9.toNat, 162, 0]
def k1_off635 (v2275 : BitVec 32) : Fin 2 → Nat :=
  let c2_i32_1449 : BitVec 32 := 2#32
  let v2276 : BitVec 32 := Scalar.shrui v2275 c2_i32_1449
  let c0_i32_1451 : BitVec 32 := 0#32
  ![v2276.toNat, 0]

def k1_chk159 (i : grid1.Coords) (v2275 : BitVec 32) : Prop :=
  (∀ (k1_h2 : k1_cond2 i = 1#1), ∀ a, (k1_off635 v2275) a + S1x768.size a ≤ S100000x768.size a)
theorem k1_off635_inb : ∀ (i : grid1.Coords) (v2275 : BitVec 32) (k1_hw159 : k1_chk159 i v2275), ∀ (k1_h2 : k1_cond2 i = 1#1), ∀ a, (k1_off635 v2275) a + S1x768.size a ≤ S100000x768.size a := fun i v2275 k1_hw159 k1_h2 => k1_hw159 k1_h2

def k1_off636 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2285 : Index := Scalar.indexCast v9
  let c162 : Index := 162#32
  let c0_1454 : Index := 0#32
  ![v2285.toNat, 162, 0]
def k1_off637 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off638 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c163_i32 : BitVec 32 := 163#32
  let c0_i32_1459 : BitVec 32 := 0#32
  ![v9.toNat, 163, 0]
def k1_off639 (v2289 : BitVec 32) : Fin 2 → Nat :=
  let c2_i32_1458 : BitVec 32 := 2#32
  let v2290 : BitVec 32 := Scalar.shrui v2289 c2_i32_1458
  let c0_i32_1460 : BitVec 32 := 0#32
  ![v2290.toNat, 0]

def k1_chk160 (i : grid1.Coords) (v2289 : BitVec 32) : Prop :=
  (∀ (k1_h2 : k1_cond2 i = 1#1), ∀ a, (k1_off639 v2289) a + S1x768.size a ≤ S100000x768.size a)
theorem k1_off639_inb : ∀ (i : grid1.Coords) (v2289 : BitVec 32) (k1_hw160 : k1_chk160 i v2289), ∀ (k1_h2 : k1_cond2 i = 1#1), ∀ a, (k1_off639 v2289) a + S1x768.size a ≤ S100000x768.size a := fun i v2289 k1_hw160 k1_h2 => k1_hw160 k1_h2

def k1_off640 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2299 : Index := Scalar.indexCast v9
  let c163 : Index := 163#32
  let c0_1463 : Index := 0#32
  ![v2299.toNat, 163, 0]
def k1_off641 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off642 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c164_i32 : BitVec 32 := 164#32
  let c0_i32_1468 : BitVec 32 := 0#32
  ![v9.toNat, 164, 0]
def k1_off643 (v2303 : BitVec 32) : Fin 2 → Nat :=
  let c2_i32_1467 : BitVec 32 := 2#32
  let v2304 : BitVec 32 := Scalar.shrui v2303 c2_i32_1467
  let c0_i32_1469 : BitVec 32 := 0#32
  ![v2304.toNat, 0]

def k1_chk161 (i : grid1.Coords) (v2303 : BitVec 32) : Prop :=
  (∀ (k1_h2 : k1_cond2 i = 1#1), ∀ a, (k1_off643 v2303) a + S1x768.size a ≤ S100000x768.size a)
theorem k1_off643_inb : ∀ (i : grid1.Coords) (v2303 : BitVec 32) (k1_hw161 : k1_chk161 i v2303), ∀ (k1_h2 : k1_cond2 i = 1#1), ∀ a, (k1_off643 v2303) a + S1x768.size a ≤ S100000x768.size a := fun i v2303 k1_hw161 k1_h2 => k1_hw161 k1_h2

def k1_off644 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2313 : Index := Scalar.indexCast v9
  let c164 : Index := 164#32
  let c0_1472 : Index := 0#32
  ![v2313.toNat, 164, 0]
def k1_off645 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off646 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c165_i32 : BitVec 32 := 165#32
  let c0_i32_1477 : BitVec 32 := 0#32
  ![v9.toNat, 165, 0]
def k1_off647 (v2317 : BitVec 32) : Fin 2 → Nat :=
  let c2_i32_1476 : BitVec 32 := 2#32
  let v2318 : BitVec 32 := Scalar.shrui v2317 c2_i32_1476
  let c0_i32_1478 : BitVec 32 := 0#32
  ![v2318.toNat, 0]

def k1_chk162 (i : grid1.Coords) (v2317 : BitVec 32) : Prop :=
  (∀ (k1_h2 : k1_cond2 i = 1#1), ∀ a, (k1_off647 v2317) a + S1x768.size a ≤ S100000x768.size a)
theorem k1_off647_inb : ∀ (i : grid1.Coords) (v2317 : BitVec 32) (k1_hw162 : k1_chk162 i v2317), ∀ (k1_h2 : k1_cond2 i = 1#1), ∀ a, (k1_off647 v2317) a + S1x768.size a ≤ S100000x768.size a := fun i v2317 k1_hw162 k1_h2 => k1_hw162 k1_h2

def k1_off648 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2327 : Index := Scalar.indexCast v9
  let c165 : Index := 165#32
  let c0_1481 : Index := 0#32
  ![v2327.toNat, 165, 0]
def k1_off649 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off650 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c166_i32 : BitVec 32 := 166#32
  let c0_i32_1486 : BitVec 32 := 0#32
  ![v9.toNat, 166, 0]
def k1_off651 (v2331 : BitVec 32) : Fin 2 → Nat :=
  let c2_i32_1485 : BitVec 32 := 2#32
  let v2332 : BitVec 32 := Scalar.shrui v2331 c2_i32_1485
  let c0_i32_1487 : BitVec 32 := 0#32
  ![v2332.toNat, 0]

def k1_chk163 (i : grid1.Coords) (v2331 : BitVec 32) : Prop :=
  (∀ (k1_h2 : k1_cond2 i = 1#1), ∀ a, (k1_off651 v2331) a + S1x768.size a ≤ S100000x768.size a)
theorem k1_off651_inb : ∀ (i : grid1.Coords) (v2331 : BitVec 32) (k1_hw163 : k1_chk163 i v2331), ∀ (k1_h2 : k1_cond2 i = 1#1), ∀ a, (k1_off651 v2331) a + S1x768.size a ≤ S100000x768.size a := fun i v2331 k1_hw163 k1_h2 => k1_hw163 k1_h2

def k1_off652 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2341 : Index := Scalar.indexCast v9
  let c166 : Index := 166#32
  let c0_1490 : Index := 0#32
  ![v2341.toNat, 166, 0]
def k1_off653 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off654 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c167_i32 : BitVec 32 := 167#32
  let c0_i32_1495 : BitVec 32 := 0#32
  ![v9.toNat, 167, 0]
def k1_off655 (v2345 : BitVec 32) : Fin 2 → Nat :=
  let c2_i32_1494 : BitVec 32 := 2#32
  let v2346 : BitVec 32 := Scalar.shrui v2345 c2_i32_1494
  let c0_i32_1496 : BitVec 32 := 0#32
  ![v2346.toNat, 0]

def k1_chk164 (i : grid1.Coords) (v2345 : BitVec 32) : Prop :=
  (∀ (k1_h2 : k1_cond2 i = 1#1), ∀ a, (k1_off655 v2345) a + S1x768.size a ≤ S100000x768.size a)
theorem k1_off655_inb : ∀ (i : grid1.Coords) (v2345 : BitVec 32) (k1_hw164 : k1_chk164 i v2345), ∀ (k1_h2 : k1_cond2 i = 1#1), ∀ a, (k1_off655 v2345) a + S1x768.size a ≤ S100000x768.size a := fun i v2345 k1_hw164 k1_h2 => k1_hw164 k1_h2

def k1_off656 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2355 : Index := Scalar.indexCast v9
  let c167 : Index := 167#32
  let c0_1499 : Index := 0#32
  ![v2355.toNat, 167, 0]
def k1_off657 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off658 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c168_i32 : BitVec 32 := 168#32
  let c0_i32_1504 : BitVec 32 := 0#32
  ![v9.toNat, 168, 0]
def k1_off659 (v2359 : BitVec 32) : Fin 2 → Nat :=
  let c2_i32_1503 : BitVec 32 := 2#32
  let v2360 : BitVec 32 := Scalar.shrui v2359 c2_i32_1503
  let c0_i32_1505 : BitVec 32 := 0#32
  ![v2360.toNat, 0]

def k1_chk165 (i : grid1.Coords) (v2359 : BitVec 32) : Prop :=
  (∀ (k1_h2 : k1_cond2 i = 1#1), ∀ a, (k1_off659 v2359) a + S1x768.size a ≤ S100000x768.size a)
theorem k1_off659_inb : ∀ (i : grid1.Coords) (v2359 : BitVec 32) (k1_hw165 : k1_chk165 i v2359), ∀ (k1_h2 : k1_cond2 i = 1#1), ∀ a, (k1_off659 v2359) a + S1x768.size a ≤ S100000x768.size a := fun i v2359 k1_hw165 k1_h2 => k1_hw165 k1_h2

def k1_off660 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2369 : Index := Scalar.indexCast v9
  let c168 : Index := 168#32
  let c0_1508 : Index := 0#32
  ![v2369.toNat, 168, 0]
def k1_off661 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off662 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c169_i32 : BitVec 32 := 169#32
  let c0_i32_1513 : BitVec 32 := 0#32
  ![v9.toNat, 169, 0]
def k1_off663 (v2373 : BitVec 32) : Fin 2 → Nat :=
  let c2_i32_1512 : BitVec 32 := 2#32
  let v2374 : BitVec 32 := Scalar.shrui v2373 c2_i32_1512
  let c0_i32_1514 : BitVec 32 := 0#32
  ![v2374.toNat, 0]

def k1_chk166 (i : grid1.Coords) (v2373 : BitVec 32) : Prop :=
  (∀ (k1_h2 : k1_cond2 i = 1#1), ∀ a, (k1_off663 v2373) a + S1x768.size a ≤ S100000x768.size a)
theorem k1_off663_inb : ∀ (i : grid1.Coords) (v2373 : BitVec 32) (k1_hw166 : k1_chk166 i v2373), ∀ (k1_h2 : k1_cond2 i = 1#1), ∀ a, (k1_off663 v2373) a + S1x768.size a ≤ S100000x768.size a := fun i v2373 k1_hw166 k1_h2 => k1_hw166 k1_h2

def k1_off664 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2383 : Index := Scalar.indexCast v9
  let c169 : Index := 169#32
  let c0_1517 : Index := 0#32
  ![v2383.toNat, 169, 0]
def k1_off665 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off666 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c170_i32 : BitVec 32 := 170#32
  let c0_i32_1522 : BitVec 32 := 0#32
  ![v9.toNat, 170, 0]
def k1_off667 (v2387 : BitVec 32) : Fin 2 → Nat :=
  let c2_i32_1521 : BitVec 32 := 2#32
  let v2388 : BitVec 32 := Scalar.shrui v2387 c2_i32_1521
  let c0_i32_1523 : BitVec 32 := 0#32
  ![v2388.toNat, 0]

def k1_chk167 (i : grid1.Coords) (v2387 : BitVec 32) : Prop :=
  (∀ (k1_h2 : k1_cond2 i = 1#1), ∀ a, (k1_off667 v2387) a + S1x768.size a ≤ S100000x768.size a)
theorem k1_off667_inb : ∀ (i : grid1.Coords) (v2387 : BitVec 32) (k1_hw167 : k1_chk167 i v2387), ∀ (k1_h2 : k1_cond2 i = 1#1), ∀ a, (k1_off667 v2387) a + S1x768.size a ≤ S100000x768.size a := fun i v2387 k1_hw167 k1_h2 => k1_hw167 k1_h2

def k1_off668 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2397 : Index := Scalar.indexCast v9
  let c170 : Index := 170#32
  let c0_1526 : Index := 0#32
  ![v2397.toNat, 170, 0]
def k1_off669 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off670 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c171_i32 : BitVec 32 := 171#32
  let c0_i32_1531 : BitVec 32 := 0#32
  ![v9.toNat, 171, 0]
def k1_off671 (v2401 : BitVec 32) : Fin 2 → Nat :=
  let c2_i32_1530 : BitVec 32 := 2#32
  let v2402 : BitVec 32 := Scalar.shrui v2401 c2_i32_1530
  let c0_i32_1532 : BitVec 32 := 0#32
  ![v2402.toNat, 0]

def k1_chk168 (i : grid1.Coords) (v2401 : BitVec 32) : Prop :=
  (∀ (k1_h2 : k1_cond2 i = 1#1), ∀ a, (k1_off671 v2401) a + S1x768.size a ≤ S100000x768.size a)
theorem k1_off671_inb : ∀ (i : grid1.Coords) (v2401 : BitVec 32) (k1_hw168 : k1_chk168 i v2401), ∀ (k1_h2 : k1_cond2 i = 1#1), ∀ a, (k1_off671 v2401) a + S1x768.size a ≤ S100000x768.size a := fun i v2401 k1_hw168 k1_h2 => k1_hw168 k1_h2

def k1_off672 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2411 : Index := Scalar.indexCast v9
  let c171 : Index := 171#32
  let c0_1535 : Index := 0#32
  ![v2411.toNat, 171, 0]
def k1_off673 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off674 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c172_i32 : BitVec 32 := 172#32
  let c0_i32_1540 : BitVec 32 := 0#32
  ![v9.toNat, 172, 0]
def k1_off675 (v2415 : BitVec 32) : Fin 2 → Nat :=
  let c2_i32_1539 : BitVec 32 := 2#32
  let v2416 : BitVec 32 := Scalar.shrui v2415 c2_i32_1539
  let c0_i32_1541 : BitVec 32 := 0#32
  ![v2416.toNat, 0]

def k1_chk169 (i : grid1.Coords) (v2415 : BitVec 32) : Prop :=
  (∀ (k1_h2 : k1_cond2 i = 1#1), ∀ a, (k1_off675 v2415) a + S1x768.size a ≤ S100000x768.size a)
theorem k1_off675_inb : ∀ (i : grid1.Coords) (v2415 : BitVec 32) (k1_hw169 : k1_chk169 i v2415), ∀ (k1_h2 : k1_cond2 i = 1#1), ∀ a, (k1_off675 v2415) a + S1x768.size a ≤ S100000x768.size a := fun i v2415 k1_hw169 k1_h2 => k1_hw169 k1_h2

def k1_off676 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2425 : Index := Scalar.indexCast v9
  let c172 : Index := 172#32
  let c0_1544 : Index := 0#32
  ![v2425.toNat, 172, 0]
def k1_off677 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off678 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c173_i32 : BitVec 32 := 173#32
  let c0_i32_1549 : BitVec 32 := 0#32
  ![v9.toNat, 173, 0]
def k1_off679 (v2429 : BitVec 32) : Fin 2 → Nat :=
  let c2_i32_1548 : BitVec 32 := 2#32
  let v2430 : BitVec 32 := Scalar.shrui v2429 c2_i32_1548
  let c0_i32_1550 : BitVec 32 := 0#32
  ![v2430.toNat, 0]

def k1_chk170 (i : grid1.Coords) (v2429 : BitVec 32) : Prop :=
  (∀ (k1_h2 : k1_cond2 i = 1#1), ∀ a, (k1_off679 v2429) a + S1x768.size a ≤ S100000x768.size a)
theorem k1_off679_inb : ∀ (i : grid1.Coords) (v2429 : BitVec 32) (k1_hw170 : k1_chk170 i v2429), ∀ (k1_h2 : k1_cond2 i = 1#1), ∀ a, (k1_off679 v2429) a + S1x768.size a ≤ S100000x768.size a := fun i v2429 k1_hw170 k1_h2 => k1_hw170 k1_h2

def k1_off680 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2439 : Index := Scalar.indexCast v9
  let c173 : Index := 173#32
  let c0_1553 : Index := 0#32
  ![v2439.toNat, 173, 0]
def k1_off681 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off682 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c174_i32 : BitVec 32 := 174#32
  let c0_i32_1558 : BitVec 32 := 0#32
  ![v9.toNat, 174, 0]
def k1_off683 (v2443 : BitVec 32) : Fin 2 → Nat :=
  let c2_i32_1557 : BitVec 32 := 2#32
  let v2444 : BitVec 32 := Scalar.shrui v2443 c2_i32_1557
  let c0_i32_1559 : BitVec 32 := 0#32
  ![v2444.toNat, 0]

def k1_chk171 (i : grid1.Coords) (v2443 : BitVec 32) : Prop :=
  (∀ (k1_h2 : k1_cond2 i = 1#1), ∀ a, (k1_off683 v2443) a + S1x768.size a ≤ S100000x768.size a)
theorem k1_off683_inb : ∀ (i : grid1.Coords) (v2443 : BitVec 32) (k1_hw171 : k1_chk171 i v2443), ∀ (k1_h2 : k1_cond2 i = 1#1), ∀ a, (k1_off683 v2443) a + S1x768.size a ≤ S100000x768.size a := fun i v2443 k1_hw171 k1_h2 => k1_hw171 k1_h2

def k1_off684 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2453 : Index := Scalar.indexCast v9
  let c174 : Index := 174#32
  let c0_1562 : Index := 0#32
  ![v2453.toNat, 174, 0]
def k1_off685 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off686 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c175_i32 : BitVec 32 := 175#32
  let c0_i32_1567 : BitVec 32 := 0#32
  ![v9.toNat, 175, 0]
def k1_off687 (v2457 : BitVec 32) : Fin 2 → Nat :=
  let c2_i32_1566 : BitVec 32 := 2#32
  let v2458 : BitVec 32 := Scalar.shrui v2457 c2_i32_1566
  let c0_i32_1568 : BitVec 32 := 0#32
  ![v2458.toNat, 0]

def k1_chk172 (i : grid1.Coords) (v2457 : BitVec 32) : Prop :=
  (∀ (k1_h2 : k1_cond2 i = 1#1), ∀ a, (k1_off687 v2457) a + S1x768.size a ≤ S100000x768.size a)
theorem k1_off687_inb : ∀ (i : grid1.Coords) (v2457 : BitVec 32) (k1_hw172 : k1_chk172 i v2457), ∀ (k1_h2 : k1_cond2 i = 1#1), ∀ a, (k1_off687 v2457) a + S1x768.size a ≤ S100000x768.size a := fun i v2457 k1_hw172 k1_h2 => k1_hw172 k1_h2

def k1_off688 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2467 : Index := Scalar.indexCast v9
  let c175 : Index := 175#32
  let c0_1571 : Index := 0#32
  ![v2467.toNat, 175, 0]
def k1_off689 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off690 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c176_i32 : BitVec 32 := 176#32
  let c0_i32_1576 : BitVec 32 := 0#32
  ![v9.toNat, 176, 0]
def k1_off691 (v2471 : BitVec 32) : Fin 2 → Nat :=
  let c2_i32_1575 : BitVec 32 := 2#32
  let v2472 : BitVec 32 := Scalar.shrui v2471 c2_i32_1575
  let c0_i32_1577 : BitVec 32 := 0#32
  ![v2472.toNat, 0]

def k1_chk173 (i : grid1.Coords) (v2471 : BitVec 32) : Prop :=
  (∀ (k1_h2 : k1_cond2 i = 1#1), ∀ a, (k1_off691 v2471) a + S1x768.size a ≤ S100000x768.size a)
theorem k1_off691_inb : ∀ (i : grid1.Coords) (v2471 : BitVec 32) (k1_hw173 : k1_chk173 i v2471), ∀ (k1_h2 : k1_cond2 i = 1#1), ∀ a, (k1_off691 v2471) a + S1x768.size a ≤ S100000x768.size a := fun i v2471 k1_hw173 k1_h2 => k1_hw173 k1_h2

def k1_off692 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2481 : Index := Scalar.indexCast v9
  let c176 : Index := 176#32
  let c0_1580 : Index := 0#32
  ![v2481.toNat, 176, 0]
def k1_off693 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off694 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c177_i32 : BitVec 32 := 177#32
  let c0_i32_1585 : BitVec 32 := 0#32
  ![v9.toNat, 177, 0]
def k1_off695 (v2485 : BitVec 32) : Fin 2 → Nat :=
  let c2_i32_1584 : BitVec 32 := 2#32
  let v2486 : BitVec 32 := Scalar.shrui v2485 c2_i32_1584
  let c0_i32_1586 : BitVec 32 := 0#32
  ![v2486.toNat, 0]

def k1_chk174 (i : grid1.Coords) (v2485 : BitVec 32) : Prop :=
  (∀ (k1_h2 : k1_cond2 i = 1#1), ∀ a, (k1_off695 v2485) a + S1x768.size a ≤ S100000x768.size a)
theorem k1_off695_inb : ∀ (i : grid1.Coords) (v2485 : BitVec 32) (k1_hw174 : k1_chk174 i v2485), ∀ (k1_h2 : k1_cond2 i = 1#1), ∀ a, (k1_off695 v2485) a + S1x768.size a ≤ S100000x768.size a := fun i v2485 k1_hw174 k1_h2 => k1_hw174 k1_h2

def k1_off696 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2495 : Index := Scalar.indexCast v9
  let c177 : Index := 177#32
  let c0_1589 : Index := 0#32
  ![v2495.toNat, 177, 0]
def k1_off697 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off698 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c178_i32 : BitVec 32 := 178#32
  let c0_i32_1594 : BitVec 32 := 0#32
  ![v9.toNat, 178, 0]
def k1_off699 (v2499 : BitVec 32) : Fin 2 → Nat :=
  let c2_i32_1593 : BitVec 32 := 2#32
  let v2500 : BitVec 32 := Scalar.shrui v2499 c2_i32_1593
  let c0_i32_1595 : BitVec 32 := 0#32
  ![v2500.toNat, 0]

def k1_chk175 (i : grid1.Coords) (v2499 : BitVec 32) : Prop :=
  (∀ (k1_h2 : k1_cond2 i = 1#1), ∀ a, (k1_off699 v2499) a + S1x768.size a ≤ S100000x768.size a)
theorem k1_off699_inb : ∀ (i : grid1.Coords) (v2499 : BitVec 32) (k1_hw175 : k1_chk175 i v2499), ∀ (k1_h2 : k1_cond2 i = 1#1), ∀ a, (k1_off699 v2499) a + S1x768.size a ≤ S100000x768.size a := fun i v2499 k1_hw175 k1_h2 => k1_hw175 k1_h2

def k1_off700 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2509 : Index := Scalar.indexCast v9
  let c178 : Index := 178#32
  let c0_1598 : Index := 0#32
  ![v2509.toNat, 178, 0]
def k1_off701 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off702 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c179_i32 : BitVec 32 := 179#32
  let c0_i32_1603 : BitVec 32 := 0#32
  ![v9.toNat, 179, 0]
def k1_off703 (v2513 : BitVec 32) : Fin 2 → Nat :=
  let c2_i32_1602 : BitVec 32 := 2#32
  let v2514 : BitVec 32 := Scalar.shrui v2513 c2_i32_1602
  let c0_i32_1604 : BitVec 32 := 0#32
  ![v2514.toNat, 0]

def k1_chk176 (i : grid1.Coords) (v2513 : BitVec 32) : Prop :=
  (∀ (k1_h2 : k1_cond2 i = 1#1), ∀ a, (k1_off703 v2513) a + S1x768.size a ≤ S100000x768.size a)
theorem k1_off703_inb : ∀ (i : grid1.Coords) (v2513 : BitVec 32) (k1_hw176 : k1_chk176 i v2513), ∀ (k1_h2 : k1_cond2 i = 1#1), ∀ a, (k1_off703 v2513) a + S1x768.size a ≤ S100000x768.size a := fun i v2513 k1_hw176 k1_h2 => k1_hw176 k1_h2

def k1_off704 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2523 : Index := Scalar.indexCast v9
  let c179 : Index := 179#32
  let c0_1607 : Index := 0#32
  ![v2523.toNat, 179, 0]
def k1_off705 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off706 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c180_i32 : BitVec 32 := 180#32
  let c0_i32_1612 : BitVec 32 := 0#32
  ![v9.toNat, 180, 0]
def k1_off707 (v2527 : BitVec 32) : Fin 2 → Nat :=
  let c2_i32_1611 : BitVec 32 := 2#32
  let v2528 : BitVec 32 := Scalar.shrui v2527 c2_i32_1611
  let c0_i32_1613 : BitVec 32 := 0#32
  ![v2528.toNat, 0]

def k1_chk177 (i : grid1.Coords) (v2527 : BitVec 32) : Prop :=
  (∀ (k1_h2 : k1_cond2 i = 1#1), ∀ a, (k1_off707 v2527) a + S1x768.size a ≤ S100000x768.size a)
theorem k1_off707_inb : ∀ (i : grid1.Coords) (v2527 : BitVec 32) (k1_hw177 : k1_chk177 i v2527), ∀ (k1_h2 : k1_cond2 i = 1#1), ∀ a, (k1_off707 v2527) a + S1x768.size a ≤ S100000x768.size a := fun i v2527 k1_hw177 k1_h2 => k1_hw177 k1_h2

def k1_off708 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2537 : Index := Scalar.indexCast v9
  let c180 : Index := 180#32
  let c0_1616 : Index := 0#32
  ![v2537.toNat, 180, 0]
def k1_off709 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off710 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c181_i32 : BitVec 32 := 181#32
  let c0_i32_1621 : BitVec 32 := 0#32
  ![v9.toNat, 181, 0]
def k1_off711 (v2541 : BitVec 32) : Fin 2 → Nat :=
  let c2_i32_1620 : BitVec 32 := 2#32
  let v2542 : BitVec 32 := Scalar.shrui v2541 c2_i32_1620
  let c0_i32_1622 : BitVec 32 := 0#32
  ![v2542.toNat, 0]

def k1_chk178 (i : grid1.Coords) (v2541 : BitVec 32) : Prop :=
  (∀ (k1_h2 : k1_cond2 i = 1#1), ∀ a, (k1_off711 v2541) a + S1x768.size a ≤ S100000x768.size a)
theorem k1_off711_inb : ∀ (i : grid1.Coords) (v2541 : BitVec 32) (k1_hw178 : k1_chk178 i v2541), ∀ (k1_h2 : k1_cond2 i = 1#1), ∀ a, (k1_off711 v2541) a + S1x768.size a ≤ S100000x768.size a := fun i v2541 k1_hw178 k1_h2 => k1_hw178 k1_h2

def k1_off712 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2551 : Index := Scalar.indexCast v9
  let c181 : Index := 181#32
  let c0_1625 : Index := 0#32
  ![v2551.toNat, 181, 0]
def k1_off713 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off714 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c182_i32 : BitVec 32 := 182#32
  let c0_i32_1630 : BitVec 32 := 0#32
  ![v9.toNat, 182, 0]
def k1_off715 (v2555 : BitVec 32) : Fin 2 → Nat :=
  let c2_i32_1629 : BitVec 32 := 2#32
  let v2556 : BitVec 32 := Scalar.shrui v2555 c2_i32_1629
  let c0_i32_1631 : BitVec 32 := 0#32
  ![v2556.toNat, 0]

def k1_chk179 (i : grid1.Coords) (v2555 : BitVec 32) : Prop :=
  (∀ (k1_h2 : k1_cond2 i = 1#1), ∀ a, (k1_off715 v2555) a + S1x768.size a ≤ S100000x768.size a)
theorem k1_off715_inb : ∀ (i : grid1.Coords) (v2555 : BitVec 32) (k1_hw179 : k1_chk179 i v2555), ∀ (k1_h2 : k1_cond2 i = 1#1), ∀ a, (k1_off715 v2555) a + S1x768.size a ≤ S100000x768.size a := fun i v2555 k1_hw179 k1_h2 => k1_hw179 k1_h2

def k1_off716 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2565 : Index := Scalar.indexCast v9
  let c182 : Index := 182#32
  let c0_1634 : Index := 0#32
  ![v2565.toNat, 182, 0]
def k1_off717 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off718 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c183_i32 : BitVec 32 := 183#32
  let c0_i32_1639 : BitVec 32 := 0#32
  ![v9.toNat, 183, 0]
def k1_off719 (v2569 : BitVec 32) : Fin 2 → Nat :=
  let c2_i32_1638 : BitVec 32 := 2#32
  let v2570 : BitVec 32 := Scalar.shrui v2569 c2_i32_1638
  let c0_i32_1640 : BitVec 32 := 0#32
  ![v2570.toNat, 0]

def k1_chk180 (i : grid1.Coords) (v2569 : BitVec 32) : Prop :=
  (∀ (k1_h2 : k1_cond2 i = 1#1), ∀ a, (k1_off719 v2569) a + S1x768.size a ≤ S100000x768.size a)
theorem k1_off719_inb : ∀ (i : grid1.Coords) (v2569 : BitVec 32) (k1_hw180 : k1_chk180 i v2569), ∀ (k1_h2 : k1_cond2 i = 1#1), ∀ a, (k1_off719 v2569) a + S1x768.size a ≤ S100000x768.size a := fun i v2569 k1_hw180 k1_h2 => k1_hw180 k1_h2

def k1_off720 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2579 : Index := Scalar.indexCast v9
  let c183 : Index := 183#32
  let c0_1643 : Index := 0#32
  ![v2579.toNat, 183, 0]
def k1_off721 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off722 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c184_i32 : BitVec 32 := 184#32
  let c0_i32_1648 : BitVec 32 := 0#32
  ![v9.toNat, 184, 0]
def k1_off723 (v2583 : BitVec 32) : Fin 2 → Nat :=
  let c2_i32_1647 : BitVec 32 := 2#32
  let v2584 : BitVec 32 := Scalar.shrui v2583 c2_i32_1647
  let c0_i32_1649 : BitVec 32 := 0#32
  ![v2584.toNat, 0]

def k1_chk181 (i : grid1.Coords) (v2583 : BitVec 32) : Prop :=
  (∀ (k1_h2 : k1_cond2 i = 1#1), ∀ a, (k1_off723 v2583) a + S1x768.size a ≤ S100000x768.size a)
theorem k1_off723_inb : ∀ (i : grid1.Coords) (v2583 : BitVec 32) (k1_hw181 : k1_chk181 i v2583), ∀ (k1_h2 : k1_cond2 i = 1#1), ∀ a, (k1_off723 v2583) a + S1x768.size a ≤ S100000x768.size a := fun i v2583 k1_hw181 k1_h2 => k1_hw181 k1_h2

def k1_off724 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2593 : Index := Scalar.indexCast v9
  let c184 : Index := 184#32
  let c0_1652 : Index := 0#32
  ![v2593.toNat, 184, 0]
def k1_off725 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off726 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c185_i32 : BitVec 32 := 185#32
  let c0_i32_1657 : BitVec 32 := 0#32
  ![v9.toNat, 185, 0]
def k1_off727 (v2597 : BitVec 32) : Fin 2 → Nat :=
  let c2_i32_1656 : BitVec 32 := 2#32
  let v2598 : BitVec 32 := Scalar.shrui v2597 c2_i32_1656
  let c0_i32_1658 : BitVec 32 := 0#32
  ![v2598.toNat, 0]

def k1_chk182 (i : grid1.Coords) (v2597 : BitVec 32) : Prop :=
  (∀ (k1_h2 : k1_cond2 i = 1#1), ∀ a, (k1_off727 v2597) a + S1x768.size a ≤ S100000x768.size a)
theorem k1_off727_inb : ∀ (i : grid1.Coords) (v2597 : BitVec 32) (k1_hw182 : k1_chk182 i v2597), ∀ (k1_h2 : k1_cond2 i = 1#1), ∀ a, (k1_off727 v2597) a + S1x768.size a ≤ S100000x768.size a := fun i v2597 k1_hw182 k1_h2 => k1_hw182 k1_h2

def k1_off728 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2607 : Index := Scalar.indexCast v9
  let c185 : Index := 185#32
  let c0_1661 : Index := 0#32
  ![v2607.toNat, 185, 0]
def k1_off729 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off730 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c186_i32 : BitVec 32 := 186#32
  let c0_i32_1666 : BitVec 32 := 0#32
  ![v9.toNat, 186, 0]
def k1_off731 (v2611 : BitVec 32) : Fin 2 → Nat :=
  let c2_i32_1665 : BitVec 32 := 2#32
  let v2612 : BitVec 32 := Scalar.shrui v2611 c2_i32_1665
  let c0_i32_1667 : BitVec 32 := 0#32
  ![v2612.toNat, 0]

def k1_chk183 (i : grid1.Coords) (v2611 : BitVec 32) : Prop :=
  (∀ (k1_h2 : k1_cond2 i = 1#1), ∀ a, (k1_off731 v2611) a + S1x768.size a ≤ S100000x768.size a)
theorem k1_off731_inb : ∀ (i : grid1.Coords) (v2611 : BitVec 32) (k1_hw183 : k1_chk183 i v2611), ∀ (k1_h2 : k1_cond2 i = 1#1), ∀ a, (k1_off731 v2611) a + S1x768.size a ≤ S100000x768.size a := fun i v2611 k1_hw183 k1_h2 => k1_hw183 k1_h2

def k1_off732 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2621 : Index := Scalar.indexCast v9
  let c186 : Index := 186#32
  let c0_1670 : Index := 0#32
  ![v2621.toNat, 186, 0]
def k1_off733 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off734 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c187_i32 : BitVec 32 := 187#32
  let c0_i32_1675 : BitVec 32 := 0#32
  ![v9.toNat, 187, 0]
def k1_off735 (v2625 : BitVec 32) : Fin 2 → Nat :=
  let c2_i32_1674 : BitVec 32 := 2#32
  let v2626 : BitVec 32 := Scalar.shrui v2625 c2_i32_1674
  let c0_i32_1676 : BitVec 32 := 0#32
  ![v2626.toNat, 0]

def k1_chk184 (i : grid1.Coords) (v2625 : BitVec 32) : Prop :=
  (∀ (k1_h2 : k1_cond2 i = 1#1), ∀ a, (k1_off735 v2625) a + S1x768.size a ≤ S100000x768.size a)
theorem k1_off735_inb : ∀ (i : grid1.Coords) (v2625 : BitVec 32) (k1_hw184 : k1_chk184 i v2625), ∀ (k1_h2 : k1_cond2 i = 1#1), ∀ a, (k1_off735 v2625) a + S1x768.size a ≤ S100000x768.size a := fun i v2625 k1_hw184 k1_h2 => k1_hw184 k1_h2

def k1_off736 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2635 : Index := Scalar.indexCast v9
  let c187 : Index := 187#32
  let c0_1679 : Index := 0#32
  ![v2635.toNat, 187, 0]
def k1_off737 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off738 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c188_i32 : BitVec 32 := 188#32
  let c0_i32_1684 : BitVec 32 := 0#32
  ![v9.toNat, 188, 0]
def k1_off739 (v2639 : BitVec 32) : Fin 2 → Nat :=
  let c2_i32_1683 : BitVec 32 := 2#32
  let v2640 : BitVec 32 := Scalar.shrui v2639 c2_i32_1683
  let c0_i32_1685 : BitVec 32 := 0#32
  ![v2640.toNat, 0]

def k1_chk185 (i : grid1.Coords) (v2639 : BitVec 32) : Prop :=
  (∀ (k1_h2 : k1_cond2 i = 1#1), ∀ a, (k1_off739 v2639) a + S1x768.size a ≤ S100000x768.size a)
theorem k1_off739_inb : ∀ (i : grid1.Coords) (v2639 : BitVec 32) (k1_hw185 : k1_chk185 i v2639), ∀ (k1_h2 : k1_cond2 i = 1#1), ∀ a, (k1_off739 v2639) a + S1x768.size a ≤ S100000x768.size a := fun i v2639 k1_hw185 k1_h2 => k1_hw185 k1_h2

def k1_off740 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2649 : Index := Scalar.indexCast v9
  let c188 : Index := 188#32
  let c0_1688 : Index := 0#32
  ![v2649.toNat, 188, 0]
def k1_off741 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off742 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c189_i32 : BitVec 32 := 189#32
  let c0_i32_1693 : BitVec 32 := 0#32
  ![v9.toNat, 189, 0]
def k1_off743 (v2653 : BitVec 32) : Fin 2 → Nat :=
  let c2_i32_1692 : BitVec 32 := 2#32
  let v2654 : BitVec 32 := Scalar.shrui v2653 c2_i32_1692
  let c0_i32_1694 : BitVec 32 := 0#32
  ![v2654.toNat, 0]

def k1_chk186 (i : grid1.Coords) (v2653 : BitVec 32) : Prop :=
  (∀ (k1_h2 : k1_cond2 i = 1#1), ∀ a, (k1_off743 v2653) a + S1x768.size a ≤ S100000x768.size a)
theorem k1_off743_inb : ∀ (i : grid1.Coords) (v2653 : BitVec 32) (k1_hw186 : k1_chk186 i v2653), ∀ (k1_h2 : k1_cond2 i = 1#1), ∀ a, (k1_off743 v2653) a + S1x768.size a ≤ S100000x768.size a := fun i v2653 k1_hw186 k1_h2 => k1_hw186 k1_h2

def k1_off744 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2663 : Index := Scalar.indexCast v9
  let c189 : Index := 189#32
  let c0_1697 : Index := 0#32
  ![v2663.toNat, 189, 0]
def k1_off745 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off746 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c190_i32 : BitVec 32 := 190#32
  let c0_i32_1702 : BitVec 32 := 0#32
  ![v9.toNat, 190, 0]
def k1_off747 (v2667 : BitVec 32) : Fin 2 → Nat :=
  let c2_i32_1701 : BitVec 32 := 2#32
  let v2668 : BitVec 32 := Scalar.shrui v2667 c2_i32_1701
  let c0_i32_1703 : BitVec 32 := 0#32
  ![v2668.toNat, 0]

def k1_chk187 (i : grid1.Coords) (v2667 : BitVec 32) : Prop :=
  (∀ (k1_h2 : k1_cond2 i = 1#1), ∀ a, (k1_off747 v2667) a + S1x768.size a ≤ S100000x768.size a)
theorem k1_off747_inb : ∀ (i : grid1.Coords) (v2667 : BitVec 32) (k1_hw187 : k1_chk187 i v2667), ∀ (k1_h2 : k1_cond2 i = 1#1), ∀ a, (k1_off747 v2667) a + S1x768.size a ≤ S100000x768.size a := fun i v2667 k1_hw187 k1_h2 => k1_hw187 k1_h2

def k1_off748 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2677 : Index := Scalar.indexCast v9
  let c190 : Index := 190#32
  let c0_1706 : Index := 0#32
  ![v2677.toNat, 190, 0]
def k1_off749 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off750 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c191_i32 : BitVec 32 := 191#32
  let c0_i32_1711 : BitVec 32 := 0#32
  ![v9.toNat, 191, 0]
def k1_off751 (v2681 : BitVec 32) : Fin 2 → Nat :=
  let c2_i32_1710 : BitVec 32 := 2#32
  let v2682 : BitVec 32 := Scalar.shrui v2681 c2_i32_1710
  let c0_i32_1712 : BitVec 32 := 0#32
  ![v2682.toNat, 0]

def k1_chk188 (i : grid1.Coords) (v2681 : BitVec 32) : Prop :=
  (∀ (k1_h2 : k1_cond2 i = 1#1), ∀ a, (k1_off751 v2681) a + S1x768.size a ≤ S100000x768.size a)
theorem k1_off751_inb : ∀ (i : grid1.Coords) (v2681 : BitVec 32) (k1_hw188 : k1_chk188 i v2681), ∀ (k1_h2 : k1_cond2 i = 1#1), ∀ a, (k1_off751 v2681) a + S1x768.size a ≤ S100000x768.size a := fun i v2681 k1_hw188 k1_h2 => k1_hw188 k1_h2

def k1_off752 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2691 : Index := Scalar.indexCast v9
  let c191 : Index := 191#32
  let c0_1715 : Index := 0#32
  ![v2691.toNat, 191, 0]
def k1_off753 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off754 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c192_i32_1720 : BitVec 32 := 192#32
  let c0_i32_1721 : BitVec 32 := 0#32
  ![v9.toNat, 192, 0]
def k1_off755 (v2695 : BitVec 32) : Fin 2 → Nat :=
  let c2_i32_1719 : BitVec 32 := 2#32
  let v2696 : BitVec 32 := Scalar.shrui v2695 c2_i32_1719
  let c0_i32_1722 : BitVec 32 := 0#32
  ![v2696.toNat, 0]

def k1_chk189 (i : grid1.Coords) (v2695 : BitVec 32) : Prop :=
  (∀ (k1_h2 : k1_cond2 i = 1#1), ∀ a, (k1_off755 v2695) a + S1x768.size a ≤ S100000x768.size a)
theorem k1_off755_inb : ∀ (i : grid1.Coords) (v2695 : BitVec 32) (k1_hw189 : k1_chk189 i v2695), ∀ (k1_h2 : k1_cond2 i = 1#1), ∀ a, (k1_off755 v2695) a + S1x768.size a ≤ S100000x768.size a := fun i v2695 k1_hw189 k1_h2 => k1_hw189 k1_h2

def k1_off756 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2705 : Index := Scalar.indexCast v9
  let c192 : Index := 192#32
  let c0_1725 : Index := 0#32
  ![v2705.toNat, 192, 0]
def k1_off757 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off758 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c193_i32 : BitVec 32 := 193#32
  let c0_i32_1730 : BitVec 32 := 0#32
  ![v9.toNat, 193, 0]
def k1_off759 (v2709 : BitVec 32) : Fin 2 → Nat :=
  let c2_i32_1729 : BitVec 32 := 2#32
  let v2710 : BitVec 32 := Scalar.shrui v2709 c2_i32_1729
  let c0_i32_1731 : BitVec 32 := 0#32
  ![v2710.toNat, 0]

def k1_chk190 (i : grid1.Coords) (v2709 : BitVec 32) : Prop :=
  (∀ (k1_h2 : k1_cond2 i = 1#1), ∀ a, (k1_off759 v2709) a + S1x768.size a ≤ S100000x768.size a)
theorem k1_off759_inb : ∀ (i : grid1.Coords) (v2709 : BitVec 32) (k1_hw190 : k1_chk190 i v2709), ∀ (k1_h2 : k1_cond2 i = 1#1), ∀ a, (k1_off759 v2709) a + S1x768.size a ≤ S100000x768.size a := fun i v2709 k1_hw190 k1_h2 => k1_hw190 k1_h2

def k1_off760 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2719 : Index := Scalar.indexCast v9
  let c193 : Index := 193#32
  let c0_1734 : Index := 0#32
  ![v2719.toNat, 193, 0]
def k1_off761 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off762 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c194_i32 : BitVec 32 := 194#32
  let c0_i32_1739 : BitVec 32 := 0#32
  ![v9.toNat, 194, 0]
def k1_off763 (v2723 : BitVec 32) : Fin 2 → Nat :=
  let c2_i32_1738 : BitVec 32 := 2#32
  let v2724 : BitVec 32 := Scalar.shrui v2723 c2_i32_1738
  let c0_i32_1740 : BitVec 32 := 0#32
  ![v2724.toNat, 0]

def k1_chk191 (i : grid1.Coords) (v2723 : BitVec 32) : Prop :=
  (∀ (k1_h2 : k1_cond2 i = 1#1), ∀ a, (k1_off763 v2723) a + S1x768.size a ≤ S100000x768.size a)
theorem k1_off763_inb : ∀ (i : grid1.Coords) (v2723 : BitVec 32) (k1_hw191 : k1_chk191 i v2723), ∀ (k1_h2 : k1_cond2 i = 1#1), ∀ a, (k1_off763 v2723) a + S1x768.size a ≤ S100000x768.size a := fun i v2723 k1_hw191 k1_h2 => k1_hw191 k1_h2

def k1_off764 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2733 : Index := Scalar.indexCast v9
  let c194 : Index := 194#32
  let c0_1743 : Index := 0#32
  ![v2733.toNat, 194, 0]
def k1_off765 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off766 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c195_i32 : BitVec 32 := 195#32
  let c0_i32_1748 : BitVec 32 := 0#32
  ![v9.toNat, 195, 0]
def k1_off767 (v2737 : BitVec 32) : Fin 2 → Nat :=
  let c2_i32_1747 : BitVec 32 := 2#32
  let v2738 : BitVec 32 := Scalar.shrui v2737 c2_i32_1747
  let c0_i32_1749 : BitVec 32 := 0#32
  ![v2738.toNat, 0]

def k1_chk192 (i : grid1.Coords) (v2737 : BitVec 32) : Prop :=
  (∀ (k1_h2 : k1_cond2 i = 1#1), ∀ a, (k1_off767 v2737) a + S1x768.size a ≤ S100000x768.size a)
theorem k1_off767_inb : ∀ (i : grid1.Coords) (v2737 : BitVec 32) (k1_hw192 : k1_chk192 i v2737), ∀ (k1_h2 : k1_cond2 i = 1#1), ∀ a, (k1_off767 v2737) a + S1x768.size a ≤ S100000x768.size a := fun i v2737 k1_hw192 k1_h2 => k1_hw192 k1_h2

def k1_off768 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2747 : Index := Scalar.indexCast v9
  let c195 : Index := 195#32
  let c0_1752 : Index := 0#32
  ![v2747.toNat, 195, 0]
def k1_off769 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off770 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c196_i32 : BitVec 32 := 196#32
  let c0_i32_1757 : BitVec 32 := 0#32
  ![v9.toNat, 196, 0]
def k1_off771 (v2751 : BitVec 32) : Fin 2 → Nat :=
  let c2_i32_1756 : BitVec 32 := 2#32
  let v2752 : BitVec 32 := Scalar.shrui v2751 c2_i32_1756
  let c0_i32_1758 : BitVec 32 := 0#32
  ![v2752.toNat, 0]

def k1_chk193 (i : grid1.Coords) (v2751 : BitVec 32) : Prop :=
  (∀ (k1_h2 : k1_cond2 i = 1#1), ∀ a, (k1_off771 v2751) a + S1x768.size a ≤ S100000x768.size a)
theorem k1_off771_inb : ∀ (i : grid1.Coords) (v2751 : BitVec 32) (k1_hw193 : k1_chk193 i v2751), ∀ (k1_h2 : k1_cond2 i = 1#1), ∀ a, (k1_off771 v2751) a + S1x768.size a ≤ S100000x768.size a := fun i v2751 k1_hw193 k1_h2 => k1_hw193 k1_h2

def k1_off772 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2761 : Index := Scalar.indexCast v9
  let c196 : Index := 196#32
  let c0_1761 : Index := 0#32
  ![v2761.toNat, 196, 0]
def k1_off773 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off774 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c197_i32 : BitVec 32 := 197#32
  let c0_i32_1766 : BitVec 32 := 0#32
  ![v9.toNat, 197, 0]
def k1_off775 (v2765 : BitVec 32) : Fin 2 → Nat :=
  let c2_i32_1765 : BitVec 32 := 2#32
  let v2766 : BitVec 32 := Scalar.shrui v2765 c2_i32_1765
  let c0_i32_1767 : BitVec 32 := 0#32
  ![v2766.toNat, 0]

def k1_chk194 (i : grid1.Coords) (v2765 : BitVec 32) : Prop :=
  (∀ (k1_h2 : k1_cond2 i = 1#1), ∀ a, (k1_off775 v2765) a + S1x768.size a ≤ S100000x768.size a)
theorem k1_off775_inb : ∀ (i : grid1.Coords) (v2765 : BitVec 32) (k1_hw194 : k1_chk194 i v2765), ∀ (k1_h2 : k1_cond2 i = 1#1), ∀ a, (k1_off775 v2765) a + S1x768.size a ≤ S100000x768.size a := fun i v2765 k1_hw194 k1_h2 => k1_hw194 k1_h2

def k1_off776 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2775 : Index := Scalar.indexCast v9
  let c197 : Index := 197#32
  let c0_1770 : Index := 0#32
  ![v2775.toNat, 197, 0]
def k1_off777 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off778 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c198_i32 : BitVec 32 := 198#32
  let c0_i32_1775 : BitVec 32 := 0#32
  ![v9.toNat, 198, 0]
def k1_off779 (v2779 : BitVec 32) : Fin 2 → Nat :=
  let c2_i32_1774 : BitVec 32 := 2#32
  let v2780 : BitVec 32 := Scalar.shrui v2779 c2_i32_1774
  let c0_i32_1776 : BitVec 32 := 0#32
  ![v2780.toNat, 0]

def k1_chk195 (i : grid1.Coords) (v2779 : BitVec 32) : Prop :=
  (∀ (k1_h2 : k1_cond2 i = 1#1), ∀ a, (k1_off779 v2779) a + S1x768.size a ≤ S100000x768.size a)
theorem k1_off779_inb : ∀ (i : grid1.Coords) (v2779 : BitVec 32) (k1_hw195 : k1_chk195 i v2779), ∀ (k1_h2 : k1_cond2 i = 1#1), ∀ a, (k1_off779 v2779) a + S1x768.size a ≤ S100000x768.size a := fun i v2779 k1_hw195 k1_h2 => k1_hw195 k1_h2

def k1_off780 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2789 : Index := Scalar.indexCast v9
  let c198 : Index := 198#32
  let c0_1779 : Index := 0#32
  ![v2789.toNat, 198, 0]
def k1_off781 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off782 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c199_i32 : BitVec 32 := 199#32
  let c0_i32_1784 : BitVec 32 := 0#32
  ![v9.toNat, 199, 0]
def k1_off783 (v2793 : BitVec 32) : Fin 2 → Nat :=
  let c2_i32_1783 : BitVec 32 := 2#32
  let v2794 : BitVec 32 := Scalar.shrui v2793 c2_i32_1783
  let c0_i32_1785 : BitVec 32 := 0#32
  ![v2794.toNat, 0]

def k1_chk196 (i : grid1.Coords) (v2793 : BitVec 32) : Prop :=
  (∀ (k1_h2 : k1_cond2 i = 1#1), ∀ a, (k1_off783 v2793) a + S1x768.size a ≤ S100000x768.size a)
theorem k1_off783_inb : ∀ (i : grid1.Coords) (v2793 : BitVec 32) (k1_hw196 : k1_chk196 i v2793), ∀ (k1_h2 : k1_cond2 i = 1#1), ∀ a, (k1_off783 v2793) a + S1x768.size a ≤ S100000x768.size a := fun i v2793 k1_hw196 k1_h2 => k1_hw196 k1_h2

def k1_off784 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2803 : Index := Scalar.indexCast v9
  let c199 : Index := 199#32
  let c0_1788 : Index := 0#32
  ![v2803.toNat, 199, 0]
def k1_off785 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off786 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c200_i32 : BitVec 32 := 200#32
  let c0_i32_1793 : BitVec 32 := 0#32
  ![v9.toNat, 200, 0]
def k1_off787 (v2807 : BitVec 32) : Fin 2 → Nat :=
  let c2_i32_1792 : BitVec 32 := 2#32
  let v2808 : BitVec 32 := Scalar.shrui v2807 c2_i32_1792
  let c0_i32_1794 : BitVec 32 := 0#32
  ![v2808.toNat, 0]

def k1_chk197 (i : grid1.Coords) (v2807 : BitVec 32) : Prop :=
  (∀ (k1_h2 : k1_cond2 i = 1#1), ∀ a, (k1_off787 v2807) a + S1x768.size a ≤ S100000x768.size a)
theorem k1_off787_inb : ∀ (i : grid1.Coords) (v2807 : BitVec 32) (k1_hw197 : k1_chk197 i v2807), ∀ (k1_h2 : k1_cond2 i = 1#1), ∀ a, (k1_off787 v2807) a + S1x768.size a ≤ S100000x768.size a := fun i v2807 k1_hw197 k1_h2 => k1_hw197 k1_h2

def k1_off788 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2817 : Index := Scalar.indexCast v9
  let c200 : Index := 200#32
  let c0_1797 : Index := 0#32
  ![v2817.toNat, 200, 0]
def k1_off789 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off790 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c201_i32 : BitVec 32 := 201#32
  let c0_i32_1802 : BitVec 32 := 0#32
  ![v9.toNat, 201, 0]
def k1_off791 (v2821 : BitVec 32) : Fin 2 → Nat :=
  let c2_i32_1801 : BitVec 32 := 2#32
  let v2822 : BitVec 32 := Scalar.shrui v2821 c2_i32_1801
  let c0_i32_1803 : BitVec 32 := 0#32
  ![v2822.toNat, 0]

def k1_chk198 (i : grid1.Coords) (v2821 : BitVec 32) : Prop :=
  (∀ (k1_h2 : k1_cond2 i = 1#1), ∀ a, (k1_off791 v2821) a + S1x768.size a ≤ S100000x768.size a)
theorem k1_off791_inb : ∀ (i : grid1.Coords) (v2821 : BitVec 32) (k1_hw198 : k1_chk198 i v2821), ∀ (k1_h2 : k1_cond2 i = 1#1), ∀ a, (k1_off791 v2821) a + S1x768.size a ≤ S100000x768.size a := fun i v2821 k1_hw198 k1_h2 => k1_hw198 k1_h2

def k1_off792 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2831 : Index := Scalar.indexCast v9
  let c201 : Index := 201#32
  let c0_1806 : Index := 0#32
  ![v2831.toNat, 201, 0]
def k1_off793 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off794 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c202_i32 : BitVec 32 := 202#32
  let c0_i32_1811 : BitVec 32 := 0#32
  ![v9.toNat, 202, 0]
def k1_off795 (v2835 : BitVec 32) : Fin 2 → Nat :=
  let c2_i32_1810 : BitVec 32 := 2#32
  let v2836 : BitVec 32 := Scalar.shrui v2835 c2_i32_1810
  let c0_i32_1812 : BitVec 32 := 0#32
  ![v2836.toNat, 0]

def k1_chk199 (i : grid1.Coords) (v2835 : BitVec 32) : Prop :=
  (∀ (k1_h2 : k1_cond2 i = 1#1), ∀ a, (k1_off795 v2835) a + S1x768.size a ≤ S100000x768.size a)
theorem k1_off795_inb : ∀ (i : grid1.Coords) (v2835 : BitVec 32) (k1_hw199 : k1_chk199 i v2835), ∀ (k1_h2 : k1_cond2 i = 1#1), ∀ a, (k1_off795 v2835) a + S1x768.size a ≤ S100000x768.size a := fun i v2835 k1_hw199 k1_h2 => k1_hw199 k1_h2

def k1_off796 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2845 : Index := Scalar.indexCast v9
  let c202 : Index := 202#32
  let c0_1815 : Index := 0#32
  ![v2845.toNat, 202, 0]
def k1_off797 (i : grid1.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k1_off798 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c203_i32 : BitVec 32 := 203#32
  let c0_i32_1820 : BitVec 32 := 0#32
  ![v9.toNat, 203, 0]
def k1_off799 (v2849 : BitVec 32) : Fin 2 → Nat :=
  let c2_i32_1819 : BitVec 32 := 2#32
  let v2850 : BitVec 32 := Scalar.shrui v2849 c2_i32_1819
  let c0_i32_1821 : BitVec 32 := 0#32
  ![v2850.toNat, 0]

def k1_chk200 (i : grid1.Coords) (v2849 : BitVec 32) : Prop :=
  (∀ (k1_h2 : k1_cond2 i = 1#1), ∀ a, (k1_off799 v2849) a + S1x768.size a ≤ S100000x768.size a)
theorem k1_off799_inb : ∀ (i : grid1.Coords) (v2849 : BitVec 32) (k1_hw200 : k1_chk200 i v2849), ∀ (k1_h2 : k1_cond2 i = 1#1), ∀ a, (k1_off799 v2849) a + S1x768.size a ≤ S100000x768.size a := fun i v2849 k1_hw200 k1_h2 => k1_hw200 k1_h2

def k1_off800 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2859 : Index := Scalar.indexCast v9
  let c203 : Index := 203#32
  let c0_1824 : Index := 0#32
  ![v2859.toNat, 203, 0]
def k1_cond3 (i : grid1.Coords) : BitVec 1 :=
  let arg0 : BitVec 32 := BitVec.ofNat 32 (i 0).val
  let c1_i32_19 : BitVec 32 := 1#32
  let v58 : BitVec 1 := Scalar.cmpi .sge arg0 c1_i32_19
  let c192_i32_20 : BitVec 32 := 192#32
  let v59 : BitVec 1 := Scalar.cmpi .sle arg0 c192_i32_20
  let v60 : BitVec 1 := Scalar.andi v58 v59
  let v61 : BitVec 32 := Scalar.extui v60
  let c0_i32_21 : BitVec 32 := 0#32
  let v62 : BitVec 1 := Scalar.cmpi .ne v61 c0_i32_21
  v62

def k1_off801 (i : grid1.Coords) : Fin 1 → Nat :=
  let c1_i32_22 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v63 : BitVec 32 := Scalar.subi c1_i32_22 v9
  ![v63.toNat]
def k1_off802 (i : grid1.Coords) : Fin 3 → Nat :=
  let c1_i32_22 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v63 : BitVec 32 := Scalar.subi c1_i32_22 v9
  let c0_i32_23 : BitVec 32 := 0#32
  let c0_i32_24 : BitVec 32 := 0#32
  ![v63.toNat, 0, 0]
def k1_mult1 (i : grid1.Coords) : BitVec 32 :=
  let arg0 : BitVec 32 := BitVec.ofNat 32 (i 0).val
  let c1_i32_30 : BitVec 32 := 1#32
  let v72 : BitVec 32 := Scalar.subi arg0 c1_i32_30
  let c2_i32_31 : BitVec 32 := 2#32
  let v73 : BitVec 32 := Scalar.muli v72 c2_i32_31
  let c0_i32_32 : BitVec 32 := 0#32
  let v74 : BitVec 32 := Scalar.addi v73 c0_i32_32
  let c0_i32_33 : BitVec 32 := 0#32
  let v76 : BitVec 1 := Scalar.cmpi .sgt v74 c0_i32_33
  let v77 : BitVec 32 := Scalar.extui v76
  let c0_i32_34 : BitVec 32 := 0#32
  let v78 : BitVec 1 := Scalar.cmpi .slt v74 c0_i32_34
  let v79 : BitVec 32 := Scalar.extui v78
  let v80 : BitVec 32 := Scalar.subi v77 v79
  let c8_i32 : BitVec 32 := 8#32
  let c0_i32_35 : BitVec 32 := 0#32
  let v81 : BitVec 1 := Scalar.cmpi .sgt c8_i32 c0_i32_35
  let v82 : BitVec 32 := Scalar.extui v81
  let c0_i32_36 : BitVec 32 := 0#32
  let v83 : BitVec 1 := Scalar.cmpi .slt c8_i32 c0_i32_36
  let v84 : BitVec 32 := Scalar.extui v83
  let v85 : BitVec 32 := Scalar.subi v82 v84
  let v86 : BitVec 1 := Scalar.cmpi .ne v80 v85
  let v87 : BitVec 32 := Scalar.remsi v74 c8_i32
  let c0_i32_37 : BitVec 32 := 0#32
  let v88 : BitVec 1 := Scalar.cmpi .ne v87 c0_i32_37
  let v89 : BitVec 1 := Scalar.andi v86 v88
  let v75 : BitVec 32 := Scalar.divsi v74 c8_i32
  let c1_i32_38 : BitVec 32 := 1#32
  let v90 : BitVec 32 := Scalar.subi v75 c1_i32_38
  let v91 : BitVec 32 := Scalar.select v89 v90 v75
  let c8_i32_39 : BitVec 32 := 8#32
  let v92 : BitVec 32 := Scalar.muli v91 c8_i32_39
  v92
def k1_off803 (i : grid1.Coords) : Fin 3 → Nat :=
  let c1_i32_22 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v63 : BitVec 32 := Scalar.subi c1_i32_22 v9
  let v95 : Index := Scalar.indexCast v63
  let c0_41 : Index := 0#32
  let c0_42 : Index := 0#32
  ![v95.toNat, 0, 0]
def k1_off804 (i : grid1.Coords) : Fin 3 → Nat :=
  let c1_i32_22 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v63 : BitVec 32 := Scalar.subi c1_i32_22 v9
  let v98 : Index := Scalar.indexCast v63
  let c0_43 : Index := 0#32
  let c0_44 : Index := 0#32
  ![v98.toNat, 0, 0]
def k1_off805 (i : grid1.Coords) (c0_i32_32 : BitVec 32) : Fin 2 → Nat :=
  let arg0 : BitVec 32 := BitVec.ofNat 32 (i 0).val
  let c1_i32_30 : BitVec 32 := 1#32
  let v72 : BitVec 32 := Scalar.subi arg0 c1_i32_30
  let c2_i32_31 : BitVec 32 := 2#32
  let v73 : BitVec 32 := Scalar.muli v72 c2_i32_31
  let v74 : BitVec 32 := Scalar.addi v73 c0_i32_32
  let c0_i32_33 : BitVec 32 := 0#32
  let v76 : BitVec 1 := Scalar.cmpi .sgt v74 c0_i32_33
  let v77 : BitVec 32 := Scalar.extui v76
  let c0_i32_34 : BitVec 32 := 0#32
  let v78 : BitVec 1 := Scalar.cmpi .slt v74 c0_i32_34
  let v79 : BitVec 32 := Scalar.extui v78
  let v80 : BitVec 32 := Scalar.subi v77 v79
  let c8_i32 : BitVec 32 := 8#32
  let c0_i32_35 : BitVec 32 := 0#32
  let v81 : BitVec 1 := Scalar.cmpi .sgt c8_i32 c0_i32_35
  let v82 : BitVec 32 := Scalar.extui v81
  let c0_i32_36 : BitVec 32 := 0#32
  let v83 : BitVec 1 := Scalar.cmpi .slt c8_i32 c0_i32_36
  let v84 : BitVec 32 := Scalar.extui v83
  let v85 : BitVec 32 := Scalar.subi v82 v84
  let v86 : BitVec 1 := Scalar.cmpi .ne v80 v85
  let v87 : BitVec 32 := Scalar.remsi v74 c8_i32
  let c0_i32_37 : BitVec 32 := 0#32
  let v88 : BitVec 1 := Scalar.cmpi .ne v87 c0_i32_37
  let v89 : BitVec 1 := Scalar.andi v86 v88
  let v75 : BitVec 32 := Scalar.divsi v74 c8_i32
  let c1_i32_38 : BitVec 32 := 1#32
  let v90 : BitVec 32 := Scalar.subi v75 c1_i32_38
  let v91 : BitVec 32 := Scalar.select v89 v90 v75
  let c8_i32_39 : BitVec 32 := 8#32
  let v92 : BitVec 32 := Scalar.muli v91 c8_i32_39
  let v93 : BitVec 32 := v92
  let v105 : Index := Scalar.indexCast v93
  let c0_45 : Index := 0#32
  ![v105.toNat, 0]
def k1_off806 (i : grid1.Coords) : Fin 3 → Nat :=
  let c1_i32_22 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v63 : BitVec 32 := Scalar.subi c1_i32_22 v9
  let v128 : Index := Scalar.indexCast v63
  let c0_54 : Index := 0#32
  let c128 : Index := 128#32
  ![v128.toNat, 0, 128]
def k1_off807 (i : grid1.Coords) (c0_i32_32 : BitVec 32) : Fin 2 → Nat :=
  let arg0 : BitVec 32 := BitVec.ofNat 32 (i 0).val
  let c1_i32_30 : BitVec 32 := 1#32
  let v72 : BitVec 32 := Scalar.subi arg0 c1_i32_30
  let c2_i32_31 : BitVec 32 := 2#32
  let v73 : BitVec 32 := Scalar.muli v72 c2_i32_31
  let v74 : BitVec 32 := Scalar.addi v73 c0_i32_32
  let c0_i32_33 : BitVec 32 := 0#32
  let v76 : BitVec 1 := Scalar.cmpi .sgt v74 c0_i32_33
  let v77 : BitVec 32 := Scalar.extui v76
  let c0_i32_34 : BitVec 32 := 0#32
  let v78 : BitVec 1 := Scalar.cmpi .slt v74 c0_i32_34
  let v79 : BitVec 32 := Scalar.extui v78
  let v80 : BitVec 32 := Scalar.subi v77 v79
  let c8_i32 : BitVec 32 := 8#32
  let c0_i32_35 : BitVec 32 := 0#32
  let v81 : BitVec 1 := Scalar.cmpi .sgt c8_i32 c0_i32_35
  let v82 : BitVec 32 := Scalar.extui v81
  let c0_i32_36 : BitVec 32 := 0#32
  let v83 : BitVec 1 := Scalar.cmpi .slt c8_i32 c0_i32_36
  let v84 : BitVec 32 := Scalar.extui v83
  let v85 : BitVec 32 := Scalar.subi v82 v84
  let v86 : BitVec 1 := Scalar.cmpi .ne v80 v85
  let v87 : BitVec 32 := Scalar.remsi v74 c8_i32
  let c0_i32_37 : BitVec 32 := 0#32
  let v88 : BitVec 1 := Scalar.cmpi .ne v87 c0_i32_37
  let v89 : BitVec 1 := Scalar.andi v86 v88
  let v75 : BitVec 32 := Scalar.divsi v74 c8_i32
  let c1_i32_38 : BitVec 32 := 1#32
  let v90 : BitVec 32 := Scalar.subi v75 c1_i32_38
  let v91 : BitVec 32 := Scalar.select v89 v90 v75
  let c8_i32_39 : BitVec 32 := 8#32
  let v92 : BitVec 32 := Scalar.muli v91 c8_i32_39
  let v93 : BitVec 32 := v92
  let v135 : Index := Scalar.indexCast v93
  let c128_56 : Index := 128#32
  ![v135.toNat, 128]
def k1_off808 (i : grid1.Coords) : Fin 3 → Nat :=
  let c1_i32_22 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v63 : BitVec 32 := Scalar.subi c1_i32_22 v9
  let v158 : Index := Scalar.indexCast v63
  let c0_65 : Index := 0#32
  let c256 : Index := 256#32
  ![v158.toNat, 0, 256]
def k1_off809 (i : grid1.Coords) (c0_i32_32 : BitVec 32) : Fin 2 → Nat :=
  let arg0 : BitVec 32 := BitVec.ofNat 32 (i 0).val
  let c1_i32_30 : BitVec 32 := 1#32
  let v72 : BitVec 32 := Scalar.subi arg0 c1_i32_30
  let c2_i32_31 : BitVec 32 := 2#32
  let v73 : BitVec 32 := Scalar.muli v72 c2_i32_31
  let v74 : BitVec 32 := Scalar.addi v73 c0_i32_32
  let c0_i32_33 : BitVec 32 := 0#32
  let v76 : BitVec 1 := Scalar.cmpi .sgt v74 c0_i32_33
  let v77 : BitVec 32 := Scalar.extui v76
  let c0_i32_34 : BitVec 32 := 0#32
  let v78 : BitVec 1 := Scalar.cmpi .slt v74 c0_i32_34
  let v79 : BitVec 32 := Scalar.extui v78
  let v80 : BitVec 32 := Scalar.subi v77 v79
  let c8_i32 : BitVec 32 := 8#32
  let c0_i32_35 : BitVec 32 := 0#32
  let v81 : BitVec 1 := Scalar.cmpi .sgt c8_i32 c0_i32_35
  let v82 : BitVec 32 := Scalar.extui v81
  let c0_i32_36 : BitVec 32 := 0#32
  let v83 : BitVec 1 := Scalar.cmpi .slt c8_i32 c0_i32_36
  let v84 : BitVec 32 := Scalar.extui v83
  let v85 : BitVec 32 := Scalar.subi v82 v84
  let v86 : BitVec 1 := Scalar.cmpi .ne v80 v85
  let v87 : BitVec 32 := Scalar.remsi v74 c8_i32
  let c0_i32_37 : BitVec 32 := 0#32
  let v88 : BitVec 1 := Scalar.cmpi .ne v87 c0_i32_37
  let v89 : BitVec 1 := Scalar.andi v86 v88
  let v75 : BitVec 32 := Scalar.divsi v74 c8_i32
  let c1_i32_38 : BitVec 32 := 1#32
  let v90 : BitVec 32 := Scalar.subi v75 c1_i32_38
  let v91 : BitVec 32 := Scalar.select v89 v90 v75
  let c8_i32_39 : BitVec 32 := 8#32
  let v92 : BitVec 32 := Scalar.muli v91 c8_i32_39
  let v93 : BitVec 32 := v92
  let v165 : Index := Scalar.indexCast v93
  let c256_67 : Index := 256#32
  ![v165.toNat, 256]
def k1_off810 (i : grid1.Coords) : Fin 3 → Nat :=
  let c1_i32_22 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v63 : BitVec 32 := Scalar.subi c1_i32_22 v9
  let v188 : Index := Scalar.indexCast v63
  let c0_76 : Index := 0#32
  let c384 : Index := 384#32
  ![v188.toNat, 0, 384]
def k1_off811 (i : grid1.Coords) (c0_i32_32 : BitVec 32) : Fin 2 → Nat :=
  let arg0 : BitVec 32 := BitVec.ofNat 32 (i 0).val
  let c1_i32_30 : BitVec 32 := 1#32
  let v72 : BitVec 32 := Scalar.subi arg0 c1_i32_30
  let c2_i32_31 : BitVec 32 := 2#32
  let v73 : BitVec 32 := Scalar.muli v72 c2_i32_31
  let v74 : BitVec 32 := Scalar.addi v73 c0_i32_32
  let c0_i32_33 : BitVec 32 := 0#32
  let v76 : BitVec 1 := Scalar.cmpi .sgt v74 c0_i32_33
  let v77 : BitVec 32 := Scalar.extui v76
  let c0_i32_34 : BitVec 32 := 0#32
  let v78 : BitVec 1 := Scalar.cmpi .slt v74 c0_i32_34
  let v79 : BitVec 32 := Scalar.extui v78
  let v80 : BitVec 32 := Scalar.subi v77 v79
  let c8_i32 : BitVec 32 := 8#32
  let c0_i32_35 : BitVec 32 := 0#32
  let v81 : BitVec 1 := Scalar.cmpi .sgt c8_i32 c0_i32_35
  let v82 : BitVec 32 := Scalar.extui v81
  let c0_i32_36 : BitVec 32 := 0#32
  let v83 : BitVec 1 := Scalar.cmpi .slt c8_i32 c0_i32_36
  let v84 : BitVec 32 := Scalar.extui v83
  let v85 : BitVec 32 := Scalar.subi v82 v84
  let v86 : BitVec 1 := Scalar.cmpi .ne v80 v85
  let v87 : BitVec 32 := Scalar.remsi v74 c8_i32
  let c0_i32_37 : BitVec 32 := 0#32
  let v88 : BitVec 1 := Scalar.cmpi .ne v87 c0_i32_37
  let v89 : BitVec 1 := Scalar.andi v86 v88
  let v75 : BitVec 32 := Scalar.divsi v74 c8_i32
  let c1_i32_38 : BitVec 32 := 1#32
  let v90 : BitVec 32 := Scalar.subi v75 c1_i32_38
  let v91 : BitVec 32 := Scalar.select v89 v90 v75
  let c8_i32_39 : BitVec 32 := 8#32
  let v92 : BitVec 32 := Scalar.muli v91 c8_i32_39
  let v93 : BitVec 32 := v92
  let v195 : Index := Scalar.indexCast v93
  let c384_78 : Index := 384#32
  ![v195.toNat, 384]
def k1_off812 (i : grid1.Coords) : Fin 3 → Nat :=
  let c1_i32_22 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v63 : BitVec 32 := Scalar.subi c1_i32_22 v9
  let v218 : Index := Scalar.indexCast v63
  let c0_87 : Index := 0#32
  let c512 : Index := 512#32
  ![v218.toNat, 0, 512]
def k1_off813 (i : grid1.Coords) (c0_i32_32 : BitVec 32) : Fin 2 → Nat :=
  let arg0 : BitVec 32 := BitVec.ofNat 32 (i 0).val
  let c1_i32_30 : BitVec 32 := 1#32
  let v72 : BitVec 32 := Scalar.subi arg0 c1_i32_30
  let c2_i32_31 : BitVec 32 := 2#32
  let v73 : BitVec 32 := Scalar.muli v72 c2_i32_31
  let v74 : BitVec 32 := Scalar.addi v73 c0_i32_32
  let c0_i32_33 : BitVec 32 := 0#32
  let v76 : BitVec 1 := Scalar.cmpi .sgt v74 c0_i32_33
  let v77 : BitVec 32 := Scalar.extui v76
  let c0_i32_34 : BitVec 32 := 0#32
  let v78 : BitVec 1 := Scalar.cmpi .slt v74 c0_i32_34
  let v79 : BitVec 32 := Scalar.extui v78
  let v80 : BitVec 32 := Scalar.subi v77 v79
  let c8_i32 : BitVec 32 := 8#32
  let c0_i32_35 : BitVec 32 := 0#32
  let v81 : BitVec 1 := Scalar.cmpi .sgt c8_i32 c0_i32_35
  let v82 : BitVec 32 := Scalar.extui v81
  let c0_i32_36 : BitVec 32 := 0#32
  let v83 : BitVec 1 := Scalar.cmpi .slt c8_i32 c0_i32_36
  let v84 : BitVec 32 := Scalar.extui v83
  let v85 : BitVec 32 := Scalar.subi v82 v84
  let v86 : BitVec 1 := Scalar.cmpi .ne v80 v85
  let v87 : BitVec 32 := Scalar.remsi v74 c8_i32
  let c0_i32_37 : BitVec 32 := 0#32
  let v88 : BitVec 1 := Scalar.cmpi .ne v87 c0_i32_37
  let v89 : BitVec 1 := Scalar.andi v86 v88
  let v75 : BitVec 32 := Scalar.divsi v74 c8_i32
  let c1_i32_38 : BitVec 32 := 1#32
  let v90 : BitVec 32 := Scalar.subi v75 c1_i32_38
  let v91 : BitVec 32 := Scalar.select v89 v90 v75
  let c8_i32_39 : BitVec 32 := 8#32
  let v92 : BitVec 32 := Scalar.muli v91 c8_i32_39
  let v93 : BitVec 32 := v92
  let v225 : Index := Scalar.indexCast v93
  let c512_89 : Index := 512#32
  ![v225.toNat, 512]
def k1_off814 (i : grid1.Coords) : Fin 3 → Nat :=
  let c1_i32_22 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v63 : BitVec 32 := Scalar.subi c1_i32_22 v9
  let v248 : Index := Scalar.indexCast v63
  let c0_98 : Index := 0#32
  let c640 : Index := 640#32
  ![v248.toNat, 0, 640]
def k1_off815 (i : grid1.Coords) (c0_i32_32 : BitVec 32) : Fin 2 → Nat :=
  let arg0 : BitVec 32 := BitVec.ofNat 32 (i 0).val
  let c1_i32_30 : BitVec 32 := 1#32
  let v72 : BitVec 32 := Scalar.subi arg0 c1_i32_30
  let c2_i32_31 : BitVec 32 := 2#32
  let v73 : BitVec 32 := Scalar.muli v72 c2_i32_31
  let v74 : BitVec 32 := Scalar.addi v73 c0_i32_32
  let c0_i32_33 : BitVec 32 := 0#32
  let v76 : BitVec 1 := Scalar.cmpi .sgt v74 c0_i32_33
  let v77 : BitVec 32 := Scalar.extui v76
  let c0_i32_34 : BitVec 32 := 0#32
  let v78 : BitVec 1 := Scalar.cmpi .slt v74 c0_i32_34
  let v79 : BitVec 32 := Scalar.extui v78
  let v80 : BitVec 32 := Scalar.subi v77 v79
  let c8_i32 : BitVec 32 := 8#32
  let c0_i32_35 : BitVec 32 := 0#32
  let v81 : BitVec 1 := Scalar.cmpi .sgt c8_i32 c0_i32_35
  let v82 : BitVec 32 := Scalar.extui v81
  let c0_i32_36 : BitVec 32 := 0#32
  let v83 : BitVec 1 := Scalar.cmpi .slt c8_i32 c0_i32_36
  let v84 : BitVec 32 := Scalar.extui v83
  let v85 : BitVec 32 := Scalar.subi v82 v84
  let v86 : BitVec 1 := Scalar.cmpi .ne v80 v85
  let v87 : BitVec 32 := Scalar.remsi v74 c8_i32
  let c0_i32_37 : BitVec 32 := 0#32
  let v88 : BitVec 1 := Scalar.cmpi .ne v87 c0_i32_37
  let v89 : BitVec 1 := Scalar.andi v86 v88
  let v75 : BitVec 32 := Scalar.divsi v74 c8_i32
  let c1_i32_38 : BitVec 32 := 1#32
  let v90 : BitVec 32 := Scalar.subi v75 c1_i32_38
  let v91 : BitVec 32 := Scalar.select v89 v90 v75
  let c8_i32_39 : BitVec 32 := 8#32
  let v92 : BitVec 32 := Scalar.muli v91 c8_i32_39
  let v93 : BitVec 32 := v92
  let v255 : Index := Scalar.indexCast v93
  let c640_100 : Index := 640#32
  ![v255.toNat, 640]
def k1_off816 (i : grid1.Coords) (c0_i32_32 : BitVec 32) : Fin 2 → Nat :=
  let arg0 : BitVec 32 := BitVec.ofNat 32 (i 0).val
  let c1_i32_30 : BitVec 32 := 1#32
  let v72 : BitVec 32 := Scalar.subi arg0 c1_i32_30
  let c2_i32_31 : BitVec 32 := 2#32
  let v73 : BitVec 32 := Scalar.muli v72 c2_i32_31
  let v74 : BitVec 32 := Scalar.addi v73 c0_i32_32
  let c0_i32_33 : BitVec 32 := 0#32
  let v76 : BitVec 1 := Scalar.cmpi .sgt v74 c0_i32_33
  let v77 : BitVec 32 := Scalar.extui v76
  let c0_i32_34 : BitVec 32 := 0#32
  let v78 : BitVec 1 := Scalar.cmpi .slt v74 c0_i32_34
  let v79 : BitVec 32 := Scalar.extui v78
  let v80 : BitVec 32 := Scalar.subi v77 v79
  let c8_i32 : BitVec 32 := 8#32
  let c0_i32_35 : BitVec 32 := 0#32
  let v81 : BitVec 1 := Scalar.cmpi .sgt c8_i32 c0_i32_35
  let v82 : BitVec 32 := Scalar.extui v81
  let c0_i32_36 : BitVec 32 := 0#32
  let v83 : BitVec 1 := Scalar.cmpi .slt c8_i32 c0_i32_36
  let v84 : BitVec 32 := Scalar.extui v83
  let v85 : BitVec 32 := Scalar.subi v82 v84
  let v86 : BitVec 1 := Scalar.cmpi .ne v80 v85
  let v87 : BitVec 32 := Scalar.remsi v74 c8_i32
  let c0_i32_37 : BitVec 32 := 0#32
  let v88 : BitVec 1 := Scalar.cmpi .ne v87 c0_i32_37
  let v89 : BitVec 1 := Scalar.andi v86 v88
  let v75 : BitVec 32 := Scalar.divsi v74 c8_i32
  let c1_i32_38 : BitVec 32 := 1#32
  let v90 : BitVec 32 := Scalar.subi v75 c1_i32_38
  let v91 : BitVec 32 := Scalar.select v89 v90 v75
  let c8_i32_39 : BitVec 32 := 8#32
  let v92 : BitVec 32 := Scalar.muli v91 c8_i32_39
  let v93 : BitVec 32 := v92
  let v280 : Index := Scalar.indexCast v93
  let c0_110 : Index := 0#32
  ![v280.toNat, 0]
def k1_mult2 (i : grid1.Coords) : BitVec 32 :=
  let arg0 : BitVec 32 := BitVec.ofNat 32 (i 0).val
  let c1_i32_135 : BitVec 32 := 1#32
  let v342 : BitVec 32 := Scalar.subi arg0 c1_i32_135
  let c2_i32_136 : BitVec 32 := 2#32
  let v343 : BitVec 32 := Scalar.muli v342 c2_i32_136
  let c1_i32_137 : BitVec 32 := 1#32
  let v344 : BitVec 32 := Scalar.addi v343 c1_i32_137
  let c0_i32_139 : BitVec 32 := 0#32
  let v346 : BitVec 1 := Scalar.cmpi .sgt v344 c0_i32_139
  let v347 : BitVec 32 := Scalar.extui v346
  let c0_i32_140 : BitVec 32 := 0#32
  let v348 : BitVec 1 := Scalar.cmpi .slt v344 c0_i32_140
  let v349 : BitVec 32 := Scalar.extui v348
  let v350 : BitVec 32 := Scalar.subi v347 v349
  let c8_i32_138 : BitVec 32 := 8#32
  let c0_i32_141 : BitVec 32 := 0#32
  let v351 : BitVec 1 := Scalar.cmpi .sgt c8_i32_138 c0_i32_141
  let v352 : BitVec 32 := Scalar.extui v351
  let c0_i32_142 : BitVec 32 := 0#32
  let v353 : BitVec 1 := Scalar.cmpi .slt c8_i32_138 c0_i32_142
  let v354 : BitVec 32 := Scalar.extui v353
  let v355 : BitVec 32 := Scalar.subi v352 v354
  let v356 : BitVec 1 := Scalar.cmpi .ne v350 v355
  let v357 : BitVec 32 := Scalar.remsi v344 c8_i32_138
  let c0_i32_143 : BitVec 32 := 0#32
  let v358 : BitVec 1 := Scalar.cmpi .ne v357 c0_i32_143
  let v359 : BitVec 1 := Scalar.andi v356 v358
  let v345 : BitVec 32 := Scalar.divsi v344 c8_i32_138
  let c1_i32_144 : BitVec 32 := 1#32
  let v360 : BitVec 32 := Scalar.subi v345 c1_i32_144
  let v361 : BitVec 32 := Scalar.select v359 v360 v345
  let c8_i32_145 : BitVec 32 := 8#32
  let v362 : BitVec 32 := Scalar.muli v361 c8_i32_145
  v362
def k1_off817 (i : grid1.Coords) : Fin 3 → Nat :=
  let c1_i32_22 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v63 : BitVec 32 := Scalar.subi c1_i32_22 v9
  let v365 : Index := Scalar.indexCast v63
  let c104 : Index := 104#32
  let c0_147 : Index := 0#32
  ![v365.toNat, 104, 0]
def k1_off818 (i : grid1.Coords) : Fin 3 → Nat :=
  let c1_i32_22 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v63 : BitVec 32 := Scalar.subi c1_i32_22 v9
  let v368 : Index := Scalar.indexCast v63
  let c104_148 : Index := 104#32
  let c0_149 : Index := 0#32
  ![v368.toNat, 104, 0]
def k1_off819 (i : grid1.Coords) : Fin 3 → Nat :=
  let c1_i32_22 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v63 : BitVec 32 := Scalar.subi c1_i32_22 v9
  let v398 : Index := Scalar.indexCast v63
  let c104_160 : Index := 104#32
  let c128_161 : Index := 128#32
  ![v398.toNat, 104, 128]
def k1_off820 (i : grid1.Coords) : Fin 3 → Nat :=
  let c1_i32_22 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v63 : BitVec 32 := Scalar.subi c1_i32_22 v9
  let v428 : Index := Scalar.indexCast v63
  let c104_172 : Index := 104#32
  let c256_173 : Index := 256#32
  ![v428.toNat, 104, 256]
def k1_off821 (i : grid1.Coords) : Fin 3 → Nat :=
  let c1_i32_22 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v63 : BitVec 32 := Scalar.subi c1_i32_22 v9
  let v458 : Index := Scalar.indexCast v63
  let c104_184 : Index := 104#32
  let c384_185 : Index := 384#32
  ![v458.toNat, 104, 384]
def k1_off822 (i : grid1.Coords) : Fin 3 → Nat :=
  let c1_i32_22 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v63 : BitVec 32 := Scalar.subi c1_i32_22 v9
  let v488 : Index := Scalar.indexCast v63
  let c104_196 : Index := 104#32
  let c512_197 : Index := 512#32
  ![v488.toNat, 104, 512]
def k1_off823 (i : grid1.Coords) : Fin 3 → Nat :=
  let c1_i32_22 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v63 : BitVec 32 := Scalar.subi c1_i32_22 v9
  let v518 : Index := Scalar.indexCast v63
  let c104_208 : Index := 104#32
  let c640_209 : Index := 640#32
  ![v518.toNat, 104, 640]
def cc1_transform_0 (i : grid1.Coords) : Fin 3 → Nat :=
  let arg0 : BitVec 32 := BitVec.ofNat 32 (i 0).val
  let c191_i32 : BitVec 32 := 191#32
  let v0 : BitVec 32 := Scalar.minsi arg0 c191_i32
  let c0_i32 : BitVec 32 := 0#32
  let c0_i32_0 : BitVec 32 := 0#32
  let c0_i32_1 : BitVec 32 := 0#32
  ![v0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  ![arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_10 (i : grid1.Coords) : Fin 3 → Nat :=
  let arg0 : BitVec 32 := BitVec.ofNat 32 (i 0).val
  let c1_i32 : BitVec 32 := 1#32
  let v0 : BitVec 32 := Scalar.subi arg0 c1_i32
  let c64_i32 : BitVec 32 := 64#32
  let v1 : BitVec 32 := Scalar.divsi v0 c64_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c64_i32 c0_i32_1
  let v8 : BitVec 32 := Scalar.extui v7
  let c0_i32_2 : BitVec 32 := 0#32
  let v9 : BitVec 1 := Scalar.cmpi .slt c64_i32 c0_i32_2
  let v10 : BitVec 32 := Scalar.extui v9
  let v11 : BitVec 32 := Scalar.subi v8 v10
  let v12 : BitVec 1 := Scalar.cmpi .ne v6 v11
  let v13 : BitVec 32 := Scalar.remsi v0 c64_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  let c2_i32 : BitVec 32 := 2#32
  let v18 : BitVec 32 := Scalar.maxsi c0_i32_5 v17
  let v19 : BitVec 32 := Scalar.minsi c2_i32 v18
  let c0_i32_6 : BitVec 32 := 0#32
  let c0_i32_7 : BitVec 32 := 0#32
  let c0_i32_8 : BitVec 32 := 0#32
  ![v19.toNat, c0_i32_6.toNat, c0_i32_7.toNat]

abbrev stage1_0 : Fin 2 → Memref sig .tc .smem S1x1x200 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S384x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x384 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S384x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S384x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S384x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S384x768 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S384x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x104x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== ReferenceIdeal.lean ====
abbrev S3x128x768 : Shape := ⟨3, ![3, 128, 768]⟩
abbrev S768 : Shape := ⟨1, ![768]⟩
abbrev S400000x384 : Shape := ⟨2, ![400000, 384]⟩
abbrev S400000 : Shape := ⟨1, ![400000]⟩
abbrev S400000x768 : Shape := ⟨2, ![400000, 768]⟩
abbrev S3x128x100 : Shape := ⟨3, ![3, 128, 100]⟩
abbrev S_ : Shape := ⟨0, ![]⟩
abbrev S3x128 : Shape := ⟨2, ![3, 128]⟩
abbrev S3x128x1 : Shape := ⟨3, ![3, 128, 1]⟩
abbrev S3x128x384 : Shape := ⟨3, ![3, 128, 384]⟩
abbrev S3x128x400000 : Shape := ⟨3, ![3, 128, 400000]⟩
abbrev S1x1x400000 : Shape := ⟨3, ![1, 1, 400000]⟩
abbrev S384x400000 : Shape := ⟨2, ![384, 400000]⟩
abbrev S384x768 : Shape := ⟨2, ![384, 768]⟩
abbrev S384x1 : Shape := ⟨2, ![384, 1]⟩

abbrev nBuf : Space → Nat
  | .hbm => 80
  | .vmem => 0
  | .smem => 0
  | _ => 0

abbrev bufTy : (tb : Table) → Fin (tcTables nBuf tb) → BufTy
  | .hbm, ⟨0, _⟩ => ⟨S3x128x768, .bf16⟩
  | .hbm, ⟨1, _⟩ => ⟨S768, .f32⟩
  | .hbm, ⟨2, _⟩ => ⟨S400000x384, .i8⟩
  | .hbm, ⟨3, _⟩ => ⟨S400000, .i16⟩
  | .hbm, ⟨4, _⟩ => ⟨S400000, .i16⟩
  | .hbm, ⟨5, _⟩ => ⟨S400000x768, .i8⟩
  | .hbm, ⟨6, _⟩ => ⟨S3x128x100, .i32⟩
  | .hbm, ⟨7, _⟩ => ⟨S3x128x768, .f32⟩
  | .hbm, ⟨8, _⟩ => ⟨S3x128x768, .f32⟩
  | .hbm, ⟨9, _⟩ => ⟨S_, .f32⟩
  | .hbm, ⟨10, _⟩ => ⟨S3x128, .f32⟩
  | .hbm, ⟨11, _⟩ => ⟨S_, .f32⟩
  | .hbm, ⟨12, _⟩ => ⟨S3x128, .f32⟩
  | .hbm, ⟨13, _⟩ => ⟨S3x128, .i1⟩
  | .hbm, ⟨14, _⟩ => ⟨S_, .f32⟩
  | .hbm, ⟨15, _⟩ => ⟨S3x128, .f32⟩
  | .hbm, ⟨16, _⟩ => ⟨S3x128, .f32⟩
  | .hbm, ⟨17, _⟩ => ⟨S_, .f32⟩
  | .hbm, ⟨18, _⟩ => ⟨S3x128, .f32⟩
  | .hbm, ⟨19, _⟩ => ⟨S3x128, .f32⟩
  | .hbm, ⟨20, _⟩ => ⟨S3x128x1, .f32⟩
  | .hbm, ⟨21, _⟩ => ⟨S3x128x768, .f32⟩
  | .hbm, ⟨22, _⟩ => ⟨S3x128x768, .f32⟩
  | .hbm, ⟨23, _⟩ => ⟨S3x128x768, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S3x128x768, .f32⟩
  | .hbm, ⟨28, _⟩ => ⟨S3x128x768, .f32⟩
  | .hbm, ⟨29, _⟩ => ⟨S_, .f32⟩
  | .hbm, ⟨30, _⟩ => ⟨S3x128x768, .f32⟩
  | .hbm, ⟨31, _⟩ => ⟨S3x128x768, .f32⟩
  | .hbm, ⟨32, _⟩ => ⟨S3x128x768, .i32⟩
  | .hbm, ⟨33, _⟩ => ⟨S3x128x768, .i8⟩
  | .hbm, ⟨34, _⟩ => ⟨S3x128x768, .i32⟩
  | .hbm, ⟨35, _⟩ => ⟨S3x128x768, .f32⟩
  | .hbm, ⟨36, _⟩ => ⟨S_, .f32⟩
  | .hbm, ⟨37, _⟩ => ⟨S3x128, .f32⟩
  | .hbm, ⟨38, _⟩ => ⟨S3x128, .f32⟩
  | .hbm, ⟨39, _⟩ => ⟨S3x128, .f32⟩
  | .hbm, ⟨40, _⟩ => ⟨S3x128, .f32⟩
  | .hbm, ⟨41, _⟩ => ⟨S400000x384, .i32⟩
  | .hbm, ⟨42, _⟩ => ⟨S_, .i32⟩
  | .hbm, ⟨43, _⟩ => ⟨S400000x384, .i32⟩
  | .hbm, ⟨44, _⟩ => ⟨S400000x384, .i32⟩
  | .hbm, ⟨45, _⟩ => ⟨S400000x384, .f32⟩
  | .hbm, ⟨46, _⟩ => ⟨S400000x384, .bf16⟩
  | .hbm, ⟨47, _⟩ => ⟨S_, .i32⟩
  | .hbm, ⟨48, _⟩ => ⟨S400000x384, .i32⟩
  | .hbm, ⟨49, _⟩ => ⟨S400000x384, .i32⟩
  | .hbm, ⟨50, _⟩ => ⟨S400000x384, .f32⟩
  | .hbm, ⟨51, _⟩ => ⟨S400000x384, .bf16⟩
  | .hbm, ⟨52, _⟩ => ⟨S3x128x768, .bf16⟩
  | .hbm, ⟨53, _⟩ => ⟨S3x128x384, .bf16⟩
  | .hbm, ⟨54, _⟩ => ⟨S3x128x400000, .f32⟩
  | .hbm, ⟨55, _⟩ => ⟨S3x128x384, .bf16⟩
  | .hbm, ⟨56, _⟩ => ⟨S3x128x400000, .f32⟩
  | .hbm, ⟨57, _⟩ => ⟨S400000, .bf16⟩
  | .hbm, ⟨58, _⟩ => ⟨S400000, .f32⟩
  | .hbm, ⟨59, _⟩ => ⟨S400000, .bf16⟩
  | .hbm, ⟨60, _⟩ => ⟨S400000, .f32⟩
  | .hbm, ⟨61, _⟩ => ⟨S3x128x1, .f32⟩
  | .hbm, ⟨62, _⟩ => ⟨S3x128x1, .f32⟩
  | .hbm, ⟨63, _⟩ => ⟨S1x1x400000, .f32⟩
  | .hbm, ⟨64, _⟩ => ⟨S3x128x400000, .f32⟩
  | .hbm, ⟨65, _⟩ => ⟨S3x128x400000, .f32⟩
  | .hbm, ⟨66, _⟩ => ⟨S3x128x400000, .f32⟩
  | .hbm, ⟨67, _⟩ => ⟨S3x128x400000, .f32⟩
  | .hbm, ⟨68, _⟩ => ⟨S3x128x400000, .f32⟩
  | .hbm, ⟨69, _⟩ => ⟨S3x128x1, .f32⟩
  | .hbm, ⟨70, _⟩ => ⟨S3x128x400000, .f32⟩
  | .hbm, ⟨71, _⟩ => ⟨S3x128x400000, .f32⟩
  | .hbm, ⟨72, _⟩ => ⟨S3x128x400000, .f32⟩
  | .hbm, ⟨73, _⟩ => ⟨S1x1x400000, .f32⟩
  | .hbm, ⟨74, _⟩ => ⟨S3x128x400000, .f32⟩
  | .hbm, ⟨75, _⟩ => ⟨S3x128x400000, .f32⟩
  | .hbm, ⟨76, _⟩ => ⟨S3x128x400000, .f32⟩
  | .hbm, ⟨77, _⟩ => ⟨S384x400000, .f32⟩
  | .hbm, ⟨78, _⟩ => ⟨S384x768, .i8⟩
  | .hbm, ⟨79, _⟩ => ⟨S384x1, .f32⟩
  | _, _ => ⟨S3x128x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_cst_4 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== Proof.InRange.lean ====
/- The precondition, element by element. -/
module

public import proofs.«01_k».proof.Proof.Gen.Pre_in_range
public import Idealize.ShloMosaic.Lib.ReduceAll

@[expose] public section

noncomputable section

open Idealize.ShloMosaic

namespace Cert.Proof

open Cert.Pre_in_range Cert.Pre_in_range.Gen

/-- Where the precondition holds every candidate is the number of a vector. -/
theorem candidate_lt {F : FTy → Type} [FloatOps F] (a0 : FVec F S3x128x768 .bf16) (a1 : FVec F S768 .f32) (a2 : IVec S400000x384 8) (a3 a4 : IVec S400000 16)
    (a5 : IVec S400000x768 8) (a6 : IVec S3x128x100 32) (h : Cert.Pre_in_range.fn (F := F) a0 a1 a2 a3 a4 a5 a6 = fun _ => 1#1) (i : S3x128x100.Idx) :
    (a6 i).toNat < 400000 := by
  have : Subsingleton S_.Idx := ⟨fun a b => funext fun x => x.elim0⟩
  have e := Host.reduce_andi_all _ _ _ _ (fun x => x.elim0) (congrFun h fun x => x.elim0) i
  have e' : IntOp.andi (BitVec.ofBool ((0#32).sle (a6 i))) (BitVec.ofBool ((a6 i).slt 400000#32)) = 1#1 := e
  generalize a6 i = w at e' ⊢
  have hb : ((0#32).sle w && w.slt 400000#32) = true := by
    revert e'
    cases (0#32).sle w <;> cases w.slt 400000#32 <;> decide
  rw [Bool.and_eq_true, BitVec.sle_iff_toInt_le, BitVec.slt_iff_toInt_lt] at hb
  have h0 : (0#32 : BitVec 32).toInt = 0 := by decide
  have h4 : (400000#32 : BitVec 32).toInt = 400000 := by decide
  rw [h0, h4, BitVec.toInt_eq_toNat_cond] at hb
  have := w.isLt
  split at hb <;> omega

end Cert.Proof

end

end
-- ==== Proof.Bits.Steps.lean ====
/-
  The dense call keeps two scratch arrays of candidate rows, one per parity of the grid point. At a grid point it
  issues two hundred row transfers into one slot, all completing on that slot's semaphore, and drains the other slot
  by a single wait. This file states what is held while the transfers are being issued and how each kind of step of
  the body carries it on.
-/
module

public import proofs.«01_k».proof.Proof.Gen.Kernel.Skeleton
public import Idealize.ShloMosaic.Lib.Batch
public import Idealize.ShloMosaic.Lib.Tactic
public import Idealize.ShloMosaic.Lib.Pipeline.Kit

@[expose] public section

set_option maxRecDepth 16384

noncomputable section

namespace Cert.Kernel.Dense

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The algebra: the pipelines' rounds beside the counters the transfers take their tokens from. -/
abbrev UU : Type := UR sig nD τ × Counters

local notation "𝕄" => MT nD τ sig Unit (Elt F) ℕ UU ℕ

/-- The assertions. -/
abbrev Assn (F : FTy → Type) := sProp (MT nD τ sig Unit (Elt F) ℕ UU ℕ)

/-- The counters' part of the algebra. -/
abbrev EC : UEmb Counters (MT nD τ sig Unit (Elt F) ℕ UU ℕ) := countersEmb (U := UU)

/-- A program of core `c` run with nothing pending. -/
abbrev wpc (c : Dev nD) {α : Type} (p : Prog (TpuEff nD τ sig (Elt F) Λ₀ .tc) α) (Q : α → Assn F) : Assn F :=
  wp frame (wpE (defs₀ (F := F)) Variants.none (c : Thread nD τ) none) Set.univ p Q

/-- The two scratch arrays, the packed rows they are filled from, and their locations on core `c`. -/
abbrev rowsM : Memref sig .tc .vmem S2x208x768 .i32 := Memref.whole cc1_scratch0
abbrev shiftM : Memref sig .tc .vmem S2x208x128 .i32 := Memref.whole cc1_scratch1
abbrev srcM : Memref sig .tc .hbm S100000x768 .i32 := Memref.whole main_v11

abbrev rowsL (c : Dev nD) : Loc nD τ sig := rowsM.view.loc (c : Thread nD τ)
abbrev shiftL (c : Dev nD) : Loc nD τ sig := shiftM.view.loc (c : Thread nD τ)
abbrev srcL (c : Dev nD) : Loc nD τ sig := srcM.view.loc (c : Thread nD τ)

/-- The slot a grid point fills, as the body computes it. -/
def slotN (i : grid1.Coords) : ℕ := k1_off1 i 0

/-- The row of its slot that transfer `k` of a point fills: two groups of a hundred, the second from row 104. -/
def rowOf (k : ℕ) : ℕ := if k < 100 then k else k + 4

/-- Row `r` of slot `s`, as a set of elements of the scratch. -/
def rowSet (s r : ℕ) : Finset S2x208x768.Idx := Finset.univ.filter fun x => (x 0).val = s ∧ (x 1).val = r

/-- The rows of slot `s` that the first `k` transfers fill. -/
def filled (s k : ℕ) : Finset S2x208x768.Idx := Finset.univ.filter fun x => (x 0).val = s ∧ ∃ j < k, (x 1).val = rowOf j

/-- A set of elements of the scratch, as elements of core `c`'s buffer. -/
def onRows (c : Dev nD) (T : Finset S2x208x768.Idx) : Finset (Idx (rowsL c)) := T

theorem rowOf_inj {j k : ℕ} (h : rowOf j = rowOf k) : j = k := by
  unfold rowOf at h; split_ifs at h <;> omega

theorem filled_zero (s : ℕ) : filled s 0 = ∅ := by
  ext x; simp [filled]

theorem filled_succ (s k : ℕ) : filled s (k + 1) = rowSet s (rowOf k) ∪ filled s k := by
  ext x
  simp only [filled, rowSet, Finset.mem_filter, Finset.mem_univ, true_and, Finset.mem_union]
  constructor
  · rintro ⟨h0, j, hj, h1⟩
    rcases Nat.lt_succ_iff_lt_or_eq.mp hj with h | rfl
    · exact .inr ⟨h0, j, h, h1⟩
    · exact .inl ⟨h0, h1⟩
  · rintro (⟨h0, h1⟩ | ⟨h0, j, hj, h1⟩)
    · exact ⟨h0, k, Nat.lt_succ_self k, h1⟩
    · exact ⟨h0, j, Nat.lt_succ_of_lt hj, h1⟩

theorem rowSet_disjoint_filled (s k : ℕ) : Disjoint (rowSet s (rowOf k)) (filled s k) := by
  rw [Finset.disjoint_left]
  intro x h h'
  simp only [filled, rowSet, Finset.mem_filter, Finset.mem_univ, true_and] at h h'
  obtain ⟨j, hj, e⟩ := h'.2
  have := rowOf_inj (e.symm.trans h.2)
  omega

theorem filled_eq (s n : ℕ) : filled s n = (Finset.univ : Finset (Fin n)).biUnion fun t => rowSet s (rowOf t.val) := by
  ext x
  simp only [filled, rowSet, Finset.mem_filter, Finset.mem_univ, true_and, Finset.mem_biUnion]
  constructor
  · rintro ⟨h0, j, hj, h1⟩; exact ⟨⟨j, hj⟩, h0, h1⟩
  · rintro ⟨⟨j, hj⟩, h0, h1⟩; exact ⟨h0, j, hj, h1⟩

theorem rowSet_disjoint (s : ℕ) {j k : ℕ} (h : j ≠ k) : Disjoint (rowSet s (rowOf j)) (rowSet s (rowOf k)) := by
  rw [Finset.disjoint_left]
  intro x h₁ h₂
  simp only [rowSet, Finset.mem_filter, Finset.mem_univ, true_and] at h₁ h₂
  exact h (rowOf_inj (h₁.2.symm.trans h₂.2))

/-- A candidate id that names a row of the packed array. -/
structure IdOk (v : BitVec 32) : Prop where
  lt : v.toNat < 400000

/-! ## The transfers' windows and semaphores -/

/-- The semaphore of a slot: the slot's element of the scratch semaphores. -/
theorem slot_inb (s : Fin 2) : ∀ a, (![s.val] : Fin 1 → ℕ) a + S1.size a ≤ S2.size a := by
  revert s; decide

def slotSem (s : Fin 2) : DmaSem sig :=
  ((cc1_scratch2.slice (Rect.unit (s := S2) ![s.val] S1.size (slot_inb s))).squeeze S_ squeezes_S1_S_).sem

theorem sem_eq (s : Fin 2) (off : Fin 1 → ℕ) (h : ∀ a, off a + S1.size a ≤ S2.size a) (e : off = ![s.val]) :
    ((cc1_scratch2.slice (Rect.unit (s := S2) off S1.size h)).squeeze S_ squeezes_S1_S_).sem = slotSem s := by
  subst e; rfl

/-- The window of a transfer's destination. -/
abbrev rowM (off : Fin 3 → ℕ) (h : ∀ a, off a + S1x1x768.size a ≤ S2x208x768.size a) : Memref sig .tc .vmem S1x768 .i32 :=
  (rowsM.slice (Rect.unit (s := S2x208x768) off S1x1x768.size h) (fun _ => rfl)).squeeze S1x768 squeezes_S1x1x768_S1x768

theorem mem_row (x : S2x208x768.Idx) (s r : ℕ) (h : ∀ a, (![s, r, 0] : Fin 3 → ℕ) a + S1x1x768.size a ≤ S2x208x768.size a) :
    x ∈ (Rect.unit (s := S2x208x768) ![s, r, 0] S1x1x768.size h).set ↔ x ∈ rowSet s r := by
  rw [Rect.mem_set_unit]
  simp only [rowSet, Finset.mem_filter, Finset.mem_univ, true_and]
  have h2 : (x 2).val < 768 := (x 2).isLt
  constructor
  · intro H
    have h0 : s ≤ (x 0).val ∧ (x 0).val < s + 1 := H 0
    have h1 : r ≤ (x 1).val ∧ (x 1).val < r + 1 := H 1
    omega
  · rintro ⟨h0, h1⟩ a
    fin_cases a
    · exact (show s ≤ (x 0).val ∧ (x 0).val < s + 1 by omega)
    · exact (show r ≤ (x 1).val ∧ (x 1).val < r + 1 by omega)
    · exact (show 0 ≤ (x 2).val ∧ (x 2).val < 0 + 768 by omega)

theorem rowM_set (off : Fin 3 → ℕ) (h : ∀ a, off a + S1x1x768.size a ≤ S2x208x768.size a) (s r : ℕ) (e : off = ![s, r, 0]) : (rowM off h).view.set = rowSet s r := by
  subst e
  rw [Memref.set_view_squeeze]
  refine (View.set_slice_whole _ _).trans ?_
  exact Finset.ext fun x => mem_row x s r h

/-- What a landed transfer leaves: its row, at something. -/
def landed (c : Dev nD) (s : ℕ) (t : Fin 200) : Assn F :=
  iprop(∃ f : Buf (Elt F) (rowsL c), rowsL c ↦[onRows c (rowSet s (rowOf t.val))]{fullShare} f)

omit [FloatOps F] in
theorem some_storable (ℓ : Loc nD τ sig) (T : Finset (Idx ℓ)) :
    Storable (upEmb : UEmb _ 𝕄) iprop(∃ f : Buf (Elt F) ℓ, ℓ ↦[T]{fullShare} f) := inferInstance

instance landed_storable (c : Dev nD) (s : ℕ) : ∀ t, Storable (upEmb : UEmb _ 𝕄) (landed (F := F) c s t) :=
  fun _ => some_storable _ _

theorem to_landed (c : Dev nD) (s : ℕ) (t : Fin 200) (f : Buf (Elt F) (rowsL c)) (Z : Assn F) :
    iprop((rowsL c ↦[onRows c (rowSet s (rowOf t.val))]{fullShare} f) ∗ Z) ⊢ landed c s t := by
  unfold landed
  iintro ⟨Hd, -⟩
  iexists f
  iexact Hd

/-- One transfer's credit. -/
def unitN : ℕ := (rowM ![0, 0, 0] (by decide)).view.amount (SemLoc.dma (sig := sig) (slotSem 0))

/-- Slot `s` with its first `k` transfers issued, none waited for. -/
abbrev flight (c : Dev nD) (s : Fin 2) (k : ℕ) : Assn F :=
  Transfers.Batch EC (c : Thread nD τ) (.dma (slotSem s)) () unitN (landed (F := F) c s.val) k 0

/-! ## Issuing -/

section Issue

variable (c : Dev nD) (i : grid1.Coords) (s : Fin 2)
  (M1 : Memref sig .tc .smem S1x1x200 .i32) (ids : Buf (Elt F) (M1.view.loc (c : Thread nD τ)))
  (S : Finset S2x208x768.Idx) (R : Assn F)

/-- What is held once `k` transfers of a point have been issued: the ids, the packed rows at some share, what is left
    of the rows scratch, the shift scratch at something, the transfers in flight, and anything else. -/
def issuing (k : ℕ) : Assn F :=
  iprop((M1.view.loc (c : Thread nD τ) ↦{fullShare} ids)
    ∗ (∃ (q : PosShare TreeShare) (f : Buf (Elt F) (srcL c)), srcL c ↦{q} f)
    ∗ (∃ f : Buf (Elt F) (rowsL c), rowsL c ↦[onRows c (S \ filled s.val k)]{fullShare} f)
    ∗ (∃ f : Buf (Elt F) (shiftL c), shiftL c ↦{fullShare} f)
    ∗ flight (F := F) c s k ∗ R)

variable {c i s M1 ids S R} {α β : Type} {Q : α → Assn F} {k : ℕ}

theorem step_id {off : Fin 3 → ℕ} {h0 : ∀ a, off a + S1x1x1.size a ≤ S1x1x200.size a} {h1 : S1x1x1.numel = 1}
    {hp : EltTy.packing .i32 = 1} {K : Elt F .i32 → Prog (TpuEff nD τ sig (Elt F) Λ₀ .tc) α}
    (hids : ∀ (r : Rect S1x1x200) (x : r.shape.Idx), ((M1.access r).read (Elt F) ids x : BitVec 32).toNat < 400000)
    (h : ∀ v : Elt F .i32, IdOk v → (issuing c s M1 ids S R k ⊢ wpc c (K v) Q)) :
    issuing c s M1 ids S R k ⊢ wpc c (smemLoad M1 (Rect.unit (s := S1x1x200) off S1x1x1.size h0) h1 hp >>= K) Q := by
  change issuing c s M1 ids S R k ⊢ wpc c (smemLoadElt M1 (Rect.unit (s := S1x1x200) off S1x1x1.size h0) (View.loads_smem_one hp h1) (Shape.Idx.first (h1.symm ▸ Nat.one_pos)) K) Q
  unfold issuing
  iintro ⟨H1, H⟩
  iapply (wp_smemLoadElt Variants.none (c : Thread nD τ) none Set.univ (m := M1) (r := Rect.unit (s := S1x1x200) off S1x1x1.size h0) (f := ids) (Finset.subset_univ _)) $$ H1
  iintro H1
  iapply (h _ ⟨hids _ _⟩)
  unfold issuing
  isplitl [H1]; · iexact H1
  iexact H

omit [FloatOps F] in
theorem share_half {ℓ : Loc nD τ sig} {q : PosShare TreeShare} {T : Finset (Idx ℓ)} {f : Buf (Elt F) ℓ} :
    (ℓ ↦[T]{q} f : sProp 𝕄) ⊢ iprop((ℓ ↦[T]{q.left} f) ∗ ℓ ↦[T]{q.right} f) :=
  (pointsTo_share (PosShare.mem_left_op_right q)).1

/-- One transfer issued: the rows' share halved, its row taken from the scratch. -/
theorem step_issue {offA : Fin 1 → ℕ} {offB : Fin 3 → ℕ} {offC : Fin 2 → ℕ} {ha hb hc h1 h2 h3} {k' : ℕ}
    {K : PUnit → Prog (TpuEff nD τ sig (Elt F) Λ₀ .tc) α}
    (hs : slotN i = s.val) (eA : offA = ![slotN i]) {r : ℕ} (eB : offB = ![slotN i, r, 0]) (hr : r = rowOf k) (hk : k < 200)
    (hS : ∀ r, rowSet s.val r ⊆ S) (e : k + 1 = k')
    (h : issuing c s M1 ids S R k' ⊢ wpc c (K ⟨⟩) Q) :
    issuing c s M1 ids S R k ⊢ wpc c (Prog.lift (.enqueueDma
      (srcM.slice (Rect.unit (s := S100000x768) offC S1x768.size hc) (fun _ => rfl)) (.here (rowM offB hb))
      (.dma ((cc1_scratch2.slice (Rect.unit (s := S2) offA S1.size ha)).squeeze S_ squeezes_S1_S_).sem) h1 h2 h3) >>= K) Q := by
  subst e
  rw [hs] at eA eB
  rw [hr] at eB
  subst eA
  have hset : (rowM offB hb).view.set = onRows c (rowSet s.val (rowOf k)) := rowM_set offB hb _ _ eB
  have hsub : onRows c (rowSet s.val (rowOf k)) ⊆ onRows c (S \ filled s.val k) := fun x hx =>
    Finset.mem_sdiff.mpr ⟨hS _ hx, Finset.disjoint_left.mp (rowSet_disjoint_filled s.val k) hx⟩
  have hrest : onRows c (S \ filled s.val k) \ onRows c (rowSet s.val (rowOf k)) = onRows c (S \ filled s.val (k + 1)) := by
    unfold onRows
    rw [filled_succ, sdiff_sdiff_left, Finset.sup_eq_union, Finset.union_comm]
  unfold issuing
  iintro ⟨H1, ⟨%q, %fs, Hs⟩, ⟨%fr, Hr⟩, Hsh, HB, HR⟩
  ihave Hs' := share_half $$ Hs
  icases Hs' with ⟨Hs, Hs2⟩
  ihave Hs3 := (pointsTo_split_subset (Finset.subset_univ
    (srcM.slice (Rect.unit (s := S100000x768) offC S1x768.size hc) (fun _ => rfl)).view.set)).1 $$ Hs2
  icases Hs3 with ⟨Hs2, -⟩
  ihave Hr' := (pointsTo_split_subset hsub).1 $$ Hr
  icases Hr' with ⟨Hrow, Hr⟩
  iapply (Transfers.wp_dmaBatch EC Variants.none (c : Thread nD τ) none
    (src := srcM.slice (Rect.unit (s := S100000x768) offC S1x768.size hc) (fun _ => rfl)) (dst := rowM offB hb)
    (Sd := onRows c (rowSet s.val (rowOf k))) () unitN rfl (Finset.subset_of_eq hset) (D := landed (F := F) c s.val) (j := k) (u := 0) hk (Nat.zero_le _)
    (to_landed c s.val ⟨k, hk⟩ _ _)) $$ [Hs2 Hrow HB]
  · isplitl [Hs2]; · iexact Hs2
    isplitl [Hrow]; · iexact Hrow
    iexact HB
  iintro HB
  iapply h
  unfold issuing
  isplitl [H1]; · iexact H1
  isplitl [Hs]; · iexists _, _; iexact Hs
  isplitl [Hr]
  · iexists fr
    rw [← hrest]
    iexact Hr
  isplitl [Hsh]; · iexact Hsh
  isplitl [HB]; · iexact HB
  iexact HR

/-- A load of the shift scratch: its value is not followed. -/
theorem step_load_shift {r : LoadRect S2x208x128} {hl} {K : (r.shape.Idx → Elt F .i32) → Prog (TpuEff nD τ sig (Elt F) Λ₀ .tc) α}
    (h : ∀ v, issuing c s M1 ids S R k ⊢ wpc c (K v) Q) :
    issuing c s M1 ids S R k ⊢ wpc c (Prog.lift (.load shiftM r hl) >>= K) Q := by
  unfold issuing
  iintro ⟨H1, Hs, Hr, ⟨%f, Hsh⟩, H⟩
  iapply (wp_load Variants.none (c : Thread nD τ) none Set.univ (Finset.subset_univ _)) $$ Hsh
  iintro Hsh
  iapply (h _)
  unfold issuing
  isplitl [H1]; · iexact H1
  isplitl [Hs]; · iexact Hs
  isplitl [Hr]; · iexact Hr
  isplitl [Hsh]; · iexists f; iexact Hsh
  iexact H

/-- A store into the shift scratch. -/
theorem step_store_shift {r : Rect S2x208x128} {w : r.shape.Idx → Elt F .i32} {Mk hx hm}
    {K : PUnit → Prog (TpuEff nD τ sig (Elt F) Λ₀ .tc) α}
    (h : issuing c s M1 ids S R k ⊢ wpc c (K ⟨⟩) Q) :
    issuing c s M1 ids S R k ⊢ wpc c (Prog.lift (.store shiftM r w Mk hx hm) >>= K) Q := by
  unfold issuing
  iintro ⟨H1, Hs, Hr, ⟨%f, Hsh⟩, H⟩
  iapply (wp_store Variants.none (c : Thread nD τ) none Set.univ (m := shiftM) (r := r) (w := w) (Mk := Mk) (f := f) (Finset.subset_univ _)) $$ Hsh
  iintro Hsh
  iapply h
  unfold issuing
  isplitl [H1]; · iexact H1
  isplitl [Hs]; · iexact Hs
  isplitl [Hr]; · iexact Hr
  isplitl [Hsh]; · iexists _; iexact Hsh
  iexact H

end Issue

/-! ## Steps that touch nothing -/

section Plain

variable {c : Dev nD} {α β : Type} {P : Assn F} {Q : α → Assn F}

theorem step_assume {p : Prop} {d : Decidable p} {K : PLift p → Prog (TpuEff nD τ sig (Elt F) Λ₀ .tc) α}
    (hp : p) (h : P ⊢ wpc c (K ⟨hp⟩) Q) : P ⊢ wpc c (Prog.lift (.assume p d) >>= K) Q :=
  h.trans (wp_assume Variants.none (c : Thread nD τ) none Set.univ hp)

/-- A part of the body, followed by the rest: its own steps first. -/
theorem step_part {p : Prog (TpuEff nD τ sig (Elt F) Λ₀ .tc) β} {K : β → Prog (TpuEff nD τ sig (Elt F) Λ₀ .tc) α}
    (h : P ⊢ wpc c p (fun v => wpc c (K v) Q)) : P ⊢ wpc c (p >>= K) Q := by
  refine h.trans (Entails.of_eq ?_)
  exact (wp_bind frame _ _ p K Q).symm

/-- The same, the rest kept out of sight until the part has run. -/
theorem step_part' {p : Prog (TpuEff nD τ sig (Elt F) Λ₀ .tc) β} {K : β → Prog (TpuEff nD τ sig (Elt F) Λ₀ .tc) α}
    (h : ∀ Q' : β → Assn F, (∀ v, wpc c (K v) Q ⊢ Q' v) → (P ⊢ wpc c p Q')) : P ⊢ wpc c (p >>= K) Q :=
  step_part (h _ fun _ => BIBase.Entails.rfl)

theorem step_pure {v : α} (h : P ⊢ Q v) : P ⊢ wpc c (pure v) Q :=
  h.trans (le_wp_ret frame _ _ v Q)

/-- A step at the end of a program, as a step followed by nothing. -/
theorem step_last {e : TpuEff nD τ sig (Elt F) Λ₀ .tc α} (h : P ⊢ wpc c (Prog.lift e >>= pure) Q) :
    P ⊢ wpc c (Prog.lift e) Q := h

theorem step_end {p : Prog (TpuEff nD τ sig (Elt F) Λ₀ .tc) α} (h : P ⊢ wpc c (p >>= pure) Q) : P ⊢ wpc c p Q := by
  rwa [bind_pure] at h

/-- The row a candidate id names is a row of the packed array. -/
theorem row_inb (v : BitVec 32) (h : IdOk v) :
    ∀ a, (![(Scalar.shrui v 2#32).toNat, 0] : Fin 2 → ℕ) a + S1x768.size a ≤ S100000x768.size a := by
  have h' : (Scalar.shrui v 2#32).toNat = v.toNat / 4 := by
    simp [Scalar.shrui, IntOp.shrui, BitVec.toNat_ushiftRight, Nat.shiftRight_eq_div_pow]
  have := h.lt
  intro a
  fin_cases a
  · simp [Shape.size, h']; omega
  · simp [Shape.size]

end Plain

end Cert.Kernel.Dense

end
-- ==== Proof.Bits.Access.lean ====
/-
  Loads and stores from and to a buffer that is held among other things: the buffer is taken out of what is held, read
  or written, and put back.
-/
module

public import proofs.«01_k».proof.Proof.Bits.Steps

@[expose] public section

set_option maxRecDepth 16384

noncomputable section

namespace Cert.Kernel.Dense

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A buffer is held at something on a set of its elements, and may be put back at something else. -/
abbrev Acc (P : Assn F) (ℓ : Loc nD τ sig) (T : Finset (Idx ℓ)) : Prop :=
  P ⊢ iprop((∃ f : Buf (Elt F) ℓ, ℓ ↦[T]{fullShare} f) ∗ ((∃ f : Buf (Elt F) ℓ, ℓ ↦[T]{fullShare} f) -∗ P))

/-- A buffer is held whole at given contents, and is put back at them. -/
abbrev Reads (P : Assn F) (ℓ : Loc nD τ sig) (f : Buf (Elt F) ℓ) : Prop :=
  P ⊢ iprop((ℓ ↦{fullShare} f) ∗ ((ℓ ↦{fullShare} f) -∗ P))

section

variable {c : Dev nD} {α : Type} {P : Assn F} {Q : α → Assn F} {sp : CoreSpace} {sh : Shape} {e : EltTy}

/-- A load of something held: its value is not followed. -/
theorem step_load {m : Memref sig .tc sp sh e} {T : Finset (Idx (m.view.loc (c : Thread nD τ)))} (ha : Acc P (m.view.loc (c : Thread nD τ)) T)
    {r : LoadRect sh} {hl} (hT : m.view.setOn r.set ⊆ T)
    {K : (r.shape.Idx → Elt F e) → Prog (TpuEff nD τ sig (Elt F) Λ₀ .tc) α} (h : ∀ v, P ⊢ wpc c (K v) Q) :
    P ⊢ wpc c (Prog.lift (.load m r hl) >>= K) Q := by
  refine BIBase.Entails.trans ha ?_
  iintro ⟨⟨%f, Hm⟩, Hback⟩
  iapply (wp_load Variants.none (c : Thread nD τ) none Set.univ (m := m) (r := r) (f := f) hT) $$ Hm
  iintro Hm
  iapply (h _)
  iapply Hback
  iexists f
  iexact Hm

/-- A load of a buffer held whole at given contents. -/
theorem step_read {m : Memref sig .tc sp sh e} {f : Buf (Elt F) (m.view.loc (c : Thread nD τ))} (ha : Reads P (m.view.loc (c : Thread nD τ)) f)
    {r : LoadRect sh} {hl}
    {K : (r.shape.Idx → Elt F e) → Prog (TpuEff nD τ sig (Elt F) Λ₀ .tc) α} (h : P ⊢ wpc c (K (m.view.readAt (Elt F) r f)) Q) :
    P ⊢ wpc c (Prog.lift (.load m r hl) >>= K) Q := by
  refine BIBase.Entails.trans ha ?_
  iintro ⟨Hm, Hback⟩
  iapply (wp_load Variants.none (c : Thread nD τ) none Set.univ (m := m) (r := r) (f := f) (Finset.subset_univ _)) $$ Hm
  iintro Hm
  iapply h
  iapply Hback
  iexact Hm

/-- The same, the value not followed. -/
theorem step_read' {m : Memref sig .tc sp sh e} {f : Buf (Elt F) (m.view.loc (c : Thread nD τ))} (ha : Reads P (m.view.loc (c : Thread nD τ)) f)
    {r : LoadRect sh} {hl}
    {K : (r.shape.Idx → Elt F e) → Prog (TpuEff nD τ sig (Elt F) Λ₀ .tc) α} (h : ∀ v, P ⊢ wpc c (K v) Q) :
    P ⊢ wpc c (Prog.lift (.load m r hl) >>= K) Q := step_read ha (h _)

/-- A store into something held whole. -/
theorem step_store {m : Memref sig .tc sp sh e} (ha : Acc P (m.view.loc (c : Thread nD τ)) Finset.univ)
    {r : Rect sh} {w : r.shape.Idx → Elt F e} {Mk hx hm}
    {K : PUnit → Prog (TpuEff nD τ sig (Elt F) Λ₀ .tc) α} (h : P ⊢ wpc c (K ⟨⟩) Q) :
    P ⊢ wpc c (Prog.lift (.store m r w Mk hx hm) >>= K) Q := by
  refine BIBase.Entails.trans ha ?_
  iintro ⟨⟨%f, Hm⟩, Hback⟩
  iapply (wp_store Variants.none (c : Thread nD τ) none Set.univ (m := m) (r := r) (w := w) (Mk := Mk) (f := f) (Finset.subset_univ _)) $$ Hm
  iintro Hm
  iapply h
  iapply Hback
  iexists _
  iexact Hm

end

/-! ## What a grid point holds -/

section Held

variable (c : Dev nD) (M1 : Memref sig .tc .smem S1x1x200 .i32) (ids : Buf (Elt F) (M1.view.loc (c : Thread nD τ)))

/-- The ids, the packed rows at some share, the rows scratch on a set of its elements, the shift scratch, and two more
    parts. -/
def held (T : Finset S2x208x768.Idx) (Y B : Assn F) : Assn F :=
  iprop((M1.view.loc (c : Thread nD τ) ↦{fullShare} ids)
    ∗ (∃ (q : PosShare TreeShare) (f : Buf (Elt F) (srcL c)), srcL c ↦{q} f)
    ∗ (∃ f : Buf (Elt F) (rowsL c), rowsL c ↦[onRows c T]{fullShare} f)
    ∗ (∃ f : Buf (Elt F) (shiftL c), shiftL c ↦{fullShare} f)
    ∗ Y ∗ B)

theorem issuing_held (s : Fin 2) (S : Finset S2x208x768.Idx) (R : Assn F) (k : ℕ) :
    issuing c s M1 ids S R k = held c M1 ids (S \ filled s.val k) (flight (F := F) c s k) R := rfl

variable {c M1 ids}

theorem held_rows (T : Finset S2x208x768.Idx) (Y B : Assn F) : Acc (held c M1 ids T Y B) (rowsL c) (onRows c T) := by
  unfold held
  iintro ⟨H1, Hs, Hr, H⟩
  isplitl [Hr]; · iexact Hr
  iintro Hr
  isplitl [H1]; · iexact H1
  isplitl [Hs]; · iexact Hs
  isplitl [Hr]; · iexact Hr
  iexact H

theorem held_shift (T : Finset S2x208x768.Idx) (Y B : Assn F) : Acc (held c M1 ids T Y B) (shiftL c) Finset.univ := by
  unfold held
  iintro ⟨H1, Hs, Hr, Hsh, H⟩
  isplitl [Hsh]; · iexact Hsh
  iintro Hsh
  isplitl [H1]; · iexact H1
  isplitl [Hs]; · iexact Hs
  isplitl [Hr]; · iexact Hr
  isplitl [Hsh]; · iexact Hsh
  iexact H

/-- What is held in the last part is held. -/
theorem held_reads {T : Finset S2x208x768.Idx} {Y B : Assn F} {ℓ : Loc nD τ sig} {f : Buf (Elt F) ℓ} (h : Reads B ℓ f) :
    Reads (held c M1 ids T Y B) ℓ f := by
  unfold held
  iintro ⟨H1, Hs, Hr, Hsh, HY, HB⟩
  ihave HB' := h $$ HB
  icases HB' with ⟨Hm, Hback⟩
  isplitl [Hm]; · iexact Hm
  iintro Hm
  isplitl [H1]; · iexact H1
  isplitl [Hs]; · iexact Hs
  isplitl [Hr]; · iexact Hr
  isplitl [Hsh]; · iexact Hsh
  isplitl [HY]; · iexact HY
  iapply Hback; iexact Hm

theorem held_acc {T : Finset S2x208x768.Idx} {Y B : Assn F} {ℓ : Loc nD τ sig} {U : Finset (Idx ℓ)} (h : Acc B ℓ U) :
    Acc (held c M1 ids T Y B) ℓ U := by
  unfold held
  iintro ⟨H1, Hs, Hr, Hsh, HY, HB⟩
  ihave HB' := h $$ HB
  icases HB' with ⟨Hm, Hback⟩
  isplitl [Hm]; · iexact Hm
  iintro Hm
  isplitl [H1]; · iexact H1
  isplitl [Hs]; · iexact Hs
  isplitl [Hr]; · iexact Hr
  isplitl [Hsh]; · iexact Hsh
  isplitl [HY]; · iexact HY
  iapply Hback; iexact Hm

/-- From a slot's semaphore at zero, the slot with no transfer issued. -/
theorem start_issue {s : Fin 2} {S : Finset S2x208x768.Idx} {R : Assn F} {α : Type} {p : Prog (TpuEff nD τ sig (Elt F) Λ₀ .tc) α} {Q : α → Assn F}
    (h : issuing c s M1 ids S R 0 ⊢ wpc c p Q) :
    held c M1 ids S (semVal ((c : Thread nD τ), SemLoc.dma (slotSem s)) 0) R ⊢ wpc c p Q := by
  have hst : ∀ t, Storable (upEmb : UEmb _ 𝕄) (landed (F := F) c s.val t) := fun _ => inferInstance
  rw [issuing_held, filled_zero, Finset.sdiff_empty] at h
  unfold held at h ⊢
  iintro ⟨H1, Hs, Hr, Hsh, HY, HB⟩
  imod (Transfers.batch_alloc' EC (c : Thread nD τ) (sm := SemLoc.dma (slotSem s)) () unitN (landed (F := F) c s.val) (E := Set.univ)) $$ HY with HF
  iapply h
  isplitl [H1]; · iexact H1
  isplitl [Hs]; · iexact Hs
  isplitl [Hr]; · iexact Hr
  isplitl [Hsh]; · iexact Hsh
  isplitl [HF]; · iexact HF
  iexact HB

end Held

end Cert.Kernel.Dense

end
-- ==== Proof.Bits.Drain.lean ====
/-
  The part of a grid point of the dense call after its transfers are issued: the two products and the block of scores,
  then, from the second point on, the wait for the other slot's rows and the refined scores computed from them. The
  scores are followed exactly, the refined ones are not.
-/
module

public import proofs.«01_k».proof.Proof.Bits.Access
public import Idealize.ShloMosaic.Lib.VecWindow
public import Idealize.ShloMosaic.Lib.Ring

@[expose] public section

set_option maxRecDepth 16384

noncomputable section

namespace Cert.Kernel.Dense

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Reading and writing under a separating conjunction -/

section

variable {A B : Assn F} {ℓ : Loc nD τ sig} {f : Buf (Elt F) ℓ} {T : Finset (Idx ℓ)}

theorem reads_head : Reads (iprop((ℓ ↦{fullShare} f) ∗ B) : Assn F) ℓ f := by
  iintro ⟨H, HB⟩
  isplitl [H]; · iexact H
  iintro H
  isplitl [H]; · iexact H
  iexact HB

theorem reads_right (h : Reads B ℓ f) : Reads iprop(A ∗ B) ℓ f := by
  iintro ⟨HA, HB⟩
  ihave HB' := h $$ HB
  icases HB' with ⟨H, Hback⟩
  isplitl [H]; · iexact H
  iintro H
  isplitl [HA]; · iexact HA
  iapply Hback; iexact H

theorem acc_self : Acc (iprop(∃ f : Buf (Elt F) ℓ, ℓ ↦[T]{fullShare} f) : Assn F) ℓ T := by
  iintro H
  isplitl [H]; · iexact H
  iintro H
  iexact H

theorem acc_head : Acc (iprop((∃ f : Buf (Elt F) ℓ, ℓ ↦[T]{fullShare} f) ∗ B) : Assn F) ℓ T := by
  iintro ⟨H, HB⟩
  isplitl [H]; · iexact H
  iintro H
  isplitl [H]; · iexact H
  iexact HB

theorem acc_right (h : Acc B ℓ T) : Acc iprop(A ∗ B) ℓ T := by
  iintro ⟨HA, HB⟩
  ihave HB' := h $$ HB
  icases HB' with ⟨H, Hback⟩
  isplitl [H]; · iexact H
  iintro H
  isplitl [HA]; · iexact HA
  iapply Hback; iexact H

end

/-- What a core owes: nothing, whatever it has waited for. -/
abbrev owesNone (c : Dev nD) : Assn F := iprop(∃ W, owes (c : Thread nD τ) (0 : CellTallies nD τ sig Unit) W)

/-- The rows of slot `o`, all of them, as a set of elements. -/
def slotSet (o : ℕ) : Finset S2x208x768.Idx := Finset.univ.filter fun x => (x 0).val = o

/-- A load of rows of slot `o` stays in the slot. -/
theorem rows_load (c : Dev nD) {off : Fin 3 → ℕ} {h : ∀ a, off a + S1x104x128.size a ≤ S2x208x768.size a} {o : ℕ} {T : Finset S2x208x768.Idx}
    (ho : off 0 = o) (hT : slotSet o ⊆ T) :
    rowsM.view.setOn (Rect.unit (s := S2x208x768) off S1x104x128.size h).toLoadRect.set ⊆ onRows c T := by
  intro x hx
  obtain ⟨y, hy, rfl⟩ := Finset.mem_map.mp hx
  refine hT (Finset.mem_filter.mpr ⟨Finset.mem_univ _, ?_⟩)
  have hy' : y ∈ (Rect.unit (s := S2x208x768) off S1x104x128.size h).set := hy
  rw [Rect.mem_set_unit] at hy'
  have h0 : off 0 ≤ (y 0).val ∧ (y 0).val < off 0 + 1 := hy' 0
  show (y 0).val = o
  omega

theorem unitN_pos : 0 < unitN := by decide +kernel

/-- The wait's amount is that of two hundred transfers. -/
theorem drain_amount : (rowsM.view.ref).dmaCredit S200x768 .i32 = 200 * unitN := by decide +kernel

/-- The wait that drains the other slot: its two hundred rows come back, its semaphore reads zero. -/
theorem step_drain {c : Dev nD} {M1 : Memref sig .tc .smem S1x1x200 .i32} {ids : Buf (Elt F) (M1.view.loc (c : Thread nD τ))}
    {T : Finset S2x208x768.Idx} {Y B : Assn F} {o : Fin 2} {α : Type} {Q : α → Assn F}
    {offA : Fin 1 → ℕ} {offB : Fin 3 → ℕ} {offC : Fin 2 → ℕ} {ha hb hc h1 h2} (eA : offA = ![o.val])
    (hT : Disjoint T (filled o.val 200))
    {K : PUnit → Prog (TpuEff nD τ sig (Elt F) Λ₀ .tc) α}
    (h : held c M1 ids (T ∪ filled o.val 200) Y iprop(semVal ((c : Thread nD τ), SemLoc.dma (slotSem o)) 0 ∗ owesNone c ∗ B) ⊢ wpc c (K ⟨⟩) Q) :
    held c M1 ids T Y iprop(flight (F := F) c o 200 ∗ owesNone c ∗ B) ⊢ wpc c (Prog.lift (.waitDma2
      ((cc1_scratch2.slice (Rect.unit (s := S2) offA S1.size ha)).squeeze S_ squeezes_S1_S_).sem
      (srcM.slice (Rect.unit (s := S100000x768) offC S200x768.size hc) (fun _ => rfl))
      ((rowsM.slice (Rect.unit (s := S2x208x768) offB S1x200x768.size hb) (fun _ => rfl)).squeeze S200x768 squeezes_S1x200x768_S200x768) h1 h2) >>= K) Q := by
  subst eA
  unfold held
  iintro ⟨H1, Hs, ⟨%fr, Hr⟩, Hsh, HY, HF, ⟨%W, HO⟩, HB⟩
  iapply (Transfers.wp_waitBatchAll EC Variants.none (c : Thread nD τ) none
    (dstw := (rowsM.slice (Rect.unit (s := S2x208x768) offB S1x200x768.size hb) (fun _ => rfl)).squeeze S200x768 squeezes_S1x200x768_S200x768)
    () (N := unitN) (J := 200 * unitN) drain_amount unitN_pos (n := 200) (D := landed (F := F) c o.val) (u := 0) (by omega)) $$ [HF HO]
  · isplitl [HF]; · iexact HF
    iexact HO
  iintro ⟨HD, Hv, HO⟩
  iapply h
  unfold held
  isplitl [H1]; · iexact H1
  isplitl [Hs]; · iexact Hs
  isplitl [Hr HD]
  · have hj : bigSep Finset.univ (landed (F := F) c o.val) ⊢ iprop(∃ g : Buf (Elt F) (rowsL c), rowsL c ↦[onRows c (filled o.val 200)]{fullShare} g) := by
      have : Nonempty (Buf (Elt F) (rowsL c)) := ⟨fr⟩
      refine (Idealize.SL.BI.bigSep_exists_pi Finset.univ (fun (t : Fin 200) (f : Buf (Elt F) (rowsL c)) =>
        (rowsL c ↦[onRows c (rowSet o.val (rowOf t.val))]{fullShare} f : sProp 𝕄))).trans ?_
      iintro ⟨%fs, H⟩
      ihave H' := (pointsTo_biUnion_join (ℓ := rowsL c) (q := fullShare) Finset.univ (fun t : Fin 200 => onRows c (rowSet o.val (rowOf t.val))) fs fr
        (fun t _ t' _ e => rowSet_disjoint o.val (fun e' => e (Fin.ext e')))) $$ H
      icases H' with ⟨%g, -, H⟩
      iexists g
      have e : onRows c (filled o.val 200) = (Finset.univ : Finset (Fin 200)).biUnion (fun t => onRows c (rowSet o.val (rowOf t.val))) := filled_eq o.val 200
      rw [e]
      iexact H
    ihave HD' := hj $$ HD
    icases HD' with ⟨%g, HD⟩
    iexists _
    have e : onRows c (T ∪ filled o.val 200) = onRows c T ∪ onRows c (filled o.val 200) := rfl
    rw [e]
    iapply (pointsTo_join (ℓ := rowsL c) (q := fullShare) (I := onRows c T) (J := onRows c (filled o.val 200)) hT)
    isplitl [Hr]; · iexact Hr
    iexact HD
  isplitl [Hsh]; · iexact Hsh
  isplitl [HY]; · iexact HY
  isplitl [Hv]; · iexact Hv
  isplitl [HO]; · iexists _; iexact HO
  iexact HB

end Cert.Kernel.Dense

end
-- ==== Proof.Bits.Parts.lean ====
/-
  The two hundred transfers of a grid point, issued one after another over ninety-four parts of the body.
-/
module

public import proofs.«01_k».proof.Proof.Bits.Steps

@[expose] public section

set_option maxRecDepth 16384

noncomputable section

namespace Cert.Kernel.Dense

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {i : grid1.Coords} (M1 : Memref sig .tc .smem S1x1x200 .i32) (hM1 : M1.IsWhole) (M2 : Memref sig .tc .vmem S384x768 .bf16) (hM2 : M2.IsWhole) (M3 : Memref sig .tc .vmem S2048x384 .i8) (hM3 : M3.IsWhole) (M4 : Memref sig .tc .vmem S2048 .i32) (hM4 : M4.IsWhole) (M5 : Memref sig .tc .vmem S384x128 .f32) (hM5 : M5.IsWhole) (M6 : Memref sig .tc .vmem S384x128 .f32) (hM6 : M6.IsWhole) (M7 : Memref sig .tc .vmem S384x128 .f32) (hM7 : M7.IsWhole) (M8 : Memref sig .tc .vmem S384x768 .f32) (hM8 : M8.IsWhole) (h9 : srcM.IsWhole)
  (M10 : Memref sig .tc .vmem S384x2048 .f32) (hM10 : M10.IsWhole) (M11 : Memref sig .tc .vmem S1x104x128 .f32) (hM11 : M11.IsWhole)
  (h12 : rowsM.IsWhole) (h13 : shiftM.IsWhole)
  {c : Dev nD} {s : Fin 2} {ids : Buf (Elt F) (M1.view.loc (c : Thread nD τ))} {S : Finset S2x208x768.Idx} {R : Assn F}
  {α : Type} {Q : α → Assn F}

set_option maxHeartbeats 2000000 in
theorem issue_first (hids : ∀ (r : Rect S1x1x200) (x : r.shape.Idx), ((M1.access r).read (Elt F) ids x : BitVec 32).toNat < 400000)
    (hs : slotN i = s.val) (hS : ∀ r, rowSet s.val r ⊆ S) (v9 : BitVec 32) (h2 : k1_cond2 i = 1#1)
    {Q : Elt F .i32 → Assn F}
    (h : ∀ v : Elt F .i32, IdOk v → (issuing c s M1 ids S R 129 ⊢ Q v)) :
    issuing c s M1 ids S R 0 ⊢ wpc c (k1_part94 (F := F) i M1 hM1 M2 hM2 M3 hM3 M4 hM4 M5 hM5 M6 hM6 M7 hM7 M8 hM8 srcM h9 M10 hM10 M11 hM11 rowsM h12 shiftM h13 cc1_scratch2 v9 h2) Q := by
  rw [k1_part94_eq_skeleton]
  unfold k1_part94_skel
  repeat
    first
    | (with_reducible refine step_part' ?_
       intro Q' hQ'
       first
        | (rw [k1_part1_eq_skeleton]; unfold k1_part1_skel)
        | (rw [k1_part2_eq_skeleton]; unfold k1_part2_skel)
        | (rw [k1_part3_eq_skeleton]; unfold k1_part3_skel)
        | (rw [k1_part4_eq_skeleton]; unfold k1_part4_skel)
        | (rw [k1_part5_eq_skeleton]; unfold k1_part5_skel)
        | (rw [k1_part6_eq_skeleton]; unfold k1_part6_skel)
        | (rw [k1_part7_eq_skeleton]; unfold k1_part7_skel)
        | (rw [k1_part8_eq_skeleton]; unfold k1_part8_skel)
        | (rw [k1_part9_eq_skeleton]; unfold k1_part9_skel)
        | (rw [k1_part10_eq_skeleton]; unfold k1_part10_skel)
        | (rw [k1_part11_eq_skeleton]; unfold k1_part11_skel)
        | (rw [k1_part12_eq_skeleton]; unfold k1_part12_skel)
        | (rw [k1_part13_eq_skeleton]; unfold k1_part13_skel)
        | (rw [k1_part14_eq_skeleton]; unfold k1_part14_skel)
        | (rw [k1_part15_eq_skeleton]; unfold k1_part15_skel)
        | (rw [k1_part16_eq_skeleton]; unfold k1_part16_skel)
        | (rw [k1_part17_eq_skeleton]; unfold k1_part17_skel)
        | (rw [k1_part18_eq_skeleton]; unfold k1_part18_skel)
        | (rw [k1_part19_eq_skeleton]; unfold k1_part19_skel)
        | (rw [k1_part20_eq_skeleton]; unfold k1_part20_skel)
        | (rw [k1_part21_eq_skeleton]; unfold k1_part21_skel)
        | (rw [k1_part22_eq_skeleton]; unfold k1_part22_skel)
        | (rw [k1_part23_eq_skeleton]; unfold k1_part23_skel)
        | (rw [k1_part24_eq_skeleton]; unfold k1_part24_skel)
        | (rw [k1_part25_eq_skeleton]; unfold k1_part25_skel)
        | (rw [k1_part26_eq_skeleton]; unfold k1_part26_skel)
        | (rw [k1_part27_eq_skeleton]; unfold k1_part27_skel)
        | (rw [k1_part28_eq_skeleton]; unfold k1_part28_skel)
        | (rw [k1_part29_eq_skeleton]; unfold k1_part29_skel)
        | (rw [k1_part30_eq_skeleton]; unfold k1_part30_skel)
        | (rw [k1_part31_eq_skeleton]; unfold k1_part31_skel)
        | (rw [k1_part32_eq_skeleton]; unfold k1_part32_skel)
        | (rw [k1_part33_eq_skeleton]; unfold k1_part33_skel)
        | (rw [k1_part34_eq_skeleton]; unfold k1_part34_skel)
        | (rw [k1_part35_eq_skeleton]; unfold k1_part35_skel)
        | (rw [k1_part36_eq_skeleton]; unfold k1_part36_skel)
        | (rw [k1_part37_eq_skeleton]; unfold k1_part37_skel)
        | (rw [k1_part38_eq_skeleton]; unfold k1_part38_skel)
        | (rw [k1_part39_eq_skeleton]; unfold k1_part39_skel)
        | (rw [k1_part40_eq_skeleton]; unfold k1_part40_skel)
        | (rw [k1_part41_eq_skeleton]; unfold k1_part41_skel)
        | (rw [k1_part42_eq_skeleton]; unfold k1_part42_skel)
        | (rw [k1_part43_eq_skeleton]; unfold k1_part43_skel)
        | (rw [k1_part44_eq_skeleton]; unfold k1_part44_skel)
        | (rw [k1_part45_eq_skeleton]; unfold k1_part45_skel)
        | (rw [k1_part46_eq_skeleton]; unfold k1_part46_skel)
        | (rw [k1_part47_eq_skeleton]; unfold k1_part47_skel)
        | (rw [k1_part48_eq_skeleton]; unfold k1_part48_skel)
        | (rw [k1_part49_eq_skeleton]; unfold k1_part49_skel)
        | (rw [k1_part50_eq_skeleton]; unfold k1_part50_skel)
        | (rw [k1_part51_eq_skeleton]; unfold k1_part51_skel)
        | (rw [k1_part52_eq_skeleton]; unfold k1_part52_skel)
        | (rw [k1_part53_eq_skeleton]; unfold k1_part53_skel)
        | (rw [k1_part54_eq_skeleton]; unfold k1_part54_skel)
        | (rw [k1_part55_eq_skeleton]; unfold k1_part55_skel)
        | (rw [k1_part56_eq_skeleton]; unfold k1_part56_skel)
        | (rw [k1_part57_eq_skeleton]; unfold k1_part57_skel)
        | (rw [k1_part58_eq_skeleton]; unfold k1_part58_skel)
        | (rw [k1_part59_eq_skeleton]; unfold k1_part59_skel)
        | (rw [k1_part60_eq_skeleton]; unfold k1_part60_skel))
    | first
        | (rw [k1_part1_eq_skeleton]; unfold k1_part1_skel)
        | (rw [k1_part2_eq_skeleton]; unfold k1_part2_skel)
        | (rw [k1_part3_eq_skeleton]; unfold k1_part3_skel)
        | (rw [k1_part4_eq_skeleton]; unfold k1_part4_skel)
        | (rw [k1_part5_eq_skeleton]; unfold k1_part5_skel)
        | (rw [k1_part6_eq_skeleton]; unfold k1_part6_skel)
        | (rw [k1_part7_eq_skeleton]; unfold k1_part7_skel)
        | (rw [k1_part8_eq_skeleton]; unfold k1_part8_skel)
        | (rw [k1_part9_eq_skeleton]; unfold k1_part9_skel)
        | (rw [k1_part10_eq_skeleton]; unfold k1_part10_skel)
        | (rw [k1_part11_eq_skeleton]; unfold k1_part11_skel)
        | (rw [k1_part12_eq_skeleton]; unfold k1_part12_skel)
        | (rw [k1_part13_eq_skeleton]; unfold k1_part13_skel)
        | (rw [k1_part14_eq_skeleton]; unfold k1_part14_skel)
        | (rw [k1_part15_eq_skeleton]; unfold k1_part15_skel)
        | (rw [k1_part16_eq_skeleton]; unfold k1_part16_skel)
        | (rw [k1_part17_eq_skeleton]; unfold k1_part17_skel)
        | (rw [k1_part18_eq_skeleton]; unfold k1_part18_skel)
        | (rw [k1_part19_eq_skeleton]; unfold k1_part19_skel)
        | (rw [k1_part20_eq_skeleton]; unfold k1_part20_skel)
        | (rw [k1_part21_eq_skeleton]; unfold k1_part21_skel)
        | (rw [k1_part22_eq_skeleton]; unfold k1_part22_skel)
        | (rw [k1_part23_eq_skeleton]; unfold k1_part23_skel)
        | (rw [k1_part24_eq_skeleton]; unfold k1_part24_skel)
        | (rw [k1_part25_eq_skeleton]; unfold k1_part25_skel)
        | (rw [k1_part26_eq_skeleton]; unfold k1_part26_skel)
        | (rw [k1_part27_eq_skeleton]; unfold k1_part27_skel)
        | (rw [k1_part28_eq_skeleton]; unfold k1_part28_skel)
        | (rw [k1_part29_eq_skeleton]; unfold k1_part29_skel)
        | (rw [k1_part30_eq_skeleton]; unfold k1_part30_skel)
        | (rw [k1_part31_eq_skeleton]; unfold k1_part31_skel)
        | (rw [k1_part32_eq_skeleton]; unfold k1_part32_skel)
        | (rw [k1_part33_eq_skeleton]; unfold k1_part33_skel)
        | (rw [k1_part34_eq_skeleton]; unfold k1_part34_skel)
        | (rw [k1_part35_eq_skeleton]; unfold k1_part35_skel)
        | (rw [k1_part36_eq_skeleton]; unfold k1_part36_skel)
        | (rw [k1_part37_eq_skeleton]; unfold k1_part37_skel)
        | (rw [k1_part38_eq_skeleton]; unfold k1_part38_skel)
        | (rw [k1_part39_eq_skeleton]; unfold k1_part39_skel)
        | (rw [k1_part40_eq_skeleton]; unfold k1_part40_skel)
        | (rw [k1_part41_eq_skeleton]; unfold k1_part41_skel)
        | (rw [k1_part42_eq_skeleton]; unfold k1_part42_skel)
        | (rw [k1_part43_eq_skeleton]; unfold k1_part43_skel)
        | (rw [k1_part44_eq_skeleton]; unfold k1_part44_skel)
        | (rw [k1_part45_eq_skeleton]; unfold k1_part45_skel)
        | (rw [k1_part46_eq_skeleton]; unfold k1_part46_skel)
        | (rw [k1_part47_eq_skeleton]; unfold k1_part47_skel)
        | (rw [k1_part48_eq_skeleton]; unfold k1_part48_skel)
        | (rw [k1_part49_eq_skeleton]; unfold k1_part49_skel)
        | (rw [k1_part50_eq_skeleton]; unfold k1_part50_skel)
        | (rw [k1_part51_eq_skeleton]; unfold k1_part51_skel)
        | (rw [k1_part52_eq_skeleton]; unfold k1_part52_skel)
        | (rw [k1_part53_eq_skeleton]; unfold k1_part53_skel)
        | (rw [k1_part54_eq_skeleton]; unfold k1_part54_skel)
        | (rw [k1_part55_eq_skeleton]; unfold k1_part55_skel)
        | (rw [k1_part56_eq_skeleton]; unfold k1_part56_skel)
        | (rw [k1_part57_eq_skeleton]; unfold k1_part57_skel)
        | (rw [k1_part58_eq_skeleton]; unfold k1_part58_skel)
        | (rw [k1_part59_eq_skeleton]; unfold k1_part59_skel)
        | (rw [k1_part60_eq_skeleton]; unfold k1_part60_skel)
    repeat
      first
      | with_reducible refine step_issue hs rfl rfl (by decide +kernel) (by decide +kernel) hS (by simp only [Nat.reduceAdd]; try exact rfl) ?_
      | with_reducible refine step_load_shift fun _ => ?_
      | with_reducible refine step_store_shift ?_
      | (with_reducible refine step_assume ?_ ?_
         focus exact fun _ => row_inb _ ‹_›)
      | with_reducible refine step_last ?_
      | with_reducible refine step_pure ?_
      | refine step_id hids fun v hv => ?_
      | refine step_end (p := smemLoad M1 _ _ _) ?_
    try
      with_reducible refine BIBase.Entails.trans ?_ (hQ' _)
      clear hQ' Q'
  exact h _ ‹_›

end Cert.Kernel.Dense

end
-- ==== Proof.Bits.Before.lean ====
/-
  The part of a grid point of the dense call that comes before its arithmetic: at the first point both scratches are
  cleared; at the points below 192 the two hundred transfers are issued.
-/
module

public import proofs.«01_k».proof.Proof.Bits.Access
public import proofs.«01_k».proof.Proof.Bits.Parts

@[expose] public section

set_option maxRecDepth 16384

noncomputable section

namespace Cert.Kernel.Dense

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {i : grid1.Coords} (M1 : Memref sig .tc .smem S1x1x200 .i32) (hM1 : M1.IsWhole) (M2 : Memref sig .tc .vmem S384x768 .bf16) (hM2 : M2.IsWhole) (M3 : Memref sig .tc .vmem S2048x384 .i8) (hM3 : M3.IsWhole) (M4 : Memref sig .tc .vmem S2048 .i32) (hM4 : M4.IsWhole) (M5 : Memref sig .tc .vmem S384x128 .f32) (hM5 : M5.IsWhole) (M6 : Memref sig .tc .vmem S384x128 .f32) (hM6 : M6.IsWhole) (M7 : Memref sig .tc .vmem S384x128 .f32) (hM7 : M7.IsWhole) (M8 : Memref sig .tc .vmem S384x768 .f32) (hM8 : M8.IsWhole) (h9 : srcM.IsWhole)
  (M10 : Memref sig .tc .vmem S384x2048 .f32) (hM10 : M10.IsWhole) (M11 : Memref sig .tc .vmem S1x104x128 .f32) (hM11 : M11.IsWhole)
  (h12 : rowsM.IsWhole) (h13 : shiftM.IsWhole)
  {c : Dev nD} {s : Fin 2} {ids : Buf (Elt F) (M1.view.loc (c : Thread nD τ))} {S : Finset S2x208x768.Idx} {R : Assn F}
  {α : Type} {Q : α → Assn F}

/-- The part of a grid point after its transfers: three loads and two products. -/
def tail (M2 : Memref sig .tc .vmem S384x768 .bf16) (M3 : Memref sig .tc .vmem S2048x384 .i8) (M4 : Memref sig .tc .vmem S2048 .i32) (a0 v9 : BitVec 32) :
    Prog (TpuEff nD τ sig (Elt F) Λ₀ .tc) (Σ' (arg0 : BitVec 32) (v9 : BitVec 32) (v31 : FVec F S384x2048 .f32) (v34 : IVec S1x2048 32), IVec S1x2048 32) := do
  let v16 : Vec F S2048x384 .i8 ← Prog.lift (.load M3 (Rect.unit (s := S2048x384) ![0, 0] S2048x384.size inb_S2048x384_S2048x384_0_0).toLoadRect (View.loadsAt_vmem h_S2048x384))
  let v29 : Vec F S384x768 .bf16 ← Prog.lift (.load M2 (Rect.unit (s := S384x768) ![0, 0] S384x768.size inb_S384x768_S384x768_0_0).toLoadRect (View.loadsAt_vmem h_S384x768))
  let v32 : Vec F S2048 .i32 ← Prog.lift (.load M4 (Rect.unit (s := S2048) ![0] S2048.size inb_S2048_S2048_0).toLoadRect (View.loadsAt_vmem h_S2048))
  pure ⟨a0, v9, k1_pay254 v16 v29, k1_pay255 v32, k1_pay256 v32⟩

/-- The condition of the clearing: the first point. -/
def cond1 (i : grid1.Coords) : BitVec 1 :=
  Scalar.cmpi .ne (Scalar.extui (Scalar.cmpi .eq (BitVec.ofNat 32 (i 0).val) 0#32) : BitVec 32) 0#32

theorem step_dite {α : Type} {P : Assn F} {c : Dev nD} {Q : α → Assn F} {p : Prop} {d : Decidable p} {A : p → Prog (TpuEff nD τ sig (Elt F) Λ₀ .tc) α} {B : ¬p → Prog (TpuEff nD τ sig (Elt F) Λ₀ .tc) α}
    (ha : ∀ hp, P ⊢ wpc c (A hp) Q) (hb : ∀ hn, P ⊢ wpc c (B hn) Q) : P ⊢ wpc c (dite p A B) Q := by
  by_cases h : p
  · rw [dif_pos h]; exact ha h
  · rw [dif_neg h]; exact hb h

/-- The first point clears both scratches: all of them is held then. -/
theorem clear_step {P : Assn F} {c : Dev nD} {α : Type} {Q : α → Assn F} {K : Prog (TpuEff nD τ sig (Elt F) Λ₀ .tc) α} (p : Prop) [Decidable p] {w1 w2 l1 l2 x1 x2 y1 y2}
    (hp : p → Acc P (rowsL c) Finset.univ) (hq : Acc P (shiftL c) Finset.univ) (h : P ⊢ wpc c K Q) :
    P ⊢ wpc c (if _h : p then (do
      let _ ← Prog.lift (.load rowsM (Rect.unit (s := S2x208x768) ![0, 0, 0] S2x208x768.size inb_S2x208x768_S2x208x768_0_0_0).toLoadRect l1)
      Prog.lift (.store rowsM (Rect.unit (s := S2x208x768) ![0, 0, 0] S2x208x768.size inb_S2x208x768_S2x208x768_0_0_0) w1 Finset.univ x1 x2)
      let _ ← Prog.lift (.load shiftM (Rect.unit (s := S2x208x128) ![0, 0, 0] S2x208x128.size inb_S2x208x128_S2x208x128_0_0_0).toLoadRect l2)
      Prog.lift (.store shiftM (Rect.unit (s := S2x208x128) ![0, 0, 0] S2x208x128.size inb_S2x208x128_S2x208x128_0_0_0) w2 Finset.univ y1 y2)
      K) else K) Q := by
  refine step_dite (fun hh => ?_) (fun _ => h)
  refine step_load (hp hh) (Finset.subset_univ _) fun _ => ?_
  refine step_store (hp hh) ?_
  refine step_load hq (Finset.subset_univ _) fun _ => ?_
  exact step_store hq h

variable (i) in
set_option maxHeartbeats 2000000 in
theorem before_issue (hids : ∀ (r : Rect S1x1x200) (x : r.shape.Idx), ((M1.access r).read (Elt F) ids x : BitVec 32).toNat < 400000)
    (hs : slotN i = s.val) (hS : ∀ r, rowSet s.val r ⊆ S) (h2 : k1_cond2 i = 1#1) (hS1 : cond1 i = 1#1 → S = Finset.univ)
    {Q : _ → Assn F}
    (h : ∀ a0 v9, (issuing c s M1 ids S R 200 ⊢ wpc c (tail M2 M3 M4 a0 v9) Q)) :
    issuing c s M1 ids S R 0 ⊢ wpc c (k1_part108 (F := F) i M1 hM1 M2 hM2 M3 hM3 M4 hM4 M5 hM5 M6 hM6 M7 hM7 M8 hM8 srcM h9 M10 hM10 M11 hM11 rowsM h12 shiftM h13 cc1_scratch2) Q := by
  rw [k1_part108_eq_skeleton]
  unfold k1_part108_skel
  extract_lets
  refine clear_step _ (fun e => ?_) (held_shift _ _ _) ?_
  · have hS2 := hS1 e
    subst hS2
    have := held_rows (c := c) (M1 := M1) (ids := ids) (Finset.univ \ filled s.val 0) (flight (F := F) c s 0) R
    rw [filled_zero, Finset.sdiff_empty] at this
    rw [issuing_held, filled_zero, Finset.sdiff_empty]
    exact this
  refine step_dite (fun h2' => ?_) (fun hn => absurd h2 hn)
  with_reducible refine step_part' ?_
  intro Q' hQ'
  refine issue_first _ _ _ _ _ _ _ _ _ _ _ _ _ _ _ _ _ _ _ _ _ _ _ hids hs hS _ h2' fun v hv => ?_
  refine BIBase.Entails.trans ?_ (hQ' _)
  clear hQ' Q'
  iterate 33
    with_reducible refine step_part' ?_
    intro Q' hQ'
    first
    | (rw [k1_part61_eq_skeleton]; unfold k1_part61_skel)
        | (rw [k1_part62_eq_skeleton]; unfold k1_part62_skel)
        | (rw [k1_part63_eq_skeleton]; unfold k1_part63_skel)
        | (rw [k1_part64_eq_skeleton]; unfold k1_part64_skel)
        | (rw [k1_part65_eq_skeleton]; unfold k1_part65_skel)
        | (rw [k1_part66_eq_skeleton]; unfold k1_part66_skel)
        | (rw [k1_part67_eq_skeleton]; unfold k1_part67_skel)
        | (rw [k1_part68_eq_skeleton]; unfold k1_part68_skel)
        | (rw [k1_part69_eq_skeleton]; unfold k1_part69_skel)
        | (rw [k1_part70_eq_skeleton]; unfold k1_part70_skel)
        | (rw [k1_part71_eq_skeleton]; unfold k1_part71_skel)
        | (rw [k1_part72_eq_skeleton]; unfold k1_part72_skel)
        | (rw [k1_part73_eq_skeleton]; unfold k1_part73_skel)
        | (rw [k1_part74_eq_skeleton]; unfold k1_part74_skel)
        | (rw [k1_part75_eq_skeleton]; unfold k1_part75_skel)
        | (rw [k1_part76_eq_skeleton]; unfold k1_part76_skel)
        | (rw [k1_part77_eq_skeleton]; unfold k1_part77_skel)
        | (rw [k1_part78_eq_skeleton]; unfold k1_part78_skel)
        | (rw [k1_part79_eq_skeleton]; unfold k1_part79_skel)
        | (rw [k1_part80_eq_skeleton]; unfold k1_part80_skel)
        | (rw [k1_part81_eq_skeleton]; unfold k1_part81_skel)
        | (rw [k1_part82_eq_skeleton]; unfold k1_part82_skel)
        | (rw [k1_part83_eq_skeleton]; unfold k1_part83_skel)
        | (rw [k1_part84_eq_skeleton]; unfold k1_part84_skel)
        | (rw [k1_part85_eq_skeleton]; unfold k1_part85_skel)
        | (rw [k1_part86_eq_skeleton]; unfold k1_part86_skel)
        | (rw [k1_part87_eq_skeleton]; unfold k1_part87_skel)
        | (rw [k1_part88_eq_skeleton]; unfold k1_part88_skel)
        | (rw [k1_part89_eq_skeleton]; unfold k1_part89_skel)
        | (rw [k1_part90_eq_skeleton]; unfold k1_part90_skel)
        | (rw [k1_part91_eq_skeleton]; unfold k1_part91_skel)
        | (rw [k1_part92_eq_skeleton]; unfold k1_part92_skel)
        | (rw [k1_part93_eq_skeleton]; unfold k1_part93_skel)
    repeat
      first
      | with_reducible refine step_issue hs rfl rfl (by decide +kernel) (by decide +kernel) hS (by simp only [Nat.reduceAdd]; try exact rfl) ?_
      | with_reducible refine step_load_shift fun _ => ?_
      | with_reducible refine step_store_shift ?_
      | (with_reducible refine step_assume ?_ ?_
         focus exact fun _ => row_inb _ ‹_›)
      | with_reducible refine step_last ?_
      | with_reducible refine step_pure ?_
      | refine step_id hids fun v hv => ?_
      | refine step_end (p := smemLoad M1 _ _ _) ?_
    try
      with_reducible refine BIBase.Entails.trans ?_ (hQ' _)
      clear hQ' Q'
  refine step_issue hs rfl rfl (by decide +kernel) (by decide +kernel) hS (by simp only [Nat.reduceAdd]; try exact rfl) ?_
  refine step_load_shift fun _ => ?_
  refine step_store_shift ?_
  exact h _ _

end Cert.Kernel.Dense

end
-- ==== Proof.Bits.Point.lean ====
/-
  One grid point of the dense call: from what is held before it, the body leaves the block of scores `k1_pay1` of its
  six operands, and what is held for the next point.
-/
module

public import proofs.«01_k».proof.Proof.Bits.Drain
public import proofs.«01_k».proof.Proof.Bits.Before

@[expose] public section

set_option maxRecDepth 16384

noncomputable section

namespace Cert.Kernel.Dense

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {i : grid1.Coords} (M1 : Memref sig .tc .smem S1x1x200 .i32) (hM1 : M1.IsWhole) (M2 : Memref sig .tc .vmem S384x768 .bf16) (hM2 : M2.IsWhole) (M3 : Memref sig .tc .vmem S2048x384 .i8) (hM3 : M3.IsWhole) (M4 : Memref sig .tc .vmem S2048 .i32) (hM4 : M4.IsWhole) (M5 : Memref sig .tc .vmem S384x128 .f32) (hM5 : M5.IsWhole) (M6 : Memref sig .tc .vmem S384x128 .f32) (hM6 : M6.IsWhole) (M7 : Memref sig .tc .vmem S384x128 .f32) (hM7 : M7.IsWhole) (M8 : Memref sig .tc .vmem S384x768 .f32) (hM8 : M8.IsWhole) (h9 : srcM.IsWhole)
  (M10 : Memref sig .tc .vmem S384x2048 .f32) (hM10 : M10.IsWhole) (M11 : Memref sig .tc .vmem S1x104x128 .f32) (hM11 : M11.IsWhole)
  (h12 : rowsM.IsWhole) (h13 : shiftM.IsWhole)
  {c : Dev nD} {s : Fin 2} {ids : Buf (Elt F) (M1.view.loc (c : Thread nD τ))} {S : Finset S2x208x768.Idx} {R : Assn F}
  {α : Type} {Q : α → Assn F}

/-- The operands' staging buffers at given contents, and the refined block's at something. -/
def wins (c : Dev nD) (M2 : Memref sig .tc .vmem S384x768 .bf16) (M3 : Memref sig .tc .vmem S2048x384 .i8) (M4 : Memref sig .tc .vmem S2048 .i32)
    (M5 M6 M7 : Memref sig .tc .vmem S384x128 .f32) (M8 : Memref sig .tc .vmem S384x768 .f32) (M11 : Memref sig .tc .vmem S1x104x128 .f32)
    (f2 : Buf (Elt F) (M2.view.loc (c : Thread nD τ))) (f3 : Buf (Elt F) (M3.view.loc (c : Thread nD τ))) (f4 : Buf (Elt F) (M4.view.loc (c : Thread nD τ))) (f5 : Buf (Elt F) (M5.view.loc (c : Thread nD τ))) (f6 : Buf (Elt F) (M6.view.loc (c : Thread nD τ))) (f7 : Buf (Elt F) (M7.view.loc (c : Thread nD τ))) (f8 : Buf (Elt F) (M8.view.loc (c : Thread nD τ))) : Assn F :=
  iprop((M2.view.loc (c : Thread nD τ) ↦{fullShare} f2) ∗ (M3.view.loc (c : Thread nD τ) ↦{fullShare} f3) ∗ (M4.view.loc (c : Thread nD τ) ↦{fullShare} f4) ∗ (M5.view.loc (c : Thread nD τ) ↦{fullShare} f5) ∗ (M6.view.loc (c : Thread nD τ) ↦{fullShare} f6) ∗ (M7.view.loc (c : Thread nD τ) ↦{fullShare} f7) ∗ (M8.view.loc (c : Thread nD τ) ↦{fullShare} f8) ∗ (∃ f : Buf (Elt F) (M11.view.loc (c : Thread nD τ)), M11.view.loc (c : Thread nD τ) ↦{fullShare} f))

/-- The block of scores, from the six operands. -/
def scores (x2 : FVec F S384x768 .bf16) (x3 : IVec S2048x384 8) (x4 : IVec S2048 32) (x5 x6 x7 : FVec F S384x128 .f32) : FVec F S384x2048 .f32 :=
  k1_pay1 (k1_pay254 x3 x2) (k1_pay255 (F := F) x4) (k1_pay256 (F := F) x4) x5 x6 x7

/-- The scores' staging buffer at something, and at a given block. -/
abbrev someBlock (c : Dev nD) (M10 : Memref sig .tc .vmem S384x2048 .f32) : Assn F :=
  iprop(∃ f : Buf (Elt F) (M10.view.loc (c : Thread nD τ)), M10.view.loc (c : Thread nD τ) ↦{fullShare} f)

abbrev theBlock (c : Dev nD) (M10 : Memref sig .tc .vmem S384x2048 .f32) (w : FVec F S384x2048 .f32) : Assn F :=
  iprop(∃ f : Buf (Elt F) (M10.view.loc (c : Thread nD τ)), ⌜M10.view.read (Elt F) f = w⌝ ∗ M10.view.loc (c : Thread nD τ) ↦{fullShare} f)

/-- The store of the block. -/
theorem step_block {c : Dev nD} {M1 : Memref sig .tc .smem S1x1x200 .i32} {ids : Buf (Elt F) (M1.view.loc (c : Thread nD τ))} {M10 : Memref sig .tc .vmem S384x2048 .f32}
    {T : Finset S2x208x768.Idx} {Y Z O W : Assn F} {α : Type} {Q : α → Assn F} {off : Fin 2 → ℕ} {h0 : ∀ a, off a + S384x2048.size a ≤ S384x2048.size a}
    {w : FVec F S384x2048 .f32} {hx hm} {K : PUnit → Prog (TpuEff nD τ sig (Elt F) Λ₀ .tc) α}
    (h : held c M1 ids T Y iprop(Z ∗ O ∗ theBlock c M10 w ∗ W) ⊢ wpc c (K ⟨⟩) Q) :
    held c M1 ids T Y iprop(Z ∗ O ∗ someBlock c M10 ∗ W) ⊢ wpc c (Prog.lift (.store M10 (Rect.unit (s := S384x2048) off S384x2048.size h0) w Finset.univ hx hm) >>= K) Q := by
  unfold held
  iintro ⟨H1, Hs, Hr, Hsh, HY, HZ, HO, ⟨%f, Hm⟩, HW⟩
  iapply (wp_store Variants.none (c : Thread nD τ) none Set.univ (m := M10) (r := Rect.unit (s := S384x2048) off S384x2048.size h0) (w := w) (Mk := Finset.univ) (f := f) (Finset.subset_univ _)) $$ Hm
  iintro Hm
  iapply h
  unfold held
  isplitl [H1]; · iexact H1
  isplitl [Hs]; · iexact Hs
  isplitl [Hr]; · iexact Hr
  isplitl [Hsh]; · iexact Hsh
  isplitl [HY]; · iexact HY
  isplitl [HZ]; · iexact HZ
  isplitl [HO]; · iexact HO
  isplitl [Hm]
  · iexists _
    isplitr
    swap
    · iexact Hm
    ipureintro
    refine (View.readAt_full M10.view _ h0).symm.trans ?_
    exact View.read_write_univ (v := (M10.access (Rect.unit (s := S384x2048) off S384x2048.size h0))) f w
  iexact HW

/-- A point that issues nothing. -/
theorem before_none {P : Assn F} (h2 : ¬ k1_cond2 i = 1#1) (hp : Acc P (rowsL c) Finset.univ ∨ ¬ cond1 i = 1#1) (hq : Acc P (shiftL c) Finset.univ)
    {Q : _ → Assn F} (h : ∀ a0 v9, (P ⊢ wpc c (tail M2 M3 M4 a0 v9) Q)) :
    P ⊢ wpc c (k1_part108 (F := F) i M1 hM1 M2 hM2 M3 hM3 M4 hM4 M5 hM5 M6 hM6 M7 hM7 M8 hM8 srcM h9 M10 hM10 M11 hM11 rowsM h12 shiftM h13 cc1_scratch2) Q := by
  rw [k1_part108_eq_skeleton]
  unfold k1_part108_skel
  extract_lets
  refine clear_step _ (fun e => ?_) hq ?_
  · exact hp.resolve_right fun h => h e
  exact step_dite (fun h2' => absurd h2' h2) (fun _ => h _ _)

variable (i) in
set_option pp.maxSteps 200 in
set_option maxHeartbeats 2000000 in
/-- A grid point from its arithmetic on. -/
theorem point_after {T T' : Finset S2x208x768.Idx} {Y Z Z' P0 : Assn F} {o : Fin 2} {f2 : Buf (Elt F) (M2.view.loc (c : Thread nD τ))} {f3 : Buf (Elt F) (M3.view.loc (c : Thread nD τ))} {f4 : Buf (Elt F) (M4.view.loc (c : Thread nD τ))} {f5 : Buf (Elt F) (M5.view.loc (c : Thread nD τ))} {f6 : Buf (Elt F) (M6.view.loc (c : Thread nD τ))} {f7 : Buf (Elt F) (M7.view.loc (c : Thread nD τ))} {f8 : Buf (Elt F) (M8.view.loc (c : Thread nD τ))}
    (hstart : ∀ Q : _ → Assn F, (∀ a0 v9, (held c M1 ids T Y iprop(Z ∗ owesNone c ∗ someBlock c M10 ∗ wins c M2 M3 M4 M5 M6 M7 M8 M11 f2 f3 f4 f5 f6 f7 f8) ⊢ wpc c (tail M2 M3 M4 a0 v9) Q)) →
      (P0 ⊢ wpc c (k1_part108 (F := F) i M1 hM1 M2 hM2 M3 hM3 M4 hM4 M5 hM5 M6 hM6 M7 hM7 M8 hM8 srcM h9 M10 hM10 M11 hM11 rowsM h12 shiftM h13 cc1_scratch2) Q))
    (ho : k1_off801 i = ![o.val])
    (hd : (k1_cond3 i = 1#1 ∧ Z = flight (F := F) c o 200 ∧ T' = T ∪ filled o.val 200 ∧ Z' = (semVal ((c : Thread nD τ), SemLoc.dma (slotSem o)) 0 : Assn F)
        ∧ Disjoint T (filled o.val 200) ∧ slotSet o.val ⊆ T') ∨ (¬ k1_cond3 i = 1#1 ∧ T' = T ∧ Z' = Z))
    {Q : PUnit → Assn F}
    (h : held c M1 ids T' Y iprop(Z' ∗ owesNone c ∗ theBlock c M10 (scores (M2.view.read (Elt F) f2) (M3.view.read (Elt F) f3) (M4.view.read (Elt F) f4) (M5.view.read (Elt F) f5) (M6.view.read (Elt F) f6) (M7.view.read (Elt F) f7))
        ∗ wins c M2 M3 M4 M5 M6 M7 M8 M11 f2 f3 f4 f5 f6 f7 f8) ⊢ Q ⟨⟩) :
    P0 ⊢ wpc c (cc1_dense (F := F) i M1 hM1 M2 hM2 M3 hM3 M4 hM4 M5 hM5 M6 hM6 M7 hM7 M8 hM8 srcM h9 M10 hM10 M11 hM11 rowsM h12 shiftM h13 cc1_scratch2) Q := by
  have r2 : Reads (wins c M2 M3 M4 M5 M6 M7 M8 M11 f2 f3 f4 f5 f6 f7 f8) (M2.view.loc (c : Thread nD τ)) f2 := reads_head
  have r3 : Reads (wins c M2 M3 M4 M5 M6 M7 M8 M11 f2 f3 f4 f5 f6 f7 f8) (M3.view.loc (c : Thread nD τ)) f3 := reads_right (reads_head)
  have r4 : Reads (wins c M2 M3 M4 M5 M6 M7 M8 M11 f2 f3 f4 f5 f6 f7 f8) (M4.view.loc (c : Thread nD τ)) f4 := reads_right (reads_right (reads_head))
  have r5 : Reads (wins c M2 M3 M4 M5 M6 M7 M8 M11 f2 f3 f4 f5 f6 f7 f8) (M5.view.loc (c : Thread nD τ)) f5 := reads_right (reads_right (reads_right (reads_head)))
  have r6 : Reads (wins c M2 M3 M4 M5 M6 M7 M8 M11 f2 f3 f4 f5 f6 f7 f8) (M6.view.loc (c : Thread nD τ)) f6 := reads_right (reads_right (reads_right (reads_right (reads_head))))
  have r7 : Reads (wins c M2 M3 M4 M5 M6 M7 M8 M11 f2 f3 f4 f5 f6 f7 f8) (M7.view.loc (c : Thread nD τ)) f7 := reads_right (reads_right (reads_right (reads_right (reads_right (reads_head)))))
  have r8 : Reads (wins c M2 M3 M4 M5 M6 M7 M8 M11 f2 f3 f4 f5 f6 f7 f8) (M8.view.loc (c : Thread nD τ)) f8 := reads_right (reads_right (reads_right (reads_right (reads_right (reads_right (reads_head))))))
  have a11 : Acc (wins c M2 M3 M4 M5 M6 M7 M8 M11 f2 f3 f4 f5 f6 f7 f8) (M11.view.loc (c : Thread nD τ)) Finset.univ := acc_right (acc_right (acc_right (acc_right (acc_right (acc_right (acc_right (acc_self)))))))
  rw [cc1_dense_eq_skeleton]
  unfold cc1_dense_skel
  refine step_part' ?_
  intro Q' hQ'
  refine hstart Q' fun a0 v9 => ?_
  unfold tail
  refine step_read (f := f3) (held_reads (reads_right (reads_right (reads_right r3)))) ?_
  refine step_read (f := f2) (held_reads (reads_right (reads_right (reads_right r2)))) ?_
  refine step_read (f := f4) (held_reads (reads_right (reads_right (reads_right r4)))) ?_
  rw [View.readAt_full, View.readAt_full, View.readAt_full]
  refine step_pure ?_
  refine BIBase.Entails.trans ?_ (hQ' _)
  clear hQ' Q'
  refine step_read (f := f5) (held_reads (reads_right (reads_right (reads_right r5)))) ?_
  refine step_read (f := f6) (held_reads (reads_right (reads_right (reads_right r6)))) ?_
  refine step_read (f := f7) (held_reads (reads_right (reads_right (reads_right r7)))) ?_
  rw [View.readAt_full, View.readAt_full, View.readAt_full]
  refine step_load (held_acc (acc_right (acc_right acc_head))) (Finset.subset_univ _) fun _ => ?_
  refine step_block ?_
  extract_lets
  change held c M1 ids T Y iprop(Z ∗ owesNone c ∗ theBlock c M10 (scores (M2.view.read (Elt F) f2) (M3.view.read (Elt F) f3) (M4.view.read (Elt F) f4) (M5.view.read (Elt F) f5) (M6.view.read (Elt F) f6) (M7.view.read (Elt F) f7))
        ∗ wins c M2 M3 M4 M5 M6 M7 M8 M11 f2 f3 f4 f5 f6 f7 f8) ⊢ _
  generalize scores (M2.view.read (Elt F) f2) (M3.view.read (Elt F) f3) (M4.view.read (Elt F) f4) (M5.view.read (Elt F) f5) (M6.view.read (Elt F) f6) (M7.view.read (Elt F) f7) = w at h ⊢
  refine step_dite (fun h3 => ?_) (fun h3 => ?_)
  swap
  · obtain ⟨h3', -⟩ | ⟨-, rfl, rfl⟩ := hd
    · exact absurd h3' h3
    exact step_pure h
  obtain ⟨-, rfl, rfl, rfl, hdis, hsl⟩ | ⟨h3', -⟩ := hd
  swap
  · exact absurd h3 h3'
  refine step_part' ?_
  intro Q' hQ'
  rw [k1_part95_eq_skeleton]; unfold k1_part95_skel
  refine step_drain ho hdis ?_
  have b5 := held_reads (c := c) (M1 := M1) (ids := ids) (T := T ∪ filled o.val 200) (Y := Y) (reads_right (A := semVal ((c : Thread nD τ), SemLoc.dma (slotSem o)) 0) (reads_right (A := owesNone c) (reads_right (A := theBlock c M10 w) r5)))
  have b6 := held_reads (c := c) (M1 := M1) (ids := ids) (T := T ∪ filled o.val 200) (Y := Y) (reads_right (A := semVal ((c : Thread nD τ), SemLoc.dma (slotSem o)) 0) (reads_right (A := owesNone c) (reads_right (A := theBlock c M10 w) r6)))
  have b8 := held_reads (c := c) (M1 := M1) (ids := ids) (T := T ∪ filled o.val 200) (Y := Y) (reads_right (A := semVal ((c : Thread nD τ), SemLoc.dma (slotSem o)) 0) (reads_right (A := owesNone c) (reads_right (A := theBlock c M10 w) r8)))
  have b11 := held_acc (c := c) (M1 := M1) (ids := ids) (T := T ∪ filled o.val 200) (Y := Y) (acc_right (A := semVal ((c : Thread nD τ), SemLoc.dma (slotSem o)) 0) (acc_right (A := owesNone c) (acc_right (A := theBlock c M10 w) a11)))
  have b12 := held_rows (c := c) (M1 := M1) (ids := ids) (T ∪ filled o.val 200) Y iprop(semVal ((c : Thread nD τ), SemLoc.dma (slotSem o)) 0 ∗ owesNone c ∗ theBlock c M10 w ∗ wins c M2 M3 M4 M5 M6 M7 M8 M11 f2 f3 f4 f5 f6 f7 f8)
  have b13 := held_shift (c := c) (M1 := M1) (ids := ids) (T ∪ filled o.val 200) Y iprop(semVal ((c : Thread nD τ), SemLoc.dma (slotSem o)) 0 ∗ owesNone c ∗ theBlock c M10 w ∗ wins c M2 M3 M4 M5 M6 M7 M8 M11 f2 f3 f4 f5 f6 f7 f8)
  clear r2 r3 r4 r5 r6 r7 r8 a11 hstart
  generalize held c M1 ids (T ∪ filled o.val 200) Y iprop(semVal ((c : Thread nD τ), SemLoc.dma (slotSem o)) 0 ∗ owesNone c ∗ theBlock c M10 w ∗ wins c M2 M3 M4 M5 M6 M7 M8 M11 f2 f3 f4 f5 f6 f7 f8) = P at h b5 b6 b8 b11 b12 b13 ⊢
  have ho' : k1_off801 i 0 = o.val := by rw [ho]; rfl
  refine step_load b11 (Finset.subset_univ _) fun _ => ?_
  refine step_load b13 (Finset.subset_univ _) fun _ => ?_
  refine step_pure ?_
  refine BIBase.Entails.trans ?_ (hQ' _)
  clear hQ' Q'
  iterate 12
    refine step_part' ?_
    intro Q' hQ'
    first
        | (rw [k1_part95_eq_skeleton]; unfold k1_part95_skel)
        | (rw [k1_part96_eq_skeleton]; unfold k1_part96_skel)
        | (rw [k1_part97_eq_skeleton]; unfold k1_part97_skel)
        | (rw [k1_part98_eq_skeleton]; unfold k1_part98_skel)
        | (rw [k1_part99_eq_skeleton]; unfold k1_part99_skel)
        | (rw [k1_part100_eq_skeleton]; unfold k1_part100_skel)
        | (rw [k1_part101_eq_skeleton]; unfold k1_part101_skel)
        | (rw [k1_part102_eq_skeleton]; unfold k1_part102_skel)
        | (rw [k1_part103_eq_skeleton]; unfold k1_part103_skel)
        | (rw [k1_part104_eq_skeleton]; unfold k1_part104_skel)
        | (rw [k1_part105_eq_skeleton]; unfold k1_part105_skel)
        | (rw [k1_part106_eq_skeleton]; unfold k1_part106_skel)
        | (rw [k1_part107_eq_skeleton]; unfold k1_part107_skel)
    repeat
      first
      | with_reducible refine step_read' b8 fun _ => ?_
      | with_reducible refine step_read' b5 fun _ => ?_
      | with_reducible refine step_read' b6 fun _ => ?_
      | with_reducible refine step_load b13 (Finset.subset_univ _) fun _ => ?_
      | (with_reducible refine step_load b12 ?_ fun _ => ?_
         focus exact rows_load c ho' hsl)
      | with_reducible refine step_pure ?_
      | with_reducible refine step_last ?_
    refine BIBase.Entails.trans ?_ (hQ' _)
    clear hQ' Q'
  refine step_load b11 (Finset.subset_univ _) fun _ => ?_
  refine step_store b11 ?_
  exact step_pure h

end Cert.Kernel.Dense

end
-- ==== Proof.Bits.Turn.lean ====
/-
  A grid point of the dense call, by its number: what is held between the points (`between`), and the triple that takes it from
  one point to the next (`turn`).
-/
module

public import proofs.«01_k».proof.Proof.Bits.Point
public import proofs.«01_k».proof.Proof.Gen.Kernel.Launch

@[expose] public section

set_option maxRecDepth 16384

noncomputable section

namespace Cert.Kernel.Dense

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (M1 : Memref sig .tc .smem S1x1x200 .i32) (hM1 : M1.IsWhole) (M2 : Memref sig .tc .vmem S384x768 .bf16) (hM2 : M2.IsWhole) (M3 : Memref sig .tc .vmem S2048x384 .i8) (hM3 : M3.IsWhole) (M4 : Memref sig .tc .vmem S2048 .i32) (hM4 : M4.IsWhole) (M5 : Memref sig .tc .vmem S384x128 .f32) (hM5 : M5.IsWhole) (M6 : Memref sig .tc .vmem S384x128 .f32) (hM6 : M6.IsWhole) (M7 : Memref sig .tc .vmem S384x128 .f32) (hM7 : M7.IsWhole) (M8 : Memref sig .tc .vmem S384x768 .f32) (hM8 : M8.IsWhole) (h9 : srcM.IsWhole)
  (M10 : Memref sig .tc .vmem S384x2048 .f32) (hM10 : M10.IsWhole) (M11 : Memref sig .tc .vmem S1x104x128 .f32) (hM11 : M11.IsWhole)
  (h12 : rowsM.IsWhole) (h13 : shiftM.IsWhole)
  {c : Dev nD} {ids : Buf (Elt F) (M1.view.loc (c : Thread nD τ))}

/-! ## The point's conditions -/

/-- The slot of the scratch that point `n` fills. -/
def par (n : ℕ) : Fin 2 := ⟨n % 2, Nat.mod_lt _ (by decide)⟩

theorem par_add_two (n : ℕ) : par (n + 2) = par n := Fin.ext (by unfold par; dsimp only; omega)

theorem slot_at : ∀ t : Fin grid1.N, slotN (grid1.coords t) = (par t.val).val :=
  (by decide +kernel : ∀ t : Fin grid1.N, slotN (grid1.coords t) = t.val % 2)

theorem off_at : ∀ t : Fin grid1.N, k1_off801 (grid1.coords t) = ![(par (t.val + 1)).val] :=
  (by decide +kernel : ∀ t : Fin grid1.N, k1_off801 (grid1.coords t) = ![(t.val + 1) % 2])

theorem issues_at : ∀ t : Fin grid1.N, k1_cond2 (grid1.coords t) = 1#1 ↔ t.val < 192 := by decide +kernel

theorem drains_at : ∀ t : Fin grid1.N, k1_cond3 (grid1.coords t) = 1#1 ↔ 1 ≤ t.val ∧ t.val ≤ 192 := by decide +kernel

theorem clears_at : ∀ t : Fin grid1.N, cond1 (grid1.coords t) = 1#1 ↔ t.val = 0 := by decide +kernel

/-! ## Between two points -/

/-- The body's own buffers and counters: the scratch rows held on `T`, and the two slots' counters at `Y` and `Z`. -/
def rest (c : Dev nD) (T : Finset S2x208x768.Idx) (Y Z : Assn F) : Assn F :=
  iprop((∃ (q : PosShare TreeShare) (f : Buf (Elt F) (srcL c)), srcL c ↦{q} f)
    ∗ (∃ f : Buf (Elt F) (rowsL c), rowsL c ↦[onRows c T]{fullShare} f)
    ∗ (∃ f : Buf (Elt F) (shiftL c), shiftL c ↦{fullShare} f)
    ∗ Y ∗ Z)

/-- A slot's counter at zero. -/
abbrev quiet (c : Dev nD) (s : Fin 2) : Assn F := semVal ((c : Thread nD τ), SemLoc.dma (slotSem s)) 0

/-- What is held before point `n`: at points 1 to 192 the other slot's transfers are in flight. -/
def between (c : Dev nD) (n : ℕ) : Assn F :=
  if 1 ≤ n ∧ n ≤ 192 then rest c (Finset.univ \ filled (par (n + 1)).val 200) (quiet c (par n)) (flight (F := F) c (par (n + 1)) 200)
  else rest c Finset.univ (quiet c (par n)) (quiet c (par (n + 1)))

omit [FloatOps F] in
theorem rest_swap (T : Finset S2x208x768.Idx) (Y Z : Assn F) : rest c T Y Z ⊢ rest c T Z Y := by
  unfold rest
  iintro ⟨H1, H2, H3, H4, H5⟩
  isplitl [H1]; · iexact H1
  isplitl [H2]; · iexact H2
  isplitl [H3]; · iexact H3
  isplitl [H5]; · iexact H5
  iexact H4

theorem held_of_rest (T : Finset S2x208x768.Idx) (Y Z B : Assn F) :
    iprop(rest c T Y Z ∗ (M1.view.loc (c : Thread nD τ) ↦{fullShare} ids) ∗ B) ⊢ held c M1 ids T Y iprop(Z ∗ B) := by
  unfold rest held
  iintro ⟨⟨H1, H2, H3, H4, H5⟩, H6, H7⟩
  isplitl [H6]; · iexact H6
  isplitl [H1]; · iexact H1
  isplitl [H2]; · iexact H2
  isplitl [H3]; · iexact H3
  isplitl [H4]; · iexact H4
  isplitl [H5]; · iexact H5
  iexact H7

theorem rest_of_held (T : Finset S2x208x768.Idx) (Y Z B : Assn F) :
    held c M1 ids T Y iprop(Z ∗ B) ⊢ iprop(rest c T Y Z ∗ (M1.view.loc (c : Thread nD τ) ↦{fullShare} ids) ∗ B) := by
  unfold rest held
  iintro ⟨H6, H1, H2, H3, H4, H5, H7⟩
  isplitr [H6 H7]
  · isplitl [H1]; · iexact H1
    isplitl [H2]; · iexact H2
    isplitl [H3]; · iexact H3
    isplitl [H4]; · iexact H4
    iexact H5
  isplitl [H6]; · iexact H6
  iexact H7

theorem rowSet_apart {s o : ℕ} (h : s ≠ o) (r : ℕ) : rowSet s r ⊆ Finset.univ \ filled o 200 := by
  intro x hx
  simp only [rowSet, filled, Finset.mem_filter, Finset.mem_univ, true_and, Finset.mem_sdiff] at hx ⊢
  exact fun h' => h (hx.1.symm.trans h'.1)

theorem par_ne (n : ℕ) : (par n).val ≠ (par (n + 1)).val := by unfold par; dsimp only; omega

theorem filled_apart {s o : ℕ} (h : s ≠ o) : Disjoint (filled s 200) (filled o 200) := by
  rw [Finset.disjoint_left]
  intro x h1 h2
  simp only [filled, Finset.mem_filter, Finset.mem_univ, true_and] at h1 h2
  exact h (h1.1.symm.trans h2.1)

theorem refill {s o : ℕ} (h : s ≠ o) : ((Finset.univ \ filled o 200) \ filled s 200) ∪ filled o 200 = Finset.univ \ filled s 200 := by
  ext x
  have := fun h1 : x ∈ filled s 200 => Finset.disjoint_left.mp (filled_apart h) h1
  simp only [Finset.mem_union, Finset.mem_sdiff, Finset.mem_univ, true_and]
  tauto

theorem refill_all (o : ℕ) : (Finset.univ \ filled o 200) ∪ filled o 200 = Finset.univ := by
  ext x
  simp only [Finset.mem_union, Finset.mem_sdiff, Finset.mem_univ, true_and]
  tauto

theorem slotSet_apart {s o : ℕ} (h : s ≠ o) : slotSet o ⊆ Finset.univ \ filled s 200 := by
  intro x hx
  simp only [slotSet, filled, Finset.mem_filter, Finset.mem_univ, true_and, Finset.mem_sdiff] at hx ⊢
  exact fun h' => h (h'.1.symm.trans hx)

/-! ## The point -/

set_option maxHeartbeats 1000000 in
/-- THE POINT: the body at point `t` takes what is held before `t` to what is held before `t + 1`, and leaves the block of scores. -/
theorem turn (t : Fin grid1.N) {f2 : Buf (Elt F) (M2.view.loc (c : Thread nD τ))} {f3 : Buf (Elt F) (M3.view.loc (c : Thread nD τ))} {f4 : Buf (Elt F) (M4.view.loc (c : Thread nD τ))} {f5 : Buf (Elt F) (M5.view.loc (c : Thread nD τ))} {f6 : Buf (Elt F) (M6.view.loc (c : Thread nD τ))} {f7 : Buf (Elt F) (M7.view.loc (c : Thread nD τ))} {f8 : Buf (Elt F) (M8.view.loc (c : Thread nD τ))}
    (hids : t.val < 192 → ∀ (r : Rect S1x1x200) (x : r.shape.Idx), ((M1.access r).read (Elt F) ids x : BitVec 32).toNat < 400000) {Q : PUnit → Assn F}
    (h : iprop(between c (t.val + 1) ∗ (M1.view.loc (c : Thread nD τ) ↦{fullShare} ids) ∗ owesNone c
        ∗ theBlock c M10 (scores (M2.view.read (Elt F) f2) (M3.view.read (Elt F) f3) (M4.view.read (Elt F) f4) (M5.view.read (Elt F) f5) (M6.view.read (Elt F) f6) (M7.view.read (Elt F) f7))
        ∗ wins c M2 M3 M4 M5 M6 M7 M8 M11 f2 f3 f4 f5 f6 f7 f8) ⊢ Q ⟨⟩) :
    iprop(between c t.val ∗ (M1.view.loc (c : Thread nD τ) ↦{fullShare} ids) ∗ owesNone c ∗ someBlock c M10 ∗ wins c M2 M3 M4 M5 M6 M7 M8 M11 f2 f3 f4 f5 f6 f7 f8)
      ⊢ wpc c (cc1_dense (F := F) (grid1.coords t) M1 hM1 M2 hM2 M3 hM3 M4 hM4 M5 hM5 M6 hM6 M7 hM7 M8 hM8 srcM h9 M10 hM10 M11 hM11 rowsM h12 shiftM h13 cc1_scratch2) Q := by
  have ht : t.val < 196 := lt_of_lt_of_eq t.isLt N_1
  have hne := par_ne t.val
  by_cases h0 : t.val = 0
  · -- the first point: issue only
    have e : between (F := F) c t.val = rest c Finset.univ (quiet c (par t.val)) (quiet c (par (t.val + 1))) := if_neg (by omega)
    have e' : between (F := F) c (t.val + 1) = rest c (Finset.univ \ filled (par (t.val + 1 + 1)).val 200) (quiet c (par (t.val + 1))) (flight (F := F) c (par (t.val + 1 + 1)) 200) := if_pos (by omega)
    rw [e]; rw [e', par_add_two] at h
    refine (held_of_rest _ _ _ _ _).trans ?_
    refine point_after (grid1.coords t) M1 hM1 M2 hM2 M3 hM3 M4 hM4 M5 hM5 M6 hM6 M7 hM7 M8 hM8 h9 M10 hM10 M11 hM11 h12 h13 (o := par (t.val + 1)) (T := Finset.univ \ filled (par t.val).val 200) (Y := flight (F := F) c (par t.val) 200)
      (fun Q hQ => start_issue (before_issue (grid1.coords t) M1 hM1 M2 hM2 M3 hM3 M4 hM4 M5 hM5 M6 hM6 M7 hM7 M8 hM8 h9 M10 hM10 M11 hM11 h12 h13 (hids (by omega)) (slot_at t) (fun r => Finset.subset_univ _) ((issues_at t).mpr (by omega)) (fun _ => rfl) (fun a0 v9 => hQ a0 v9)))
      (off_at t) (Or.inr ⟨fun h' => by have := (drains_at t).mp h'; omega, rfl, rfl⟩) ?_
    exact ((rest_of_held _ _ _ _ _).trans (sep_mono (rest_swap _ _ _) .rfl)).trans h
  by_cases h1 : t.val < 192
  · -- issue and drain
    have e : between (F := F) c t.val = rest c (Finset.univ \ filled (par (t.val + 1)).val 200) (quiet c (par t.val)) (flight (F := F) c (par (t.val + 1)) 200) := if_pos (by omega)
    have e' : between (F := F) c (t.val + 1) = rest c (Finset.univ \ filled (par (t.val + 1 + 1)).val 200) (quiet c (par (t.val + 1))) (flight (F := F) c (par (t.val + 1 + 1)) 200) := if_pos (by omega)
    rw [e]; rw [e', par_add_two] at h
    refine (held_of_rest _ _ _ _ _).trans ?_
    refine point_after (grid1.coords t) M1 hM1 M2 hM2 M3 hM3 M4 hM4 M5 hM5 M6 hM6 M7 hM7 M8 hM8 h9 M10 hM10 M11 hM11 h12 h13 (o := par (t.val + 1)) (T := (Finset.univ \ filled (par (t.val + 1)).val 200) \ filled (par t.val).val 200)
      (T' := Finset.univ \ filled (par t.val).val 200) (Y := flight (F := F) c (par t.val) 200) (Z := flight (F := F) c (par (t.val + 1)) 200) (Z' := quiet c (par (t.val + 1)))
      (fun Q hQ => start_issue (before_issue (grid1.coords t) M1 hM1 M2 hM2 M3 hM3 M4 hM4 M5 hM5 M6 hM6 M7 hM7 M8 hM8 h9 M10 hM10 M11 hM11 h12 h13 (hids h1) (slot_at t) (fun r => rowSet_apart hne r) ((issues_at t).mpr h1) (fun h' => absurd ((clears_at t).mp h') h0) (fun a0 v9 => hQ a0 v9)))
      (off_at t) (Or.inl ⟨(drains_at t).mpr (by omega), rfl, (refill hne).symm, rfl, Finset.disjoint_of_subset_left Finset.sdiff_subset Finset.sdiff_disjoint, slotSet_apart hne⟩) ?_
    exact ((rest_of_held _ _ _ _ _).trans (sep_mono (rest_swap _ _ _) .rfl)).trans h
  have hi : ¬ k1_cond2 (grid1.coords t) = 1#1 := fun h' => h1 ((issues_at t).mp h')
  have hc : ¬ cond1 (grid1.coords t) = 1#1 := fun h' => h0 ((clears_at t).mp h')
  have e' : between (F := F) c (t.val + 1) = rest c Finset.univ (quiet c (par (t.val + 1))) (quiet c (par (t.val + 1 + 1))) := if_neg (by omega)
  rw [e', par_add_two] at h
  by_cases h2 : t.val = 192
  · -- drain only
    have e : between (F := F) c t.val = rest c (Finset.univ \ filled (par (t.val + 1)).val 200) (quiet c (par t.val)) (flight (F := F) c (par (t.val + 1)) 200) := if_pos (by omega)
    rw [e]
    refine (held_of_rest _ _ _ _ _).trans ?_
    refine point_after (grid1.coords t) M1 hM1 M2 hM2 M3 hM3 M4 hM4 M5 hM5 M6 hM6 M7 hM7 M8 hM8 h9 M10 hM10 M11 hM11 h12 h13 (o := par (t.val + 1)) (T := Finset.univ \ filled (par (t.val + 1)).val 200)
      (T' := Finset.univ) (Y := quiet c (par t.val)) (Z := flight (F := F) c (par (t.val + 1)) 200) (Z' := quiet c (par (t.val + 1)))
      (fun Q hQ => before_none M1 hM1 M2 hM2 M3 hM3 M4 hM4 M5 hM5 M6 hM6 M7 hM7 M8 hM8 h9 M10 hM10 M11 hM11 h12 h13 hi (Or.inr hc) (held_shift _ _ _) (fun a0 v9 => hQ a0 v9))
      (off_at t) (Or.inl ⟨(drains_at t).mpr (by omega), rfl, (refill_all _).symm, rfl, Finset.sdiff_disjoint, Finset.subset_univ _⟩) ?_
    exact ((rest_of_held _ _ _ _ _).trans (sep_mono (rest_swap _ _ _) .rfl)).trans h
  · have e : between (F := F) c t.val = rest c Finset.univ (quiet c (par t.val)) (quiet c (par (t.val + 1))) := if_neg (by omega)
    rw [e]
    refine (held_of_rest _ _ _ _ _).trans ?_
    refine point_after (grid1.coords t) M1 hM1 M2 hM2 M3 hM3 M4 hM4 M5 hM5 M6 hM6 M7 hM7 M8 hM8 h9 M10 hM10 M11 hM11 h12 h13 (o := par (t.val + 1)) (T := Finset.univ) (Y := quiet c (par t.val))
      (fun Q hQ => before_none M1 hM1 M2 hM2 M3 hM3 M4 hM4 M5 hM5 M6 hM6 M7 hM7 M8 hM8 h9 M10 hM10 M11 hM11 h12 h13 hi (Or.inr hc) (held_shift _ _ _) (fun a0 v9 => hQ a0 v9))
      (off_at t) (Or.inr ⟨fun h' => by have := (drains_at t).mp h'; omega, rfl, rfl⟩) ?_
    exact ((rest_of_held _ _ _ _ _).trans (sep_mono (rest_swap _ _ _) .rfl)).trans h

end Cert.Kernel.Dense

end
-- ==== Proof.Bits.Codes.lean ====
/-
  The quantising call: what its body leaves in each result's buffer, and the body's triple at its one point.
-/
module

public import proofs.«01_k».proof.Proof.Bits.Steps
public import proofs.«01_k».proof.Proof.Gen.Kernel.Regions
public import proofs.«01_k».proof.Proof.Gen.Kernel.Skeleton
public import proofs.«01_k».proof.Proof.Gen.Kernel.Points
public import Idealize.ShloMosaic.Lib.Pipeline.FrameBody
public import Idealize.ShloMosaic.Lib.Claim
public import Idealize.ShloMosaic.Lib.Tactic

@[expose] public section

set_option maxRecDepth 16384

noncomputable section

namespace Cert.Kernel.Dense

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Core `c`'s buffers when the quantising call is entered. -/
abbrev entry0 (c : Dev nD) (b : Ref sig .tc) : Buf (Elt F) ((c : Thread nD τ).loc b) := V1 m c b

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (entry0 m c (Pipeline.arrRef spec0 w))

/-- Input window 0's current staging buffer holds its block at every point, fetched there or not, for ANY proof
    data whose array is `V`'s (`hA`) and whose body leaves the block in place (`hafter`): `Dat.before_in_eq_fetched` (unfetched, the index has not moved), the window uncut and never idle. -/
theorem before0_0_of {c : Dev nD} (dat : Dat τ (Elt F) Unit ℕ (UU) ℕ cfg0 c) (hA : dat.A 0 = entry0 m c (Pipeline.arrRef spec0 0))
    (hafter : ∀ t, dat.after 0 t = iblk0 m c 0 t) (t : Fin cfg0.N) (d) : dat.before 0 t d = iblk0 m c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): `Dat.before_in_eq_fetched` (unfetched, the index has not moved), the window uncut and never idle. -/
theorem before0_1_of {c : Dev nD} (dat : Dat τ (Elt F) Unit ℕ (UU) ℕ cfg0 c) (hA : dat.A 1 = entry0 m c (Pipeline.arrRef spec0 1))
    (hafter : ∀ t, dat.after 1 t = iblk0 m c 1 t) (t : Fin cfg0.N) (d) : dat.before 1 t d = iblk0 m c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S384x768 := Rect.unit (s := S384x768) ![0, 0] S384x768.size inb_S384x768_S384x768_0_0
abbrev r0_1 : Rect S384x1 := Rect.unit (s := S384x1) ![0, 0] S384x1.size inb_S384x1_S384x1_0_0
abbrev r0_2 : Rect S1x768 := Rect.unit (s := S1x768) ![0, 0] S1x768.size inb_S1x768_S1x768_0_0
abbrev r0_3 : Rect S384x128 := Rect.unit (s := S384x128) ![0, 0] S384x128.size inb_S384x128_S384x128_0_0

/-! ## What the body leaves in each output window's buffer -/

/-- Window 2's staging buffer after the body, from the input windows' blocks: its 1 store as pieces, LAST
    FIRST. -/
def out0_2 (x0 : Vec F S384x768 .bf16) (x1 : Vec F S1x768 .f32) : Vec F S384x768 .i8 :=
  View.canon [⟨r0_0, k0_pay7 (View.ld x0 r0_0)⟩]

/-- Its stores tile the buffer (checked by evaluation), so they cover it. -/
theorem cover0_2 (p0 : Vec F S384x768 .i8) (y : S384x768.Idx) :
    ∃ pc ∈ ([⟨r0_0, p0⟩] : List (View.Piece (Elt F) S384x768 .i8)), y ∈ pc.1.set :=
  View.cover_of_tiled [⟨r0_0, p0⟩] S384x768.size (by rfl) y

/-- Window 3's staging buffer after the body, from the input windows' blocks: its 1 store as pieces, LAST
    FIRST. -/
def out0_3 (x0 : Vec F S384x768 .bf16) (x1 : Vec F S1x768 .f32) : Vec F S384x1 .f32 :=
  View.canon [⟨r0_1, k0_pay5 (View.ld x0 r0_0)⟩]

/-- Its stores tile the buffer (checked by evaluation), so they cover it. -/
theorem cover0_3 (p0 : Vec F S384x1 .f32) (y : S384x1.Idx) :
    ∃ pc ∈ ([⟨r0_1, p0⟩] : List (View.Piece (Elt F) S384x1 .f32)), y ∈ pc.1.set :=
  View.cover_of_tiled [⟨r0_1, p0⟩] S384x1.size (by rfl) y

/-- Window 4's staging buffer after the body, from the input windows' blocks: its 1 store as pieces, LAST
    FIRST. -/
def out0_4 (x0 : Vec F S384x768 .bf16) (x1 : Vec F S1x768 .f32) : Vec F S384x768 .bf16 :=
  View.canon [⟨r0_0, k0_pay3 (k0_pay6 (View.ld x0 r0_0))⟩]

/-- Its stores tile the buffer (checked by evaluation), so they cover it. -/
theorem cover0_4 (p0 : Vec F S384x768 .bf16) (y : S384x768.Idx) :
    ∃ pc ∈ ([⟨r0_0, p0⟩] : List (View.Piece (Elt F) S384x768 .bf16)), y ∈ pc.1.set :=
  View.cover_of_tiled [⟨r0_0, p0⟩] S384x768.size (by rfl) y

/-- Window 5's staging buffer after the body, from the input windows' blocks: its 1 store as pieces, LAST
    FIRST. -/
def out0_5 (x0 : Vec F S384x768 .bf16) (x1 : Vec F S1x768 .f32) : Vec F S384x768 .f32 :=
  View.canon [⟨r0_0, k0_pay6 (View.ld x0 r0_0)⟩]

/-- Its stores tile the buffer (checked by evaluation), so they cover it. -/
theorem cover0_5 (p0 : Vec F S384x768 .f32) (y : S384x768.Idx) :
    ∃ pc ∈ ([⟨r0_0, p0⟩] : List (View.Piece (Elt F) S384x768 .f32)), y ∈ pc.1.set :=
  View.cover_of_tiled [⟨r0_0, p0⟩] S384x768.size (by rfl) y

/-- Window 6's staging buffer after the body, from the input windows' blocks: its 1 store as pieces, LAST
    FIRST. -/
def out0_6 (x0 : Vec F S384x768 .bf16) (x1 : Vec F S1x768 .f32) : Vec F S384x128 .f32 :=
  View.canon [⟨r0_3, k0_pay10 (View.ld x0 r0_0)⟩]

/-- Its stores tile the buffer (checked by evaluation), so they cover it. -/
theorem cover0_6 (p0 : Vec F S384x128 .f32) (y : S384x128.Idx) :
    ∃ pc ∈ ([⟨r0_3, p0⟩] : List (View.Piece (Elt F) S384x128 .f32)), y ∈ pc.1.set :=
  View.cover_of_tiled [⟨r0_3, p0⟩] S384x128.size (by rfl) y

/-- Window 7's staging buffer after the body, from the input windows' blocks: its 1 store as pieces, LAST
    FIRST. -/
def out0_7 (x0 : Vec F S384x768 .bf16) (x1 : Vec F S1x768 .f32) : Vec F S384x128 .f32 :=
  View.canon [⟨r0_3, k0_pay1 (k0_pay8 (View.ld x0 r0_0))⟩]

/-- Its stores tile the buffer (checked by evaluation), so they cover it. -/
theorem cover0_7 (p0 : Vec F S384x128 .f32) (y : S384x128.Idx) :
    ∃ pc ∈ ([⟨r0_3, p0⟩] : List (View.Piece (Elt F) S384x128 .f32)), y ∈ pc.1.set :=
  View.cover_of_tiled [⟨r0_3, p0⟩] S384x128.size (by rfl) y

/-- Window 8's staging buffer after the body, from the input windows' blocks: its 1 store as pieces, LAST
    FIRST. -/
def out0_8 (x0 : Vec F S384x768 .bf16) (x1 : Vec F S1x768 .f32) : Vec F S384x128 .f32 :=
  View.canon [⟨r0_3, k0_pay2 (k0_pay9 (View.ld x0 r0_0) (View.ld x1 r0_2))⟩]

/-- Its stores tile the buffer (checked by evaluation), so they cover it. -/
theorem cover0_8 (p0 : Vec F S384x128 .f32) (y : S384x128.Idx) :
    ∃ pc ∈ ([⟨r0_3, p0⟩] : List (View.Piece (Elt F) S384x128 .f32)), y ∈ pc.1.set :=
  View.cover_of_tiled [⟨r0_3, p0⟩] S384x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel0 (c : Dev nD) (E : Set ℕ) (arg0 : Memref sig .tc .vmem S384x768 .bf16) (harg0 : arg0.IsWhole) (arg1 : Memref sig .tc .vmem S1x768 .f32) (harg1 : arg1.IsWhole) (arg2 : Memref sig .tc .vmem S384x768 .i8) (harg2 : arg2.IsWhole) (arg3 : Memref sig .tc .vmem S384x1 .f32) (harg3 : arg3.IsWhole) (arg4 : Memref sig .tc .vmem S384x768 .bf16) (harg4 : arg4.IsWhole) (arg5 : Memref sig .tc .vmem S384x768 .f32) (harg5 : arg5.IsWhole) (arg6 : Memref sig .tc .vmem S384x128 .f32) (harg6 : arg6.IsWhole) (arg7 : Memref sig .tc .vmem S384x128 .f32) (harg7 : arg7.IsWhole) (arg8 : Memref sig .tc .vmem S384x128 .f32) (harg8 : arg8.IsWhole)
    (x0 : Vec F S384x768 .bf16) (x1 : Vec F S1x768 .f32) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare (out0_2 x0 x1) ∗ owns (c : Thread nD τ) arg3 fullShare (out0_3 x0 x1) ∗ owns (c : Thread nD τ) arg4 fullShare (out0_4 x0 x1) ∗ owns (c : Thread nD τ) arg5 fullShare (out0_5 x0 x1) ∗ owns (c : Thread nD τ) arg6 fullShare (out0_6 x0 x1) ∗ owns (c : Thread nD τ) arg7 fullShare (out0_7 x0 x1) ∗ owns (c : Thread nD τ) arg8 fullShare (out0_8 x0 x1)) -∗ K ⟨⟩))
      ⊢ wp frame (wpE (defs₀ (F := F)) Variants.none c none) E (cc0_quantise arg0 harg0 arg1 harg1 arg2 harg2 arg3 harg3 arg4 harg4 arg5 harg5 arg6 harg6 arg7 harg7 arg8 harg8) K := by
  simp only [cc0_quantise_eq_skeleton]; unfold cc0_quantise_skel
  simp only [k0_part1_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  isplitl [H6]
  · iexists _; isplitr
    swap; · iexact H6
    ipureintro
    exact View.read_writes_eq_canon _ _ _ (cover0_6 _)
  isplitl [H7]
  · iexists _; isplitr
    swap; · iexact H7
    ipureintro
    exact View.read_writes_eq_canon _ _ _ (cover0_7 _)
  iexists _; isplitr
  swap; · iexact H8
  ipureintro
  exact View.read_writes_eq_canon _ _ _ (cover0_8 _)

/-! ## The pipeline's proof data -/

/-- The proof data of the one pipeline on core `c`: the arrays as the region finds them; after the body at
    point `t` each input's buffer at its block and each output's at `out0_W` of the input blocks; the invariant the
    scoped buffers no window stages, untouched; nothing owed;
    full shares. -/
def dats0 (c : Dev nD) : Dat τ (Elt F) Unit ℕ (UU) ℕ cfg0 c where
  A w := entry0 m c (Pipeline.arrRef spec0 w)
  after w t := match w with
    | ⟨0, _⟩ => iblk0 m c 0 t
    | ⟨1, _⟩ => iblk0 m c 1 t
    | ⟨2, _⟩ => out0_2 (iblk0 m c 0 t) (iblk0 m c 1 t)
    | ⟨3, _⟩ => out0_3 (iblk0 m c 0 t) (iblk0 m c 1 t)
    | ⟨4, _⟩ => out0_4 (iblk0 m c 0 t) (iblk0 m c 1 t)
    | ⟨5, _⟩ => out0_5 (iblk0 m c 0 t) (iblk0 m c 1 t)
    | ⟨6, _⟩ => out0_6 (iblk0 m c 0 t) (iblk0 m c 1 t)
    | ⟨7, _⟩ => out0_7 (iblk0 m c 0 t) (iblk0 m c 1 t)
    | ⟨8, _⟩ => out0_8 (iblk0 m c 0 t) (iblk0 m c 1 t)
  Φ _ := Pipeline.scopedRest spec0 c
  q _ := fullShare
  owed _ := 0

/-- The proof data's arrays are the region-entry contents: the proof data's definition projected (`dsimp`), so that
    the host operations are never unfolded to check it. -/
theorem A0_eq (c : Dev nD) (w : Fin cfg0.W) : (dats0 m c).A w = entry0 m c (Pipeline.arrRef spec0 w) := by
  dsimp only [dats0]

/-- What the body leaves, window by window (the proof data's `match` reduced by `dsimp`, never `rfl`: Lib/Pipeline.lean `Dat`). -/
theorem after0_0 (c : Dev nD) (t : Fin cfg0.N) : (dats0 m c).after 0 t = iblk0 m c 0 t := by dsimp only [dats0]
theorem after0_1 (c : Dev nD) (t : Fin cfg0.N) : (dats0 m c).after 1 t = iblk0 m c 1 t := by dsimp only [dats0]
theorem after0_2 (c : Dev nD) (t : Fin cfg0.N) : (dats0 m c).after 2 t = out0_2 (iblk0 m c 0 t) (iblk0 m c 1 t) := by dsimp only [dats0]
theorem after0_3 (c : Dev nD) (t : Fin cfg0.N) : (dats0 m c).after 3 t = out0_3 (iblk0 m c 0 t) (iblk0 m c 1 t) := by dsimp only [dats0]
theorem after0_4 (c : Dev nD) (t : Fin cfg0.N) : (dats0 m c).after 4 t = out0_4 (iblk0 m c 0 t) (iblk0 m c 1 t) := by dsimp only [dats0]
theorem after0_5 (c : Dev nD) (t : Fin cfg0.N) : (dats0 m c).after 5 t = out0_5 (iblk0 m c 0 t) (iblk0 m c 1 t) := by dsimp only [dats0]
theorem after0_6 (c : Dev nD) (t : Fin cfg0.N) : (dats0 m c).after 6 t = out0_6 (iblk0 m c 0 t) (iblk0 m c 1 t) := by dsimp only [dats0]
theorem after0_7 (c : Dev nD) (t : Fin cfg0.N) : (dats0 m c).after 7 t = out0_7 (iblk0 m c 0 t) (iblk0 m c 1 t) := by dsimp only [dats0]
theorem after0_8 (c : Dev nD) (t : Fin cfg0.N) : (dats0 m c).after 8 t = out0_8 (iblk0 m c 0 t) (iblk0 m c 1 t) := by dsimp only [dats0]

/-- Each input's current staging buffer holds its block at every point, fetched there or not (`beforeK_W_of`). -/
theorem before0_0 (c : Dev nD) (t : Fin cfg0.N) (d) : (dats0 m c).before 0 t d = iblk0 m c 0 t :=
  before0_0_of m (dats0 m c) (A0_eq m c 0) (after0_0 m c) t d
theorem before0_1 (c : Dev nD) (t : Fin cfg0.N) (d) : (dats0 m c).before 1 t d = iblk0 m c 1 t :=
  before0_1_of m (dats0 m c) (A0_eq m c 1) (after0_1 m c) t d

/-! ## The body obligation, at a generic point -/

/-- What the body is called with at point `t`, -/
def bodyPre0 (c : Dev nD) (t : Fin cfg0.N) : sProp 𝕄 :=
  iprop((dats0 m c).Φ t.castSucc ∗ (dats0 m c).owesAt () t.castSucc
    ∗ (∃ d, owns (c : Thread nD τ) (st0_0 t) fullShare ((dats0 m c).before 0 t d))
    ∗ (∃ d, owns (c : Thread nD τ) (st0_1 t) fullShare ((dats0 m c).before 1 t d))
    ∗ (∃ d, owns (c : Thread nD τ) (st0_2 t) fullShare ((dats0 m c).before 2 t d))
    ∗ (∃ d, owns (c : Thread nD τ) (st0_3 t) fullShare ((dats0 m c).before 3 t d))
    ∗ (∃ d, owns (c : Thread nD τ) (st0_4 t) fullShare ((dats0 m c).before 4 t d))
    ∗ (∃ d, owns (c : Thread nD τ) (st0_5 t) fullShare ((dats0 m c).before 5 t d))
    ∗ (∃ d, owns (c : Thread nD τ) (st0_6 t) fullShare ((dats0 m c).before 6 t d))
    ∗ (∃ d, owns (c : Thread nD τ) (st0_7 t) fullShare ((dats0 m c).before 7 t d))
    ∗ (∃ d, owns (c : Thread nD τ) (st0_8 t) fullShare ((dats0 m c).before 8 t d)))

/-- and what it returns. -/
def bodyPost0 (c : Dev nD) (t : Fin cfg0.N) : sProp 𝕄 :=
  iprop((dats0 m c).Φ t.succ ∗ (dats0 m c).owesAt () t.succ
    ∗ owns (c : Thread nD τ) (st0_0 t) fullShare ((dats0 m c).after 0 t)
    ∗ owns (c : Thread nD τ) (st0_1 t) fullShare ((dats0 m c).after 1 t)
    ∗ owns (c : Thread nD τ) (st0_2 t) fullShare ((dats0 m c).after 2 t)
    ∗ owns (c : Thread nD τ) (st0_3 t) fullShare ((dats0 m c).after 3 t)
    ∗ owns (c : Thread nD τ) (st0_4 t) fullShare ((dats0 m c).after 4 t)
    ∗ owns (c : Thread nD τ) (st0_5 t) fullShare ((dats0 m c).after 5 t)
    ∗ owns (c : Thread nD τ) (st0_6 t) fullShare ((dats0 m c).after 6 t)
    ∗ owns (c : Thread nD τ) (st0_7 t) fullShare ((dats0 m c).after 7 t)
    ∗ owns (c : Thread nD τ) (st0_8 t) fullShare ((dats0 m c).after 8 t))

/-- The body at any point: the inputs' memrefs hold their blocks (`before0_W`), so `sound_kernel0` applies; the invariant and
    the core's `owes` pass through unread. -/
theorem sound_body0 (c : Dev nD) (t : Fin cfg0.N) :
    bodyPre0 m c t ⊢ wp frame (wpE (defs₀ (F := F)) Variants.none c none) Set.univ (bodyAt0 t) (fun _ => bodyPost0 m c t) := by
  unfold bodyPre0 bodyPost0 bodyAt0
  simp only [before0_0, before0_1]
  rw [show (dats0 m c).Φ t.succ = (dats0 m c).Φ t.castSucc from rfl,
    show (dats0 m c).owesAt () t.succ = (dats0 m c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ (iblk0 m c 0 t) (iblk0 m c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dats0 (F := F) m c) (defs₀ (F := F)) Variants.none () Set.univ := fun t => by
  rw [bigSep_W0, bigSep_W0, defs₀_row0]
  exact triple_restated (sound_body0 m c t) rfl .rfl fun _ => .rfl

end Cert.Kernel.Dense

end
-- ==== Proof.Bits.Dense.lean ====
/-
  The dense call's data: what each of its windows holds, and the body's obligation at every point of its grid.
-/
module

public import proofs.«01_k».proof.Proof.Bits.Turn
public import proofs.«01_k».proof.Proof.Bits.Codes
public import Idealize.ShloMosaic.Lib.Pipeline.DatRel
public import Idealize.ShloMosaic.Lib.Pipeline.FrameSuffix
public import Idealize.ShloMosaic.Lib.Pipeline.FrameBody

@[expose] public section

set_option maxRecDepth 16384

noncomputable section

namespace Cert.Kernel.Dense

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat RDat Cfg Window BodyObligation cellOf)

variable {F : FTy → Type} [FloatOps F]

local notation "𝕄" => MT nD τ sig Unit (Elt F) ℕ UU ℕ

variable (m : (ℓ : Loc nD τ sig) → Buf (Elt F) ℓ)

/-! ## The buffers when the dense call is entered -/

/-- After the quantising call. -/
def after0 (c : Dev nD) : Valuation τ sig (Elt F) :=
  Pipeline.withArrays spec0 c (V1 m c) ((dats0 m c).arrAt · cfg0.N)

/-- After the host operations between the two calls. -/
def before1 (c : Dev nD) : Valuation τ sig (Elt F) := StableHlo.after hostOps1 (after0 m c)

abbrev entry1 (c : Dev nD) (b : Ref sig .tc) : Buf (Elt F) ((c : Thread nD τ).loc b) := before1 m c b

/-- Window `w`'s block at point `t`, its part inside the array. -/
def iblk1 (c : Dev nD) (w : Fin cfg1.W) (t : Fin cfg1.N) : ((cfg1.win w).xblock (cfg1.grid.coords t)).Idx → Elt F (cfg1.win w).elt :=
  ((cfg1.win w).blk t).view.read (Elt F) (entry1 m c (Pipeline.arrRef spec1 w))

/-- A staging buffer that held `d` and into which the block at point `t` has been fetched. -/
def over1 (c : Dev nD) (w : Fin cfg1.W) (t : Fin cfg1.N) (d : (cfg1.win w).block.Idx → Elt F (cfg1.win w).elt) : (cfg1.win w).block.Idx → Elt F (cfg1.win w).elt :=
  (cfg1.win w).fill (cfg1.grid.coords t) d (iblk1 m c w t)

/-- Contents that nothing reads. -/
def any1 (w : Fin cfg1.W) : (cfg1.win w).block.Idx → Elt F (cfg1.win w).elt := fun _ => Classical.arbitrary _

/-- The buffers of the other call, which this one leaves alone. -/
def idle (c : Dev nD) : Assn F :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f))

/-! ## The windows -/

/-- The dense call's data: each operand's buffer holds its block, the body's own buffers are `between`; nothing is owed. -/
def dats1 (c : Dev nD) : Dat τ (Elt F) Unit ℕ UU ℕ cfg1 c where
  A w := entry1 m c (Pipeline.arrRef spec1 w)
  after w t := match w with
    | ⟨0, _⟩ => iblk1 m c 0 t
    | ⟨1, _⟩ => iblk1 m c 1 t
    | ⟨2, _⟩ => over1 m c 2 t (any1 2)
    | ⟨3, _⟩ => over1 m c 3 t (any1 3)
    | ⟨4, _⟩ => iblk1 m c 4 t
    | ⟨5, _⟩ => iblk1 m c 5 t
    | ⟨6, _⟩ => iblk1 m c 6 t
    | ⟨7, _⟩ => iblk1 m c 7 t
    | ⟨8, _⟩ => any1 8
    | ⟨9, _⟩ => any1 9
  Φ t := iprop(between c t.val ∗ idle c)
  q _ := fullShare
  owed _ := 0

/-- The two results' windows are known by what the body leaves in them, -/
def marked : Fin cfg1.W → Bool := fun | 0 => false | 1 => false | 2 => false | 3 => false | 4 => false | 5 => false | 6 => false | 7 => false | 8 => true | 9 => true | ⟨_ + 10, h⟩ => absurd h (Nat.not_lt.2 (Nat.le_add_left _ _))

/-- the scores' block at point `t`, -/
def IsScores (c : Dev nD) (t : Fin cfg1.N) (X : (cfg1.win 8).block.Idx → Elt F (cfg1.win 8).elt) : Prop :=
  ∃ d2 d3, X = scores (F := F) (iblk1 m c 1 t) (over1 m c 2 t d2) (over1 m c 3 t d3) (iblk1 m c 4 t) (iblk1 m c 5 t) (iblk1 m c 6 t)

/-- and, of the refined scores, nothing. -/
def left (c : Dev nD) : (w : Fin cfg1.W) → Fin cfg1.N → ((cfg1.win w).block.Idx → Elt F (cfg1.win w).elt) → Prop := fun w t => match w with
  | ⟨8, _⟩ => fun X => IsScores m c t X
  | _ => fun _ => True

theorem A1_eq (c : Dev nD) (w : Fin cfg1.W) : (dats1 m c).A w = entry1 m c (Pipeline.arrRef spec1 w) := by dsimp only [dats1]

theorem after1_0 (c : Dev nD) (t : Fin cfg1.N) : (dats1 m c).after 0 t = iblk1 m c 0 t := by dsimp only [dats1]
theorem after1_1 (c : Dev nD) (t : Fin cfg1.N) : (dats1 m c).after 1 t = iblk1 m c 1 t := by dsimp only [dats1]
theorem after1_2 (c : Dev nD) (t : Fin cfg1.N) : (dats1 m c).after 2 t = over1 m c 2 t (any1 2) := by dsimp only [dats1]
theorem after1_3 (c : Dev nD) (t : Fin cfg1.N) : (dats1 m c).after 3 t = over1 m c 3 t (any1 3) := by dsimp only [dats1]
theorem after1_4 (c : Dev nD) (t : Fin cfg1.N) : (dats1 m c).after 4 t = iblk1 m c 4 t := by dsimp only [dats1]
theorem after1_5 (c : Dev nD) (t : Fin cfg1.N) : (dats1 m c).after 5 t = iblk1 m c 5 t := by dsimp only [dats1]
theorem after1_6 (c : Dev nD) (t : Fin cfg1.N) : (dats1 m c).after 6 t = iblk1 m c 6 t := by dsimp only [dats1]
theorem after1_7 (c : Dev nD) (t : Fin cfg1.N) : (dats1 m c).after 7 t = iblk1 m c 7 t := by dsimp only [dats1]

theorem before1_0 (c : Dev nD) (t : Fin cfg1.N) (d) : (dats1 m c).before 0 t d = iblk1 m c 0 t :=
  ((dats1 m c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)
theorem before1_1 (c : Dev nD) (t : Fin cfg1.N) (d) : (dats1 m c).before 1 t d = iblk1 m c 1 t :=
  ((dats1 m c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)
theorem before1_4 (c : Dev nD) (t : Fin cfg1.N) (d) : (dats1 m c).before 4 t d = iblk1 m c 4 t :=
  ((dats1 m c).before_in_eq_fetched 4 rfl (fun _ => rfl) (fun _ _ _ => rfl) (fun t => by rw [after1_4]; unfold Dat.blockOf iblk1; rw [A1_eq]; try rfl) t d).trans
    (by unfold Dat.fetched Dat.blockOf iblk1; rw [A1_eq]; try rfl)
theorem before1_5 (c : Dev nD) (t : Fin cfg1.N) (d) : (dats1 m c).before 5 t d = iblk1 m c 5 t :=
  ((dats1 m c).before_in_eq_fetched 5 rfl (fun _ => rfl) (fun _ _ _ => rfl) (fun t => by rw [after1_5]; unfold Dat.blockOf iblk1; rw [A1_eq]; try rfl) t d).trans
    (by unfold Dat.fetched Dat.blockOf iblk1; rw [A1_eq]; try rfl)
theorem before1_6 (c : Dev nD) (t : Fin cfg1.N) (d) : (dats1 m c).before 6 t d = iblk1 m c 6 t :=
  ((dats1 m c).before_in_eq_fetched 6 rfl (fun _ => rfl) (fun _ _ _ => rfl) (fun t => by rw [after1_6]; unfold Dat.blockOf iblk1; rw [A1_eq]; try rfl) t d).trans
    (by unfold Dat.fetched Dat.blockOf iblk1; rw [A1_eq]; try rfl)
theorem before1_7 (c : Dev nD) (t : Fin cfg1.N) (d) : (dats1 m c).before 7 t d = iblk1 m c 7 t :=
  ((dats1 m c).before_in_eq_fetched 7 rfl (fun _ => rfl) (fun _ _ _ => rfl) (fun t => by rw [after1_7]; unfold Dat.blockOf iblk1; rw [A1_eq]; try rfl) t d).trans
    (by unfold Dat.fetched Dat.blockOf iblk1; rw [A1_eq]; try rfl)

theorem before1_2 (c : Dev nD) (t : Fin cfg1.N) (d) : (dats1 m c).before 2 t d = over1 m c 2 t d := by
  unfold Dat.before; rw [if_pos (fetch1_2 t)]; unfold Dat.fetched Dat.blockOf over1 iblk1; rw [A1_eq]
theorem before1_3 (c : Dev nD) (t : Fin cfg1.N) (d) : (dats1 m c).before 3 t d = over1 m c 3 t d := by
  unfold Dat.before; rw [if_pos (fetch1_3 t)]; unfold Dat.fetched Dat.blockOf over1 iblk1; rw [A1_eq]

/-- What the buffer of a codes' window holds after the body, whatever lay past the array's end. -/
def again1 (c : Dev nD) (w : Fin cfg1.W) (t : Fin cfg1.N) (d : (cfg1.win w).block.Idx → Elt F (cfg1.win w).elt) : (cfg1.win w).block.Idx → Elt F (cfg1.win w).elt :=
  (cfg1.win w).fill (cfg1.grid.coords t) d ((cfg1.win w).cut (cfg1.grid.coords t) ((dats1 m c).after w t))

theorem again1_2 (c : Dev nD) (t : Fin cfg1.N) (d) : again1 m c 2 t d = over1 m c 2 t d := by
  unfold again1; rw [after1_2]; unfold over1; rw [Window.cut_fill]
theorem again1_3 (c : Dev nD) (t : Fin cfg1.N) (d) : again1 m c 3 t d = over1 m c 3 t d := by
  unfold again1; rw [after1_3]; unfold over1; rw [Window.cut_fill]

/-! ## The obligation -/

/-- What the body is called with at point `t`, the windows one by one, -/
def bodyPre1 (c : Dev nD) (t : Fin cfg1.N) : Assn F :=
  iprop((dats1 m c).Φ t.castSucc ∗ (dats1 m c).owesAt () t.castSucc
    ∗ (∃ d, owns (c : Thread nD τ) (st1_0 t) fullShare ((dats1 m c).before 0 t d))
    ∗ (∃ d, owns (c : Thread nD τ) (st1_1 t) fullShare ((dats1 m c).before 1 t d))
    ∗ (∃ d, owns (c : Thread nD τ) (st1_2 t) fullShare ((dats1 m c).before 2 t d))
    ∗ (∃ d, owns (c : Thread nD τ) (st1_3 t) fullShare ((dats1 m c).before 3 t d))
    ∗ (∃ d, owns (c : Thread nD τ) (st1_4 t) fullShare ((dats1 m c).before 4 t d))
    ∗ (∃ d, owns (c : Thread nD τ) (st1_5 t) fullShare ((dats1 m c).before 5 t d))
    ∗ (∃ d, owns (c : Thread nD τ) (st1_6 t) fullShare ((dats1 m c).before 6 t d))
    ∗ (∃ d, owns (c : Thread nD τ) (st1_7 t) fullShare ((dats1 m c).before 7 t d))
    ∗ (∃ Y, ⌜((dats1 m c).toRRel marked (left m c)).Finds 8 t Y⌝ ∗ owns (c : Thread nD τ) (st1_8 t) fullShare Y)
    ∗ (∃ Y, ⌜((dats1 m c).toRRel marked (left m c)).Finds 9 t Y⌝ ∗ owns (c : Thread nD τ) (st1_9 t) fullShare Y))

/-- and what it returns. -/
def bodyPost1 (c : Dev nD) (t : Fin cfg1.N) : Assn F :=
  iprop((dats1 m c).Φ t.succ ∗ (dats1 m c).owesAt () t.succ
    ∗ owns (c : Thread nD τ) (st1_0 t) fullShare ((dats1 m c).after 0 t)
    ∗ owns (c : Thread nD τ) (st1_1 t) fullShare ((dats1 m c).after 1 t)
    ∗ (∃ d, owns (c : Thread nD τ) (st1_2 t) fullShare (again1 m c 2 t d))
    ∗ (∃ d, owns (c : Thread nD τ) (st1_3 t) fullShare (again1 m c 3 t d))
    ∗ owns (c : Thread nD τ) (st1_4 t) fullShare ((dats1 m c).after 4 t)
    ∗ owns (c : Thread nD τ) (st1_5 t) fullShare ((dats1 m c).after 5 t)
    ∗ owns (c : Thread nD τ) (st1_6 t) fullShare ((dats1 m c).after 6 t)
    ∗ owns (c : Thread nD τ) (st1_7 t) fullShare ((dats1 m c).after 7 t)
    ∗ (∃ X, ⌜left m c 8 t X⌝ ∗ owns (c : Thread nD τ) (st1_8 t) fullShare X)
    ∗ (∃ X, ⌜left m c 9 t X⌝ ∗ owns (c : Thread nD τ) (st1_9 t) fullShare X))

theorem owns_open {sp : Space} {S : Shape} {e : EltTy} {c : Dev nD} {M : Memref sig .tc sp S e} (h : M.IsWhole) {X : S.Idx → Elt F e} :
    (owns (c : Thread nD τ) M fullShare X : Assn F) ⊢ iprop(∃ f : Buf (Elt F) (M.view.loc (c : Thread nD τ)), ⌜M.view.read (Elt F) f = X⌝ ∗ (M.view.loc (c : Thread nD τ) ↦{fullShare} f)) := by
  unfold owns; rw [h.set_eq_univ]

theorem owns_shut {sp : Space} {S : Shape} {e : EltTy} {c : Dev nD} {M : Memref sig .tc sp S e} (h : M.IsWhole) {X : S.Idx → Elt F e}
    {f : Buf (Elt F) (M.view.loc (c : Thread nD τ))} (e : M.view.read (Elt F) f = X) :
    (M.view.loc (c : Thread nD τ) ↦{fullShare} f : Assn F) ⊢ owns (c : Thread nD τ) M fullShare X := by
  unfold owns; rw [h.set_eq_univ]
  iintro H; iexists f; isplitr
  · ipureintro; exact e
  iexact H

set_option maxHeartbeats 1000000 in
/-- The body at any point. -/
theorem sound_body1 (c : Dev nD) (hids : ∀ y, (entry1 m c main_v8 y : BitVec 32).toNat < 400000) (t : Fin cfg1.N) :
    bodyPre1 m c t ⊢ wp frame (wpE (defs₀ (F := F)) Variants.none c none) Set.univ (bodyAt1 t) (fun _ => bodyPost1 m c t) := by
  unfold bodyPre1 bodyPost1 bodyAt1
  simp only [before1_0, before1_1, before1_2, before1_3, before1_4, before1_5, before1_6, before1_7,
    after1_0, after1_1, after1_2, after1_3, after1_4, after1_5, after1_6, after1_7, again1_2, again1_3]
  rw [show (dats1 m c).Φ t.castSucc = iprop(between c t.val ∗ idle c) from rfl,
    show (dats1 m c).Φ t.succ = iprop(between c (t.val + 1) ∗ idle c) from rfl]
  unfold Dat.owesAt Pipeline.owesWithin
  rw [show (dats1 m c).owed t.castSucc = 0 from rfl, show (dats1 m c).owed t.succ = 0 from rfl]
  iintro ⟨⟨HB, HI⟩, ⟨%W, -, HO⟩, ⟨%d0, H0⟩, ⟨%d1, H1⟩, ⟨%d2, H2⟩, ⟨%d3, H3⟩, ⟨%d4, H4⟩, ⟨%d5, H5⟩, ⟨%d6, H6⟩, ⟨%d7, H7⟩, ⟨%Y8, -, H8⟩, ⟨%Y9, -, H9⟩⟩
  ihave H0 := (owns_open (F := F) (c := c) (M := st1_0 t) (X := iblk1 m c 0 t) (hstage1_0 ((cfg1.slots t 0).cast nbuf1_0))) $$ H0
  icases H0 with ⟨%f0, %hf0, H0⟩
  ihave H1 := (owns_open (F := F) (c := c) (M := st1_1 t) (X := iblk1 m c 1 t) (hstage1_1 ((cfg1.slots t 1).cast nbuf1_1))) $$ H1
  icases H1 with ⟨%f1, %hf1, H1⟩
  ihave H2 := (owns_open (F := F) (c := c) (M := st1_2 t) (X := over1 m c 2 t d2) (hstage1_2 ((cfg1.slots t 2).cast nbuf1_2))) $$ H2
  icases H2 with ⟨%f2, %hf2, H2⟩
  ihave H3 := (owns_open (F := F) (c := c) (M := st1_3 t) (X := over1 m c 3 t d3) (hstage1_3 ((cfg1.slots t 3).cast nbuf1_3))) $$ H3
  icases H3 with ⟨%f3, %hf3, H3⟩
  ihave H4 := (owns_open (F := F) (c := c) (M := st1_4 t) (X := iblk1 m c 4 t) (hstage1_4 ((cfg1.slots t 4).cast nbuf1_4))) $$ H4
  icases H4 with ⟨%f4, %hf4, H4⟩
  ihave H5 := (owns_open (F := F) (c := c) (M := st1_5 t) (X := iblk1 m c 5 t) (hstage1_5 ((cfg1.slots t 5).cast nbuf1_5))) $$ H5
  icases H5 with ⟨%f5, %hf5, H5⟩
  ihave H6 := (owns_open (F := F) (c := c) (M := st1_6 t) (X := iblk1 m c 6 t) (hstage1_6 ((cfg1.slots t 6).cast nbuf1_6))) $$ H6
  icases H6 with ⟨%f6, %hf6, H6⟩
  ihave H7 := (owns_open (F := F) (c := c) (M := st1_7 t) (X := iblk1 m c 7 t) (hstage1_7 ((cfg1.slots t 7).cast nbuf1_7))) $$ H7
  icases H7 with ⟨%f7, %hf7, H7⟩
  ihave H8 := (owns_open (F := F) (c := c) (M := st1_8 t) (X := Y8) (hstage1_8 ((cfg1.slots t 8).cast nbuf1_8))) $$ H8
  icases H8 with ⟨%f8, -, H8⟩
  ihave H9 := (owns_open (F := F) (c := c) (M := st1_9 t) (X := Y9) (hstage1_9 ((cfg1.slots t 9).cast nbuf1_9))) $$ H9
  icases H9 with ⟨%f9, -, H9⟩
  have hr : ∀ (r : Rect S1x1x200) (x : r.shape.Idx), (((st1_0 t).access r).read (Elt F) f0 x : BitVec 32).toNat < 400000 := by
    intro r x
    have e1 : ((st1_0 t).access r).read (Elt F) f0 x = (st1_0 t).view.read (Elt F) f0 (r.emb x) := rfl
    rw [e1, hf0]
    exact hids _
  iapply (wp_wand_r frame (wpE (defs₀ (F := F)) Variants.none c none) Set.univ)
  isplitr [HI]
  · iapply (turn (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (Memref.isWhole_whole _) (st1_8 t) (hstage1_8 ((cfg1.slots t 8).cast nbuf1_8)) (st1_9 t) (hstage1_9 ((cfg1.slots t 9).cast nbuf1_9)) (Memref.isWhole_whole _) (Memref.isWhole_whole _) (c := c) (ids := f0) t (f2 := f1) (f3 := f2) (f4 := f3) (f5 := f4) (f6 := f5) (f7 := f6) (f8 := f7) (fun _ => hr) (Q := fun _ => iprop(between c (t.val + 1) ∗ ((st1_0 t).view.loc (c : Thread nD τ) ↦{fullShare} f0) ∗ owesNone c
        ∗ theBlock c (st1_8 t) (scores ((st1_1 t).view.read (Elt F) f1) ((st1_2 t).view.read (Elt F) f2) ((st1_3 t).view.read (Elt F) f3) ((st1_4 t).view.read (Elt F) f4) ((st1_5 t).view.read (Elt F) f5) ((st1_6 t).view.read (Elt F) f6))
        ∗ wins c (st1_1 t) (st1_2 t) (st1_3 t) (st1_4 t) (st1_5 t) (st1_6 t) (st1_7 t) (st1_9 t) f1 f2 f3 f4 f5 f6 f7)) .rfl)
    isplitl [HB]; · iexact HB
    isplitl [H0]; · iexact H0
    isplitl [HO]; · iexists W; iexact HO
    isplitl [H8]; · iexists f8; iexact H8
    unfold wins
    isplitl [H1]; · iexact H1
    isplitl [H2]; · iexact H2
    isplitl [H3]; · iexact H3
    isplitl [H4]; · iexact H4
    isplitl [H5]; · iexact H5
    isplitl [H6]; · iexact H6
    isplitl [H7]; · iexact H7
    iexists f9; iexact H9
  iintro %a
  unfold wins owesNone
  iintro ⟨HB, H0, ⟨%W', HO⟩, ⟨%g8, %e8, H8⟩, H1, H2, H3, H4, H5, H6, H7, ⟨%g9, H9⟩⟩
  isplitl [HB HI]
  · isplitl [HB]; · iexact HB
    iexact HI
  isplitl [HO]
  · iexists W'; isplitr; · ipureintro; exact fun _ _ => Or.inl trivial
    iexact HO
  isplitl [H0]; · iapply (owns_shut (hstage1_0 ((cfg1.slots t 0).cast nbuf1_0)) hf0); iexact H0
  isplitl [H1]; · iapply (owns_shut (hstage1_1 ((cfg1.slots t 1).cast nbuf1_1)) hf1); iexact H1
  isplitl [H2]; · iexists d2; iapply (owns_shut (hstage1_2 ((cfg1.slots t 2).cast nbuf1_2)) hf2); iexact H2
  isplitl [H3]; · iexists d3; iapply (owns_shut (hstage1_3 ((cfg1.slots t 3).cast nbuf1_3)) hf3); iexact H3
  isplitl [H4]; · iapply (owns_shut (hstage1_4 ((cfg1.slots t 4).cast nbuf1_4)) hf4); iexact H4
  isplitl [H5]; · iapply (owns_shut (hstage1_5 ((cfg1.slots t 5).cast nbuf1_5)) hf5); iexact H5
  isplitl [H6]; · iapply (owns_shut (hstage1_6 ((cfg1.slots t 6).cast nbuf1_6)) hf6); iexact H6
  isplitl [H7]; · iapply (owns_shut (hstage1_7 ((cfg1.slots t 7).cast nbuf1_7)) hf7); iexact H7
  isplitl [H8]
  · iexists _
    isplitr
    swap
    · iapply (owns_shut (hstage1_8 ((cfg1.slots t 8).cast nbuf1_8)) e8); iexact H8
    ipureintro
    rw [hf1, hf2, hf3, hf4, hf5, hf6]
    exact ⟨d2, d3, rfl⟩
  iexists _
  isplitr
  swap
  · iapply (owns_shut (hstage1_9 ((cfg1.slots t 9).cast nbuf1_9)) rfl); iexact H9
  ipureintro
  trivial

theorem defs₀_row1 (t : Fin cfg1.N) :
    defs₀ (F := F) .tc cfg1.body (cfg1.bodyArgs t (cfg1.slots t)) = bodyAt1 t := by
  unfold defs₀; rw [Defs.onTc_tc]

/-- The obligation, at every point. -/
theorem body_obligation1 (c : Dev nD) (hids : ∀ y, (entry1 m c main_v8 y : BitVec 32).toNat < 400000) :
    Pipeline.BodyObligationRel (dats1 (F := F) m c) (defs₀ (F := F)) Variants.none () Set.univ marked (left m c) := fun t => by
  rw [bigSep_W1, bigSep_W1, defs₀_row1]
  exact triple_restated (sound_body1 m c hids t) rfl .rfl fun _ => .rfl

end Cert.Kernel.Dense

end
-- ==== Proof.Bits.Run.lean ====
/-
  The whole program's run: two host stretches and two kernel calls, from any memory whose candidate ids are in range.
-/
module

public import proofs.«01_k».proof.Proof.Bits.Dense
public import Idealize.ShloMosaic.Lib.Pipeline.Regions
public import Idealize.ShloMosaic.Lib.Pipeline.RegionsLoop
public import Idealize.ShloMosaic.Adequacy
public import Idealize.ShloMosaic.Init

@[expose] public section

set_option maxRecDepth 16384

noncomputable section

namespace Cert.Kernel.Dense

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat RDat Cfg Window BodyObligation cellOf HostSeg)

variable {F : FTy → Type} [FloatOps F]

local notation "𝕄" => MT nD τ sig Unit (Elt F) ℕ UU ℕ

variable (m : (ℓ : Loc nD τ sig) → Buf (Elt F) ℓ)

/-! ## What reaches the dense call -/

theorem entry1_kept (c : Dev nD) (b : Ref sig .tc) (h1 : b ∉ hostOps1_W) (h0 : ∀ w, Pipeline.arrRef spec0 w ≠ b) (h : b ∉ hostOps0_W) :
    entry1 m c b = m ((c : Thread nD τ).loc b) := by
  unfold entry1 before1
  rw [StableHlo.after_of_writes_sub hostOps1 _ hostOps1_writes h1]
  unfold after0
  rw [Pipeline.withArrays_of_ne spec0 c _ _ b h0, V1_of m c b h]

theorem after0_at (c : Dev nD) (w : Fin cfg0.W) : (dats0 m c).arrAt w cfg0.N = after0 m c (Proc.devRef .tc (Pipeline.arrRef spec0 w)) := by
  unfold after0
  rw [Pipeline.withArrays_arr spec0 winFacts0.arr_inj c]

theorem entry1_computed (c : Dev nD) (w : Fin cfg0.W) (h1 : Pipeline.arrRef spec0 w ∉ hostOps1_W) :
    entry1 m c (Pipeline.arrRef spec0 w) = (dats0 m c).arrAt w cfg0.N := by
  unfold entry1 before1
  rw [StableHlo.after_of_writes_sub hostOps1 _ hostOps1_writes h1]
  unfold after0
  rw [Pipeline.withArrays_arr spec0 winFacts0.arr_inj c]

theorem entry1_passed (c : Dev nD) (b : Ref sig .tc) (h1 : b ∉ hostOps1_W) (h0 : ∀ w, Pipeline.arrRef spec0 w ≠ b) :
    entry1 m c b = V1 m c b := by
  unfold entry1 before1
  rw [StableHlo.after_of_writes_sub hostOps1 _ hostOps1_writes h1]
  unfold after0
  rw [Pipeline.withArrays_of_ne spec0 c _ _ b h0]

/-! ## The two calls' data -/

/-- The dense call's, with what is known of the windows of its results. -/
abbrev known1 (c : Dev nD) : RDat τ (Elt F) Unit ℕ UU ℕ cfg1 c := (dats1 m c).toRRel marked (left m c)

/-- Both calls' data. -/
def exacts : (p : Fin 2) → (c : Dev nD) → Dat τ (Elt F) Unit ℕ UU ℕ (cfgs p) c := fun p => match p with
  | 0 => dats0 m
  | 1 => dats1 m

def rdats : (p : Fin 2) → (c : Dev nD) → RDat τ (Elt F) Unit ℕ UU ℕ (cfgs p) c := fun p => match p with
  | 0 => fun c => (dats0 m c).toR
  | 1 => fun c => known1 m c

abbrev 𝒱₀ : Variants := Variants.none
abbrev L : GSem nD τ sig → Finset Unit := fun _ => ∅
abbrev lv : GSem nD τ sig → Unit → ℕ := fun _ _ => 0
abbrev EP : Emb (UR sig nD τ) (MT nD τ sig Unit (Elt F) ℕ UU ℕ) := embL

/-- What rides beside the buffers: the core's account of what it owes. -/
abbrev rider (c : Dev nD) : Assn F := iprop(∃ W, owes (c : Thread nD τ) (0 : CellTallies nD τ sig Unit) W)

abbrev standing (c : Dev nD) (V : Valuation τ sig (Elt F)) : Assn F := StableHlo.held (c : Thread nD τ) (Pipeline.ucRefs τ sig) V

def host0 : HostSeg (Name := ℕ) (U := UU) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) rider

def host1 : HostSeg (Name := ℕ) (U := UU) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (after0 m) rider

/-! ## The quantising call as an item -/

theorem none_of : Pipeline.OwnSemFacts spec0 (fun k : PEmpty => (k.elim : SemLoc sig)) := Pipeline.OwnSemFacts.none ..

set_option backward.isDefEq.respectTransparency.types false in
def reg0 : RDat.RegionSeg (pcfgs (F := F)) adm (rdats m) () defs₀ 𝒱₀ L lv 0 where
  win := launch0.win.to₀
  block_pos := launch0.block_pos
  stage_whole := launch0.stage_whole
  K := PEmpty
  osem := fun k => k.elim
  ho := none_of
  hbody c := (body_obligation0 m c).toR
  hwaits := RDat.hwaits_of_owed_zero _ _ _ _ L lv 0 fun _ _ => rfl
  pre c := iprop(standing c (V1 m c) ∗ rider c)
  post c := iprop(standing c (after0 m c) ∗ rider c)
  X _ := iprop(emp)
  Y _ := iprop(emp)
  Z c := Pipeline.unscopedRest spec0 c (fun b => V1 m c b)
  hentry c := by
    rw [show standing c (V1 m c) = (unscopedBufs c (fun b => V1 m c b) : Assn F) from (Pipeline.unscopedBufs_held c _).symm]
    have hsplit := RDat.arrays_of_unscopedBufs (pcfgs (F := F)) adm (rdats m) (p := 0) launch0.win launch0.arr_whole c
      (show ∀ w, (rdats m 0 c).share w = fullShare from (dats0 m c).share_full fun _ => rfl) (fun b => V1 m c b) (A0_eq m c)
    iintro ⟨⟨Hub, HO⟩, -, -⟩
    ihave H := hsplit $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩
      iexists W; isplitr; · ipureintro; exact fun _ _ => Or.inl trivial
      iexact HO
    isplitr; · iempintro
    iexact Hz
  hin c := by
    rw [show ((rdats m) 0 c).Φ 0 = (Pipeline.scopedRest spec0 c : Assn F) from rfl]
    iintro ⟨-, -, Hr⟩
    iexact Hr
  hout c := by
    rw [show (Pipeline.ownSems0 (Ix := Unit) (Name := ℕ) (U := UU) (Lvl := ℕ) (Val := Elt F) (τ := τ) (fun k : PEmpty => (k.elim : SemLoc sig)) c : Assn F) = iprop(emp) from by
      unfold Pipeline.ownSems0; rw [show (Finset.univ : Finset PEmpty) = ∅ from rfl, BI.bigSep_empty]; rfl,
      show ((rdats m) 0 c).Φ (Fin.last (Pipeline.pin (pcfgs (F := F)) adm 0).N) = (Pipeline.scopedRest spec0 c : Assn F) from rfl]
    iintro Hr
    isplitr; · iempintro
    isplitr; · iempintro
    iexact Hr
  hexit c := by
    have hjoin := Pipeline.unscopedBufs_of_arrays (pcfgs (F := F)) adm (p := 0) launch0.win launch0.arr_whole c (exacts m)
      ((dats0 m c).share_full fun _ => rfl) (fun b => V1 m c b) (fun b => after0 m c b) ((dats0 m c).arrAt · cfg0.N)
      (after0_at m c)
      (fun b hb => Pipeline.withArrays_of_ne spec0 c _ _ b fun w e => hb (Finset.mem_image.mpr ⟨w, Finset.mem_univ _, e⟩))
    rw [show standing c (after0 m c) = (unscopedBufs c (fun b => after0 m c b) : Assn F) from (Pipeline.unscopedBufs_held c _).symm]
    iintro ⟨Ha, HO, -, HZ⟩
    imodintro
    isplitr [HO]
    · iapply hjoin
      isplitl [Ha]
      · iapply ((dats0 m c).toR_arraysAt_post cfg0.N); iexact Ha
      iexact HZ
    · icases HO with ⟨%W, -, HO⟩; iexists W; iexact HO

/-! ## The dense call as an item -/

/-- The two slots' counters. -/
def slots : Fin 2 → SemLoc sig := fun s => .dma (slotSem s)

theorem slots_own : Pipeline.OwnSemFacts spec1 slots := by decide

theorem slots_zero (c : Dev nD) :
    (Pipeline.ownSems0 (Ix := Unit) (Name := ℕ) (U := UU) (Lvl := ℕ) (Val := Elt F) (τ := τ) slots c : Assn F) = iprop(quiet c 0 ∗ quiet c 1) :=
  Pipeline.ownSems0_eq_of_list c slots [0, 1] (by decide) (by decide)

/-- The arrays the dense call does not touch, as it leaves them. -/
def others (c : Dev nD) : Assn F :=
  iprop((((c : Thread nD τ).loc main_arg0) ↦{fullShare} entry1 m c main_arg0) ∗ (((c : Thread nD τ).loc main_arg1) ↦{fullShare} entry1 m c main_arg1) ∗ (((c : Thread nD τ).loc main_arg3) ↦{fullShare} entry1 m c main_arg3) ∗ (((c : Thread nD τ).loc main_arg4) ↦{fullShare} entry1 m c main_arg4) ∗ (((c : Thread nD τ).loc main_arg5) ↦{fullShare} entry1 m c main_arg5) ∗ (((c : Thread nD τ).loc main_arg6) ↦{fullShare} entry1 m c main_arg6) ∗ (((c : Thread nD τ).loc main_v7_0) ↦{fullShare} entry1 m c main_v7_0) ∗ (((c : Thread nD τ).loc main_v7_1) ↦{fullShare} entry1 m c main_v7_1))

/-- At the end: the dense call's arrays at contents they may hold, the others. -/
abbrev finally1 (c : Dev nD) : Assn F := iprop((rdats m 1 c).arraysAt cfg1.N ∗ others m c)

set_option backward.isDefEq.respectTransparency.types false in
def reg1 (hids : ∀ c y, (entry1 m c main_v8 y : BitVec 32).toNat < 400000) : RDat.RegionSeg (pcfgs (F := F)) adm (rdats m) () defs₀ 𝒱₀ L lv 1 where
  win := launch1.win.to₀
  block_pos := launch1.block_pos
  stage_whole := launch1.stage_whole
  K := Fin 2
  osem := slots
  ho := slots_own
  hbody c := (body_obligation1 m c (hids c)).toRRel
  hwaits := RDat.hwaits_of_owed_zero _ _ _ _ L lv 1 fun _ _ => rfl
  pre c := iprop(standing c (before1 m c) ∗ rider c)
  post c := iprop(finally1 m c ∗ rider c)
  X c := iprop((srcL c ↦{fullShare} entry1 m c main_v11) ∗ quiet c 0 ∗ quiet c 1)
  Y _ := iprop(emp)
  Z c := others m c
  hentry c := by
    rw [show standing c (before1 m c) = (unscopedBufs c (fun b => before1 m c b) : Assn F) from (Pipeline.unscopedBufs_held c _).symm, slots_zero]
    have hsplit := (RDat.arrays_of_unscopedBufs (pcfgs (F := F)) adm (rdats m) (p := 1) launch1.win launch1.arr_whole c
      (show ∀ w, (rdats m 1 c).share w = fullShare from (dats1 m c).share_full fun _ => rfl) (fun b => before1 m c b) (A1_eq m c)).trans (sep_mono .rfl (Entails.of_eq (unscopedRest1_eq c (fun b => before1 m c b))))
    iintro ⟨⟨Hub, HO⟩, Hos, -⟩
    ihave H := hsplit $$ Hub
    icases H with ⟨Ha, H0, H1, H3, H4, H5, H6, -, -, -, -, -, -, -, Hc, Hs, -, -, H11⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩
      iexists W; isplitr; · ipureintro; exact fun _ _ => Or.inl trivial
      iexact HO
    isplitl [H11 Hos]
    · isplitl [H11]; · iexact H11
      iexact Hos
    unfold others
    isplitl [H0]; · iexact H0
    isplitl [H1]; · iexact H1
    isplitl [H3]; · iexact H3
    isplitl [H4]; · iexact H4
    isplitl [H5]; · iexact H5
    isplitl [H6]; · iexact H6
    isplitl [Hc]; · iexact Hc
    iexact Hs
  hin c := by
    rw [show ((rdats m) 1 c).Φ 0 = iprop(between (F := F) c 0 ∗ idle c) from rfl]
    rw [show (Pipeline.scopedRest (Ix := Unit) (Name := ℕ) (U := UU) (Lvl := ℕ) (Val := Elt F) (Pipeline.pin (pcfgs (F := F)) adm 1).spec c : Assn F) = _ from scopedRest1_eq c]
    unfold between rest idle
    rw [if_neg (by omega), show par 0 = 0 from rfl, show par (0 + 1) = 1 from rfl]
    iintro ⟨⟨H11, Hq0, Hq1⟩, -, H0, H1, H2, H3, H4, H5, H6, H7, H8, Hr, Hs⟩
    isplitr [H0 H1 H2 H3 H4 H5 H6 H7 H8]
    · isplitl [H11]; · iexists _; iexists _; iexact H11
      isplitl [Hr]; · iexact Hr
      isplitl [Hs]; · iexact Hs
      isplitl [Hq0]; · iexact Hq0
      iexact Hq1
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  hout c := by
    rw [show ((rdats m) 1 c).Φ (Fin.last (Pipeline.pin (pcfgs (F := F)) adm 1).N) = iprop(between (F := F) c grid1.N ∗ idle c) from rfl, N_1, slots_zero]
    rw [show (Pipeline.scopedRest (Ix := Unit) (Name := ℕ) (U := UU) (Lvl := ℕ) (Val := Elt F) (Pipeline.pin (pcfgs (F := F)) adm 1).spec c : Assn F) = _ from scopedRest1_eq c]
    unfold between rest idle
    rw [if_neg (by omega), show par 196 = 0 from rfl, show par (196 + 1) = 1 from rfl]
    iintro ⟨⟨-, Hr, Hs, Hq0, Hq1⟩, H0, H1, H2, H3, H4, H5, H6, H7, H8⟩
    isplitr; · iempintro
    isplitl [Hq0 Hq1]
    · isplitl [Hq0]; · iexact Hq0
      iexact Hq1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Hr]; · iexact Hr
    iexact Hs
  hexit c := by
    iintro ⟨Ha, HO, -, HZ⟩
    imodintro
    isplitr [HO]
    · isplitl [Ha]; · iexact Ha
      iexact HZ
    · icases HO with ⟨%W, -, HO⟩; iexists W; iexact HO

/-! ## The run -/

/-- The two items and the two host stretches, in order. -/
abbrev items (hids : ∀ c y, (entry1 m c main_v8 y : BitVec 32).toNat < 400000) (_ : Dev nD) : List (RDat.Seg (pcfgs (F := F)) adm (rdats m) () defs₀ 𝒱₀ L lv) :=
  [.host (host0 m), .region (reg0 m), .host (host1 m), .region (reg1 m hids)]

def u₀ : UU := (initOf (Pipeline.cells cfgs cellOf_inj) (Pipeline.launchToks cfgs cellOf_inj), 1)

/-- The final memory on core `c`: the arguments as launched, the codes and scales as the first call leaves them, and the
    scores at contents their window's blocks may make. -/
def Ends (c : Dev nD) (s : MemSt nD τ sig (Elt F)) : Prop :=
  (known1 m c).ArrAt 8 cfg1.N (s.mem ((c : Thread nD τ).loc main_v12_0))
  ∧ s.mem ((c : Thread nD τ).loc main_v7_0) = (dats0 m c).arrAt 2 cfg0.N
  ∧ s.mem ((c : Thread nD τ).loc main_v7_1) = (dats0 m c).arrAt 3 cfg0.N
  ∧ s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_arg5) = m ((c : Thread nD τ).loc main_arg5)
  ∧ s.mem ((c : Thread nD τ).loc main_arg6) = m ((c : Thread nD τ).loc main_arg6)

set_option backward.isDefEq.respectTransparency.types false in
/-- Every fair run ends so, every counter at zero. -/
theorem run (hids : ∀ c y, (entry1 m c main_v8 y : BitVec 32).toNat < 400000) (ρ : Dev nD → PrngReg) :
    θ_run defs (onTc (τ := τ) (main (F := F))) ⟨m, fun _ => 0, ρ⟩ (fun r => (∀ c : Dev nD, Ends m c r.2) ∧ r.2.sem = fun _ => 0) :=
  RDat.θ_run_regions_kit_dev_sems (pcfgs (F := F)) adm (rdats m) () cellOf_inj EP defs₀ 𝒱₀ L lv m ρ main (items m hids)
    (fun c Q => by
      rewrite [main_chain c, RDat.Seg.run_eq_chain,
        show (items m hids c).map RDat.Seg.prog = [
          StableHlo.seq hostOps0,
          Prog.lift (.customCall (Pipeline.entry 0) ()),
          StableHlo.seq hostOps1,
          Prog.lift (.customCall (Pipeline.entry 1) ()) ] from rfl]
      exact .rfl)
    (fun c => by simp only [items, RDat.Seg.pipes_host, RDat.Seg.pipes_region, RDat.Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : Assn F) ⊢ bigSep Finset.univ (fun _ : Dev nD => (BI.emp : Assn F)) from by rw [BI.bigSep_emp_const])
      iempintro)
    (T₀ := fun c => iprop(standing c (V0 m c) ∗ rider c)) (Tₙ := finally1 m)
    (hch := fun c => ⟨.rfl, .rfl, .rfl, .rfl, .rfl⟩)
    (hinit := by
      refine Pipeline.initEach L lv fun c => ?_
      rw [show unscopedBufs c (fun b => m ((c : Thread nD τ).loc b)) = standing c (V0 m c) from Pipeline.unscopedBufs_held c (V0 m c)]
      iintro ⟨⟨Hh, -, HO, -, -, -⟩, -⟩
      imodintro
      isplitl [Hh]; · iexact Hh
      iexists ∅; iexact HO)
    (QY := Ends m)
    (hfin := fun c s' => by
      unfold finally1 others
      rw [entry1_kept m c main_arg0 (by decide) (by decide) (by decide)]
      rw [entry1_kept m c main_arg1 (by decide) (by decide) (by decide)]
      rw [entry1_kept m c main_arg3 (by decide) (by decide) (by decide)]
      rw [entry1_kept m c main_arg4 (by decide) (by decide) (by decide)]
      rw [entry1_kept m c main_arg5 (by decide) (by decide) (by decide)]
      rw [entry1_kept m c main_arg6 (by decide) (by decide) (by decide)]
      rw [show entry1 m c main_v7_0 = (dats0 m c).arrAt 2 cfg0.N from entry1_computed m c 2 (by decide),
        show entry1 m c main_v7_1 = (dats0 m c).arrAt 3 cfg0.N from entry1_computed m c 3 (by decide)]
      iintro ⟨⟨Ha, H0, H1, H3, H4, H5, H6, Hc, Hs⟩, HSI⟩
      icombine HSI H0 gives %h0
      icombine HSI H1 gives %h1
      icombine HSI H3 gives %h3
      icombine HSI H4 gives %h4
      icombine HSI H5 gives %h5
      icombine HSI H6 gives %h6
      icombine HSI Hc gives %hc
      icombine HSI Hs gives %hs
      ihave Hr := (RDat.arrays_read (pcfgs (F := F)) adm (rdats m) (p := 1) launch1.arr_whole c cfg1.N s') $$ [Ha HSI]
      · isplitl [Ha] <;> iassumption
      icases Hr with ⟨%ha, HSI⟩
      imodintro
      isplitr
      · ipureintro
        have h2 : (known1 m c).ArrAt 2 cfg1.N (s'.mem.mem ((c : Thread nD τ).loc main_arg2)) := ha 2
        rw [(known1 m c).ArrAt_in 2 rfl] at h2
        have h2' : s'.mem.mem ((c : Thread nD τ).loc main_arg2) = m ((c : Thread nD τ).loc main_arg2) :=
          h2.trans ((A1_eq m c 2).trans (entry1_kept m c main_arg2 (by decide) (by decide) (by decide)))
        exact ⟨ha 8, Buf.eq_of_forall_mem_univ hc, Buf.eq_of_forall_mem_univ hs, Buf.eq_of_forall_mem_univ h0, Buf.eq_of_forall_mem_univ h1, h2',
          Buf.eq_of_forall_mem_univ h3, Buf.eq_of_forall_mem_univ h4, Buf.eq_of_forall_mem_univ h5, Buf.eq_of_forall_mem_univ h6⟩
      iexact HSI)
    (hQ := fun _ h hz => ⟨h, funext fun g => hz g (.inr (regions_no_unscoped g.2))⟩)

end Cert.Kernel.Dense

end
-- ==== Proof.Bits.Frame.lean ====
/- The program's frame: where every candidate is the number of a vector, each run ends, its arguments as they were and every counter at zero. -/
module

public import proofs.«01_k».proof.Defs
public import proofs.«01_k».proof.Proof.InRange
public import proofs.«01_k».proof.Proof.Bits.Run

@[expose] public section

set_option maxRecDepth 16384

noncomputable section

open Idealize.ShloMosaic Idealize.ShloMosaic.TcCoe Idealize.SL.Sem

namespace Cert.Kernel.Dense

open Cert.Kernel Cert.Kernel.Gen

section
variable {F : FTy → Type} [FloatOps F]
variable (m : (ℓ : Loc nD τ sig) → Buf (Elt F) ℓ)

/-- The candidates as the dense call finds them: the argument, two queries to a row. -/
theorem candidates_eq (c : Dev nD) : entry1 m c main_v8 = shapeCast S192x1x200 (m ((c : Thread nD τ).loc main_arg6)) shapeCasts_S3x128x100_S192x1x200 := by
  have e : entry1 m c main_v8 = shapeCast S192x1x200 (after0 m c main_arg6) shapeCasts_S3x128x100_S192x1x200 := rfl
  rw [e]
  refine congrArg (fun x => shapeCast S192x1x200 x shapeCasts_S3x128x100_S192x1x200) ?_
  unfold after0
  exact (Pipeline.withArrays_of_ne spec0 c _ _ main_arg6 (by decide)).trans (V1_of m c main_arg6 (by decide))

theorem candidates_lt (h : ∀ (c : Dev nD) i, (m ((c : Thread nD τ).loc main_arg6) i : BitVec 32).toNat < 400000) (c : Dev nD) (y) :
    (entry1 m c main_v8 y : BitVec 32).toNat < 400000 := by
  rw [candidates_eq]
  exact h c _

end

/-- The candidates' bound, of the precondition. -/
theorem bound (m : (ℓ : Loc nD τ sig) → Buf (Elt Bits) ℓ) (h : Cert.Pre_Kernel m) (c : Dev nD) (y) : (entry1 m c main_v8 y : BitVec 32).toNat < 400000 :=
  candidates_lt m (fun c i => Cert.Proof.candidate_lt _ _ _ _ _ _ _ (h c) i) c y

/-- The frame. -/
theorem frame : Cert.quiescent_Kernel := fun m g h =>
  (θ_run defs _ _).mono (fun _ hr => ⟨fun c => (hr.1 c).2.2.2, hr.2⟩) (run (F := Bits) m (bound m h) g)

end Cert.Kernel.Dense

end

end
-- ==== Proof.Ideal.Steps.lean ====
/-
  The dense call keeps two scratch arrays of candidate rows, one per parity of the grid point. At a grid point it
  issues two hundred row transfers into one slot, all completing on that slot's semaphore, and drains the other slot
  by a single wait. This file states what is held while the transfers are being issued and how each kind of step of
  the body carries it on.
-/
module

public import proofs.«01_k».proof.Proof.Gen.KernelIdeal.Skeleton
public import Idealize.ShloMosaic.Lib.Batch
public import Idealize.ShloMosaic.Lib.Tactic
public import Idealize.ShloMosaic.Lib.Pipeline.Kit

@[expose] public section

set_option maxRecDepth 16384

noncomputable section

namespace Cert.KernelIdeal.Dense

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The algebra: the pipelines' rounds beside the counters the transfers take their tokens from. -/
abbrev UU : Type := UR sig nD τ × Counters

local notation "𝕄" => MT nD τ sig Unit (Elt F) ℕ UU ℕ

/-- The assertions. -/
abbrev Assn (F : FTy → Type) := sProp (MT nD τ sig Unit (Elt F) ℕ UU ℕ)

/-- The counters' part of the algebra. -/
abbrev EC : UEmb Counters (MT nD τ sig Unit (Elt F) ℕ UU ℕ) := countersEmb (U := UU)

/-- A program of core `c` run with nothing pending. -/
abbrev wpc (c : Dev nD) {α : Type} (p : Prog (TpuEff nD τ sig (Elt F) Λ₀ .tc) α) (Q : α → Assn F) : Assn F :=
  wp frame (wpE (defs₀ (F := F)) Variants.none (c : Thread nD τ) none) Set.univ p Q

/-- The two scratch arrays, the packed rows they are filled from, and their locations on core `c`. -/
abbrev rowsM : Memref sig .tc .vmem S2x208x768 .i32 := Memref.whole cc1_scratch0
abbrev shiftM : Memref sig .tc .vmem S2x208x128 .i32 := Memref.whole cc1_scratch1
abbrev srcM : Memref sig .tc .hbm S100000x768 .i32 := Memref.whole main_v11

abbrev rowsL (c : Dev nD) : Loc nD τ sig := rowsM.view.loc (c : Thread nD τ)
abbrev shiftL (c : Dev nD) : Loc nD τ sig := shiftM.view.loc (c : Thread nD τ)
abbrev srcL (c : Dev nD) : Loc nD τ sig := srcM.view.loc (c : Thread nD τ)

/-- The slot a grid point fills, as the body computes it. -/
def slotN (i : grid1.Coords) : ℕ := k1_off1 i 0

/-- The row of its slot that transfer `k` of a point fills: two groups of a hundred, the second from row 104. -/
def rowOf (k : ℕ) : ℕ := if k < 100 then k else k + 4

/-- Row `r` of slot `s`, as a set of elements of the scratch. -/
def rowSet (s r : ℕ) : Finset S2x208x768.Idx := Finset.univ.filter fun x => (x 0).val = s ∧ (x 1).val = r

/-- The rows of slot `s` that the first `k` transfers fill. -/
def filled (s k : ℕ) : Finset S2x208x768.Idx := Finset.univ.filter fun x => (x 0).val = s ∧ ∃ j < k, (x 1).val = rowOf j

/-- A set of elements of the scratch, as elements of core `c`'s buffer. -/
def onRows (c : Dev nD) (T : Finset S2x208x768.Idx) : Finset (Idx (rowsL c)) := T

theorem rowOf_inj {j k : ℕ} (h : rowOf j = rowOf k) : j = k := by
  unfold rowOf at h; split_ifs at h <;> omega

theorem filled_zero (s : ℕ) : filled s 0 = ∅ := by
  ext x; simp [filled]

theorem filled_succ (s k : ℕ) : filled s (k + 1) = rowSet s (rowOf k) ∪ filled s k := by
  ext x
  simp only [filled, rowSet, Finset.mem_filter, Finset.mem_univ, true_and, Finset.mem_union]
  constructor
  · rintro ⟨h0, j, hj, h1⟩
    rcases Nat.lt_succ_iff_lt_or_eq.mp hj with h | rfl
    · exact .inr ⟨h0, j, h, h1⟩
    · exact .inl ⟨h0, h1⟩
  · rintro (⟨h0, h1⟩ | ⟨h0, j, hj, h1⟩)
    · exact ⟨h0, k, Nat.lt_succ_self k, h1⟩
    · exact ⟨h0, j, Nat.lt_succ_of_lt hj, h1⟩

theorem rowSet_disjoint_filled (s k : ℕ) : Disjoint (rowSet s (rowOf k)) (filled s k) := by
  rw [Finset.disjoint_left]
  intro x h h'
  simp only [filled, rowSet, Finset.mem_filter, Finset.mem_univ, true_and] at h h'
  obtain ⟨j, hj, e⟩ := h'.2
  have := rowOf_inj (e.symm.trans h.2)
  omega

theorem filled_eq (s n : ℕ) : filled s n = (Finset.univ : Finset (Fin n)).biUnion fun t => rowSet s (rowOf t.val) := by
  ext x
  simp only [filled, rowSet, Finset.mem_filter, Finset.mem_univ, true_and, Finset.mem_biUnion]
  constructor
  · rintro ⟨h0, j, hj, h1⟩; exact ⟨⟨j, hj⟩, h0, h1⟩
  · rintro ⟨⟨j, hj⟩, h0, h1⟩; exact ⟨h0, j, hj, h1⟩

theorem rowSet_disjoint (s : ℕ) {j k : ℕ} (h : j ≠ k) : Disjoint (rowSet s (rowOf j)) (rowSet s (rowOf k)) := by
  rw [Finset.disjoint_left]
  intro x h₁ h₂
  simp only [rowSet, Finset.mem_filter, Finset.mem_univ, true_and] at h₁ h₂
  exact h (rowOf_inj (h₁.2.symm.trans h₂.2))

/-- A candidate id that names a row of the packed array. -/
structure IdOk (v : BitVec 32) : Prop where
  lt : v.toNat < 400000

/-! ## The transfers' windows and semaphores -/

/-- The semaphore of a slot: the slot's element of the scratch semaphores. -/
theorem slot_inb (s : Fin 2) : ∀ a, (![s.val] : Fin 1 → ℕ) a + S1.size a ≤ S2.size a := by
  revert s; decide

def slotSem (s : Fin 2) : DmaSem sig :=
  ((cc1_scratch2.slice (Rect.unit (s := S2) ![s.val] S1.size (slot_inb s))).squeeze S_ squeezes_S1_S_).sem

theorem sem_eq (s : Fin 2) (off : Fin 1 → ℕ) (h : ∀ a, off a + S1.size a ≤ S2.size a) (e : off = ![s.val]) :
    ((cc1_scratch2.slice (Rect.unit (s := S2) off S1.size h)).squeeze S_ squeezes_S1_S_).sem = slotSem s := by
  subst e; rfl

/-- The window of a transfer's destination. -/
abbrev rowM (off : Fin 3 → ℕ) (h : ∀ a, off a + S1x1x768.size a ≤ S2x208x768.size a) : Memref sig .tc .vmem S1x768 .i32 :=
  (rowsM.slice (Rect.unit (s := S2x208x768) off S1x1x768.size h) (fun _ => rfl)).squeeze S1x768 squeezes_S1x1x768_S1x768

theorem mem_row (x : S2x208x768.Idx) (s r : ℕ) (h : ∀ a, (![s, r, 0] : Fin 3 → ℕ) a + S1x1x768.size a ≤ S2x208x768.size a) :
    x ∈ (Rect.unit (s := S2x208x768) ![s, r, 0] S1x1x768.size h).set ↔ x ∈ rowSet s r := by
  rw [Rect.mem_set_unit]
  simp only [rowSet, Finset.mem_filter, Finset.mem_univ, true_and]
  have h2 : (x 2).val < 768 := (x 2).isLt
  constructor
  · intro H
    have h0 : s ≤ (x 0).val ∧ (x 0).val < s + 1 := H 0
    have h1 : r ≤ (x 1).val ∧ (x 1).val < r + 1 := H 1
    omega
  · rintro ⟨h0, h1⟩ a
    fin_cases a
    · exact (show s ≤ (x 0).val ∧ (x 0).val < s + 1 by omega)
    · exact (show r ≤ (x 1).val ∧ (x 1).val < r + 1 by omega)
    · exact (show 0 ≤ (x 2).val ∧ (x 2).val < 0 + 768 by omega)

theorem rowM_set (off : Fin 3 → ℕ) (h : ∀ a, off a + S1x1x768.size a ≤ S2x208x768.size a) (s r : ℕ) (e : off = ![s, r, 0]) : (rowM off h).view.set = rowSet s r := by
  subst e
  rw [Memref.set_view_squeeze]
  refine (View.set_slice_whole _ _).trans ?_
  exact Finset.ext fun x => mem_row x s r h

/-- What a landed transfer leaves: its row, at something. -/
def landed (c : Dev nD) (s : ℕ) (t : Fin 200) : Assn F :=
  iprop(∃ f : Buf (Elt F) (rowsL c), rowsL c ↦[onRows c (rowSet s (rowOf t.val))]{fullShare} f)

omit [FloatOps F] in
theorem some_storable (ℓ : Loc nD τ sig) (T : Finset (Idx ℓ)) :
    Storable (upEmb : UEmb _ 𝕄) iprop(∃ f : Buf (Elt F) ℓ, ℓ ↦[T]{fullShare} f) := inferInstance

instance landed_storable (c : Dev nD) (s : ℕ) : ∀ t, Storable (upEmb : UEmb _ 𝕄) (landed (F := F) c s t) :=
  fun _ => some_storable _ _

theorem to_landed (c : Dev nD) (s : ℕ) (t : Fin 200) (f : Buf (Elt F) (rowsL c)) (Z : Assn F) :
    iprop((rowsL c ↦[onRows c (rowSet s (rowOf t.val))]{fullShare} f) ∗ Z) ⊢ landed c s t := by
  unfold landed
  iintro ⟨Hd, -⟩
  iexists f
  iexact Hd

/-- One transfer's credit. -/
def unitN : ℕ := (rowM ![0, 0, 0] (by decide)).view.amount (SemLoc.dma (sig := sig) (slotSem 0))

/-- Slot `s` with its first `k` transfers issued, none waited for. -/
abbrev flight (c : Dev nD) (s : Fin 2) (k : ℕ) : Assn F :=
  Transfers.Batch EC (c : Thread nD τ) (.dma (slotSem s)) () unitN (landed (F := F) c s.val) k 0

/-! ## Issuing -/

section Issue

variable (c : Dev nD) (i : grid1.Coords) (s : Fin 2)
  (M1 : Memref sig .tc .smem S1x1x200 .i32) (ids : Buf (Elt F) (M1.view.loc (c : Thread nD τ)))
  (S : Finset S2x208x768.Idx) (R : Assn F)

/-- What is held once `k` transfers of a point have been issued: the ids, the packed rows at some share, what is left
    of the rows scratch, the shift scratch at something, the transfers in flight, and anything else. -/
def issuing (k : ℕ) : Assn F :=
  iprop((M1.view.loc (c : Thread nD τ) ↦{fullShare} ids)
    ∗ (∃ (q : PosShare TreeShare) (f : Buf (Elt F) (srcL c)), srcL c ↦{q} f)
    ∗ (∃ f : Buf (Elt F) (rowsL c), rowsL c ↦[onRows c (S \ filled s.val k)]{fullShare} f)
    ∗ (∃ f : Buf (Elt F) (shiftL c), shiftL c ↦{fullShare} f)
    ∗ flight (F := F) c s k ∗ R)

variable {c i s M1 ids S R} {α β : Type} {Q : α → Assn F} {k : ℕ}

theorem step_id {off : Fin 3 → ℕ} {h0 : ∀ a, off a + S1x1x1.size a ≤ S1x1x200.size a} {h1 : S1x1x1.numel = 1}
    {hp : EltTy.packing .i32 = 1} {K : Elt F .i32 → Prog (TpuEff nD τ sig (Elt F) Λ₀ .tc) α}
    (hids : ∀ (r : Rect S1x1x200) (x : r.shape.Idx), ((M1.access r).read (Elt F) ids x : BitVec 32).toNat < 400000)
    (h : ∀ v : Elt F .i32, IdOk v → (issuing c s M1 ids S R k ⊢ wpc c (K v) Q)) :
    issuing c s M1 ids S R k ⊢ wpc c (smemLoad M1 (Rect.unit (s := S1x1x200) off S1x1x1.size h0) h1 hp >>= K) Q := by
  change issuing c s M1 ids S R k ⊢ wpc c (smemLoadElt M1 (Rect.unit (s := S1x1x200) off S1x1x1.size h0) (View.loads_smem_one hp h1) (Shape.Idx.first (h1.symm ▸ Nat.one_pos)) K) Q
  unfold issuing
  iintro ⟨H1, H⟩
  iapply (wp_smemLoadElt Variants.none (c : Thread nD τ) none Set.univ (m := M1) (r := Rect.unit (s := S1x1x200) off S1x1x1.size h0) (f := ids) (Finset.subset_univ _)) $$ H1
  iintro H1
  iapply (h _ ⟨hids _ _⟩)
  unfold issuing
  isplitl [H1]; · iexact H1
  iexact H

omit [FloatOps F] in
theorem share_half {ℓ : Loc nD τ sig} {q : PosShare TreeShare} {T : Finset (Idx ℓ)} {f : Buf (Elt F) ℓ} :
    (ℓ ↦[T]{q} f : sProp 𝕄) ⊢ iprop((ℓ ↦[T]{q.left} f) ∗ ℓ ↦[T]{q.right} f) :=
  (pointsTo_share (PosShare.mem_left_op_right q)).1

/-- One transfer issued: the rows' share halved, its row taken from the scratch. -/
theorem step_issue {offA : Fin 1 → ℕ} {offB : Fin 3 → ℕ} {offC : Fin 2 → ℕ} {ha hb hc h1 h2 h3} {k' : ℕ}
    {K : PUnit → Prog (TpuEff nD τ sig (Elt F) Λ₀ .tc) α}
    (hs : slotN i = s.val) (eA : offA = ![slotN i]) {r : ℕ} (eB : offB = ![slotN i, r, 0]) (hr : r = rowOf k) (hk : k < 200)
    (hS : ∀ r, rowSet s.val r ⊆ S) (e : k + 1 = k')
    (h : issuing c s M1 ids S R k' ⊢ wpc c (K ⟨⟩) Q) :
    issuing c s M1 ids S R k ⊢ wpc c (Prog.lift (.enqueueDma
      (srcM.slice (Rect.unit (s := S100000x768) offC S1x768.size hc) (fun _ => rfl)) (.here (rowM offB hb))
      (.dma ((cc1_scratch2.slice (Rect.unit (s := S2) offA S1.size ha)).squeeze S_ squeezes_S1_S_).sem) h1 h2 h3) >>= K) Q := by
  subst e
  rw [hs] at eA eB
  rw [hr] at eB
  subst eA
  have hset : (rowM offB hb).view.set = onRows c (rowSet s.val (rowOf k)) := rowM_set offB hb _ _ eB
  have hsub : onRows c (rowSet s.val (rowOf k)) ⊆ onRows c (S \ filled s.val k) := fun x hx =>
    Finset.mem_sdiff.mpr ⟨hS _ hx, Finset.disjoint_left.mp (rowSet_disjoint_filled s.val k) hx⟩
  have hrest : onRows c (S \ filled s.val k) \ onRows c (rowSet s.val (rowOf k)) = onRows c (S \ filled s.val (k + 1)) := by
    unfold onRows
    rw [filled_succ, sdiff_sdiff_left, Finset.sup_eq_union, Finset.union_comm]
  unfold issuing
  iintro ⟨H1, ⟨%q, %fs, Hs⟩, ⟨%fr, Hr⟩, Hsh, HB, HR⟩
  ihave Hs' := share_half $$ Hs
  icases Hs' with ⟨Hs, Hs2⟩
  ihave Hs3 := (pointsTo_split_subset (Finset.subset_univ
    (srcM.slice (Rect.unit (s := S100000x768) offC S1x768.size hc) (fun _ => rfl)).view.set)).1 $$ Hs2
  icases Hs3 with ⟨Hs2, -⟩
  ihave Hr' := (pointsTo_split_subset hsub).1 $$ Hr
  icases Hr' with ⟨Hrow, Hr⟩
  iapply (Transfers.wp_dmaBatch EC Variants.none (c : Thread nD τ) none
    (src := srcM.slice (Rect.unit (s := S100000x768) offC S1x768.size hc) (fun _ => rfl)) (dst := rowM offB hb)
    (Sd := onRows c (rowSet s.val (rowOf k))) () unitN rfl (Finset.subset_of_eq hset) (D := landed (F := F) c s.val) (j := k) (u := 0) hk (Nat.zero_le _)
    (to_landed c s.val ⟨k, hk⟩ _ _)) $$ [Hs2 Hrow HB]
  · isplitl [Hs2]; · iexact Hs2
    isplitl [Hrow]; · iexact Hrow
    iexact HB
  iintro HB
  iapply h
  unfold issuing
  isplitl [H1]; · iexact H1
  isplitl [Hs]; · iexists _, _; iexact Hs
  isplitl [Hr]
  · iexists fr
    rw [← hrest]
    iexact Hr
  isplitl [Hsh]; · iexact Hsh
  isplitl [HB]; · iexact HB
  iexact HR

/-- A load of the shift scratch: its value is not followed. -/
theorem step_load_shift {r : LoadRect S2x208x128} {hl} {K : (r.shape.Idx → Elt F .i32) → Prog (TpuEff nD τ sig (Elt F) Λ₀ .tc) α}
    (h : ∀ v, issuing c s M1 ids S R k ⊢ wpc c (K v) Q) :
    issuing c s M1 ids S R k ⊢ wpc c (Prog.lift (.load shiftM r hl) >>= K) Q := by
  unfold issuing
  iintro ⟨H1, Hs, Hr, ⟨%f, Hsh⟩, H⟩
  iapply (wp_load Variants.none (c : Thread nD τ) none Set.univ (Finset.subset_univ _)) $$ Hsh
  iintro Hsh
  iapply (h _)
  unfold issuing
  isplitl [H1]; · iexact H1
  isplitl [Hs]; · iexact Hs
  isplitl [Hr]; · iexact Hr
  isplitl [Hsh]; · iexists f; iexact Hsh
  iexact H

/-- A store into the shift scratch. -/
theorem step_store_shift {r : Rect S2x208x128} {w : r.shape.Idx → Elt F .i32} {Mk hx hm}
    {K : PUnit → Prog (TpuEff nD τ sig (Elt F) Λ₀ .tc) α}
    (h : issuing c s M1 ids S R k ⊢ wpc c (K ⟨⟩) Q) :
    issuing c s M1 ids S R k ⊢ wpc c (Prog.lift (.store shiftM r w Mk hx hm) >>= K) Q := by
  unfold issuing
  iintro ⟨H1, Hs, Hr, ⟨%f, Hsh⟩, H⟩
  iapply (wp_store Variants.none (c : Thread nD τ) none Set.univ (m := shiftM) (r := r) (w := w) (Mk := Mk) (f := f) (Finset.subset_univ _)) $$ Hsh
  iintro Hsh
  iapply h
  unfold issuing
  isplitl [H1]; · iexact H1
  isplitl [Hs]; · iexact Hs
  isplitl [Hr]; · iexact Hr
  isplitl [Hsh]; · iexists _; iexact Hsh
  iexact H

end Issue

/-! ## Steps that touch nothing -/

section Plain

variable {c : Dev nD} {α β : Type} {P : Assn F} {Q : α → Assn F}

theorem step_assume {p : Prop} {d : Decidable p} {K : PLift p → Prog (TpuEff nD τ sig (Elt F) Λ₀ .tc) α}
    (hp : p) (h : P ⊢ wpc c (K ⟨hp⟩) Q) : P ⊢ wpc c (Prog.lift (.assume p d) >>= K) Q :=
  h.trans (wp_assume Variants.none (c : Thread nD τ) none Set.univ hp)

/-- A part of the body, followed by the rest: its own steps first. -/
theorem step_part {p : Prog (TpuEff nD τ sig (Elt F) Λ₀ .tc) β} {K : β → Prog (TpuEff nD τ sig (Elt F) Λ₀ .tc) α}
    (h : P ⊢ wpc c p (fun v => wpc c (K v) Q)) : P ⊢ wpc c (p >>= K) Q := by
  refine h.trans (Entails.of_eq ?_)
  exact (wp_bind frame _ _ p K Q).symm

/-- The same, the rest kept out of sight until the part has run. -/
theorem step_part' {p : Prog (TpuEff nD τ sig (Elt F) Λ₀ .tc) β} {K : β → Prog (TpuEff nD τ sig (Elt F) Λ₀ .tc) α}
    (h : ∀ Q' : β → Assn F, (∀ v, wpc c (K v) Q ⊢ Q' v) → (P ⊢ wpc c p Q')) : P ⊢ wpc c (p >>= K) Q :=
  step_part (h _ fun _ => BIBase.Entails.rfl)

theorem step_pure {v : α} (h : P ⊢ Q v) : P ⊢ wpc c (pure v) Q :=
  h.trans (le_wp_ret frame _ _ v Q)

/-- A step at the end of a program, as a step followed by nothing. -/
theorem step_last {e : TpuEff nD τ sig (Elt F) Λ₀ .tc α} (h : P ⊢ wpc c (Prog.lift e >>= pure) Q) :
    P ⊢ wpc c (Prog.lift e) Q := h

theorem step_end {p : Prog (TpuEff nD τ sig (Elt F) Λ₀ .tc) α} (h : P ⊢ wpc c (p >>= pure) Q) : P ⊢ wpc c p Q := by
  rwa [bind_pure] at h

/-- The row a candidate id names is a row of the packed array. -/
theorem row_inb (v : BitVec 32) (h : IdOk v) :
    ∀ a, (![(Scalar.shrui v 2#32).toNat, 0] : Fin 2 → ℕ) a + S1x768.size a ≤ S100000x768.size a := by
  have h' : (Scalar.shrui v 2#32).toNat = v.toNat / 4 := by
    simp [Scalar.shrui, IntOp.shrui, BitVec.toNat_ushiftRight, Nat.shiftRight_eq_div_pow]
  have := h.lt
  intro a
  fin_cases a
  · simp [Shape.size, h']; omega
  · simp [Shape.size]

end Plain

end Cert.KernelIdeal.Dense

end
-- ==== Proof.Ideal.Access.lean ====
/-
  Loads and stores from and to a buffer that is held among other things: the buffer is taken out of what is held, read
  or written, and put back.
-/
module

public import proofs.«01_k».proof.Proof.Ideal.Steps

@[expose] public section

set_option maxRecDepth 16384

noncomputable section

namespace Cert.KernelIdeal.Dense

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A buffer is held at something on a set of its elements, and may be put back at something else. -/
abbrev Acc (P : Assn F) (ℓ : Loc nD τ sig) (T : Finset (Idx ℓ)) : Prop :=
  P ⊢ iprop((∃ f : Buf (Elt F) ℓ, ℓ ↦[T]{fullShare} f) ∗ ((∃ f : Buf (Elt F) ℓ, ℓ ↦[T]{fullShare} f) -∗ P))

/-- A buffer is held whole at given contents, and is put back at them. -/
abbrev Reads (P : Assn F) (ℓ : Loc nD τ sig) (f : Buf (Elt F) ℓ) : Prop :=
  P ⊢ iprop((ℓ ↦{fullShare} f) ∗ ((ℓ ↦{fullShare} f) -∗ P))

section

variable {c : Dev nD} {α : Type} {P : Assn F} {Q : α → Assn F} {sp : CoreSpace} {sh : Shape} {e : EltTy}

/-- A load of something held: its value is not followed. -/
theorem step_load {m : Memref sig .tc sp sh e} {T : Finset (Idx (m.view.loc (c : Thread nD τ)))} (ha : Acc P (m.view.loc (c : Thread nD τ)) T)
    {r : LoadRect sh} {hl} (hT : m.view.setOn r.set ⊆ T)
    {K : (r.shape.Idx → Elt F e) → Prog (TpuEff nD τ sig (Elt F) Λ₀ .tc) α} (h : ∀ v, P ⊢ wpc c (K v) Q) :
    P ⊢ wpc c (Prog.lift (.load m r hl) >>= K) Q := by
  refine BIBase.Entails.trans ha ?_
  iintro ⟨⟨%f, Hm⟩, Hback⟩
  iapply (wp_load Variants.none (c : Thread nD τ) none Set.univ (m := m) (r := r) (f := f) hT) $$ Hm
  iintro Hm
  iapply (h _)
  iapply Hback
  iexists f
  iexact Hm

/-- A load of a buffer held whole at given contents. -/
theorem step_read {m : Memref sig .tc sp sh e} {f : Buf (Elt F) (m.view.loc (c : Thread nD τ))} (ha : Reads P (m.view.loc (c : Thread nD τ)) f)
    {r : LoadRect sh} {hl}
    {K : (r.shape.Idx → Elt F e) → Prog (TpuEff nD τ sig (Elt F) Λ₀ .tc) α} (h : P ⊢ wpc c (K (m.view.readAt (Elt F) r f)) Q) :
    P ⊢ wpc c (Prog.lift (.load m r hl) >>= K) Q := by
  refine BIBase.Entails.trans ha ?_
  iintro ⟨Hm, Hback⟩
  iapply (wp_load Variants.none (c : Thread nD τ) none Set.univ (m := m) (r := r) (f := f) (Finset.subset_univ _)) $$ Hm
  iintro Hm
  iapply h
  iapply Hback
  iexact Hm

/-- The same, the value not followed. -/
theorem step_read' {m : Memref sig .tc sp sh e} {f : Buf (Elt F) (m.view.loc (c : Thread nD τ))} (ha : Reads P (m.view.loc (c : Thread nD τ)) f)
    {r : LoadRect sh} {hl}
    {K : (r.shape.Idx → Elt F e) → Prog (TpuEff nD τ sig (Elt F) Λ₀ .tc) α} (h : ∀ v, P ⊢ wpc c (K v) Q) :
    P ⊢ wpc c (Prog.lift (.load m r hl) >>= K) Q := step_read ha (h _)

/-- A store into something held whole. -/
theorem step_store {m : Memref sig .tc sp sh e} (ha : Acc P (m.view.loc (c : Thread nD τ)) Finset.univ)
    {r : Rect sh} {w : r.shape.Idx → Elt F e} {Mk hx hm}
    {K : PUnit → Prog (TpuEff nD τ sig (Elt F) Λ₀ .tc) α} (h : P ⊢ wpc c (K ⟨⟩) Q) :
    P ⊢ wpc c (Prog.lift (.store m r w Mk hx hm) >>= K) Q := by
  refine BIBase.Entails.trans ha ?_
  iintro ⟨⟨%f, Hm⟩, Hback⟩
  iapply (wp_store Variants.none (c : Thread nD τ) none Set.univ (m := m) (r := r) (w := w) (Mk := Mk) (f := f) (Finset.subset_univ _)) $$ Hm
  iintro Hm
  iapply h
  iapply Hback
  iexists _
  iexact Hm

end

/-! ## What a grid point holds -/

section Held

variable (c : Dev nD) (M1 : Memref sig .tc .smem S1x1x200 .i32) (ids : Buf (Elt F) (M1.view.loc (c : Thread nD τ)))

/-- The ids, the packed rows at some share, the rows scratch on a set of its elements, the shift scratch, and two more
    parts. -/
def held (T : Finset S2x208x768.Idx) (Y B : Assn F) : Assn F :=
  iprop((M1.view.loc (c : Thread nD τ) ↦{fullShare} ids)
    ∗ (∃ (q : PosShare TreeShare) (f : Buf (Elt F) (srcL c)), srcL c ↦{q} f)
    ∗ (∃ f : Buf (Elt F) (rowsL c), rowsL c ↦[onRows c T]{fullShare} f)
    ∗ (∃ f : Buf (Elt F) (shiftL c), shiftL c ↦{fullShare} f)
    ∗ Y ∗ B)

theorem issuing_held (s : Fin 2) (S : Finset S2x208x768.Idx) (R : Assn F) (k : ℕ) :
    issuing c s M1 ids S R k = held c M1 ids (S \ filled s.val k) (flight (F := F) c s k) R := rfl

variable {c M1 ids}

theorem held_rows (T : Finset S2x208x768.Idx) (Y B : Assn F) : Acc (held c M1 ids T Y B) (rowsL c) (onRows c T) := by
  unfold held
  iintro ⟨H1, Hs, Hr, H⟩
  isplitl [Hr]; · iexact Hr
  iintro Hr
  isplitl [H1]; · iexact H1
  isplitl [Hs]; · iexact Hs
  isplitl [Hr]; · iexact Hr
  iexact H

theorem held_shift (T : Finset S2x208x768.Idx) (Y B : Assn F) : Acc (held c M1 ids T Y B) (shiftL c) Finset.univ := by
  unfold held
  iintro ⟨H1, Hs, Hr, Hsh, H⟩
  isplitl [Hsh]; · iexact Hsh
  iintro Hsh
  isplitl [H1]; · iexact H1
  isplitl [Hs]; · iexact Hs
  isplitl [Hr]; · iexact Hr
  isplitl [Hsh]; · iexact Hsh
  iexact H

/-- What is held in the last part is held. -/
theorem held_reads {T : Finset S2x208x768.Idx} {Y B : Assn F} {ℓ : Loc nD τ sig} {f : Buf (Elt F) ℓ} (h : Reads B ℓ f) :
    Reads (held c M1 ids T Y B) ℓ f := by
  unfold held
  iintro ⟨H1, Hs, Hr, Hsh, HY, HB⟩
  ihave HB' := h $$ HB
  icases HB' with ⟨Hm, Hback⟩
  isplitl [Hm]; · iexact Hm
  iintro Hm
  isplitl [H1]; · iexact H1
  isplitl [Hs]; · iexact Hs
  isplitl [Hr]; · iexact Hr
  isplitl [Hsh]; · iexact Hsh
  isplitl [HY]; · iexact HY
  iapply Hback; iexact Hm

theorem held_acc {T : Finset S2x208x768.Idx} {Y B : Assn F} {ℓ : Loc nD τ sig} {U : Finset (Idx ℓ)} (h : Acc B ℓ U) :
    Acc (held c M1 ids T Y B) ℓ U := by
  unfold held
  iintro ⟨H1, Hs, Hr, Hsh, HY, HB⟩
  ihave HB' := h $$ HB
  icases HB' with ⟨Hm, Hback⟩
  isplitl [Hm]; · iexact Hm
  iintro Hm
  isplitl [H1]; · iexact H1
  isplitl [Hs]; · iexact Hs
  isplitl [Hr]; · iexact Hr
  isplitl [Hsh]; · iexact Hsh
  isplitl [HY]; · iexact HY
  iapply Hback; iexact Hm

/-- From a slot's semaphore at zero, the slot with no transfer issued. -/
theorem start_issue {s : Fin 2} {S : Finset S2x208x768.Idx} {R : Assn F} {α : Type} {p : Prog (TpuEff nD τ sig (Elt F) Λ₀ .tc) α} {Q : α → Assn F}
    (h : issuing c s M1 ids S R 0 ⊢ wpc c p Q) :
    held c M1 ids S (semVal ((c : Thread nD τ), SemLoc.dma (slotSem s)) 0) R ⊢ wpc c p Q := by
  have hst : ∀ t, Storable (upEmb : UEmb _ 𝕄) (landed (F := F) c s.val t) := fun _ => inferInstance
  rw [issuing_held, filled_zero, Finset.sdiff_empty] at h
  unfold held at h ⊢
  iintro ⟨H1, Hs, Hr, Hsh, HY, HB⟩
  imod (Transfers.batch_alloc' EC (c : Thread nD τ) (sm := SemLoc.dma (slotSem s)) () unitN (landed (F := F) c s.val) (E := Set.univ)) $$ HY with HF
  iapply h
  isplitl [H1]; · iexact H1
  isplitl [Hs]; · iexact Hs
  isplitl [Hr]; · iexact Hr
  isplitl [Hsh]; · iexact Hsh
  isplitl [HF]; · iexact HF
  iexact HB

end Held

end Cert.KernelIdeal.Dense

end
-- ==== Proof.Ideal.Drain.lean ====
/-
  The part of a grid point of the dense call after its transfers are issued: the two products and the block of scores,
  then, from the second point on, the wait for the other slot's rows and the refined scores computed from them. The
  scores are followed exactly, the refined ones are not.
-/
module

public import proofs.«01_k».proof.Proof.Ideal.Access
public import Idealize.ShloMosaic.Lib.VecWindow
public import Idealize.ShloMosaic.Lib.Ring

@[expose] public section

set_option maxRecDepth 16384

noncomputable section

namespace Cert.KernelIdeal.Dense

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Reading and writing under a separating conjunction -/

section

variable {A B : Assn F} {ℓ : Loc nD τ sig} {f : Buf (Elt F) ℓ} {T : Finset (Idx ℓ)}

theorem reads_head : Reads (iprop((ℓ ↦{fullShare} f) ∗ B) : Assn F) ℓ f := by
  iintro ⟨H, HB⟩
  isplitl [H]; · iexact H
  iintro H
  isplitl [H]; · iexact H
  iexact HB

theorem reads_right (h : Reads B ℓ f) : Reads iprop(A ∗ B) ℓ f := by
  iintro ⟨HA, HB⟩
  ihave HB' := h $$ HB
  icases HB' with ⟨H, Hback⟩
  isplitl [H]; · iexact H
  iintro H
  isplitl [HA]; · iexact HA
  iapply Hback; iexact H

theorem acc_self : Acc (iprop(∃ f : Buf (Elt F) ℓ, ℓ ↦[T]{fullShare} f) : Assn F) ℓ T := by
  iintro H
  isplitl [H]; · iexact H
  iintro H
  iexact H

theorem acc_head : Acc (iprop((∃ f : Buf (Elt F) ℓ, ℓ ↦[T]{fullShare} f) ∗ B) : Assn F) ℓ T := by
  iintro ⟨H, HB⟩
  isplitl [H]; · iexact H
  iintro H
  isplitl [H]; · iexact H
  iexact HB

theorem acc_right (h : Acc B ℓ T) : Acc iprop(A ∗ B) ℓ T := by
  iintro ⟨HA, HB⟩
  ihave HB' := h $$ HB
  icases HB' with ⟨H, Hback⟩
  isplitl [H]; · iexact H
  iintro H
  isplitl [HA]; · iexact HA
  iapply Hback; iexact H

end

/-- What a core owes: nothing, whatever it has waited for. -/
abbrev owesNone (c : Dev nD) : Assn F := iprop(∃ W, owes (c : Thread nD τ) (0 : CellTallies nD τ sig Unit) W)

/-- The rows of slot `o`, all of them, as a set of elements. -/
def slotSet (o : ℕ) : Finset S2x208x768.Idx := Finset.univ.filter fun x => (x 0).val = o

/-- A load of rows of slot `o` stays in the slot. -/
theorem rows_load (c : Dev nD) {off : Fin 3 → ℕ} {h : ∀ a, off a + S1x104x128.size a ≤ S2x208x768.size a} {o : ℕ} {T : Finset S2x208x768.Idx}
    (ho : off 0 = o) (hT : slotSet o ⊆ T) :
    rowsM.view.setOn (Rect.unit (s := S2x208x768) off S1x104x128.size h).toLoadRect.set ⊆ onRows c T := by
  intro x hx
  obtain ⟨y, hy, rfl⟩ := Finset.mem_map.mp hx
  refine hT (Finset.mem_filter.mpr ⟨Finset.mem_univ _, ?_⟩)
  have hy' : y ∈ (Rect.unit (s := S2x208x768) off S1x104x128.size h).set := hy
  rw [Rect.mem_set_unit] at hy'
  have h0 : off 0 ≤ (y 0).val ∧ (y 0).val < off 0 + 1 := hy' 0
  show (y 0).val = o
  omega

theorem unitN_pos : 0 < unitN := by decide +kernel

/-- The wait's amount is that of two hundred transfers. -/
theorem drain_amount : (rowsM.view.ref).dmaCredit S200x768 .i32 = 200 * unitN := by decide +kernel

/-- The wait that drains the other slot: its two hundred rows come back, its semaphore reads zero. -/
theorem step_drain {c : Dev nD} {M1 : Memref sig .tc .smem S1x1x200 .i32} {ids : Buf (Elt F) (M1.view.loc (c : Thread nD τ))}
    {T : Finset S2x208x768.Idx} {Y B : Assn F} {o : Fin 2} {α : Type} {Q : α → Assn F}
    {offA : Fin 1 → ℕ} {offB : Fin 3 → ℕ} {offC : Fin 2 → ℕ} {ha hb hc h1 h2} (eA : offA = ![o.val])
    (hT : Disjoint T (filled o.val 200))
    {K : PUnit → Prog (TpuEff nD τ sig (Elt F) Λ₀ .tc) α}
    (h : held c M1 ids (T ∪ filled o.val 200) Y iprop(semVal ((c : Thread nD τ), SemLoc.dma (slotSem o)) 0 ∗ owesNone c ∗ B) ⊢ wpc c (K ⟨⟩) Q) :
    held c M1 ids T Y iprop(flight (F := F) c o 200 ∗ owesNone c ∗ B) ⊢ wpc c (Prog.lift (.waitDma2
      ((cc1_scratch2.slice (Rect.unit (s := S2) offA S1.size ha)).squeeze S_ squeezes_S1_S_).sem
      (srcM.slice (Rect.unit (s := S100000x768) offC S200x768.size hc) (fun _ => rfl))
      ((rowsM.slice (Rect.unit (s := S2x208x768) offB S1x200x768.size hb) (fun _ => rfl)).squeeze S200x768 squeezes_S1x200x768_S200x768) h1 h2) >>= K) Q := by
  subst eA
  unfold held
  iintro ⟨H1, Hs, ⟨%fr, Hr⟩, Hsh, HY, HF, ⟨%W, HO⟩, HB⟩
  iapply (Transfers.wp_waitBatchAll EC Variants.none (c : Thread nD τ) none
    (dstw := (rowsM.slice (Rect.unit (s := S2x208x768) offB S1x200x768.size hb) (fun _ => rfl)).squeeze S200x768 squeezes_S1x200x768_S200x768)
    () (N := unitN) (J := 200 * unitN) drain_amount unitN_pos (n := 200) (D := landed (F := F) c o.val) (u := 0) (by omega)) $$ [HF HO]
  · isplitl [HF]; · iexact HF
    iexact HO
  iintro ⟨HD, Hv, HO⟩
  iapply h
  unfold held
  isplitl [H1]; · iexact H1
  isplitl [Hs]; · iexact Hs
  isplitl [Hr HD]
  · have hj : bigSep Finset.univ (landed (F := F) c o.val) ⊢ iprop(∃ g : Buf (Elt F) (rowsL c), rowsL c ↦[onRows c (filled o.val 200)]{fullShare} g) := by
      have : Nonempty (Buf (Elt F) (rowsL c)) := ⟨fr⟩
      refine (Idealize.SL.BI.bigSep_exists_pi Finset.univ (fun (t : Fin 200) (f : Buf (Elt F) (rowsL c)) =>
        (rowsL c ↦[onRows c (rowSet o.val (rowOf t.val))]{fullShare} f : sProp 𝕄))).trans ?_
      iintro ⟨%fs, H⟩
      ihave H' := (pointsTo_biUnion_join (ℓ := rowsL c) (q := fullShare) Finset.univ (fun t : Fin 200 => onRows c (rowSet o.val (rowOf t.val))) fs fr
        (fun t _ t' _ e => rowSet_disjoint o.val (fun e' => e (Fin.ext e')))) $$ H
      icases H' with ⟨%g, -, H⟩
      iexists g
      have e : onRows c (filled o.val 200) = (Finset.univ : Finset (Fin 200)).biUnion (fun t => onRows c (rowSet o.val (rowOf t.val))) := filled_eq o.val 200
      rw [e]
      iexact H
    ihave HD' := hj $$ HD
    icases HD' with ⟨%g, HD⟩
    iexists _
    have e : onRows c (T ∪ filled o.val 200) = onRows c T ∪ onRows c (filled o.val 200) := rfl
    rw [e]
    iapply (pointsTo_join (ℓ := rowsL c) (q := fullShare) (I := onRows c T) (J := onRows c (filled o.val 200)) hT)
    isplitl [Hr]; · iexact Hr
    iexact HD
  isplitl [Hsh]; · iexact Hsh
  isplitl [HY]; · iexact HY
  isplitl [Hv]; · iexact Hv
  isplitl [HO]; · iexists _; iexact HO
  iexact HB

end Cert.KernelIdeal.Dense

end
-- ==== Proof.Ideal.Parts.lean ====
/-
  The two hundred transfers of a grid point, issued one after another over ninety-four parts of the body.
-/
module

public import proofs.«01_k».proof.Proof.Ideal.Steps

@[expose] public section

set_option maxRecDepth 16384

noncomputable section

namespace Cert.KernelIdeal.Dense

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {i : grid1.Coords} (M1 : Memref sig .tc .smem S1x1x200 .i32) (hM1 : M1.IsWhole) (M2 : Memref sig .tc .vmem S384x768 .bf16) (hM2 : M2.IsWhole) (M3 : Memref sig .tc .vmem S2048x384 .i8) (hM3 : M3.IsWhole) (M4 : Memref sig .tc .vmem S2048 .i32) (hM4 : M4.IsWhole) (M5 : Memref sig .tc .vmem S384x128 .f32) (hM5 : M5.IsWhole) (M6 : Memref sig .tc .vmem S384x128 .f32) (hM6 : M6.IsWhole) (M7 : Memref sig .tc .vmem S384x128 .f32) (hM7 : M7.IsWhole) (M8 : Memref sig .tc .vmem S384x768 .f32) (hM8 : M8.IsWhole) (h9 : srcM.IsWhole)
  (M10 : Memref sig .tc .vmem S384x2048 .f32) (hM10 : M10.IsWhole) (M11 : Memref sig .tc .vmem S1x104x128 .f32) (hM11 : M11.IsWhole)
  (h12 : rowsM.IsWhole) (h13 : shiftM.IsWhole)
  {c : Dev nD} {s : Fin 2} {ids : Buf (Elt F) (M1.view.loc (c : Thread nD τ))} {S : Finset S2x208x768.Idx} {R : Assn F}
  {α : Type} {Q : α → Assn F}

set_option maxHeartbeats 2000000 in
theorem issue_first (hids : ∀ (r : Rect S1x1x200) (x : r.shape.Idx), ((M1.access r).read (Elt F) ids x : BitVec 32).toNat < 400000)
    (hs : slotN i = s.val) (hS : ∀ r, rowSet s.val r ⊆ S) (v9 : BitVec 32) (h2 : k1_cond2 i = 1#1)
    {Q : Elt F .i32 → Assn F}
    (h : ∀ v : Elt F .i32, IdOk v → (issuing c s M1 ids S R 129 ⊢ Q v)) :
    issuing c s M1 ids S R 0 ⊢ wpc c (k1_part94 (F := F) i M1 hM1 M2 hM2 M3 hM3 M4 hM4 M5 hM5 M6 hM6 M7 hM7 M8 hM8 srcM h9 M10 hM10 M11 hM11 rowsM h12 shiftM h13 cc1_scratch2 v9 h2) Q := by
  rw [k1_part94_eq_skeleton]
  unfold k1_part94_skel
  repeat
    first
    | (with_reducible refine step_part' ?_
       intro Q' hQ'
       first
        | (rw [k1_part1_eq_skeleton]; unfold k1_part1_skel)
        | (rw [k1_part2_eq_skeleton]; unfold k1_part2_skel)
        | (rw [k1_part3_eq_skeleton]; unfold k1_part3_skel)
        | (rw [k1_part4_eq_skeleton]; unfold k1_part4_skel)
        | (rw [k1_part5_eq_skeleton]; unfold k1_part5_skel)
        | (rw [k1_part6_eq_skeleton]; unfold k1_part6_skel)
        | (rw [k1_part7_eq_skeleton]; unfold k1_part7_skel)
        | (rw [k1_part8_eq_skeleton]; unfold k1_part8_skel)
        | (rw [k1_part9_eq_skeleton]; unfold k1_part9_skel)
        | (rw [k1_part10_eq_skeleton]; unfold k1_part10_skel)
        | (rw [k1_part11_eq_skeleton]; unfold k1_part11_skel)
        | (rw [k1_part12_eq_skeleton]; unfold k1_part12_skel)
        | (rw [k1_part13_eq_skeleton]; unfold k1_part13_skel)
        | (rw [k1_part14_eq_skeleton]; unfold k1_part14_skel)
        | (rw [k1_part15_eq_skeleton]; unfold k1_part15_skel)
        | (rw [k1_part16_eq_skeleton]; unfold k1_part16_skel)
        | (rw [k1_part17_eq_skeleton]; unfold k1_part17_skel)
        | (rw [k1_part18_eq_skeleton]; unfold k1_part18_skel)
        | (rw [k1_part19_eq_skeleton]; unfold k1_part19_skel)
        | (rw [k1_part20_eq_skeleton]; unfold k1_part20_skel)
        | (rw [k1_part21_eq_skeleton]; unfold k1_part21_skel)
        | (rw [k1_part22_eq_skeleton]; unfold k1_part22_skel)
        | (rw [k1_part23_eq_skeleton]; unfold k1_part23_skel)
        | (rw [k1_part24_eq_skeleton]; unfold k1_part24_skel)
        | (rw [k1_part25_eq_skeleton]; unfold k1_part25_skel)
        | (rw [k1_part26_eq_skeleton]; unfold k1_part26_skel)
        | (rw [k1_part27_eq_skeleton]; unfold k1_part27_skel)
        | (rw [k1_part28_eq_skeleton]; unfold k1_part28_skel)
        | (rw [k1_part29_eq_skeleton]; unfold k1_part29_skel)
        | (rw [k1_part30_eq_skeleton]; unfold k1_part30_skel)
        | (rw [k1_part31_eq_skeleton]; unfold k1_part31_skel)
        | (rw [k1_part32_eq_skeleton]; unfold k1_part32_skel)
        | (rw [k1_part33_eq_skeleton]; unfold k1_part33_skel)
        | (rw [k1_part34_eq_skeleton]; unfold k1_part34_skel)
        | (rw [k1_part35_eq_skeleton]; unfold k1_part35_skel)
        | (rw [k1_part36_eq_skeleton]; unfold k1_part36_skel)
        | (rw [k1_part37_eq_skeleton]; unfold k1_part37_skel)
        | (rw [k1_part38_eq_skeleton]; unfold k1_part38_skel)
        | (rw [k1_part39_eq_skeleton]; unfold k1_part39_skel)
        | (rw [k1_part40_eq_skeleton]; unfold k1_part40_skel)
        | (rw [k1_part41_eq_skeleton]; unfold k1_part41_skel)
        | (rw [k1_part42_eq_skeleton]; unfold k1_part42_skel)
        | (rw [k1_part43_eq_skeleton]; unfold k1_part43_skel)
        | (rw [k1_part44_eq_skeleton]; unfold k1_part44_skel)
        | (rw [k1_part45_eq_skeleton]; unfold k1_part45_skel)
        | (rw [k1_part46_eq_skeleton]; unfold k1_part46_skel)
        | (rw [k1_part47_eq_skeleton]; unfold k1_part47_skel)
        | (rw [k1_part48_eq_skeleton]; unfold k1_part48_skel)
        | (rw [k1_part49_eq_skeleton]; unfold k1_part49_skel)
        | (rw [k1_part50_eq_skeleton]; unfold k1_part50_skel)
        | (rw [k1_part51_eq_skeleton]; unfold k1_part51_skel)
        | (rw [k1_part52_eq_skeleton]; unfold k1_part52_skel)
        | (rw [k1_part53_eq_skeleton]; unfold k1_part53_skel)
        | (rw [k1_part54_eq_skeleton]; unfold k1_part54_skel)
        | (rw [k1_part55_eq_skeleton]; unfold k1_part55_skel)
        | (rw [k1_part56_eq_skeleton]; unfold k1_part56_skel)
        | (rw [k1_part57_eq_skeleton]; unfold k1_part57_skel)
        | (rw [k1_part58_eq_skeleton]; unfold k1_part58_skel)
        | (rw [k1_part59_eq_skeleton]; unfold k1_part59_skel)
        | (rw [k1_part60_eq_skeleton]; unfold k1_part60_skel))
    | first
        | (rw [k1_part1_eq_skeleton]; unfold k1_part1_skel)
        | (rw [k1_part2_eq_skeleton]; unfold k1_part2_skel)
        | (rw [k1_part3_eq_skeleton]; unfold k1_part3_skel)
        | (rw [k1_part4_eq_skeleton]; unfold k1_part4_skel)
        | (rw [k1_part5_eq_skeleton]; unfold k1_part5_skel)
        | (rw [k1_part6_eq_skeleton]; unfold k1_part6_skel)
        | (rw [k1_part7_eq_skeleton]; unfold k1_part7_skel)
        | (rw [k1_part8_eq_skeleton]; unfold k1_part8_skel)
        | (rw [k1_part9_eq_skeleton]; unfold k1_part9_skel)
        | (rw [k1_part10_eq_skeleton]; unfold k1_part10_skel)
        | (rw [k1_part11_eq_skeleton]; unfold k1_part11_skel)
        | (rw [k1_part12_eq_skeleton]; unfold k1_part12_skel)
        | (rw [k1_part13_eq_skeleton]; unfold k1_part13_skel)
        | (rw [k1_part14_eq_skeleton]; unfold k1_part14_skel)
        | (rw [k1_part15_eq_skeleton]; unfold k1_part15_skel)
        | (rw [k1_part16_eq_skeleton]; unfold k1_part16_skel)
        | (rw [k1_part17_eq_skeleton]; unfold k1_part17_skel)
        | (rw [k1_part18_eq_skeleton]; unfold k1_part18_skel)
        | (rw [k1_part19_eq_skeleton]; unfold k1_part19_skel)
        | (rw [k1_part20_eq_skeleton]; unfold k1_part20_skel)
        | (rw [k1_part21_eq_skeleton]; unfold k1_part21_skel)
        | (rw [k1_part22_eq_skeleton]; unfold k1_part22_skel)
        | (rw [k1_part23_eq_skeleton]; unfold k1_part23_skel)
        | (rw [k1_part24_eq_skeleton]; unfold k1_part24_skel)
        | (rw [k1_part25_eq_skeleton]; unfold k1_part25_skel)
        | (rw [k1_part26_eq_skeleton]; unfold k1_part26_skel)
        | (rw [k1_part27_eq_skeleton]; unfold k1_part27_skel)
        | (rw [k1_part28_eq_skeleton]; unfold k1_part28_skel)
        | (rw [k1_part29_eq_skeleton]; unfold k1_part29_skel)
        | (rw [k1_part30_eq_skeleton]; unfold k1_part30_skel)
        | (rw [k1_part31_eq_skeleton]; unfold k1_part31_skel)
        | (rw [k1_part32_eq_skeleton]; unfold k1_part32_skel)
        | (rw [k1_part33_eq_skeleton]; unfold k1_part33_skel)
        | (rw [k1_part34_eq_skeleton]; unfold k1_part34_skel)
        | (rw [k1_part35_eq_skeleton]; unfold k1_part35_skel)
        | (rw [k1_part36_eq_skeleton]; unfold k1_part36_skel)
        | (rw [k1_part37_eq_skeleton]; unfold k1_part37_skel)
        | (rw [k1_part38_eq_skeleton]; unfold k1_part38_skel)
        | (rw [k1_part39_eq_skeleton]; unfold k1_part39_skel)
        | (rw [k1_part40_eq_skeleton]; unfold k1_part40_skel)
        | (rw [k1_part41_eq_skeleton]; unfold k1_part41_skel)
        | (rw [k1_part42_eq_skeleton]; unfold k1_part42_skel)
        | (rw [k1_part43_eq_skeleton]; unfold k1_part43_skel)
        | (rw [k1_part44_eq_skeleton]; unfold k1_part44_skel)
        | (rw [k1_part45_eq_skeleton]; unfold k1_part45_skel)
        | (rw [k1_part46_eq_skeleton]; unfold k1_part46_skel)
        | (rw [k1_part47_eq_skeleton]; unfold k1_part47_skel)
        | (rw [k1_part48_eq_skeleton]; unfold k1_part48_skel)
        | (rw [k1_part49_eq_skeleton]; unfold k1_part49_skel)
        | (rw [k1_part50_eq_skeleton]; unfold k1_part50_skel)
        | (rw [k1_part51_eq_skeleton]; unfold k1_part51_skel)
        | (rw [k1_part52_eq_skeleton]; unfold k1_part52_skel)
        | (rw [k1_part53_eq_skeleton]; unfold k1_part53_skel)
        | (rw [k1_part54_eq_skeleton]; unfold k1_part54_skel)
        | (rw [k1_part55_eq_skeleton]; unfold k1_part55_skel)
        | (rw [k1_part56_eq_skeleton]; unfold k1_part56_skel)
        | (rw [k1_part57_eq_skeleton]; unfold k1_part57_skel)
        | (rw [k1_part58_eq_skeleton]; unfold k1_part58_skel)
        | (rw [k1_part59_eq_skeleton]; unfold k1_part59_skel)
        | (rw [k1_part60_eq_skeleton]; unfold k1_part60_skel)
    repeat
      first
      | with_reducible refine step_issue hs rfl rfl (by decide +kernel) (by decide +kernel) hS (by simp only [Nat.reduceAdd]; try exact rfl) ?_
      | with_reducible refine step_load_shift fun _ => ?_
      | with_reducible refine step_store_shift ?_
      | (with_reducible refine step_assume ?_ ?_
         focus exact fun _ => row_inb _ ‹_›)
      | with_reducible refine step_last ?_
      | with_reducible refine step_pure ?_
      | refine step_id hids fun v hv => ?_
      | refine step_end (p := smemLoad M1 _ _ _) ?_
    try
      with_reducible refine BIBase.Entails.trans ?_ (hQ' _)
      clear hQ' Q'
  exact h _ ‹_›

end Cert.KernelIdeal.Dense

end
-- ==== Proof.Ideal.Before.lean ====
/-
  The part of a grid point of the dense call that comes before its arithmetic: at the first point both scratches are
  cleared; at the points below 192 the two hundred transfers are issued.
-/
module

public import proofs.«01_k».proof.Proof.Ideal.Access
public import proofs.«01_k».proof.Proof.Ideal.Parts

@[expose] public section

set_option maxRecDepth 16384

noncomputable section

namespace Cert.KernelIdeal.Dense

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {i : grid1.Coords} (M1 : Memref sig .tc .smem S1x1x200 .i32) (hM1 : M1.IsWhole) (M2 : Memref sig .tc .vmem S384x768 .bf16) (hM2 : M2.IsWhole) (M3 : Memref sig .tc .vmem S2048x384 .i8) (hM3 : M3.IsWhole) (M4 : Memref sig .tc .vmem S2048 .i32) (hM4 : M4.IsWhole) (M5 : Memref sig .tc .vmem S384x128 .f32) (hM5 : M5.IsWhole) (M6 : Memref sig .tc .vmem S384x128 .f32) (hM6 : M6.IsWhole) (M7 : Memref sig .tc .vmem S384x128 .f32) (hM7 : M7.IsWhole) (M8 : Memref sig .tc .vmem S384x768 .f32) (hM8 : M8.IsWhole) (h9 : srcM.IsWhole)
  (M10 : Memref sig .tc .vmem S384x2048 .f32) (hM10 : M10.IsWhole) (M11 : Memref sig .tc .vmem S1x104x128 .f32) (hM11 : M11.IsWhole)
  (h12 : rowsM.IsWhole) (h13 : shiftM.IsWhole)
  {c : Dev nD} {s : Fin 2} {ids : Buf (Elt F) (M1.view.loc (c : Thread nD τ))} {S : Finset S2x208x768.Idx} {R : Assn F}
  {α : Type} {Q : α → Assn F}

/-- The part of a grid point after its transfers: three loads and two products. -/
def tail (M2 : Memref sig .tc .vmem S384x768 .bf16) (M3 : Memref sig .tc .vmem S2048x384 .i8) (M4 : Memref sig .tc .vmem S2048 .i32) (a0 v9 : BitVec 32) :
    Prog (TpuEff nD τ sig (Elt F) Λ₀ .tc) (Σ' (arg0 : BitVec 32) (v9 : BitVec 32) (v31 : FVec F S384x2048 .f32) (v34 : IVec S1x2048 32), IVec S1x2048 32) := do
  let v16 : Vec F S2048x384 .i8 ← Prog.lift (.load M3 (Rect.unit (s := S2048x384) ![0, 0] S2048x384.size inb_S2048x384_S2048x384_0_0).toLoadRect (View.loadsAt_vmem h_S2048x384))
  let v29 : Vec F S384x768 .bf16 ← Prog.lift (.load M2 (Rect.unit (s := S384x768) ![0, 0] S384x768.size inb_S384x768_S384x768_0_0).toLoadRect (View.loadsAt_vmem h_S384x768))
  let v32 : Vec F S2048 .i32 ← Prog.lift (.load M4 (Rect.unit (s := S2048) ![0] S2048.size inb_S2048_S2048_0).toLoadRect (View.loadsAt_vmem h_S2048))
  pure ⟨a0, v9, k1_pay254 v16 v29, k1_pay255 v32, k1_pay256 v32⟩

/-- The condition of the clearing: the first point. -/
def cond1 (i : grid1.Coords) : BitVec 1 :=
  Scalar.cmpi .ne (Scalar.extui (Scalar.cmpi .eq (BitVec.ofNat 32 (i 0).val) 0#32) : BitVec 32) 0#32

theorem step_dite {α : Type} {P : Assn F} {c : Dev nD} {Q : α → Assn F} {p : Prop} {d : Decidable p} {A : p → Prog (TpuEff nD τ sig (Elt F) Λ₀ .tc) α} {B : ¬p → Prog (TpuEff nD τ sig (Elt F) Λ₀ .tc) α}
    (ha : ∀ hp, P ⊢ wpc c (A hp) Q) (hb : ∀ hn, P ⊢ wpc c (B hn) Q) : P ⊢ wpc c (dite p A B) Q := by
  by_cases h : p
  · rw [dif_pos h]; exact ha h
  · rw [dif_neg h]; exact hb h

/-- The first point clears both scratches: all of them is held then. -/
theorem clear_step {P : Assn F} {c : Dev nD} {α : Type} {Q : α → Assn F} {K : Prog (TpuEff nD τ sig (Elt F) Λ₀ .tc) α} (p : Prop) [Decidable p] {w1 w2 l1 l2 x1 x2 y1 y2}
    (hp : p → Acc P (rowsL c) Finset.univ) (hq : Acc P (shiftL c) Finset.univ) (h : P ⊢ wpc c K Q) :
    P ⊢ wpc c (if _h : p then (do
      let _ ← Prog.lift (.load rowsM (Rect.unit (s := S2x208x768) ![0, 0, 0] S2x208x768.size inb_S2x208x768_S2x208x768_0_0_0).toLoadRect l1)
      Prog.lift (.store rowsM (Rect.unit (s := S2x208x768) ![0, 0, 0] S2x208x768.size inb_S2x208x768_S2x208x768_0_0_0) w1 Finset.univ x1 x2)
      let _ ← Prog.lift (.load shiftM (Rect.unit (s := S2x208x128) ![0, 0, 0] S2x208x128.size inb_S2x208x128_S2x208x128_0_0_0).toLoadRect l2)
      Prog.lift (.store shiftM (Rect.unit (s := S2x208x128) ![0, 0, 0] S2x208x128.size inb_S2x208x128_S2x208x128_0_0_0) w2 Finset.univ y1 y2)
      K) else K) Q := by
  refine step_dite (fun hh => ?_) (fun _ => h)
  refine step_load (hp hh) (Finset.subset_univ _) fun _ => ?_
  refine step_store (hp hh) ?_
  refine step_load hq (Finset.subset_univ _) fun _ => ?_
  exact step_store hq h

variable (i) in
set_option maxHeartbeats 2000000 in
theorem before_issue (hids : ∀ (r : Rect S1x1x200) (x : r.shape.Idx), ((M1.access r).read (Elt F) ids x : BitVec 32).toNat < 400000)
    (hs : slotN i = s.val) (hS : ∀ r, rowSet s.val r ⊆ S) (h2 : k1_cond2 i = 1#1) (hS1 : cond1 i = 1#1 → S = Finset.univ)
    {Q : _ → Assn F}
    (h : ∀ a0 v9, (issuing c s M1 ids S R 200 ⊢ wpc c (tail M2 M3 M4 a0 v9) Q)) :
    issuing c s M1 ids S R 0 ⊢ wpc c (k1_part108 (F := F) i M1 hM1 M2 hM2 M3 hM3 M4 hM4 M5 hM5 M6 hM6 M7 hM7 M8 hM8 srcM h9 M10 hM10 M11 hM11 rowsM h12 shiftM h13 cc1_scratch2) Q := by
  rw [k1_part108_eq_skeleton]
  unfold k1_part108_skel
  extract_lets
  refine clear_step _ (fun e => ?_) (held_shift _ _ _) ?_
  · have hS2 := hS1 e
    subst hS2
    have := held_rows (c := c) (M1 := M1) (ids := ids) (Finset.univ \ filled s.val 0) (flight (F := F) c s 0) R
    rw [filled_zero, Finset.sdiff_empty] at this
    rw [issuing_held, filled_zero, Finset.sdiff_empty]
    exact this
  refine step_dite (fun h2' => ?_) (fun hn => absurd h2 hn)
  with_reducible refine step_part' ?_
  intro Q' hQ'
  refine issue_first _ _ _ _ _ _ _ _ _ _ _ _ _ _ _ _ _ _ _ _ _ _ _ hids hs hS _ h2' fun v hv => ?_
  refine BIBase.Entails.trans ?_ (hQ' _)
  clear hQ' Q'
  iterate 33
    with_reducible refine step_part' ?_
    intro Q' hQ'
    first
    | (rw [k1_part61_eq_skeleton]; unfold k1_part61_skel)
        | (rw [k1_part62_eq_skeleton]; unfold k1_part62_skel)
        | (rw [k1_part63_eq_skeleton]; unfold k1_part63_skel)
        | (rw [k1_part64_eq_skeleton]; unfold k1_part64_skel)
        | (rw [k1_part65_eq_skeleton]; unfold k1_part65_skel)
        | (rw [k1_part66_eq_skeleton]; unfold k1_part66_skel)
        | (rw [k1_part67_eq_skeleton]; unfold k1_part67_skel)
        | (rw [k1_part68_eq_skeleton]; unfold k1_part68_skel)
        | (rw [k1_part69_eq_skeleton]; unfold k1_part69_skel)
        | (rw [k1_part70_eq_skeleton]; unfold k1_part70_skel)
        | (rw [k1_part71_eq_skeleton]; unfold k1_part71_skel)
        | (rw [k1_part72_eq_skeleton]; unfold k1_part72_skel)
        | (rw [k1_part73_eq_skeleton]; unfold k1_part73_skel)
        | (rw [k1_part74_eq_skeleton]; unfold k1_part74_skel)
        | (rw [k1_part75_eq_skeleton]; unfold k1_part75_skel)
        | (rw [k1_part76_eq_skeleton]; unfold k1_part76_skel)
        | (rw [k1_part77_eq_skeleton]; unfold k1_part77_skel)
        | (rw [k1_part78_eq_skeleton]; unfold k1_part78_skel)
        | (rw [k1_part79_eq_skeleton]; unfold k1_part79_skel)
        | (rw [k1_part80_eq_skeleton]; unfold k1_part80_skel)
        | (rw [k1_part81_eq_skeleton]; unfold k1_part81_skel)
        | (rw [k1_part82_eq_skeleton]; unfold k1_part82_skel)
        | (rw [k1_part83_eq_skeleton]; unfold k1_part83_skel)
        | (rw [k1_part84_eq_skeleton]; unfold k1_part84_skel)
        | (rw [k1_part85_eq_skeleton]; unfold k1_part85_skel)
        | (rw [k1_part86_eq_skeleton]; unfold k1_part86_skel)
        | (rw [k1_part87_eq_skeleton]; unfold k1_part87_skel)
        | (rw [k1_part88_eq_skeleton]; unfold k1_part88_skel)
        | (rw [k1_part89_eq_skeleton]; unfold k1_part89_skel)
        | (rw [k1_part90_eq_skeleton]; unfold k1_part90_skel)
        | (rw [k1_part91_eq_skeleton]; unfold k1_part91_skel)
        | (rw [k1_part92_eq_skeleton]; unfold k1_part92_skel)
        | (rw [k1_part93_eq_skeleton]; unfold k1_part93_skel)
    repeat
      first
      | with_reducible refine step_issue hs rfl rfl (by decide +kernel) (by decide +kernel) hS (by simp only [Nat.reduceAdd]; try exact rfl) ?_
      | with_reducible refine step_load_shift fun _ => ?_
      | with_reducible refine step_store_shift ?_
      | (with_reducible refine step_assume ?_ ?_
         focus exact fun _ => row_inb _ ‹_›)
      | with_reducible refine step_last ?_
      | with_reducible refine step_pure ?_
      | refine step_id hids fun v hv => ?_
      | refine step_end (p := smemLoad M1 _ _ _) ?_
    try
      with_reducible refine BIBase.Entails.trans ?_ (hQ' _)
      clear hQ' Q'
  refine step_issue hs rfl rfl (by decide +kernel) (by decide +kernel) hS (by simp only [Nat.reduceAdd]; try exact rfl) ?_
  refine step_load_shift fun _ => ?_
  refine step_store_shift ?_
  exact h _ _

end Cert.KernelIdeal.Dense

end
-- ==== Proof.Ideal.Point.lean ====
/-
  One grid point of the dense call: from what is held before it, the body leaves the block of scores `k1_pay1` of its
  six operands, and what is held for the next point.
-/
module

public import proofs.«01_k».proof.Proof.Ideal.Drain
public import proofs.«01_k».proof.Proof.Ideal.Before

@[expose] public section

set_option maxRecDepth 16384

noncomputable section

namespace Cert.KernelIdeal.Dense

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {i : grid1.Coords} (M1 : Memref sig .tc .smem S1x1x200 .i32) (hM1 : M1.IsWhole) (M2 : Memref sig .tc .vmem S384x768 .bf16) (hM2 : M2.IsWhole) (M3 : Memref sig .tc .vmem S2048x384 .i8) (hM3 : M3.IsWhole) (M4 : Memref sig .tc .vmem S2048 .i32) (hM4 : M4.IsWhole) (M5 : Memref sig .tc .vmem S384x128 .f32) (hM5 : M5.IsWhole) (M6 : Memref sig .tc .vmem S384x128 .f32) (hM6 : M6.IsWhole) (M7 : Memref sig .tc .vmem S384x128 .f32) (hM7 : M7.IsWhole) (M8 : Memref sig .tc .vmem S384x768 .f32) (hM8 : M8.IsWhole) (h9 : srcM.IsWhole)
  (M10 : Memref sig .tc .vmem S384x2048 .f32) (hM10 : M10.IsWhole) (M11 : Memref sig .tc .vmem S1x104x128 .f32) (hM11 : M11.IsWhole)
  (h12 : rowsM.IsWhole) (h13 : shiftM.IsWhole)
  {c : Dev nD} {s : Fin 2} {ids : Buf (Elt F) (M1.view.loc (c : Thread nD τ))} {S : Finset S2x208x768.Idx} {R : Assn F}
  {α : Type} {Q : α → Assn F}

/-- The operands' staging buffers at given contents, and the refined block's at something. -/
def wins (c : Dev nD) (M2 : Memref sig .tc .vmem S384x768 .bf16) (M3 : Memref sig .tc .vmem S2048x384 .i8) (M4 : Memref sig .tc .vmem S2048 .i32)
    (M5 M6 M7 : Memref sig .tc .vmem S384x128 .f32) (M8 : Memref sig .tc .vmem S384x768 .f32) (M11 : Memref sig .tc .vmem S1x104x128 .f32)
    (f2 : Buf (Elt F) (M2.view.loc (c : Thread nD τ))) (f3 : Buf (Elt F) (M3.view.loc (c : Thread nD τ))) (f4 : Buf (Elt F) (M4.view.loc (c : Thread nD τ))) (f5 : Buf (Elt F) (M5.view.loc (c : Thread nD τ))) (f6 : Buf (Elt F) (M6.view.loc (c : Thread nD τ))) (f7 : Buf (Elt F) (M7.view.loc (c : Thread nD τ))) (f8 : Buf (Elt F) (M8.view.loc (c : Thread nD τ))) : Assn F :=
  iprop((M2.view.loc (c : Thread nD τ) ↦{fullShare} f2) ∗ (M3.view.loc (c : Thread nD τ) ↦{fullShare} f3) ∗ (M4.view.loc (c : Thread nD τ) ↦{fullShare} f4) ∗ (M5.view.loc (c : Thread nD τ) ↦{fullShare} f5) ∗ (M6.view.loc (c : Thread nD τ) ↦{fullShare} f6) ∗ (M7.view.loc (c : Thread nD τ) ↦{fullShare} f7) ∗ (M8.view.loc (c : Thread nD τ) ↦{fullShare} f8) ∗ (∃ f : Buf (Elt F) (M11.view.loc (c : Thread nD τ)), M11.view.loc (c : Thread nD τ) ↦{fullShare} f))

/-- The block of scores, from the six operands. -/
def scores (x2 : FVec F S384x768 .bf16) (x3 : IVec S2048x384 8) (x4 : IVec S2048 32) (x5 x6 x7 : FVec F S384x128 .f32) : FVec F S384x2048 .f32 :=
  k1_pay1 (k1_pay254 x3 x2) (k1_pay255 (F := F) x4) (k1_pay256 (F := F) x4) x5 x6 x7

/-- The scores' staging buffer at something, and at a given block. -/
abbrev someBlock (c : Dev nD) (M10 : Memref sig .tc .vmem S384x2048 .f32) : Assn F :=
  iprop(∃ f : Buf (Elt F) (M10.view.loc (c : Thread nD τ)), M10.view.loc (c : Thread nD τ) ↦{fullShare} f)

abbrev theBlock (c : Dev nD) (M10 : Memref sig .tc .vmem S384x2048 .f32) (w : FVec F S384x2048 .f32) : Assn F :=
  iprop(∃ f : Buf (Elt F) (M10.view.loc (c : Thread nD τ)), ⌜M10.view.read (Elt F) f = w⌝ ∗ M10.view.loc (c : Thread nD τ) ↦{fullShare} f)

/-- The store of the block. -/
theorem step_block {c : Dev nD} {M1 : Memref sig .tc .smem S1x1x200 .i32} {ids : Buf (Elt F) (M1.view.loc (c : Thread nD τ))} {M10 : Memref sig .tc .vmem S384x2048 .f32}
    {T : Finset S2x208x768.Idx} {Y Z O W : Assn F} {α : Type} {Q : α → Assn F} {off : Fin 2 → ℕ} {h0 : ∀ a, off a + S384x2048.size a ≤ S384x2048.size a}
    {w : FVec F S384x2048 .f32} {hx hm} {K : PUnit → Prog (TpuEff nD τ sig (Elt F) Λ₀ .tc) α}
    (h : held c M1 ids T Y iprop(Z ∗ O ∗ theBlock c M10 w ∗ W) ⊢ wpc c (K ⟨⟩) Q) :
    held c M1 ids T Y iprop(Z ∗ O ∗ someBlock c M10 ∗ W) ⊢ wpc c (Prog.lift (.store M10 (Rect.unit (s := S384x2048) off S384x2048.size h0) w Finset.univ hx hm) >>= K) Q := by
  unfold held
  iintro ⟨H1, Hs, Hr, Hsh, HY, HZ, HO, ⟨%f, Hm⟩, HW⟩
  iapply (wp_store Variants.none (c : Thread nD τ) none Set.univ (m := M10) (r := Rect.unit (s := S384x2048) off S384x2048.size h0) (w := w) (Mk := Finset.univ) (f := f) (Finset.subset_univ _)) $$ Hm
  iintro Hm
  iapply h
  unfold held
  isplitl [H1]; · iexact H1
  isplitl [Hs]; · iexact Hs
  isplitl [Hr]; · iexact Hr
  isplitl [Hsh]; · iexact Hsh
  isplitl [HY]; · iexact HY
  isplitl [HZ]; · iexact HZ
  isplitl [HO]; · iexact HO
  isplitl [Hm]
  · iexists _
    isplitr
    swap
    · iexact Hm
    ipureintro
    refine (View.readAt_full M10.view _ h0).symm.trans ?_
    exact View.read_write_univ (v := (M10.access (Rect.unit (s := S384x2048) off S384x2048.size h0))) f w
  iexact HW

/-- A point that issues nothing. -/
theorem before_none {P : Assn F} (h2 : ¬ k1_cond2 i = 1#1) (hp : Acc P (rowsL c) Finset.univ ∨ ¬ cond1 i = 1#1) (hq : Acc P (shiftL c) Finset.univ)
    {Q : _ → Assn F} (h : ∀ a0 v9, (P ⊢ wpc c (tail M2 M3 M4 a0 v9) Q)) :
    P ⊢ wpc c (k1_part108 (F := F) i M1 hM1 M2 hM2 M3 hM3 M4 hM4 M5 hM5 M6 hM6 M7 hM7 M8 hM8 srcM h9 M10 hM10 M11 hM11 rowsM h12 shiftM h13 cc1_scratch2) Q := by
  rw [k1_part108_eq_skeleton]
  unfold k1_part108_skel
  extract_lets
  refine clear_step _ (fun e => ?_) hq ?_
  · exact hp.resolve_right fun h => h e
  exact step_dite (fun h2' => absurd h2' h2) (fun _ => h _ _)

variable (i) in
set_option pp.maxSteps 200 in
set_option maxHeartbeats 2000000 in
/-- A grid point from its arithmetic on. -/
theorem point_after {T T' : Finset S2x208x768.Idx} {Y Z Z' P0 : Assn F} {o : Fin 2} {f2 : Buf (Elt F) (M2.view.loc (c : Thread nD τ))} {f3 : Buf (Elt F) (M3.view.loc (c : Thread nD τ))} {f4 : Buf (Elt F) (M4.view.loc (c : Thread nD τ))} {f5 : Buf (Elt F) (M5.view.loc (c : Thread nD τ))} {f6 : Buf (Elt F) (M6.view.loc (c : Thread nD τ))} {f7 : Buf (Elt F) (M7.view.loc (c : Thread nD τ))} {f8 : Buf (Elt F) (M8.view.loc (c : Thread nD τ))}
    (hstart : ∀ Q : _ → Assn F, (∀ a0 v9, (held c M1 ids T Y iprop(Z ∗ owesNone c ∗ someBlock c M10 ∗ wins c M2 M3 M4 M5 M6 M7 M8 M11 f2 f3 f4 f5 f6 f7 f8) ⊢ wpc c (tail M2 M3 M4 a0 v9) Q)) →
      (P0 ⊢ wpc c (k1_part108 (F := F) i M1 hM1 M2 hM2 M3 hM3 M4 hM4 M5 hM5 M6 hM6 M7 hM7 M8 hM8 srcM h9 M10 hM10 M11 hM11 rowsM h12 shiftM h13 cc1_scratch2) Q))
    (ho : k1_off801 i = ![o.val])
    (hd : (k1_cond3 i = 1#1 ∧ Z = flight (F := F) c o 200 ∧ T' = T ∪ filled o.val 200 ∧ Z' = (semVal ((c : Thread nD τ), SemLoc.dma (slotSem o)) 0 : Assn F)
        ∧ Disjoint T (filled o.val 200) ∧ slotSet o.val ⊆ T') ∨ (¬ k1_cond3 i = 1#1 ∧ T' = T ∧ Z' = Z))
    {Q : PUnit → Assn F}
    (h : held c M1 ids T' Y iprop(Z' ∗ owesNone c ∗ theBlock c M10 (scores (M2.view.read (Elt F) f2) (M3.view.read (Elt F) f3) (M4.view.read (Elt F) f4) (M5.view.read (Elt F) f5) (M6.view.read (Elt F) f6) (M7.view.read (Elt F) f7))
        ∗ wins c M2 M3 M4 M5 M6 M7 M8 M11 f2 f3 f4 f5 f6 f7 f8) ⊢ Q ⟨⟩) :
    P0 ⊢ wpc c (cc1_dense (F := F) i M1 hM1 M2 hM2 M3 hM3 M4 hM4 M5 hM5 M6 hM6 M7 hM7 M8 hM8 srcM h9 M10 hM10 M11 hM11 rowsM h12 shiftM h13 cc1_scratch2) Q := by
  have r2 : Reads (wins c M2 M3 M4 M5 M6 M7 M8 M11 f2 f3 f4 f5 f6 f7 f8) (M2.view.loc (c : Thread nD τ)) f2 := reads_head
  have r3 : Reads (wins c M2 M3 M4 M5 M6 M7 M8 M11 f2 f3 f4 f5 f6 f7 f8) (M3.view.loc (c : Thread nD τ)) f3 := reads_right (reads_head)
  have r4 : Reads (wins c M2 M3 M4 M5 M6 M7 M8 M11 f2 f3 f4 f5 f6 f7 f8) (M4.view.loc (c : Thread nD τ)) f4 := reads_right (reads_right (reads_head))
  have r5 : Reads (wins c M2 M3 M4 M5 M6 M7 M8 M11 f2 f3 f4 f5 f6 f7 f8) (M5.view.loc (c : Thread nD τ)) f5 := reads_right (reads_right (reads_right (reads_head)))
  have r6 : Reads (wins c M2 M3 M4 M5 M6 M7 M8 M11 f2 f3 f4 f5 f6 f7 f8) (M6.view.loc (c : Thread nD τ)) f6 := reads_right (reads_right (reads_right (reads_right (reads_head))))
  have r7 : Reads (wins c M2 M3 M4 M5 M6 M7 M8 M11 f2 f3 f4 f5 f6 f7 f8) (M7.view.loc (c : Thread nD τ)) f7 := reads_right (reads_right (reads_right (reads_right (reads_right (reads_head)))))
  have r8 : Reads (wins c M2 M3 M4 M5 M6 M7 M8 M11 f2 f3 f4 f5 f6 f7 f8) (M8.view.loc (c : Thread nD τ)) f8 := reads_right (reads_right (reads_right (reads_right (reads_right (reads_right (reads_head))))))
  have a11 : Acc (wins c M2 M3 M4 M5 M6 M7 M8 M11 f2 f3 f4 f5 f6 f7 f8) (M11.view.loc (c : Thread nD τ)) Finset.univ := acc_right (acc_right (acc_right (acc_right (acc_right (acc_right (acc_right (acc_self)))))))
  rw [cc1_dense_eq_skeleton]
  unfold cc1_dense_skel
  refine step_part' ?_
  intro Q' hQ'
  refine hstart Q' fun a0 v9 => ?_
  unfold tail
  refine step_read (f := f3) (held_reads (reads_right (reads_right (reads_right r3)))) ?_
  refine step_read (f := f2) (held_reads (reads_right (reads_right (reads_right r2)))) ?_
  refine step_read (f := f4) (held_reads (reads_right (reads_right (reads_right r4)))) ?_
  rw [View.readAt_full, View.readAt_full, View.readAt_full]
  refine step_pure ?_
  refine BIBase.Entails.trans ?_ (hQ' _)
  clear hQ' Q'
  refine step_read (f := f5) (held_reads (reads_right (reads_right (reads_right r5)))) ?_
  refine step_read (f := f6) (held_reads (reads_right (reads_right (reads_right r6)))) ?_
  refine step_read (f := f7) (held_reads (reads_right (reads_right (reads_right r7)))) ?_
  rw [View.readAt_full, View.readAt_full, View.readAt_full]
  refine step_load (held_acc (acc_right (acc_right acc_head))) (Finset.subset_univ _) fun _ => ?_
  refine step_block ?_
  extract_lets
  change held c M1 ids T Y iprop(Z ∗ owesNone c ∗ theBlock c M10 (scores (M2.view.read (Elt F) f2) (M3.view.read (Elt F) f3) (M4.view.read (Elt F) f4) (M5.view.read (Elt F) f5) (M6.view.read (Elt F) f6) (M7.view.read (Elt F) f7))
        ∗ wins c M2 M3 M4 M5 M6 M7 M8 M11 f2 f3 f4 f5 f6 f7 f8) ⊢ _
  generalize scores (M2.view.read (Elt F) f2) (M3.view.read (Elt F) f3) (M4.view.read (Elt F) f4) (M5.view.read (Elt F) f5) (M6.view.read (Elt F) f6) (M7.view.read (Elt F) f7) = w at h ⊢
  refine step_dite (fun h3 => ?_) (fun h3 => ?_)
  swap
  · obtain ⟨h3', -⟩ | ⟨-, rfl, rfl⟩ := hd
    · exact absurd h3' h3
    exact step_pure h
  obtain ⟨-, rfl, rfl, rfl, hdis, hsl⟩ | ⟨h3', -⟩ := hd
  swap
  · exact absurd h3 h3'
  refine step_part' ?_
  intro Q' hQ'
  rw [k1_part95_eq_skeleton]; unfold k1_part95_skel
  refine step_drain ho hdis ?_
  have b5 := held_reads (c := c) (M1 := M1) (ids := ids) (T := T ∪ filled o.val 200) (Y := Y) (reads_right (A := semVal ((c : Thread nD τ), SemLoc.dma (slotSem o)) 0) (reads_right (A := owesNone c) (reads_right (A := theBlock c M10 w) r5)))
  have b6 := held_reads (c := c) (M1 := M1) (ids := ids) (T := T ∪ filled o.val 200) (Y := Y) (reads_right (A := semVal ((c : Thread nD τ), SemLoc.dma (slotSem o)) 0) (reads_right (A := owesNone c) (reads_right (A := theBlock c M10 w) r6)))
  have b8 := held_reads (c := c) (M1 := M1) (ids := ids) (T := T ∪ filled o.val 200) (Y := Y) (reads_right (A := semVal ((c : Thread nD τ), SemLoc.dma (slotSem o)) 0) (reads_right (A := owesNone c) (reads_right (A := theBlock c M10 w) r8)))
  have b11 := held_acc (c := c) (M1 := M1) (ids := ids) (T := T ∪ filled o.val 200) (Y := Y) (acc_right (A := semVal ((c : Thread nD τ), SemLoc.dma (slotSem o)) 0) (acc_right (A := owesNone c) (acc_right (A := theBlock c M10 w) a11)))
  have b12 := held_rows (c := c) (M1 := M1) (ids := ids) (T ∪ filled o.val 200) Y iprop(semVal ((c : Thread nD τ), SemLoc.dma (slotSem o)) 0 ∗ owesNone c ∗ theBlock c M10 w ∗ wins c M2 M3 M4 M5 M6 M7 M8 M11 f2 f3 f4 f5 f6 f7 f8)
  have b13 := held_shift (c := c) (M1 := M1) (ids := ids) (T ∪ filled o.val 200) Y iprop(semVal ((c : Thread nD τ), SemLoc.dma (slotSem o)) 0 ∗ owesNone c ∗ theBlock c M10 w ∗ wins c M2 M3 M4 M5 M6 M7 M8 M11 f2 f3 f4 f5 f6 f7 f8)
  clear r2 r3 r4 r5 r6 r7 r8 a11 hstart
  generalize held c M1 ids (T ∪ filled o.val 200) Y iprop(semVal ((c : Thread nD τ), SemLoc.dma (slotSem o)) 0 ∗ owesNone c ∗ theBlock c M10 w ∗ wins c M2 M3 M4 M5 M6 M7 M8 M11 f2 f3 f4 f5 f6 f7 f8) = P at h b5 b6 b8 b11 b12 b13 ⊢
  have ho' : k1_off801 i 0 = o.val := by rw [ho]; rfl
  refine step_load b11 (Finset.subset_univ _) fun _ => ?_
  refine step_load b13 (Finset.subset_univ _) fun _ => ?_
  refine step_pure ?_
  refine BIBase.Entails.trans ?_ (hQ' _)
  clear hQ' Q'
  iterate 12
    refine step_part' ?_
    intro Q' hQ'
    first
        | (rw [k1_part95_eq_skeleton]; unfold k1_part95_skel)
        | (rw [k1_part96_eq_skeleton]; unfold k1_part96_skel)
        | (rw [k1_part97_eq_skeleton]; unfold k1_part97_skel)
        | (rw [k1_part98_eq_skeleton]; unfold k1_part98_skel)
        | (rw [k1_part99_eq_skeleton]; unfold k1_part99_skel)
        | (rw [k1_part100_eq_skeleton]; unfold k1_part100_skel)
        | (rw [k1_part101_eq_skeleton]; unfold k1_part101_skel)
        | (rw [k1_part102_eq_skeleton]; unfold k1_part102_skel)
        | (rw [k1_part103_eq_skeleton]; unfold k1_part103_skel)
        | (rw [k1_part104_eq_skeleton]; unfold k1_part104_skel)
        | (rw [k1_part105_eq_skeleton]; unfold k1_part105_skel)
        | (rw [k1_part106_eq_skeleton]; unfold k1_part106_skel)
        | (rw [k1_part107_eq_skeleton]; unfold k1_part107_skel)
    repeat
      first
      | with_reducible refine step_read' b8 fun _ => ?_
      | with_reducible refine step_read' b5 fun _ => ?_
      | with_reducible refine step_read' b6 fun _ => ?_
      | with_reducible refine step_load b13 (Finset.subset_univ _) fun _ => ?_
      | (with_reducible refine step_load b12 ?_ fun _ => ?_
         focus exact rows_load c ho' hsl)
      | with_reducible refine step_pure ?_
      | with_reducible refine step_last ?_
    refine BIBase.Entails.trans ?_ (hQ' _)
    clear hQ' Q'
  refine step_load b11 (Finset.subset_univ _) fun _ => ?_
  refine step_store b11 ?_
  exact step_pure h

end Cert.KernelIdeal.Dense

end
-- ==== Proof.Ideal.Turn.lean ====
/-
  A grid point of the dense call, by its number: what is held between the points (`between`), and the triple that takes it from
  one point to the next (`turn`).
-/
module

public import proofs.«01_k».proof.Proof.Ideal.Point
public import proofs.«01_k».proof.Proof.Gen.KernelIdeal.Launch

@[expose] public section

set_option maxRecDepth 16384

noncomputable section

namespace Cert.KernelIdeal.Dense

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (M1 : Memref sig .tc .smem S1x1x200 .i32) (hM1 : M1.IsWhole) (M2 : Memref sig .tc .vmem S384x768 .bf16) (hM2 : M2.IsWhole) (M3 : Memref sig .tc .vmem S2048x384 .i8) (hM3 : M3.IsWhole) (M4 : Memref sig .tc .vmem S2048 .i32) (hM4 : M4.IsWhole) (M5 : Memref sig .tc .vmem S384x128 .f32) (hM5 : M5.IsWhole) (M6 : Memref sig .tc .vmem S384x128 .f32) (hM6 : M6.IsWhole) (M7 : Memref sig .tc .vmem S384x128 .f32) (hM7 : M7.IsWhole) (M8 : Memref sig .tc .vmem S384x768 .f32) (hM8 : M8.IsWhole) (h9 : srcM.IsWhole)
  (M10 : Memref sig .tc .vmem S384x2048 .f32) (hM10 : M10.IsWhole) (M11 : Memref sig .tc .vmem S1x104x128 .f32) (hM11 : M11.IsWhole)
  (h12 : rowsM.IsWhole) (h13 : shiftM.IsWhole)
  {c : Dev nD} {ids : Buf (Elt F) (M1.view.loc (c : Thread nD τ))}

/-! ## The point's conditions -/

/-- The slot of the scratch that point `n` fills. -/
def par (n : ℕ) : Fin 2 := ⟨n % 2, Nat.mod_lt _ (by decide)⟩

theorem par_add_two (n : ℕ) : par (n + 2) = par n := Fin.ext (by unfold par; dsimp only; omega)

theorem slot_at : ∀ t : Fin grid1.N, slotN (grid1.coords t) = (par t.val).val :=
  (by decide +kernel : ∀ t : Fin grid1.N, slotN (grid1.coords t) = t.val % 2)

theorem off_at : ∀ t : Fin grid1.N, k1_off801 (grid1.coords t) = ![(par (t.val + 1)).val] :=
  (by decide +kernel : ∀ t : Fin grid1.N, k1_off801 (grid1.coords t) = ![(t.val + 1) % 2])

theorem issues_at : ∀ t : Fin grid1.N, k1_cond2 (grid1.coords t) = 1#1 ↔ t.val < 192 := by decide +kernel

theorem drains_at : ∀ t : Fin grid1.N, k1_cond3 (grid1.coords t) = 1#1 ↔ 1 ≤ t.val ∧ t.val ≤ 192 := by decide +kernel

theorem clears_at : ∀ t : Fin grid1.N, cond1 (grid1.coords t) = 1#1 ↔ t.val = 0 := by decide +kernel

/-! ## Between two points -/

/-- The body's own buffers and counters: the scratch rows held on `T`, and the two slots' counters at `Y` and `Z`. -/
def rest (c : Dev nD) (T : Finset S2x208x768.Idx) (Y Z : Assn F) : Assn F :=
  iprop((∃ (q : PosShare TreeShare) (f : Buf (Elt F) (srcL c)), srcL c ↦{q} f)
    ∗ (∃ f : Buf (Elt F) (rowsL c), rowsL c ↦[onRows c T]{fullShare} f)
    ∗ (∃ f : Buf (Elt F) (shiftL c), shiftL c ↦{fullShare} f)
    ∗ Y ∗ Z)

/-- A slot's counter at zero. -/
abbrev quiet (c : Dev nD) (s : Fin 2) : Assn F := semVal ((c : Thread nD τ), SemLoc.dma (slotSem s)) 0

/-- What is held before point `n`: at points 1 to 192 the other slot's transfers are in flight. -/
def between (c : Dev nD) (n : ℕ) : Assn F :=
  if 1 ≤ n ∧ n ≤ 192 then rest c (Finset.univ \ filled (par (n + 1)).val 200) (quiet c (par n)) (flight (F := F) c (par (n + 1)) 200)
  else rest c Finset.univ (quiet c (par n)) (quiet c (par (n + 1)))

omit [FloatOps F] in
theorem rest_swap (T : Finset S2x208x768.Idx) (Y Z : Assn F) : rest c T Y Z ⊢ rest c T Z Y := by
  unfold rest
  iintro ⟨H1, H2, H3, H4, H5⟩
  isplitl [H1]; · iexact H1
  isplitl [H2]; · iexact H2
  isplitl [H3]; · iexact H3
  isplitl [H5]; · iexact H5
  iexact H4

theorem held_of_rest (T : Finset S2x208x768.Idx) (Y Z B : Assn F) :
    iprop(rest c T Y Z ∗ (M1.view.loc (c : Thread nD τ) ↦{fullShare} ids) ∗ B) ⊢ held c M1 ids T Y iprop(Z ∗ B) := by
  unfold rest held
  iintro ⟨⟨H1, H2, H3, H4, H5⟩, H6, H7⟩
  isplitl [H6]; · iexact H6
  isplitl [H1]; · iexact H1
  isplitl [H2]; · iexact H2
  isplitl [H3]; · iexact H3
  isplitl [H4]; · iexact H4
  isplitl [H5]; · iexact H5
  iexact H7

theorem rest_of_held (T : Finset S2x208x768.Idx) (Y Z B : Assn F) :
    held c M1 ids T Y iprop(Z ∗ B) ⊢ iprop(rest c T Y Z ∗ (M1.view.loc (c : Thread nD τ) ↦{fullShare} ids) ∗ B) := by
  unfold rest held
  iintro ⟨H6, H1, H2, H3, H4, H5, H7⟩
  isplitr [H6 H7]
  · isplitl [H1]; · iexact H1
    isplitl [H2]; · iexact H2
    isplitl [H3]; · iexact H3
    isplitl [H4]; · iexact H4
    iexact H5
  isplitl [H6]; · iexact H6
  iexact H7

theorem rowSet_apart {s o : ℕ} (h : s ≠ o) (r : ℕ) : rowSet s r ⊆ Finset.univ \ filled o 200 := by
  intro x hx
  simp only [rowSet, filled, Finset.mem_filter, Finset.mem_univ, true_and, Finset.mem_sdiff] at hx ⊢
  exact fun h' => h (hx.1.symm.trans h'.1)

theorem par_ne (n : ℕ) : (par n).val ≠ (par (n + 1)).val := by unfold par; dsimp only; omega

theorem filled_apart {s o : ℕ} (h : s ≠ o) : Disjoint (filled s 200) (filled o 200) := by
  rw [Finset.disjoint_left]
  intro x h1 h2
  simp only [filled, Finset.mem_filter, Finset.mem_univ, true_and] at h1 h2
  exact h (h1.1.symm.trans h2.1)

theorem refill {s o : ℕ} (h : s ≠ o) : ((Finset.univ \ filled o 200) \ filled s 200) ∪ filled o 200 = Finset.univ \ filled s 200 := by
  ext x
  have := fun h1 : x ∈ filled s 200 => Finset.disjoint_left.mp (filled_apart h) h1
  simp only [Finset.mem_union, Finset.mem_sdiff, Finset.mem_univ, true_and]
  tauto

theorem refill_all (o : ℕ) : (Finset.univ \ filled o 200) ∪ filled o 200 = Finset.univ := by
  ext x
  simp only [Finset.mem_union, Finset.mem_sdiff, Finset.mem_univ, true_and]
  tauto

theorem slotSet_apart {s o : ℕ} (h : s ≠ o) : slotSet o ⊆ Finset.univ \ filled s 200 := by
  intro x hx
  simp only [slotSet, filled, Finset.mem_filter, Finset.mem_univ, true_and, Finset.mem_sdiff] at hx ⊢
  exact fun h' => h (h'.1.symm.trans hx)

/-! ## The point -/

set_option maxHeartbeats 1000000 in
/-- THE POINT: the body at point `t` takes what is held before `t` to what is held before `t + 1`, and leaves the block of scores. -/
theorem turn (t : Fin grid1.N) {f2 : Buf (Elt F) (M2.view.loc (c : Thread nD τ))} {f3 : Buf (Elt F) (M3.view.loc (c : Thread nD τ))} {f4 : Buf (Elt F) (M4.view.loc (c : Thread nD τ))} {f5 : Buf (Elt F) (M5.view.loc (c : Thread nD τ))} {f6 : Buf (Elt F) (M6.view.loc (c : Thread nD τ))} {f7 : Buf (Elt F) (M7.view.loc (c : Thread nD τ))} {f8 : Buf (Elt F) (M8.view.loc (c : Thread nD τ))}
    (hids : t.val < 192 → ∀ (r : Rect S1x1x200) (x : r.shape.Idx), ((M1.access r).read (Elt F) ids x : BitVec 32).toNat < 400000) {Q : PUnit → Assn F}
    (h : iprop(between c (t.val + 1) ∗ (M1.view.loc (c : Thread nD τ) ↦{fullShare} ids) ∗ owesNone c
        ∗ theBlock c M10 (scores (M2.view.read (Elt F) f2) (M3.view.read (Elt F) f3) (M4.view.read (Elt F) f4) (M5.view.read (Elt F) f5) (M6.view.read (Elt F) f6) (M7.view.read (Elt F) f7))
        ∗ wins c M2 M3 M4 M5 M6 M7 M8 M11 f2 f3 f4 f5 f6 f7 f8) ⊢ Q ⟨⟩) :
    iprop(between c t.val ∗ (M1.view.loc (c : Thread nD τ) ↦{fullShare} ids) ∗ owesNone c ∗ someBlock c M10 ∗ wins c M2 M3 M4 M5 M6 M7 M8 M11 f2 f3 f4 f5 f6 f7 f8)
      ⊢ wpc c (cc1_dense (F := F) (grid1.coords t) M1 hM1 M2 hM2 M3 hM3 M4 hM4 M5 hM5 M6 hM6 M7 hM7 M8 hM8 srcM h9 M10 hM10 M11 hM11 rowsM h12 shiftM h13 cc1_scratch2) Q := by
  have ht : t.val < 196 := lt_of_lt_of_eq t.isLt N_1
  have hne := par_ne t.val
  by_cases h0 : t.val = 0
  · -- the first point: issue only
    have e : between (F := F) c t.val = rest c Finset.univ (quiet c (par t.val)) (quiet c (par (t.val + 1))) := if_neg (by omega)
    have e' : between (F := F) c (t.val + 1) = rest c (Finset.univ \ filled (par (t.val + 1 + 1)).val 200) (quiet c (par (t.val + 1))) (flight (F := F) c (par (t.val + 1 + 1)) 200) := if_pos (by omega)
    rw [e]; rw [e', par_add_two] at h
    refine (held_of_rest _ _ _ _ _).trans ?_
    refine point_after (grid1.coords t) M1 hM1 M2 hM2 M3 hM3 M4 hM4 M5 hM5 M6 hM6 M7 hM7 M8 hM8 h9 M10 hM10 M11 hM11 h12 h13 (o := par (t.val + 1)) (T := Finset.univ \ filled (par t.val).val 200) (Y := flight (F := F) c (par t.val) 200)
      (fun Q hQ => start_issue (before_issue (grid1.coords t) M1 hM1 M2 hM2 M3 hM3 M4 hM4 M5 hM5 M6 hM6 M7 hM7 M8 hM8 h9 M10 hM10 M11 hM11 h12 h13 (hids (by omega)) (slot_at t) (fun r => Finset.subset_univ _) ((issues_at t).mpr (by omega)) (fun _ => rfl) (fun a0 v9 => hQ a0 v9)))
      (off_at t) (Or.inr ⟨fun h' => by have := (drains_at t).mp h'; omega, rfl, rfl⟩) ?_
    exact ((rest_of_held _ _ _ _ _).trans (sep_mono (rest_swap _ _ _) .rfl)).trans h
  by_cases h1 : t.val < 192
  · -- issue and drain
    have e : between (F := F) c t.val = rest c (Finset.univ \ filled (par (t.val + 1)).val 200) (quiet c (par t.val)) (flight (F := F) c (par (t.val + 1)) 200) := if_pos (by omega)
    have e' : between (F := F) c (t.val + 1) = rest c (Finset.univ \ filled (par (t.val + 1 + 1)).val 200) (quiet c (par (t.val + 1))) (flight (F := F) c (par (t.val + 1 + 1)) 200) := if_pos (by omega)
    rw [e]; rw [e', par_add_two] at h
    refine (held_of_rest _ _ _ _ _).trans ?_
    refine point_after (grid1.coords t) M1 hM1 M2 hM2 M3 hM3 M4 hM4 M5 hM5 M6 hM6 M7 hM7 M8 hM8 h9 M10 hM10 M11 hM11 h12 h13 (o := par (t.val + 1)) (T := (Finset.univ \ filled (par (t.val + 1)).val 200) \ filled (par t.val).val 200)
      (T' := Finset.univ \ filled (par t.val).val 200) (Y := flight (F := F) c (par t.val) 200) (Z := flight (F := F) c (par (t.val + 1)) 200) (Z' := quiet c (par (t.val + 1)))
      (fun Q hQ => start_issue (before_issue (grid1.coords t) M1 hM1 M2 hM2 M3 hM3 M4 hM4 M5 hM5 M6 hM6 M7 hM7 M8 hM8 h9 M10 hM10 M11 hM11 h12 h13 (hids h1) (slot_at t) (fun r => rowSet_apart hne r) ((issues_at t).mpr h1) (fun h' => absurd ((clears_at t).mp h') h0) (fun a0 v9 => hQ a0 v9)))
      (off_at t) (Or.inl ⟨(drains_at t).mpr (by omega), rfl, (refill hne).symm, rfl, Finset.disjoint_of_subset_left Finset.sdiff_subset Finset.sdiff_disjoint, slotSet_apart hne⟩) ?_
    exact ((rest_of_held _ _ _ _ _).trans (sep_mono (rest_swap _ _ _) .rfl)).trans h
  have hi : ¬ k1_cond2 (grid1.coords t) = 1#1 := fun h' => h1 ((issues_at t).mp h')
  have hc : ¬ cond1 (grid1.coords t) = 1#1 := fun h' => h0 ((clears_at t).mp h')
  have e' : between (F := F) c (t.val + 1) = rest c Finset.univ (quiet c (par (t.val + 1))) (quiet c (par (t.val + 1 + 1))) := if_neg (by omega)
  rw [e', par_add_two] at h
  by_cases h2 : t.val = 192
  · -- drain only
    have e : between (F := F) c t.val = rest c (Finset.univ \ filled (par (t.val + 1)).val 200) (quiet c (par t.val)) (flight (F := F) c (par (t.val + 1)) 200) := if_pos (by omega)
    rw [e]
    refine (held_of_rest _ _ _ _ _).trans ?_
    refine point_after (grid1.coords t) M1 hM1 M2 hM2 M3 hM3 M4 hM4 M5 hM5 M6 hM6 M7 hM7 M8 hM8 h9 M10 hM10 M11 hM11 h12 h13 (o := par (t.val + 1)) (T := Finset.univ \ filled (par (t.val + 1)).val 200)
      (T' := Finset.univ) (Y := quiet c (par t.val)) (Z := flight (F := F) c (par (t.val + 1)) 200) (Z' := quiet c (par (t.val + 1)))
      (fun Q hQ => before_none M1 hM1 M2 hM2 M3 hM3 M4 hM4 M5 hM5 M6 hM6 M7 hM7 M8 hM8 h9 M10 hM10 M11 hM11 h12 h13 hi (Or.inr hc) (held_shift _ _ _) (fun a0 v9 => hQ a0 v9))
      (off_at t) (Or.inl ⟨(drains_at t).mpr (by omega), rfl, (refill_all _).symm, rfl, Finset.sdiff_disjoint, Finset.subset_univ _⟩) ?_
    exact ((rest_of_held _ _ _ _ _).trans (sep_mono (rest_swap _ _ _) .rfl)).trans h
  · have e : between (F := F) c t.val = rest c Finset.univ (quiet c (par t.val)) (quiet c (par (t.val + 1))) := if_neg (by omega)
    rw [e]
    refine (held_of_rest _ _ _ _ _).trans ?_
    refine point_after (grid1.coords t) M1 hM1 M2 hM2 M3 hM3 M4 hM4 M5 hM5 M6 hM6 M7 hM7 M8 hM8 h9 M10 hM10 M11 hM11 h12 h13 (o := par (t.val + 1)) (T := Finset.univ) (Y := quiet c (par t.val))
      (fun Q hQ => before_none M1 hM1 M2 hM2 M3 hM3 M4 hM4 M5 hM5 M6 hM6 M7 hM7 M8 hM8 h9 M10 hM10 M11 hM11 h12 h13 hi (Or.inr hc) (held_shift _ _ _) (fun a0 v9 => hQ a0 v9))
      (off_at t) (Or.inr ⟨fun h' => by have := (drains_at t).mp h'; omega, rfl, rfl⟩) ?_
    exact ((rest_of_held _ _ _ _ _).trans (sep_mono (rest_swap _ _ _) .rfl)).trans h

end Cert.KernelIdeal.Dense

end
-- ==== Proof.Ideal.Codes.lean ====
/-
  The quantising call: what its body leaves in each result's buffer, and the body's triple at its one point.
-/
module

public import proofs.«01_k».proof.Proof.Ideal.Steps
public import proofs.«01_k».proof.Proof.Gen.KernelIdeal.Regions
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Tactic

@[expose] public section

set_option maxRecDepth 16384

noncomputable section

namespace Cert.KernelIdeal.Dense

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Core `c`'s buffers when the quantising call is entered. -/
abbrev entry0 (c : Dev nD) (b : Ref sig .tc) : Buf (Elt F) ((c : Thread nD τ).loc b) := V1 m c b

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (entry0 m c (Pipeline.arrRef spec0 w))

/-- Input window 0's current staging buffer holds its block at every point, fetched there or not, for ANY proof
    data whose array is `V`'s (`hA`) and whose body leaves the block in place (`hafter`): `Dat.before_in_eq_fetched` (unfetched, the index has not moved), the window uncut and never idle. -/
theorem before0_0_of {c : Dev nD} (dat : Dat τ (Elt F) Unit ℕ (UU) ℕ cfg0 c) (hA : dat.A 0 = entry0 m c (Pipeline.arrRef spec0 0))
    (hafter : ∀ t, dat.after 0 t = iblk0 m c 0 t) (t : Fin cfg0.N) (d) : dat.before 0 t d = iblk0 m c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): `Dat.before_in_eq_fetched` (unfetched, the index has not moved), the window uncut and never idle. -/
theorem before0_1_of {c : Dev nD} (dat : Dat τ (Elt F) Unit ℕ (UU) ℕ cfg0 c) (hA : dat.A 1 = entry0 m c (Pipeline.arrRef spec0 1))
    (hafter : ∀ t, dat.after 1 t = iblk0 m c 1 t) (t : Fin cfg0.N) (d) : dat.before 1 t d = iblk0 m c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S384x768 := Rect.unit (s := S384x768) ![0, 0] S384x768.size inb_S384x768_S384x768_0_0
abbrev r0_1 : Rect S384x1 := Rect.unit (s := S384x1) ![0, 0] S384x1.size inb_S384x1_S384x1_0_0
abbrev r0_2 : Rect S1x768 := Rect.unit (s := S1x768) ![0, 0] S1x768.size inb_S1x768_S1x768_0_0
abbrev r0_3 : Rect S384x128 := Rect.unit (s := S384x128) ![0, 0] S384x128.size inb_S384x128_S384x128_0_0

/-! ## What the body leaves in each output window's buffer -/

/-- Window 2's staging buffer after the body, from the input windows' blocks: its 1 store as pieces, LAST
    FIRST. -/
def out0_2 (x0 : Vec F S384x768 .bf16) (x1 : Vec F S1x768 .f32) : Vec F S384x768 .i8 :=
  View.canon [⟨r0_0, k0_pay7 (View.ld x0 r0_0)⟩]

/-- Its stores tile the buffer (checked by evaluation), so they cover it. -/
theorem cover0_2 (p0 : Vec F S384x768 .i8) (y : S384x768.Idx) :
    ∃ pc ∈ ([⟨r0_0, p0⟩] : List (View.Piece (Elt F) S384x768 .i8)), y ∈ pc.1.set :=
  View.cover_of_tiled [⟨r0_0, p0⟩] S384x768.size (by rfl) y

/-- Window 3's staging buffer after the body, from the input windows' blocks: its 1 store as pieces, LAST
    FIRST. -/
def out0_3 (x0 : Vec F S384x768 .bf16) (x1 : Vec F S1x768 .f32) : Vec F S384x1 .f32 :=
  View.canon [⟨r0_1, k0_pay5 (View.ld x0 r0_0)⟩]

/-- Its stores tile the buffer (checked by evaluation), so they cover it. -/
theorem cover0_3 (p0 : Vec F S384x1 .f32) (y : S384x1.Idx) :
    ∃ pc ∈ ([⟨r0_1, p0⟩] : List (View.Piece (Elt F) S384x1 .f32)), y ∈ pc.1.set :=
  View.cover_of_tiled [⟨r0_1, p0⟩] S384x1.size (by rfl) y

/-- Window 4's staging buffer after the body, from the input windows' blocks: its 1 store as pieces, LAST
    FIRST. -/
def out0_4 (x0 : Vec F S384x768 .bf16) (x1 : Vec F S1x768 .f32) : Vec F S384x768 .bf16 :=
  View.canon [⟨r0_0, k0_pay3 (k0_pay6 (View.ld x0 r0_0))⟩]

/-- Its stores tile the buffer (checked by evaluation), so they cover it. -/
theorem cover0_4 (p0 : Vec F S384x768 .bf16) (y : S384x768.Idx) :
    ∃ pc ∈ ([⟨r0_0, p0⟩] : List (View.Piece (Elt F) S384x768 .bf16)), y ∈ pc.1.set :=
  View.cover_of_tiled [⟨r0_0, p0⟩] S384x768.size (by rfl) y

/-- Window 5's staging buffer after the body, from the input windows' blocks: its 1 store as pieces, LAST
    FIRST. -/
def out0_5 (x0 : Vec F S384x768 .bf16) (x1 : Vec F S1x768 .f32) : Vec F S384x768 .f32 :=
  View.canon [⟨r0_0, k0_pay6 (View.ld x0 r0_0)⟩]

/-- Its stores tile the buffer (checked by evaluation), so they cover it. -/
theorem cover0_5 (p0 : Vec F S384x768 .f32) (y : S384x768.Idx) :
    ∃ pc ∈ ([⟨r0_0, p0⟩] : List (View.Piece (Elt F) S384x768 .f32)), y ∈ pc.1.set :=
  View.cover_of_tiled [⟨r0_0, p0⟩] S384x768.size (by rfl) y

/-- Window 6's staging buffer after the body, from the input windows' blocks: its 1 store as pieces, LAST
    FIRST. -/
def out0_6 (x0 : Vec F S384x768 .bf16) (x1 : Vec F S1x768 .f32) : Vec F S384x128 .f32 :=
  View.canon [⟨r0_3, k0_pay10 (View.ld x0 r0_0)⟩]

/-- Its stores tile the buffer (checked by evaluation), so they cover it. -/
theorem cover0_6 (p0 : Vec F S384x128 .f32) (y : S384x128.Idx) :
    ∃ pc ∈ ([⟨r0_3, p0⟩] : List (View.Piece (Elt F) S384x128 .f32)), y ∈ pc.1.set :=
  View.cover_of_tiled [⟨r0_3, p0⟩] S384x128.size (by rfl) y

/-- Window 7's staging buffer after the body, from the input windows' blocks: its 1 store as pieces, LAST
    FIRST. -/
def out0_7 (x0 : Vec F S384x768 .bf16) (x1 : Vec F S1x768 .f32) : Vec F S384x128 .f32 :=
  View.canon [⟨r0_3, k0_pay1 (k0_pay8 (View.ld x0 r0_0))⟩]

/-- Its stores tile the buffer (checked by evaluation), so they cover it. -/
theorem cover0_7 (p0 : Vec F S384x128 .f32) (y : S384x128.Idx) :
    ∃ pc ∈ ([⟨r0_3, p0⟩] : List (View.Piece (Elt F) S384x128 .f32)), y ∈ pc.1.set :=
  View.cover_of_tiled [⟨r0_3, p0⟩] S384x128.size (by rfl) y

/-- Window 8's staging buffer after the body, from the input windows' blocks: its 1 store as pieces, LAST
    FIRST. -/
def out0_8 (x0 : Vec F S384x768 .bf16) (x1 : Vec F S1x768 .f32) : Vec F S384x128 .f32 :=
  View.canon [⟨r0_3, k0_pay2 (k0_pay9 (View.ld x0 r0_0) (View.ld x1 r0_2))⟩]

/-- Its stores tile the buffer (checked by evaluation), so they cover it. -/
theorem cover0_8 (p0 : Vec F S384x128 .f32) (y : S384x128.Idx) :
    ∃ pc ∈ ([⟨r0_3, p0⟩] : List (View.Piece (Elt F) S384x128 .f32)), y ∈ pc.1.set :=
  View.cover_of_tiled [⟨r0_3, p0⟩] S384x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel0 (c : Dev nD) (E : Set ℕ) (arg0 : Memref sig .tc .vmem S384x768 .bf16) (harg0 : arg0.IsWhole) (arg1 : Memref sig .tc .vmem S1x768 .f32) (harg1 : arg1.IsWhole) (arg2 : Memref sig .tc .vmem S384x768 .i8) (harg2 : arg2.IsWhole) (arg3 : Memref sig .tc .vmem S384x1 .f32) (harg3 : arg3.IsWhole) (arg4 : Memref sig .tc .vmem S384x768 .bf16) (harg4 : arg4.IsWhole) (arg5 : Memref sig .tc .vmem S384x768 .f32) (harg5 : arg5.IsWhole) (arg6 : Memref sig .tc .vmem S384x128 .f32) (harg6 : arg6.IsWhole) (arg7 : Memref sig .tc .vmem S384x128 .f32) (harg7 : arg7.IsWhole) (arg8 : Memref sig .tc .vmem S384x128 .f32) (harg8 : arg8.IsWhole)
    (x0 : Vec F S384x768 .bf16) (x1 : Vec F S1x768 .f32) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare (out0_2 x0 x1) ∗ owns (c : Thread nD τ) arg3 fullShare (out0_3 x0 x1) ∗ owns (c : Thread nD τ) arg4 fullShare (out0_4 x0 x1) ∗ owns (c : Thread nD τ) arg5 fullShare (out0_5 x0 x1) ∗ owns (c : Thread nD τ) arg6 fullShare (out0_6 x0 x1) ∗ owns (c : Thread nD τ) arg7 fullShare (out0_7 x0 x1) ∗ owns (c : Thread nD τ) arg8 fullShare (out0_8 x0 x1)) -∗ K ⟨⟩))
      ⊢ wp frame (wpE (defs₀ (F := F)) Variants.none c none) E (cc0_quantise arg0 harg0 arg1 harg1 arg2 harg2 arg3 harg3 arg4 harg4 arg5 harg5 arg6 harg6 arg7 harg7 arg8 harg8) K := by
  simp only [cc0_quantise_eq_skeleton]; unfold cc0_quantise_skel
  simp only [k0_part1_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  isplitl [H6]
  · iexists _; isplitr
    swap; · iexact H6
    ipureintro
    exact View.read_writes_eq_canon _ _ _ (cover0_6 _)
  isplitl [H7]
  · iexists _; isplitr
    swap; · iexact H7
    ipureintro
    exact View.read_writes_eq_canon _ _ _ (cover0_7 _)
  iexists _; isplitr
  swap; · iexact H8
  ipureintro
  exact View.read_writes_eq_canon _ _ _ (cover0_8 _)

/-! ## The pipeline's proof data -/

/-- The proof data of the one pipeline on core `c`: the arrays as the region finds them; after the body at
    point `t` each input's buffer at its block and each output's at `out0_W` of the input blocks; the invariant the
    scoped buffers no window stages, untouched; nothing owed;
    full shares. -/
def dats0 (c : Dev nD) : Dat τ (Elt F) Unit ℕ (UU) ℕ cfg0 c where
  A w := entry0 m c (Pipeline.arrRef spec0 w)
  after w t := match w with
    | ⟨0, _⟩ => iblk0 m c 0 t
    | ⟨1, _⟩ => iblk0 m c 1 t
    | ⟨2, _⟩ => out0_2 (iblk0 m c 0 t) (iblk0 m c 1 t)
    | ⟨3, _⟩ => out0_3 (iblk0 m c 0 t) (iblk0 m c 1 t)
    | ⟨4, _⟩ => out0_4 (iblk0 m c 0 t) (iblk0 m c 1 t)
    | ⟨5, _⟩ => out0_5 (iblk0 m c 0 t) (iblk0 m c 1 t)
    | ⟨6, _⟩ => out0_6 (iblk0 m c 0 t) (iblk0 m c 1 t)
    | ⟨7, _⟩ => out0_7 (iblk0 m c 0 t) (iblk0 m c 1 t)
    | ⟨8, _⟩ => out0_8 (iblk0 m c 0 t) (iblk0 m c 1 t)
  Φ _ := Pipeline.scopedRest spec0 c
  q _ := fullShare
  owed _ := 0

/-- The proof data's arrays are the region-entry contents: the proof data's definition projected (`dsimp`), so that
    the host operations are never unfolded to check it. -/
theorem A0_eq (c : Dev nD) (w : Fin cfg0.W) : (dats0 m c).A w = entry0 m c (Pipeline.arrRef spec0 w) := by
  dsimp only [dats0]

/-- What the body leaves, window by window (the proof data's `match` reduced by `dsimp`, never `rfl`: Lib/Pipeline.lean `Dat`). -/
theorem after0_0 (c : Dev nD) (t : Fin cfg0.N) : (dats0 m c).after 0 t = iblk0 m c 0 t := by dsimp only [dats0]
theorem after0_1 (c : Dev nD) (t : Fin cfg0.N) : (dats0 m c).after 1 t = iblk0 m c 1 t := by dsimp only [dats0]
theorem after0_2 (c : Dev nD) (t : Fin cfg0.N) : (dats0 m c).after 2 t = out0_2 (iblk0 m c 0 t) (iblk0 m c 1 t) := by dsimp only [dats0]
theorem after0_3 (c : Dev nD) (t : Fin cfg0.N) : (dats0 m c).after 3 t = out0_3 (iblk0 m c 0 t) (iblk0 m c 1 t) := by dsimp only [dats0]
theorem after0_4 (c : Dev nD) (t : Fin cfg0.N) : (dats0 m c).after 4 t = out0_4 (iblk0 m c 0 t) (iblk0 m c 1 t) := by dsimp only [dats0]
theorem after0_5 (c : Dev nD) (t : Fin cfg0.N) : (dats0 m c).after 5 t = out0_5 (iblk0 m c 0 t) (iblk0 m c 1 t) := by dsimp only [dats0]
theorem after0_6 (c : Dev nD) (t : Fin cfg0.N) : (dats0 m c).after 6 t = out0_6 (iblk0 m c 0 t) (iblk0 m c 1 t) := by dsimp only [dats0]
theorem after0_7 (c : Dev nD) (t : Fin cfg0.N) : (dats0 m c).after 7 t = out0_7 (iblk0 m c 0 t) (iblk0 m c 1 t) := by dsimp only [dats0]
theorem after0_8 (c : Dev nD) (t : Fin cfg0.N) : (dats0 m c).after 8 t = out0_8 (iblk0 m c 0 t) (iblk0 m c 1 t) := by dsimp only [dats0]

/-- Each input's current staging buffer holds its block at every point, fetched there or not (`beforeK_W_of`). -/
theorem before0_0 (c : Dev nD) (t : Fin cfg0.N) (d) : (dats0 m c).before 0 t d = iblk0 m c 0 t :=
  before0_0_of m (dats0 m c) (A0_eq m c 0) (after0_0 m c) t d
theorem before0_1 (c : Dev nD) (t : Fin cfg0.N) (d) : (dats0 m c).before 1 t d = iblk0 m c 1 t :=
  before0_1_of m (dats0 m c) (A0_eq m c 1) (after0_1 m c) t d

/-! ## The body obligation, at a generic point -/

/-- What the body is called with at point `t`, -/
def bodyPre0 (c : Dev nD) (t : Fin cfg0.N) : sProp 𝕄 :=
  iprop((dats0 m c).Φ t.castSucc ∗ (dats0 m c).owesAt () t.castSucc
    ∗ (∃ d, owns (c : Thread nD τ) (st0_0 t) fullShare ((dats0 m c).before 0 t d))
    ∗ (∃ d, owns (c : Thread nD τ) (st0_1 t) fullShare ((dats0 m c).before 1 t d))
    ∗ (∃ d, owns (c : Thread nD τ) (st0_2 t) fullShare ((dats0 m c).before 2 t d))
    ∗ (∃ d, owns (c : Thread nD τ) (st0_3 t) fullShare ((dats0 m c).before 3 t d))
    ∗ (∃ d, owns (c : Thread nD τ) (st0_4 t) fullShare ((dats0 m c).before 4 t d))
    ∗ (∃ d, owns (c : Thread nD τ) (st0_5 t) fullShare ((dats0 m c).before 5 t d))
    ∗ (∃ d, owns (c : Thread nD τ) (st0_6 t) fullShare ((dats0 m c).before 6 t d))
    ∗ (∃ d, owns (c : Thread nD τ) (st0_7 t) fullShare ((dats0 m c).before 7 t d))
    ∗ (∃ d, owns (c : Thread nD τ) (st0_8 t) fullShare ((dats0 m c).before 8 t d)))

/-- and what it returns. -/
def bodyPost0 (c : Dev nD) (t : Fin cfg0.N) : sProp 𝕄 :=
  iprop((dats0 m c).Φ t.succ ∗ (dats0 m c).owesAt () t.succ
    ∗ owns (c : Thread nD τ) (st0_0 t) fullShare ((dats0 m c).after 0 t)
    ∗ owns (c : Thread nD τ) (st0_1 t) fullShare ((dats0 m c).after 1 t)
    ∗ owns (c : Thread nD τ) (st0_2 t) fullShare ((dats0 m c).after 2 t)
    ∗ owns (c : Thread nD τ) (st0_3 t) fullShare ((dats0 m c).after 3 t)
    ∗ owns (c : Thread nD τ) (st0_4 t) fullShare ((dats0 m c).after 4 t)
    ∗ owns (c : Thread nD τ) (st0_5 t) fullShare ((dats0 m c).after 5 t)
    ∗ owns (c : Thread nD τ) (st0_6 t) fullShare ((dats0 m c).after 6 t)
    ∗ owns (c : Thread nD τ) (st0_7 t) fullShare ((dats0 m c).after 7 t)
    ∗ owns (c : Thread nD τ) (st0_8 t) fullShare ((dats0 m c).after 8 t))

/-- The body at any point: the inputs' memrefs hold their blocks (`before0_W`), so `sound_kernel0` applies; the invariant and
    the core's `owes` pass through unread. -/
theorem sound_body0 (c : Dev nD) (t : Fin cfg0.N) :
    bodyPre0 m c t ⊢ wp frame (wpE (defs₀ (F := F)) Variants.none c none) Set.univ (bodyAt0 t) (fun _ => bodyPost0 m c t) := by
  unfold bodyPre0 bodyPost0 bodyAt0
  simp only [before0_0, before0_1]
  rw [show (dats0 m c).Φ t.succ = (dats0 m c).Φ t.castSucc from rfl,
    show (dats0 m c).owesAt () t.succ = (dats0 m c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ (iblk0 m c 0 t) (iblk0 m c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dats0 (F := F) m c) (defs₀ (F := F)) Variants.none () Set.univ := fun t => by
  rw [bigSep_W0, bigSep_W0, defs₀_row0]
  exact triple_restated (sound_body0 m c t) rfl .rfl fun _ => .rfl

end Cert.KernelIdeal.Dense

end
-- ==== Proof.Ideal.Dense.lean ====
/-
  The dense call's data: what each of its windows holds, and the body's obligation at every point of its grid.
-/
module

public import proofs.«01_k».proof.Proof.Ideal.Turn
public import proofs.«01_k».proof.Proof.Ideal.Codes
public import Idealize.ShloMosaic.Lib.Pipeline.DatRel
public import Idealize.ShloMosaic.Lib.Pipeline.FrameSuffix
public import Idealize.ShloMosaic.Lib.Pipeline.FrameBody

@[expose] public section

set_option maxRecDepth 16384

noncomputable section

namespace Cert.KernelIdeal.Dense

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat RDat Cfg Window BodyObligation cellOf)

variable {F : FTy → Type} [FloatOps F]

local notation "𝕄" => MT nD τ sig Unit (Elt F) ℕ UU ℕ

variable (m : (ℓ : Loc nD τ sig) → Buf (Elt F) ℓ)

/-! ## The buffers when the dense call is entered -/

/-- After the quantising call. -/
def after0 (c : Dev nD) : Valuation τ sig (Elt F) :=
  Pipeline.withArrays spec0 c (V1 m c) ((dats0 m c).arrAt · cfg0.N)

/-- After the host operations between the two calls. -/
def before1 (c : Dev nD) : Valuation τ sig (Elt F) := StableHlo.after hostOps1 (after0 m c)

abbrev entry1 (c : Dev nD) (b : Ref sig .tc) : Buf (Elt F) ((c : Thread nD τ).loc b) := before1 m c b

/-- Window `w`'s block at point `t`, its part inside the array. -/
def iblk1 (c : Dev nD) (w : Fin cfg1.W) (t : Fin cfg1.N) : ((cfg1.win w).xblock (cfg1.grid.coords t)).Idx → Elt F (cfg1.win w).elt :=
  ((cfg1.win w).blk t).view.read (Elt F) (entry1 m c (Pipeline.arrRef spec1 w))

/-- A staging buffer that held `d` and into which the block at point `t` has been fetched. -/
def over1 (c : Dev nD) (w : Fin cfg1.W) (t : Fin cfg1.N) (d : (cfg1.win w).block.Idx → Elt F (cfg1.win w).elt) : (cfg1.win w).block.Idx → Elt F (cfg1.win w).elt :=
  (cfg1.win w).fill (cfg1.grid.coords t) d (iblk1 m c w t)

/-- Contents that nothing reads. -/
def any1 (w : Fin cfg1.W) : (cfg1.win w).block.Idx → Elt F (cfg1.win w).elt := fun _ => Classical.arbitrary _

/-- The buffers of the other call, which this one leaves alone. -/
def idle (c : Dev nD) : Assn F :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f))

/-! ## The windows -/

/-- The dense call's data: each operand's buffer holds its block, the body's own buffers are `between`; nothing is owed. -/
def dats1 (c : Dev nD) : Dat τ (Elt F) Unit ℕ UU ℕ cfg1 c where
  A w := entry1 m c (Pipeline.arrRef spec1 w)
  after w t := match w with
    | ⟨0, _⟩ => iblk1 m c 0 t
    | ⟨1, _⟩ => iblk1 m c 1 t
    | ⟨2, _⟩ => over1 m c 2 t (any1 2)
    | ⟨3, _⟩ => over1 m c 3 t (any1 3)
    | ⟨4, _⟩ => iblk1 m c 4 t
    | ⟨5, _⟩ => iblk1 m c 5 t
    | ⟨6, _⟩ => iblk1 m c 6 t
    | ⟨7, _⟩ => iblk1 m c 7 t
    | ⟨8, _⟩ => any1 8
    | ⟨9, _⟩ => any1 9
  Φ t := iprop(between c t.val ∗ idle c)
  q _ := fullShare
  owed _ := 0

/-- The two results' windows are known by what the body leaves in them, -/
def marked : Fin cfg1.W → Bool := fun | 0 => false | 1 => false | 2 => false | 3 => false | 4 => false | 5 => false | 6 => false | 7 => false | 8 => true | 9 => true | ⟨_ + 10, h⟩ => absurd h (Nat.not_lt.2 (Nat.le_add_left _ _))

/-- the scores' block at point `t`, -/
def IsScores (c : Dev nD) (t : Fin cfg1.N) (X : (cfg1.win 8).block.Idx → Elt F (cfg1.win 8).elt) : Prop :=
  ∃ d2 d3, X = scores (F := F) (iblk1 m c 1 t) (over1 m c 2 t d2) (over1 m c 3 t d3) (iblk1 m c 4 t) (iblk1 m c 5 t) (iblk1 m c 6 t)

/-- and, of the refined scores, nothing. -/
def left (c : Dev nD) : (w : Fin cfg1.W) → Fin cfg1.N → ((cfg1.win w).block.Idx → Elt F (cfg1.win w).elt) → Prop := fun w t => match w with
  | ⟨8, _⟩ => fun X => IsScores m c t X
  | _ => fun _ => True

theorem A1_eq (c : Dev nD) (w : Fin cfg1.W) : (dats1 m c).A w = entry1 m c (Pipeline.arrRef spec1 w) := by dsimp only [dats1]

theorem after1_0 (c : Dev nD) (t : Fin cfg1.N) : (dats1 m c).after 0 t = iblk1 m c 0 t := by dsimp only [dats1]
theorem after1_1 (c : Dev nD) (t : Fin cfg1.N) : (dats1 m c).after 1 t = iblk1 m c 1 t := by dsimp only [dats1]
theorem after1_2 (c : Dev nD) (t : Fin cfg1.N) : (dats1 m c).after 2 t = over1 m c 2 t (any1 2) := by dsimp only [dats1]
theorem after1_3 (c : Dev nD) (t : Fin cfg1.N) : (dats1 m c).after 3 t = over1 m c 3 t (any1 3) := by dsimp only [dats1]
theorem after1_4 (c : Dev nD) (t : Fin cfg1.N) : (dats1 m c).after 4 t = iblk1 m c 4 t := by dsimp only [dats1]
theorem after1_5 (c : Dev nD) (t : Fin cfg1.N) : (dats1 m c).after 5 t = iblk1 m c 5 t := by dsimp only [dats1]
theorem after1_6 (c : Dev nD) (t : Fin cfg1.N) : (dats1 m c).after 6 t = iblk1 m c 6 t := by dsimp only [dats1]
theorem after1_7 (c : Dev nD) (t : Fin cfg1.N) : (dats1 m c).after 7 t = iblk1 m c 7 t := by dsimp only [dats1]

theorem before1_0 (c : Dev nD) (t : Fin cfg1.N) (d) : (dats1 m c).before 0 t d = iblk1 m c 0 t :=
  ((dats1 m c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)
theorem before1_1 (c : Dev nD) (t : Fin cfg1.N) (d) : (dats1 m c).before 1 t d = iblk1 m c 1 t :=
  ((dats1 m c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)
theorem before1_4 (c : Dev nD) (t : Fin cfg1.N) (d) : (dats1 m c).before 4 t d = iblk1 m c 4 t :=
  ((dats1 m c).before_in_eq_fetched 4 rfl (fun _ => rfl) (fun _ _ _ => rfl) (fun t => by rw [after1_4]; unfold Dat.blockOf iblk1; rw [A1_eq]; try rfl) t d).trans
    (by unfold Dat.fetched Dat.blockOf iblk1; rw [A1_eq]; try rfl)
theorem before1_5 (c : Dev nD) (t : Fin cfg1.N) (d) : (dats1 m c).before 5 t d = iblk1 m c 5 t :=
  ((dats1 m c).before_in_eq_fetched 5 rfl (fun _ => rfl) (fun _ _ _ => rfl) (fun t => by rw [after1_5]; unfold Dat.blockOf iblk1; rw [A1_eq]; try rfl) t d).trans
    (by unfold Dat.fetched Dat.blockOf iblk1; rw [A1_eq]; try rfl)
theorem before1_6 (c : Dev nD) (t : Fin cfg1.N) (d) : (dats1 m c).before 6 t d = iblk1 m c 6 t :=
  ((dats1 m c).before_in_eq_fetched 6 rfl (fun _ => rfl) (fun _ _ _ => rfl) (fun t => by rw [after1_6]; unfold Dat.blockOf iblk1; rw [A1_eq]; try rfl) t d).trans
    (by unfold Dat.fetched Dat.blockOf iblk1; rw [A1_eq]; try rfl)
theorem before1_7 (c : Dev nD) (t : Fin cfg1.N) (d) : (dats1 m c).before 7 t d = iblk1 m c 7 t :=
  ((dats1 m c).before_in_eq_fetched 7 rfl (fun _ => rfl) (fun _ _ _ => rfl) (fun t => by rw [after1_7]; unfold Dat.blockOf iblk1; rw [A1_eq]; try rfl) t d).trans
    (by unfold Dat.fetched Dat.blockOf iblk1; rw [A1_eq]; try rfl)

theorem before1_2 (c : Dev nD) (t : Fin cfg1.N) (d) : (dats1 m c).before 2 t d = over1 m c 2 t d := by
  unfold Dat.before; rw [if_pos (fetch1_2 t)]; unfold Dat.fetched Dat.blockOf over1 iblk1; rw [A1_eq]
theorem before1_3 (c : Dev nD) (t : Fin cfg1.N) (d) : (dats1 m c).before 3 t d = over1 m c 3 t d := by
  unfold Dat.before; rw [if_pos (fetch1_3 t)]; unfold Dat.fetched Dat.blockOf over1 iblk1; rw [A1_eq]

/-- What the buffer of a codes' window holds after the body, whatever lay past the array's end. -/
def again1 (c : Dev nD) (w : Fin cfg1.W) (t : Fin cfg1.N) (d : (cfg1.win w).block.Idx → Elt F (cfg1.win w).elt) : (cfg1.win w).block.Idx → Elt F (cfg1.win w).elt :=
  (cfg1.win w).fill (cfg1.grid.coords t) d ((cfg1.win w).cut (cfg1.grid.coords t) ((dats1 m c).after w t))

theorem again1_2 (c : Dev nD) (t : Fin cfg1.N) (d) : again1 m c 2 t d = over1 m c 2 t d := by
  unfold again1; rw [after1_2]; unfold over1; rw [Window.cut_fill]
theorem again1_3 (c : Dev nD) (t : Fin cfg1.N) (d) : again1 m c 3 t d = over1 m c 3 t d := by
  unfold again1; rw [after1_3]; unfold over1; rw [Window.cut_fill]

/-! ## The obligation -/

/-- What the body is called with at point `t`, the windows one by one, -/
def bodyPre1 (c : Dev nD) (t : Fin cfg1.N) : Assn F :=
  iprop((dats1 m c).Φ t.castSucc ∗ (dats1 m c).owesAt () t.castSucc
    ∗ (∃ d, owns (c : Thread nD τ) (st1_0 t) fullShare ((dats1 m c).before 0 t d))
    ∗ (∃ d, owns (c : Thread nD τ) (st1_1 t) fullShare ((dats1 m c).before 1 t d))
    ∗ (∃ d, owns (c : Thread nD τ) (st1_2 t) fullShare ((dats1 m c).before 2 t d))
    ∗ (∃ d, owns (c : Thread nD τ) (st1_3 t) fullShare ((dats1 m c).before 3 t d))
    ∗ (∃ d, owns (c : Thread nD τ) (st1_4 t) fullShare ((dats1 m c).before 4 t d))
    ∗ (∃ d, owns (c : Thread nD τ) (st1_5 t) fullShare ((dats1 m c).before 5 t d))
    ∗ (∃ d, owns (c : Thread nD τ) (st1_6 t) fullShare ((dats1 m c).before 6 t d))
    ∗ (∃ d, owns (c : Thread nD τ) (st1_7 t) fullShare ((dats1 m c).before 7 t d))
    ∗ (∃ Y, ⌜((dats1 m c).toRRel marked (left m c)).Finds 8 t Y⌝ ∗ owns (c : Thread nD τ) (st1_8 t) fullShare Y)
    ∗ (∃ Y, ⌜((dats1 m c).toRRel marked (left m c)).Finds 9 t Y⌝ ∗ owns (c : Thread nD τ) (st1_9 t) fullShare Y))

/-- and what it returns. -/
def bodyPost1 (c : Dev nD) (t : Fin cfg1.N) : Assn F :=
  iprop((dats1 m c).Φ t.succ ∗ (dats1 m c).owesAt () t.succ
    ∗ owns (c : Thread nD τ) (st1_0 t) fullShare ((dats1 m c).after 0 t)
    ∗ owns (c : Thread nD τ) (st1_1 t) fullShare ((dats1 m c).after 1 t)
    ∗ (∃ d, owns (c : Thread nD τ) (st1_2 t) fullShare (again1 m c 2 t d))
    ∗ (∃ d, owns (c : Thread nD τ) (st1_3 t) fullShare (again1 m c 3 t d))
    ∗ owns (c : Thread nD τ) (st1_4 t) fullShare ((dats1 m c).after 4 t)
    ∗ owns (c : Thread nD τ) (st1_5 t) fullShare ((dats1 m c).after 5 t)
    ∗ owns (c : Thread nD τ) (st1_6 t) fullShare ((dats1 m c).after 6 t)
    ∗ owns (c : Thread nD τ) (st1_7 t) fullShare ((dats1 m c).after 7 t)
    ∗ (∃ X, ⌜left m c 8 t X⌝ ∗ owns (c : Thread nD τ) (st1_8 t) fullShare X)
    ∗ (∃ X, ⌜left m c 9 t X⌝ ∗ owns (c : Thread nD τ) (st1_9 t) fullShare X))

theorem owns_open {sp : Space} {S : Shape} {e : EltTy} {c : Dev nD} {M : Memref sig .tc sp S e} (h : M.IsWhole) {X : S.Idx → Elt F e} :
    (owns (c : Thread nD τ) M fullShare X : Assn F) ⊢ iprop(∃ f : Buf (Elt F) (M.view.loc (c : Thread nD τ)), ⌜M.view.read (Elt F) f = X⌝ ∗ (M.view.loc (c : Thread nD τ) ↦{fullShare} f)) := by
  unfold owns; rw [h.set_eq_univ]

theorem owns_shut {sp : Space} {S : Shape} {e : EltTy} {c : Dev nD} {M : Memref sig .tc sp S e} (h : M.IsWhole) {X : S.Idx → Elt F e}
    {f : Buf (Elt F) (M.view.loc (c : Thread nD τ))} (e : M.view.read (Elt F) f = X) :
    (M.view.loc (c : Thread nD τ) ↦{fullShare} f : Assn F) ⊢ owns (c : Thread nD τ) M fullShare X := by
  unfold owns; rw [h.set_eq_univ]
  iintro H; iexists f; isplitr
  · ipureintro; exact e
  iexact H

set_option maxHeartbeats 1000000 in
/-- The body at any point. -/
theorem sound_body1 (c : Dev nD) (hids : ∀ y, (entry1 m c main_v8 y : BitVec 32).toNat < 400000) (t : Fin cfg1.N) :
    bodyPre1 m c t ⊢ wp frame (wpE (defs₀ (F := F)) Variants.none c none) Set.univ (bodyAt1 t) (fun _ => bodyPost1 m c t) := by
  unfold bodyPre1 bodyPost1 bodyAt1
  simp only [before1_0, before1_1, before1_2, before1_3, before1_4, before1_5, before1_6, before1_7,
    after1_0, after1_1, after1_2, after1_3, after1_4, after1_5, after1_6, after1_7, again1_2, again1_3]
  rw [show (dats1 m c).Φ t.castSucc = iprop(between c t.val ∗ idle c) from rfl,
    show (dats1 m c).Φ t.succ = iprop(between c (t.val + 1) ∗ idle c) from rfl]
  unfold Dat.owesAt Pipeline.owesWithin
  rw [show (dats1 m c).owed t.castSucc = 0 from rfl, show (dats1 m c).owed t.succ = 0 from rfl]
  iintro ⟨⟨HB, HI⟩, ⟨%W, -, HO⟩, ⟨%d0, H0⟩, ⟨%d1, H1⟩, ⟨%d2, H2⟩, ⟨%d3, H3⟩, ⟨%d4, H4⟩, ⟨%d5, H5⟩, ⟨%d6, H6⟩, ⟨%d7, H7⟩, ⟨%Y8, -, H8⟩, ⟨%Y9, -, H9⟩⟩
  ihave H0 := (owns_open (F := F) (c := c) (M := st1_0 t) (X := iblk1 m c 0 t) (hstage1_0 ((cfg1.slots t 0).cast nbuf1_0))) $$ H0
  icases H0 with ⟨%f0, %hf0, H0⟩
  ihave H1 := (owns_open (F := F) (c := c) (M := st1_1 t) (X := iblk1 m c 1 t) (hstage1_1 ((cfg1.slots t 1).cast nbuf1_1))) $$ H1
  icases H1 with ⟨%f1, %hf1, H1⟩
  ihave H2 := (owns_open (F := F) (c := c) (M := st1_2 t) (X := over1 m c 2 t d2) (hstage1_2 ((cfg1.slots t 2).cast nbuf1_2))) $$ H2
  icases H2 with ⟨%f2, %hf2, H2⟩
  ihave H3 := (owns_open (F := F) (c := c) (M := st1_3 t) (X := over1 m c 3 t d3) (hstage1_3 ((cfg1.slots t 3).cast nbuf1_3))) $$ H3
  icases H3 with ⟨%f3, %hf3, H3⟩
  ihave H4 := (owns_open (F := F) (c := c) (M := st1_4 t) (X := iblk1 m c 4 t) (hstage1_4 ((cfg1.slots t 4).cast nbuf1_4))) $$ H4
  icases H4 with ⟨%f4, %hf4, H4⟩
  ihave H5 := (owns_open (F := F) (c := c) (M := st1_5 t) (X := iblk1 m c 5 t) (hstage1_5 ((cfg1.slots t 5).cast nbuf1_5))) $$ H5
  icases H5 with ⟨%f5, %hf5, H5⟩
  ihave H6 := (owns_open (F := F) (c := c) (M := st1_6 t) (X := iblk1 m c 6 t) (hstage1_6 ((cfg1.slots t 6).cast nbuf1_6))) $$ H6
  icases H6 with ⟨%f6, %hf6, H6⟩
  ihave H7 := (owns_open (F := F) (c := c) (M := st1_7 t) (X := iblk1 m c 7 t) (hstage1_7 ((cfg1.slots t 7).cast nbuf1_7))) $$ H7
  icases H7 with ⟨%f7, %hf7, H7⟩
  ihave H8 := (owns_open (F := F) (c := c) (M := st1_8 t) (X := Y8) (hstage1_8 ((cfg1.slots t 8).cast nbuf1_8))) $$ H8
  icases H8 with ⟨%f8, -, H8⟩
  ihave H9 := (owns_open (F := F) (c := c) (M := st1_9 t) (X := Y9) (hstage1_9 ((cfg1.slots t 9).cast nbuf1_9))) $$ H9
  icases H9 with ⟨%f9, -, H9⟩
  have hr : ∀ (r : Rect S1x1x200) (x : r.shape.Idx), (((st1_0 t).access r).read (Elt F) f0 x : BitVec 32).toNat < 400000 := by
    intro r x
    have e1 : ((st1_0 t).access r).read (Elt F) f0 x = (st1_0 t).view.read (Elt F) f0 (r.emb x) := rfl
    rw [e1, hf0]
    exact hids _
  iapply (wp_wand_r frame (wpE (defs₀ (F := F)) Variants.none c none) Set.univ)
  isplitr [HI]
  · iapply (turn (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (Memref.isWhole_whole _) (st1_8 t) (hstage1_8 ((cfg1.slots t 8).cast nbuf1_8)) (st1_9 t) (hstage1_9 ((cfg1.slots t 9).cast nbuf1_9)) (Memref.isWhole_whole _) (Memref.isWhole_whole _) (c := c) (ids := f0) t (f2 := f1) (f3 := f2) (f4 := f3) (f5 := f4) (f6 := f5) (f7 := f6) (f8 := f7) (fun _ => hr) (Q := fun _ => iprop(between c (t.val + 1) ∗ ((st1_0 t).view.loc (c : Thread nD τ) ↦{fullShare} f0) ∗ owesNone c
        ∗ theBlock c (st1_8 t) (scores ((st1_1 t).view.read (Elt F) f1) ((st1_2 t).view.read (Elt F) f2) ((st1_3 t).view.read (Elt F) f3) ((st1_4 t).view.read (Elt F) f4) ((st1_5 t).view.read (Elt F) f5) ((st1_6 t).view.read (Elt F) f6))
        ∗ wins c (st1_1 t) (st1_2 t) (st1_3 t) (st1_4 t) (st1_5 t) (st1_6 t) (st1_7 t) (st1_9 t) f1 f2 f3 f4 f5 f6 f7)) .rfl)
    isplitl [HB]; · iexact HB
    isplitl [H0]; · iexact H0
    isplitl [HO]; · iexists W; iexact HO
    isplitl [H8]; · iexists f8; iexact H8
    unfold wins
    isplitl [H1]; · iexact H1
    isplitl [H2]; · iexact H2
    isplitl [H3]; · iexact H3
    isplitl [H4]; · iexact H4
    isplitl [H5]; · iexact H5
    isplitl [H6]; · iexact H6
    isplitl [H7]; · iexact H7
    iexists f9; iexact H9
  iintro %a
  unfold wins owesNone
  iintro ⟨HB, H0, ⟨%W', HO⟩, ⟨%g8, %e8, H8⟩, H1, H2, H3, H4, H5, H6, H7, ⟨%g9, H9⟩⟩
  isplitl [HB HI]
  · isplitl [HB]; · iexact HB
    iexact HI
  isplitl [HO]
  · iexists W'; isplitr; · ipureintro; exact fun _ _ => Or.inl trivial
    iexact HO
  isplitl [H0]; · iapply (owns_shut (hstage1_0 ((cfg1.slots t 0).cast nbuf1_0)) hf0); iexact H0
  isplitl [H1]; · iapply (owns_shut (hstage1_1 ((cfg1.slots t 1).cast nbuf1_1)) hf1); iexact H1
  isplitl [H2]; · iexists d2; iapply (owns_shut (hstage1_2 ((cfg1.slots t 2).cast nbuf1_2)) hf2); iexact H2
  isplitl [H3]; · iexists d3; iapply (owns_shut (hstage1_3 ((cfg1.slots t 3).cast nbuf1_3)) hf3); iexact H3
  isplitl [H4]; · iapply (owns_shut (hstage1_4 ((cfg1.slots t 4).cast nbuf1_4)) hf4); iexact H4
  isplitl [H5]; · iapply (owns_shut (hstage1_5 ((cfg1.slots t 5).cast nbuf1_5)) hf5); iexact H5
  isplitl [H6]; · iapply (owns_shut (hstage1_6 ((cfg1.slots t 6).cast nbuf1_6)) hf6); iexact H6
  isplitl [H7]; · iapply (owns_shut (hstage1_7 ((cfg1.slots t 7).cast nbuf1_7)) hf7); iexact H7
  isplitl [H8]
  · iexists _
    isplitr
    swap
    · iapply (owns_shut (hstage1_8 ((cfg1.slots t 8).cast nbuf1_8)) e8); iexact H8
    ipureintro
    rw [hf1, hf2, hf3, hf4, hf5, hf6]
    exact ⟨d2, d3, rfl⟩
  iexists _
  isplitr
  swap
  · iapply (owns_shut (hstage1_9 ((cfg1.slots t 9).cast nbuf1_9)) rfl); iexact H9
  ipureintro
  trivial

theorem defs₀_row1 (t : Fin cfg1.N) :
    defs₀ (F := F) .tc cfg1.body (cfg1.bodyArgs t (cfg1.slots t)) = bodyAt1 t := by
  unfold defs₀; rw [Defs.onTc_tc]

/-- The obligation, at every point. -/
theorem body_obligation1 (c : Dev nD) (hids : ∀ y, (entry1 m c main_v8 y : BitVec 32).toNat < 400000) :
    Pipeline.BodyObligationRel (dats1 (F := F) m c) (defs₀ (F := F)) Variants.none () Set.univ marked (left m c) := fun t => by
  rw [bigSep_W1, bigSep_W1, defs₀_row1]
  exact triple_restated (sound_body1 m c hids t) rfl .rfl fun _ => .rfl

end Cert.KernelIdeal.Dense

end
-- ==== Proof.Ideal.Run.lean ====
/-
  The whole program's run: two host stretches and two kernel calls, from any memory whose candidate ids are in range.
-/
module

public import proofs.«01_k».proof.Proof.Ideal.Dense
public import Idealize.ShloMosaic.Lib.Pipeline.Regions
public import Idealize.ShloMosaic.Lib.Pipeline.RegionsLoop
public import Idealize.ShloMosaic.Adequacy
public import Idealize.ShloMosaic.Init

@[expose] public section

set_option maxRecDepth 16384

noncomputable section

namespace Cert.KernelIdeal.Dense

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat RDat Cfg Window BodyObligation cellOf HostSeg)

variable {F : FTy → Type} [FloatOps F]

local notation "𝕄" => MT nD τ sig Unit (Elt F) ℕ UU ℕ

variable (m : (ℓ : Loc nD τ sig) → Buf (Elt F) ℓ)

/-! ## What reaches the dense call -/

theorem entry1_kept (c : Dev nD) (b : Ref sig .tc) (h1 : b ∉ hostOps1_W) (h0 : ∀ w, Pipeline.arrRef spec0 w ≠ b) (h : b ∉ hostOps0_W) :
    entry1 m c b = m ((c : Thread nD τ).loc b) := by
  unfold entry1 before1
  rw [StableHlo.after_of_writes_sub hostOps1 _ hostOps1_writes h1]
  unfold after0
  rw [Pipeline.withArrays_of_ne spec0 c _ _ b h0, V1_of m c b h]

theorem after0_at (c : Dev nD) (w : Fin cfg0.W) : (dats0 m c).arrAt w cfg0.N = after0 m c (Proc.devRef .tc (Pipeline.arrRef spec0 w)) := by
  unfold after0
  rw [Pipeline.withArrays_arr spec0 winFacts0.arr_inj c]

theorem entry1_computed (c : Dev nD) (w : Fin cfg0.W) (h1 : Pipeline.arrRef spec0 w ∉ hostOps1_W) :
    entry1 m c (Pipeline.arrRef spec0 w) = (dats0 m c).arrAt w cfg0.N := by
  unfold entry1 before1
  rw [StableHlo.after_of_writes_sub hostOps1 _ hostOps1_writes h1]
  unfold after0
  rw [Pipeline.withArrays_arr spec0 winFacts0.arr_inj c]

theorem entry1_passed (c : Dev nD) (b : Ref sig .tc) (h1 : b ∉ hostOps1_W) (h0 : ∀ w, Pipeline.arrRef spec0 w ≠ b) :
    entry1 m c b = V1 m c b := by
  unfold entry1 before1
  rw [StableHlo.after_of_writes_sub hostOps1 _ hostOps1_writes h1]
  unfold after0
  rw [Pipeline.withArrays_of_ne spec0 c _ _ b h0]

/-! ## The two calls' data -/

/-- The dense call's, with what is known of the windows of its results. -/
abbrev known1 (c : Dev nD) : RDat τ (Elt F) Unit ℕ UU ℕ cfg1 c := (dats1 m c).toRRel marked (left m c)

/-- Both calls' data. -/
def exacts : (p : Fin 2) → (c : Dev nD) → Dat τ (Elt F) Unit ℕ UU ℕ (cfgs p) c := fun p => match p with
  | 0 => dats0 m
  | 1 => dats1 m

def rdats : (p : Fin 2) → (c : Dev nD) → RDat τ (Elt F) Unit ℕ UU ℕ (cfgs p) c := fun p => match p with
  | 0 => fun c => (dats0 m c).toR
  | 1 => fun c => known1 m c

abbrev 𝒱₀ : Variants := Variants.none
abbrev L : GSem nD τ sig → Finset Unit := fun _ => ∅
abbrev lv : GSem nD τ sig → Unit → ℕ := fun _ _ => 0
abbrev EP : Emb (UR sig nD τ) (MT nD τ sig Unit (Elt F) ℕ UU ℕ) := embL

/-- What rides beside the buffers: the core's account of what it owes. -/
abbrev rider (c : Dev nD) : Assn F := iprop(∃ W, owes (c : Thread nD τ) (0 : CellTallies nD τ sig Unit) W)

abbrev standing (c : Dev nD) (V : Valuation τ sig (Elt F)) : Assn F := StableHlo.held (c : Thread nD τ) (Pipeline.ucRefs τ sig) V

def host0 : HostSeg (Name := ℕ) (U := UU) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) rider

def host1 : HostSeg (Name := ℕ) (U := UU) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (after0 m) rider

/-! ## The quantising call as an item -/

theorem none_of : Pipeline.OwnSemFacts spec0 (fun k : PEmpty => (k.elim : SemLoc sig)) := Pipeline.OwnSemFacts.none ..

set_option backward.isDefEq.respectTransparency.types false in
def reg0 : RDat.RegionSeg (pcfgs (F := F)) adm (rdats m) () defs₀ 𝒱₀ L lv 0 where
  win := launch0.win.to₀
  block_pos := launch0.block_pos
  stage_whole := launch0.stage_whole
  K := PEmpty
  osem := fun k => k.elim
  ho := none_of
  hbody c := (body_obligation0 m c).toR
  hwaits := RDat.hwaits_of_owed_zero _ _ _ _ L lv 0 fun _ _ => rfl
  pre c := iprop(standing c (V1 m c) ∗ rider c)
  post c := iprop(standing c (after0 m c) ∗ rider c)
  X _ := iprop(emp)
  Y _ := iprop(emp)
  Z c := Pipeline.unscopedRest spec0 c (fun b => V1 m c b)
  hentry c := by
    rw [show standing c (V1 m c) = (unscopedBufs c (fun b => V1 m c b) : Assn F) from (Pipeline.unscopedBufs_held c _).symm]
    have hsplit := RDat.arrays_of_unscopedBufs (pcfgs (F := F)) adm (rdats m) (p := 0) launch0.win launch0.arr_whole c
      (show ∀ w, (rdats m 0 c).share w = fullShare from (dats0 m c).share_full fun _ => rfl) (fun b => V1 m c b) (A0_eq m c)
    iintro ⟨⟨Hub, HO⟩, -, -⟩
    ihave H := hsplit $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩
      iexists W; isplitr; · ipureintro; exact fun _ _ => Or.inl trivial
      iexact HO
    isplitr; · iempintro
    iexact Hz
  hin c := by
    rw [show ((rdats m) 0 c).Φ 0 = (Pipeline.scopedRest spec0 c : Assn F) from rfl]
    iintro ⟨-, -, Hr⟩
    iexact Hr
  hout c := by
    rw [show (Pipeline.ownSems0 (Ix := Unit) (Name := ℕ) (U := UU) (Lvl := ℕ) (Val := Elt F) (τ := τ) (fun k : PEmpty => (k.elim : SemLoc sig)) c : Assn F) = iprop(emp) from by
      unfold Pipeline.ownSems0; rw [show (Finset.univ : Finset PEmpty) = ∅ from rfl, BI.bigSep_empty]; rfl,
      show ((rdats m) 0 c).Φ (Fin.last (Pipeline.pin (pcfgs (F := F)) adm 0).N) = (Pipeline.scopedRest spec0 c : Assn F) from rfl]
    iintro Hr
    isplitr; · iempintro
    isplitr; · iempintro
    iexact Hr
  hexit c := by
    have hjoin := Pipeline.unscopedBufs_of_arrays (pcfgs (F := F)) adm (p := 0) launch0.win launch0.arr_whole c (exacts m)
      ((dats0 m c).share_full fun _ => rfl) (fun b => V1 m c b) (fun b => after0 m c b) ((dats0 m c).arrAt · cfg0.N)
      (after0_at m c)
      (fun b hb => Pipeline.withArrays_of_ne spec0 c _ _ b fun w e => hb (Finset.mem_image.mpr ⟨w, Finset.mem_univ _, e⟩))
    rw [show standing c (after0 m c) = (unscopedBufs c (fun b => after0 m c b) : Assn F) from (Pipeline.unscopedBufs_held c _).symm]
    iintro ⟨Ha, HO, -, HZ⟩
    imodintro
    isplitr [HO]
    · iapply hjoin
      isplitl [Ha]
      · iapply ((dats0 m c).toR_arraysAt_post cfg0.N); iexact Ha
      iexact HZ
    · icases HO with ⟨%W, -, HO⟩; iexists W; iexact HO

/-! ## The dense call as an item -/

/-- The two slots' counters. -/
def slots : Fin 2 → SemLoc sig := fun s => .dma (slotSem s)

theorem slots_own : Pipeline.OwnSemFacts spec1 slots := by decide

theorem slots_zero (c : Dev nD) :
    (Pipeline.ownSems0 (Ix := Unit) (Name := ℕ) (U := UU) (Lvl := ℕ) (Val := Elt F) (τ := τ) slots c : Assn F) = iprop(quiet c 0 ∗ quiet c 1) :=
  Pipeline.ownSems0_eq_of_list c slots [0, 1] (by decide) (by decide)

/-- The arrays the dense call does not touch, as it leaves them. -/
def others (c : Dev nD) : Assn F :=
  iprop((((c : Thread nD τ).loc main_arg0) ↦{fullShare} entry1 m c main_arg0) ∗ (((c : Thread nD τ).loc main_arg1) ↦{fullShare} entry1 m c main_arg1) ∗ (((c : Thread nD τ).loc main_arg3) ↦{fullShare} entry1 m c main_arg3) ∗ (((c : Thread nD τ).loc main_arg4) ↦{fullShare} entry1 m c main_arg4) ∗ (((c : Thread nD τ).loc main_arg5) ↦{fullShare} entry1 m c main_arg5) ∗ (((c : Thread nD τ).loc main_arg6) ↦{fullShare} entry1 m c main_arg6) ∗ (((c : Thread nD τ).loc main_v7_0) ↦{fullShare} entry1 m c main_v7_0) ∗ (((c : Thread nD τ).loc main_v7_1) ↦{fullShare} entry1 m c main_v7_1))

/-- At the end: the dense call's arrays at contents they may hold, the others. -/
abbrev finally1 (c : Dev nD) : Assn F := iprop((rdats m 1 c).arraysAt cfg1.N ∗ others m c)

set_option backward.isDefEq.respectTransparency.types false in
def reg1 (hids : ∀ c y, (entry1 m c main_v8 y : BitVec 32).toNat < 400000) : RDat.RegionSeg (pcfgs (F := F)) adm (rdats m) () defs₀ 𝒱₀ L lv 1 where
  win := launch1.win.to₀
  block_pos := launch1.block_pos
  stage_whole := launch1.stage_whole
  K := Fin 2
  osem := slots
  ho := slots_own
  hbody c := (body_obligation1 m c (hids c)).toRRel
  hwaits := RDat.hwaits_of_owed_zero _ _ _ _ L lv 1 fun _ _ => rfl
  pre c := iprop(standing c (before1 m c) ∗ rider c)
  post c := iprop(finally1 m c ∗ rider c)
  X c := iprop((srcL c ↦{fullShare} entry1 m c main_v11) ∗ quiet c 0 ∗ quiet c 1)
  Y _ := iprop(emp)
  Z c := others m c
  hentry c := by
    rw [show standing c (before1 m c) = (unscopedBufs c (fun b => before1 m c b) : Assn F) from (Pipeline.unscopedBufs_held c _).symm, slots_zero]
    have hsplit := (RDat.arrays_of_unscopedBufs (pcfgs (F := F)) adm (rdats m) (p := 1) launch1.win launch1.arr_whole c
      (show ∀ w, (rdats m 1 c).share w = fullShare from (dats1 m c).share_full fun _ => rfl) (fun b => before1 m c b) (A1_eq m c)).trans (sep_mono .rfl (Entails.of_eq (unscopedRest1_eq c (fun b => before1 m c b))))
    iintro ⟨⟨Hub, HO⟩, Hos, -⟩
    ihave H := hsplit $$ Hub
    icases H with ⟨Ha, H0, H1, H3, H4, H5, H6, -, -, -, -, -, -, -, Hc, Hs, -, -, H11⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩
      iexists W; isplitr; · ipureintro; exact fun _ _ => Or.inl trivial
      iexact HO
    isplitl [H11 Hos]
    · isplitl [H11]; · iexact H11
      iexact Hos
    unfold others
    isplitl [H0]; · iexact H0
    isplitl [H1]; · iexact H1
    isplitl [H3]; · iexact H3
    isplitl [H4]; · iexact H4
    isplitl [H5]; · iexact H5
    isplitl [H6]; · iexact H6
    isplitl [Hc]; · iexact Hc
    iexact Hs
  hin c := by
    rw [show ((rdats m) 1 c).Φ 0 = iprop(between (F := F) c 0 ∗ idle c) from rfl]
    rw [show (Pipeline.scopedRest (Ix := Unit) (Name := ℕ) (U := UU) (Lvl := ℕ) (Val := Elt F) (Pipeline.pin (pcfgs (F := F)) adm 1).spec c : Assn F) = _ from scopedRest1_eq c]
    unfold between rest idle
    rw [if_neg (by omega), show par 0 = 0 from rfl, show par (0 + 1) = 1 from rfl]
    iintro ⟨⟨H11, Hq0, Hq1⟩, -, H0, H1, H2, H3, H4, H5, H6, H7, H8, Hr, Hs⟩
    isplitr [H0 H1 H2 H3 H4 H5 H6 H7 H8]
    · isplitl [H11]; · iexists _; iexists _; iexact H11
      isplitl [Hr]; · iexact Hr
      isplitl [Hs]; · iexact Hs
      isplitl [Hq0]; · iexact Hq0
      iexact Hq1
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  hout c := by
    rw [show ((rdats m) 1 c).Φ (Fin.last (Pipeline.pin (pcfgs (F := F)) adm 1).N) = iprop(between (F := F) c grid1.N ∗ idle c) from rfl, N_1, slots_zero]
    rw [show (Pipeline.scopedRest (Ix := Unit) (Name := ℕ) (U := UU) (Lvl := ℕ) (Val := Elt F) (Pipeline.pin (pcfgs (F := F)) adm 1).spec c : Assn F) = _ from scopedRest1_eq c]
    unfold between rest idle
    rw [if_neg (by omega), show par 196 = 0 from rfl, show par (196 + 1) = 1 from rfl]
    iintro ⟨⟨-, Hr, Hs, Hq0, Hq1⟩, H0, H1, H2, H3, H4, H5, H6, H7, H8⟩
    isplitr; · iempintro
    isplitl [Hq0 Hq1]
    · isplitl [Hq0]; · iexact Hq0
      iexact Hq1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Hr]; · iexact Hr
    iexact Hs
  hexit c := by
    iintro ⟨Ha, HO, -, HZ⟩
    imodintro
    isplitr [HO]
    · isplitl [Ha]; · iexact Ha
      iexact HZ
    · icases HO with ⟨%W, -, HO⟩; iexists W; iexact HO

/-! ## The run -/

/-- The two items and the two host stretches, in order. -/
abbrev items (hids : ∀ c y, (entry1 m c main_v8 y : BitVec 32).toNat < 400000) (_ : Dev nD) : List (RDat.Seg (pcfgs (F := F)) adm (rdats m) () defs₀ 𝒱₀ L lv) :=
  [.host (host0 m), .region (reg0 m), .host (host1 m), .region (reg1 m hids)]

def u₀ : UU := (initOf (Pipeline.cells cfgs cellOf_inj) (Pipeline.launchToks cfgs cellOf_inj), 1)

/-- The final memory on core `c`: the arguments as launched, the codes and scales as the first call leaves them, and the
    scores at contents their window's blocks may make. -/
def Ends (c : Dev nD) (s : MemSt nD τ sig (Elt F)) : Prop :=
  (known1 m c).ArrAt 8 cfg1.N (s.mem ((c : Thread nD τ).loc main_v12_0))
  ∧ s.mem ((c : Thread nD τ).loc main_v7_0) = (dats0 m c).arrAt 2 cfg0.N
  ∧ s.mem ((c : Thread nD τ).loc main_v7_1) = (dats0 m c).arrAt 3 cfg0.N
  ∧ s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_arg5) = m ((c : Thread nD τ).loc main_arg5)
  ∧ s.mem ((c : Thread nD τ).loc main_arg6) = m ((c : Thread nD τ).loc main_arg6)

set_option backward.isDefEq.respectTransparency.types false in
/-- Every fair run ends so, every counter at zero. -/
theorem run (hids : ∀ c y, (entry1 m c main_v8 y : BitVec 32).toNat < 400000) (ρ : Dev nD → PrngReg) :
    θ_run defs (onTc (τ := τ) (main (F := F))) ⟨m, fun _ => 0, ρ⟩ (fun r => (∀ c : Dev nD, Ends m c r.2) ∧ r.2.sem = fun _ => 0) :=
  RDat.θ_run_regions_kit_dev_sems (pcfgs (F := F)) adm (rdats m) () cellOf_inj EP defs₀ 𝒱₀ L lv m ρ main (items m hids)
    (fun c Q => by
      rewrite [main_chain c, RDat.Seg.run_eq_chain,
        show (items m hids c).map RDat.Seg.prog = [
          StableHlo.seq hostOps0,
          Prog.lift (.customCall (Pipeline.entry 0) ()),
          StableHlo.seq hostOps1,
          Prog.lift (.customCall (Pipeline.entry 1) ()) ] from rfl]
      exact .rfl)
    (fun c => by simp only [items, RDat.Seg.pipes_host, RDat.Seg.pipes_region, RDat.Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : Assn F) ⊢ bigSep Finset.univ (fun _ : Dev nD => (BI.emp : Assn F)) from by rw [BI.bigSep_emp_const])
      iempintro)
    (T₀ := fun c => iprop(standing c (V0 m c) ∗ rider c)) (Tₙ := finally1 m)
    (hch := fun c => ⟨.rfl, .rfl, .rfl, .rfl, .rfl⟩)
    (hinit := by
      refine Pipeline.initEach L lv fun c => ?_
      rw [show unscopedBufs c (fun b => m ((c : Thread nD τ).loc b)) = standing c (V0 m c) from Pipeline.unscopedBufs_held c (V0 m c)]
      iintro ⟨⟨Hh, -, HO, -, -, -⟩, -⟩
      imodintro
      isplitl [Hh]; · iexact Hh
      iexists ∅; iexact HO)
    (QY := Ends m)
    (hfin := fun c s' => by
      unfold finally1 others
      rw [entry1_kept m c main_arg0 (by decide) (by decide) (by decide)]
      rw [entry1_kept m c main_arg1 (by decide) (by decide) (by decide)]
      rw [entry1_kept m c main_arg3 (by decide) (by decide) (by decide)]
      rw [entry1_kept m c main_arg4 (by decide) (by decide) (by decide)]
      rw [entry1_kept m c main_arg5 (by decide) (by decide) (by decide)]
      rw [entry1_kept m c main_arg6 (by decide) (by decide) (by decide)]
      rw [show entry1 m c main_v7_0 = (dats0 m c).arrAt 2 cfg0.N from entry1_computed m c 2 (by decide),
        show entry1 m c main_v7_1 = (dats0 m c).arrAt 3 cfg0.N from entry1_computed m c 3 (by decide)]
      iintro ⟨⟨Ha, H0, H1, H3, H4, H5, H6, Hc, Hs⟩, HSI⟩
      icombine HSI H0 gives %h0
      icombine HSI H1 gives %h1
      icombine HSI H3 gives %h3
      icombine HSI H4 gives %h4
      icombine HSI H5 gives %h5
      icombine HSI H6 gives %h6
      icombine HSI Hc gives %hc
      icombine HSI Hs gives %hs
      ihave Hr := (RDat.arrays_read (pcfgs (F := F)) adm (rdats m) (p := 1) launch1.arr_whole c cfg1.N s') $$ [Ha HSI]
      · isplitl [Ha] <;> iassumption
      icases Hr with ⟨%ha, HSI⟩
      imodintro
      isplitr
      · ipureintro
        have h2 : (known1 m c).ArrAt 2 cfg1.N (s'.mem.mem ((c : Thread nD τ).loc main_arg2)) := ha 2
        rw [(known1 m c).ArrAt_in 2 rfl] at h2
        have h2' : s'.mem.mem ((c : Thread nD τ).loc main_arg2) = m ((c : Thread nD τ).loc main_arg2) :=
          h2.trans ((A1_eq m c 2).trans (entry1_kept m c main_arg2 (by decide) (by decide) (by decide)))
        exact ⟨ha 8, Buf.eq_of_forall_mem_univ hc, Buf.eq_of_forall_mem_univ hs, Buf.eq_of_forall_mem_univ h0, Buf.eq_of_forall_mem_univ h1, h2',
          Buf.eq_of_forall_mem_univ h3, Buf.eq_of_forall_mem_univ h4, Buf.eq_of_forall_mem_univ h5, Buf.eq_of_forall_mem_univ h6⟩
      iexact HSI)
    (hQ := fun _ h hz => ⟨h, funext fun g => hz g (.inr (regions_no_unscoped g.2))⟩)

end Cert.KernelIdeal.Dense

end
-- ==== Proof.Ideal.Frame.lean ====
/- The program's frame: where every candidate is the number of a vector, each run ends, its arguments as they were and every counter at zero. -/
module

public import proofs.«01_k».proof.Defs
public import proofs.«01_k».proof.Proof.InRange
public import proofs.«01_k».proof.Proof.Ideal.Run

@[expose] public section

set_option maxRecDepth 16384

noncomputable section

open Idealize.ShloMosaic Idealize.ShloMosaic.TcCoe Idealize.SL.Sem

namespace Cert.KernelIdeal.Dense

open Cert.KernelIdeal Cert.KernelIdeal.Gen

section
variable {F : FTy → Type} [FloatOps F]
variable (m : (ℓ : Loc nD τ sig) → Buf (Elt F) ℓ)

/-- The candidates as the dense call finds them: the argument, two queries to a row. -/
theorem candidates_eq (c : Dev nD) : entry1 m c main_v8 = shapeCast S192x1x200 (m ((c : Thread nD τ).loc main_arg6)) shapeCasts_S3x128x100_S192x1x200 := by
  have e : entry1 m c main_v8 = shapeCast S192x1x200 (after0 m c main_arg6) shapeCasts_S3x128x100_S192x1x200 := rfl
  rw [e]
  refine congrArg (fun x => shapeCast S192x1x200 x shapeCasts_S3x128x100_S192x1x200) ?_
  unfold after0
  exact (Pipeline.withArrays_of_ne spec0 c _ _ main_arg6 (by decide)).trans (V1_of m c main_arg6 (by decide))

theorem candidates_lt (h : ∀ (c : Dev nD) i, (m ((c : Thread nD τ).loc main_arg6) i : BitVec 32).toNat < 400000) (c : Dev nD) (y) :
    (entry1 m c main_v8 y : BitVec 32).toNat < 400000 := by
  rw [candidates_eq]
  exact h c _

end

/-- The candidates' bound, of the precondition. -/
theorem bound (m : (ℓ : Loc nD τ sig) → Buf (Elt Ideal) ℓ) (h : Cert.Pre_KernelIdeal m) (c : Dev nD) (y) : (entry1 m c main_v8 y : BitVec 32).toNat < 400000 :=
  candidates_lt m (fun c i => Cert.Proof.candidate_lt _ _ _ _ _ _ _ (h c) i) c y

/-- The frame. -/
theorem frame : Cert.quiescent_KernelIdeal := fun m g h =>
  (θ_run defs _ _).mono (fun _ hr => ⟨fun c => (hr.1 c).2.2.2, hr.2⟩) (run (F := Ideal) m (bound m h) g)

end Cert.KernelIdeal.Dense

end

end
-- ==== Proof.Quantised.lean ====
/- What the quantising call leaves in its results, as functions of the queries and the mean. -/
module

public import proofs.«01_k».proof.Proof.Ideal.Run
public import Idealize.ShloMosaic.Lib.Pipeline.ValueKit

@[expose] public section

set_option maxRecDepth 16384

noncomputable section

open Idealize.ShloMosaic Idealize.ShloMosaic.TcCoe Idealize.SL.Sem

namespace Cert.KernelIdeal.Dense

open Cert.KernelIdeal Cert.KernelIdeal.Gen

variable {F : FTy → Type} [FloatOps F]
variable (m : (ℓ : Loc nD τ sig) → Buf (Elt F) ℓ)

/-- The queries, one to a row. -/
theorem queries_eq (c : Dev nD) : V1 m c main_v5 = shapeCast S384x768 (m ((c : Thread nD τ).loc main_arg0)) shapeCasts_S3x128x768_S384x768 := by
  rfl

/-- The mean, as a row. -/
theorem mean_eq (c : Dev nD) : V1 m c main_v6 = shapeCast S1x768 (m ((c : Thread nD τ).loc main_arg1)) shapeCasts_S768_S1x768 := by
  rfl

theorem emb0_0 (t : Fin cfg0.N) (y : S384x768.Idx) : ((cfg0.win 0).blk t).view.emb y = y := by
  funext a; apply Fin.ext
  exact Pipeline.Window.rect_emb_val_of_index_zero win0_0 t a (by fin_cases a <;> rfl) y
theorem emb0_1 (t : Fin cfg0.N) (y : S1x768.Idx) : ((cfg0.win 1).blk t).view.emb y = y := by
  funext a; apply Fin.ext
  exact Pipeline.Window.rect_emb_val_of_index_zero win0_1 t a (by fin_cases a <;> rfl) y
theorem emb0_2 (t : Fin cfg0.N) (y : S384x768.Idx) : ((cfg0.win 2).blk t).view.emb y = y := by
  funext a; apply Fin.ext
  exact Pipeline.Window.rect_emb_val_of_index_zero win0_2 t a (by fin_cases a <;> rfl) y
theorem emb0_3 (t : Fin cfg0.N) (y : S384x1.Idx) : ((cfg0.win 3).blk t).view.emb y = y := by
  funext a; apply Fin.ext
  exact Pipeline.Window.rect_emb_val_of_index_zero win0_3 t a (by fin_cases a <;> rfl) y
theorem emb0_4 (t : Fin cfg0.N) (y : S384x768.Idx) : ((cfg0.win 4).blk t).view.emb y = y := by
  funext a; apply Fin.ext
  exact Pipeline.Window.rect_emb_val_of_index_zero win0_4 t a (by fin_cases a <;> rfl) y
theorem emb0_6 (t : Fin cfg0.N) (y : S384x128.Idx) : ((cfg0.win 6).blk t).view.emb y = y := by
  funext a; apply Fin.ext
  exact Pipeline.Window.rect_emb_val_of_index_zero win0_6 t a (by fin_cases a <;> rfl) y
theorem emb0_7 (t : Fin cfg0.N) (y : S384x128.Idx) : ((cfg0.win 7).blk t).view.emb y = y := by
  funext a; apply Fin.ext
  exact Pipeline.Window.rect_emb_val_of_index_zero win0_7 t a (by fin_cases a <;> rfl) y
theorem emb0_8 (t : Fin cfg0.N) (y : S384x128.Idx) : ((cfg0.win 8).blk t).view.emb y = y := by
  funext a; apply Fin.ext
  exact Pipeline.Window.rect_emb_val_of_index_zero win0_8 t a (by fin_cases a <;> rfl) y

theorem blk0_0 (c : Dev nD) (t : Fin cfg0.N) : iblk0 m c 0 t = V1 m c main_v5 := by
  unfold iblk0
  change ((cfg0.win 0).blk t).view.read (Elt F) (V1 m c main_v5) = _
  generalize V1 m c main_v5 = X
  funext i
  exact congrArg X (emb0_0 t i)
theorem blk0_1 (c : Dev nD) (t : Fin cfg0.N) : iblk0 m c 1 t = V1 m c main_v6 := by
  unfold iblk0
  change ((cfg0.win 1).blk t).view.read (Elt F) (V1 m c main_v6) = _
  generalize V1 m c main_v6 = X
  funext i
  exact congrArg X (emb0_1 t i)

/-- The codes. -/
theorem arr0_2 (c : Dev nD) : (dats0 m c).arrAt 2 cfg0.N = k0_pay7 (V1 m c main_v5) := by
  refine (dats0 m c).arrAt_eq_of_covers 2 _ (by decide +kernel) fun t hf y => ?_
  blk_simp
  rw [after0_2, blk0_0, blk0_1]
  unfold out0_2
  generalize V1 m c main_v5 = X
  frame_out
  exact (congrArg (k0_pay7 X) (emb0_2 t y)).symm

/-- The scales. -/
theorem arr0_3 (c : Dev nD) : (dats0 m c).arrAt 3 cfg0.N = k0_pay5 (V1 m c main_v5) := by
  refine (dats0 m c).arrAt_eq_of_covers 3 _ (by decide +kernel) fun t hf y => ?_
  blk_simp
  rw [after0_3, blk0_0, blk0_1]
  unfold out0_3
  generalize V1 m c main_v5 = X
  frame_out
  exact (congrArg (k0_pay5 X) (emb0_3 t y)).symm

/-- The rounded numbers that the dense call multiplies. -/
theorem arr0_4 (c : Dev nD) : (dats0 m c).arrAt 4 cfg0.N = k0_pay3 (k0_pay6 (V1 m c main_v5)) := by
  refine (dats0 m c).arrAt_eq_of_covers 4 _ (by decide +kernel) fun t hf y => ?_
  blk_simp
  rw [after0_4, blk0_0, blk0_1]
  unfold out0_4
  generalize V1 m c main_v5 = X
  frame_out
  exact (congrArg (k0_pay3 (k0_pay6 X)) (emb0_4 t y)).symm

/-- The scales across a row of lanes. -/
theorem arr0_6 (c : Dev nD) : (dats0 m c).arrAt 6 cfg0.N = k0_pay10 (V1 m c main_v5) := by
  refine (dats0 m c).arrAt_eq_of_covers 6 _ (by decide +kernel) fun t hf y => ?_
  blk_simp
  rw [after0_6, blk0_0, blk0_1]
  unfold out0_6
  generalize V1 m c main_v5 = X
  frame_out
  exact (congrArg (k0_pay10 X) (emb0_6 t y)).symm

/-- The scaled sums. -/
theorem arr0_7 (c : Dev nD) : (dats0 m c).arrAt 7 cfg0.N = k0_pay1 (k0_pay8 (V1 m c main_v5)) := by
  refine (dats0 m c).arrAt_eq_of_covers 7 _ (by decide +kernel) fun t hf y => ?_
  blk_simp
  rw [after0_7, blk0_0, blk0_1]
  unfold out0_7
  generalize V1 m c main_v5 = X
  frame_out
  exact (congrArg (k0_pay1 (k0_pay8 X)) (emb0_7 t y)).symm

/-- The scaled products with the mean. -/
theorem arr0_8 (c : Dev nD) : (dats0 m c).arrAt 8 cfg0.N = k0_pay2 (k0_pay9 (V1 m c main_v5) (V1 m c main_v6)) := by
  refine (dats0 m c).arrAt_eq_of_covers 8 _ (by decide +kernel) fun t hf y => ?_
  blk_simp
  rw [after0_8, blk0_0, blk0_1]
  unfold out0_8
  generalize V1 m c main_v5 = X
  generalize V1 m c main_v6 = M
  frame_out
  exact (congrArg (k0_pay2 (k0_pay9 X M)) (emb0_8 t y)).symm

end Cert.KernelIdeal.Dense

end

end
-- ==== Proof.Rounding.lean ====
/- The two numbers the quantiser clips to, and its integer conversion: over the reals a clipped number is converted to an
   eight-bit integer directly or by way of thirty-two bits, with the same result. -/
module

public import Idealize.ShloMosaic.PureOps.Ideal

@[expose] public section

noncomputable section

open Idealize.ShloMosaic

namespace Cert.Proof
/-- The real number 127. -/
theorem ofBits_127 : Ideal.ofBits .f32 0x42FE0000#32 = ((127 : ℝ) : EReal) := by
  simp [Ideal.ofBits, Ideal.ieee, -EReal.coe_mul]; norm_num
/-- The real number −127. -/
theorem ofBits_neg127 : Ideal.ofBits .f32 0xC2FE0000#32 = ((-127 : ℝ) : EReal) := by
  simp [Ideal.ofBits, Ideal.ieee, -EReal.coe_mul]; norm_num

/-- A number clipped to [−127, 127] converts to eight bits as it converts to thirty-two bits and is then cut to eight:
    neither conversion saturates. -/
theorem fptosi_trunc (w : EReal) :
    Ideal.fptosi 8 (min ((127 : ℝ) : EReal) (max ((-127 : ℝ) : EReal) w)) = (Ideal.fptosi 32 (min ((127 : ℝ) : EReal) (max ((-127 : ℝ) : EReal) w))).setWidth 8 := by
  obtain ⟨r, hr, h1, h2⟩ : ∃ r : ℝ, min ((127 : ℝ) : EReal) (max ((-127 : ℝ) : EReal) w) = (r : EReal) ∧ -127 ≤ r ∧ r ≤ 127 := by
    induction w using EReal.rec with
    | bot => exact ⟨-127, by rw [max_eq_left bot_le, min_eq_right]; exact_mod_cast (by norm_num : (-127 : ℝ) ≤ 127), by norm_num, by norm_num⟩
    | top => exact ⟨127, by rw [max_eq_right le_top, min_eq_left le_top], by norm_num, by norm_num⟩
    | coe x => exact ⟨min 127 (max (-127) x), by push_cast; rfl, by simp, by simp⟩
  rw [hr]
  unfold Ideal.fptosi
  have h : ∀ lo hi : ℤ, lo ≤ -127 → 127 ≤ hi → Ideal.toIntClamped lo hi (r : EReal) = if 0 ≤ r then ⌊r⌋ else ⌈r⌉ := by
    intro lo hi hl hh
    show max lo (min hi (if 0 ≤ r then ⌊r⌋ else ⌈r⌉)) = _
    have a1 : ⌊r⌋ ≤ 127 := by have := Int.floor_le r; exact_mod_cast this.trans h2
    have a2 : -127 ≤ ⌊r⌋ := Int.le_floor.2 (by exact_mod_cast h1)
    have a3 : ⌈r⌉ ≤ 127 := Int.ceil_le.2 (by exact_mod_cast h2)
    have a4 : -127 ≤ ⌈r⌉ := by have := Int.le_ceil r; exact_mod_cast h1.trans this
    split <;> omega
  rw [h _ _ (by norm_num) (by norm_num), h _ _ (by norm_num) (by norm_num)]
  generalize (if 0 ≤ r then ⌊r⌋ else ⌈r⌉) = z
  apply BitVec.eq_of_toInt_eq
  simp [BitVec.toInt_ofInt, BitVec.toInt_setWidth]
  rw [max_eq_left (Int.emod_nonneg _ (by norm_num))]
  unfold Int.bmod
  rw [show z % 4294967296 % ((256 : ℕ) : ℤ) = z % ((256 : ℕ) : ℤ) from Int.emod_emod_of_dvd z (by norm_num)]

/-- The largest absolute value of a row. -/
def rowMax (v : Fin 768 → EReal) : EReal :=
  Finset.univ.fold max (Ideal.ofBits .f32 0xFF800000#32) fun k => FloatOps.absf (F := Ideal) (φ := .f32) (v k)

/-- A row's scale: its largest absolute value over 127, and 1 for a row of zeros. -/
def rowScale (v : Fin 768 → EReal) : EReal :=
  if rowMax v = 0 then 1 else Ideal.div (rowMax v) (Ideal.ofBits .f32 0x42FE0000#32)

/-- A row's number at column `k`, divided by the scale, rounded to the nearest integer and clipped to [−127, 127]. -/
def rowCode (v : Fin 768 → EReal) (k : Fin 768) : EReal :=
  min ((127 : ℝ) : EReal) (max ((-127 : ℝ) : EReal) (Ideal.liftRound Ideal.roundHalfEven (Ideal.div (v k) (rowScale v))))

end Cert.Proof

end

end
-- ==== Proof.Numbers.lean ====
/- The numbers of the scores: half-bytes read as tiny floats, two 16-bit floats kept in one word, integers in [−127, 127]. -/
module

public import proofs.«01_k».proof.Proof.Rounding
public import Idealize.ShloMosaic.PureOps.Ideal.Laws
public import Idealize.ShloMosaic.Lib.BitcastFour

@[expose] public section

noncomputable section

open Idealize.ShloMosaic

namespace Cert.Proof

/-- The integer an eight-bit pattern below 16 holds, as an extended real. -/
def nat8 (b : BitVec 8) : EReal := ((b.toNat : ℝ) : EReal)

/-- A byte below 16, read as an eight-bit float, is its 512th part. -/
theorem small_float (n : Fin 16) : Ideal.e4m3fn (BitVec.ofNat 8 n.val) = (((n.val : ℝ) / 512 : ℝ) : EReal) := by
  fin_cases n <;> simp [Ideal.e4m3fn, -EReal.coe_mul] <;> norm_num

theorem small_float' (b : BitVec 8) (h : b.toNat < 16) : Ideal.ofBits .fp8e4m3 b = (((b.toNat : ℝ) / 512 : ℝ) : EReal) := by
  have e := small_float ⟨b.toNat, h⟩
  rw [BitVec.ofNat_toNat, BitVec.setWidth_eq] at e
  exact e

theorem ofBits_512 : Ideal.ofBits .f32 0x44000000#32 = ((512 : ℝ) : EReal) := by
  simp [Ideal.ofBits, Ideal.ieee, -EReal.coe_mul]; norm_num

/-- An integer in [−127, 127] times 512, times a half-byte's small float, is their product. -/
theorem scaled_product (z : ℝ) (b : BitVec 8) (h : b.toNat < 16) :
    ((z : EReal) * Ideal.ofBits .f32 0x44000000#32) * Ideal.ofBits .fp8e4m3 b = (z : EReal) * nat8 b := by
  rw [small_float' b h, ofBits_512, nat8, ← EReal.coe_mul, ← EReal.coe_mul, ← EReal.coe_mul]
  congr 1
  ring

/-- A rounded and clipped number is an integer in [−127, 127]. -/
theorem rowCode_int (v : Fin 768 → EReal) (k : Fin 768) : ∃ z : ℤ, -127 ≤ z ∧ z ≤ 127 ∧ rowCode v k = ((z : ℝ) : EReal) := by
  unfold rowCode
  generalize Ideal.div (v k) (rowScale v) = w
  induction w using EReal.rec with
  | bot =>
    refine ⟨-127, by norm_num, by norm_num, ?_⟩
    show min _ (max _ (⊥ : EReal)) = _
    rw [max_eq_left bot_le, min_eq_right (by exact_mod_cast (by norm_num : (-127 : ℝ) ≤ 127))]
    norm_num
  | top =>
    refine ⟨127, by norm_num, by norm_num, ?_⟩
    show min _ (max _ (⊤ : EReal)) = _
    rw [max_eq_right le_top, min_eq_left le_top]
    norm_num
  | coe x =>
    refine ⟨min 127 (max (-127) (Ideal.roundHalfEven x)), by simp, by simp, ?_⟩
    show min _ (max _ ((((Ideal.roundHalfEven x : ℤ) : ℝ)) : EReal)) = _
    push_cast
    rfl

/-- Such an integer survives its conversion to eight bits and back. -/
theorem int_back (z : ℤ) (h1 : -127 ≤ z) (h2 : z ≤ 127) :
    (((((Ideal.fptosi 32 ((z : ℝ) : EReal)).setWidth 8).signExtend 32).toInt : ℝ) : EReal) = ((z : ℝ) : EReal) := by
  have e : Ideal.fptosi 32 ((z : ℝ) : EReal) = BitVec.ofInt 32 z := by
    unfold Ideal.fptosi
    congr 1
    show max _ (min _ (if 0 ≤ (z : ℝ) then ⌊(z : ℝ)⌋ else ⌈(z : ℝ)⌉)) = z
    simp
    omega
  rw [e]
  congr 2
  rw [BitVec.toInt_signExtend, BitVec.toInt_setWidth]
  have e2 : (BitVec.ofInt 32 z).toNat = (z % 4294967296).toNat := by simp [BitVec.toNat_ofInt]
  rw [e2]
  unfold Int.bmod
  norm_num
  split_ifs <;> omega

/-- A 16-bit float is the 32-bit float of the same pattern followed by sixteen zeros. -/
theorem bf16_wide (w : BitVec 16) : Ideal.ofBits .bf16 w = Ideal.ofBits .f32 (w.setWidth 32 <<< 16) := by
  show Ideal.ieee 8 7 w = Ideal.ieee 8 23 (w.setWidth 32 <<< 16)
  have hn : (w.setWidth 32 <<< 16).extractLsb' (8 + 23) 1 = w.extractLsb' (8 + 7) 1 := by
    apply BitVec.eq_of_getLsbD_eq; intro i hi; interval_cases i; simp
  have he : (w.setWidth 32 <<< 16).extractLsb' 23 8 = w.extractLsb' 7 8 := by
    apply BitVec.eq_of_getLsbD_eq; intro i hi; interval_cases i <;> simp
  have hf : ((w.setWidth 32 <<< 16).extractLsb' 0 23).toNat = (w.extractLsb' 0 7).toNat * 2 ^ 16 := by
    simp [BitVec.extractLsb'_toNat, Nat.shiftLeft_eq]; omega
  unfold Ideal.ieee
  simp only [hn, he, hf]
  generalize (w.extractLsb' (8 + 7) 1 == 1#1) = neg
  generalize (w.extractLsb' 7 8).toNat = ex
  generalize (w.extractLsb' 0 7).toNat = fr
  have h0 : (fr * 2 ^ 16 = 0) = (fr = 0) := by simp
  simp only [h0]
  have a1 : ((if neg then -1 else 1 : ℝ) * fr * (2 : ℝ) ^ (1 - (2 ^ (8 - 1) - 1 : ℤ) - (7 : ℕ))) = (if neg then -1 else 1 : ℝ) * ((fr * 2 ^ 16 : ℕ) : ℝ) * (2 : ℝ) ^ (1 - (2 ^ (8 - 1) - 1 : ℤ) - (23 : ℕ)) := by
    push_cast
    norm_num
    split_ifs <;> ring
  have a2 : ((if neg then -1 else 1 : ℝ) * ((2 ^ 7 + fr : ℕ) : ℝ) * (2 : ℝ) ^ ((ex : ℤ) - (2 ^ (8 - 1) - 1 : ℤ) - (7 : ℕ))) = (if neg then -1 else 1 : ℝ) * ((2 ^ 23 + fr * 2 ^ 16 : ℕ) : ℝ) * (2 : ℝ) ^ ((ex : ℤ) - (2 ^ (8 - 1) - 1 : ℤ) - (23 : ℕ)) := by
    push_cast
    norm_num
    rw [show ((ex : ℤ) - 127 - 7 : ℤ) = 16 + ((ex : ℤ) - 127 - 23) by ring, zpow_add₀ (by norm_num : (2 : ℝ) ≠ 0)]
    generalize (2 : ℝ) ^ ((ex : ℤ) - 127 - 23) = g
    norm_num
    split_ifs <;> ring
  simp only [a1, a2]

/-- Of a word made of two halves, the high half masked out is the high half alone … -/
theorem word_high (p q : BitVec 16) :
    ((p.setWidth 32 <<< 16) ||| q.setWidth 32) &&& 4294901760#32 = p.setWidth 32 <<< 16 := by
  apply BitVec.eq_of_getLsbD_eq
  intro i hi
  have hm : (4294901760#32 : BitVec 32).getLsbD i = decide (16 ≤ i) := by interval_cases i <;> rfl
  rw [BitVec.getLsbD_and, hm]
  by_cases h : 16 ≤ i
  · simp [h, show ¬ i < 16 by omega, BitVec.getLsbD_of_ge q i (by omega)]
  · simp [h, show i < 16 by omega]

/-- … and shifted up it is the low half. -/
theorem word_low (p q : BitVec 16) :
    ((p.setWidth 32 <<< 16) ||| q.setWidth 32) <<< 16 = q.setWidth 32 <<< 16 := by
  apply BitVec.eq_of_getLsbD_eq
  intro i hi
  by_cases h : 16 ≤ i
  · simp [h, show ¬ i < 16 by omega, show i - 16 < 16 by omega]
  · simp [h, show i < 16 by omega]

open ValueIdx

/-- Bit `q` of the byte at row `a`, lane `l`, of words read at eight bits: bit `8·(a % 4) + q` of word row `a / 4`. -/
theorem byte_of_word {R r n : Nat} (x : (⟨2, ![r, n]⟩ : Shape).Idx → BitVec 32)
    (h : (⟨2, ![r, n]⟩ : Shape).Bitcasts 32 ⟨2, ![R, n]⟩ 8) (a : Fin R) (l : Fin n) (q : Nat) (hq : q < 8) (p : Fin r)
    (hp : p.val = a.val / 4) :
    (bitcast ⟨2, ![R, n]⟩ 8 x h (ix2 a l)).getLsbD q = (x (ix2 p l)).getLsbD (8 * (a.val % 4) + q) := by
  rw [bitcast_getLsbD x h _ q hq (by decide)]
  have e1 : ((⟨2, ![R, n]⟩ : Shape).row (ix2 a l) * 8 + q) % 32 = 8 * (a.val % 4) + q := by
    show (a.val * 8 + q) % 32 = _
    omega
  have e2 : (a.val * 8 + q) / 32 = a.val / 4 := by omega
  rw [e1]
  congr 2
  funext c
  match c with
  | ⟨0, _⟩ => exact Fin.ext (((h.srcIdx_row _ _ _ ⟨0, Nat.zero_lt_two⟩ rfl).trans e2).trans hp.symm)
  | ⟨1, _⟩ => exact Fin.ext (h.srcIdx_other _ _ _ ⟨1, Nat.one_lt_two⟩ (by show ¬ 1 + 2 = 2; omega))

/-- The half-byte mask, at a bit. -/
theorem mask_bit (i : Nat) (hi : i < 32) : (252645135#32 : BitVec 32).getLsbD i = decide (i % 8 < 4) := by
  interval_cases i <;> rfl

/-- Four bytes at a time masked to their low halves: byte by byte the low half. -/
theorem low_half {R r n : Nat} (x : (⟨2, ![R, n]⟩ : Shape).Idx → BitVec 8) (h : (⟨2, ![R, n]⟩ : Shape).Bitcasts 8 ⟨2, ![r, n]⟩ 32)
    (h' : (⟨2, ![r, n]⟩ : Shape).Bitcasts 32 ⟨2, ![R, n]⟩ 8) (a : Fin R) (l : Fin n) (p : Fin r) (hp : p.val = a.val / 4) :
    bitcast ⟨2, ![R, n]⟩ 8 (andi (bitcast ⟨2, ![r, n]⟩ 32 x h) (broadcast ⟨2, ![r, n]⟩ 252645135#32)) h' (ix2 a l) = x (ix2 a l) &&& 15#8 := by
  apply BitVec.eq_of_getLsbD_eq
  intro q hq
  rw [byte_of_word _ h' a l q hq p hp]
  show (bitcast ⟨2, ![r, n]⟩ 32 x h (ix2 p l) &&& 252645135#32).getLsbD _ = _
  rw [BitVec.getLsbD_and, BitVec.getLsbD_and, mask_bit _ (by omega),
    bitcast_8_32_getLsbD_ix2 x h p l _ (by omega) a (by omega)]
  have e1 : (8 * (a.val % 4) + q) % 8 = q := by omega
  have e2 : (15#8 : BitVec 8).getLsbD q = decide (q < 4) := by interval_cases q <;> rfl
  rw [e1, e2]

/-- Shifted down by four first: byte by byte the high half. -/
theorem high_half {R r n : Nat} (x : (⟨2, ![R, n]⟩ : Shape).Idx → BitVec 8) (h : (⟨2, ![R, n]⟩ : Shape).Bitcasts 8 ⟨2, ![r, n]⟩ 32)
    (h' : (⟨2, ![r, n]⟩ : Shape).Bitcasts 32 ⟨2, ![R, n]⟩ 8) (a : Fin R) (l : Fin n) (p : Fin r) (hp : p.val = a.val / 4) :
    bitcast ⟨2, ![R, n]⟩ 8 (andi (shrui (bitcast ⟨2, ![r, n]⟩ 32 x h) (broadcast ⟨2, ![r, n]⟩ 4#32)) (broadcast ⟨2, ![r, n]⟩ 252645135#32)) h' (ix2 a l) = x (ix2 a l) >>> 4 := by
  apply BitVec.eq_of_getLsbD_eq
  intro q hq
  rw [byte_of_word _ h' a l q hq p hp]
  show (IntOp.shrui .vector (bitcast ⟨2, ![r, n]⟩ 32 x h (ix2 p l)) 4#32 &&& 252645135#32).getLsbD _ = _
  have es : IntOp.shrui .vector (bitcast ⟨2, ![r, n]⟩ 32 x h (ix2 p l)) 4#32 = bitcast ⟨2, ![r, n]⟩ 32 x h (ix2 p l) >>> 4 := by
    simp [IntOp.shrui]
  rw [es, BitVec.getLsbD_and, mask_bit _ (by omega), BitVec.getLsbD_ushiftRight, BitVec.getLsbD_ushiftRight]
  have e1 : (8 * (a.val % 4) + q) % 8 = q := by omega
  rw [e1]
  by_cases hq4 : q < 4
  · rw [bitcast_8_32_getLsbD_ix2 x h p l _ (by omega) a (by omega)]
    rw [show (4 + (8 * (a.val % 4) + q)) % 8 = 4 + q by omega]
    simp [hq4]
  · simp [hq4, BitVec.getLsbD_of_ge (x (ix2 a l)) (4 + q) (by omega)]

theorem low_lt (b : BitVec 8) : (b &&& 15#8).toNat < 16 := by
  rw [BitVec.toNat_and]; exact Nat.lt_of_le_of_lt Nat.and_le_right (by decide)
theorem high_lt (b : BitVec 8) : (b >>> 4).toNat < 16 := by
  rw [BitVec.toNat_ushiftRight, Nat.shiftRight_eq_div_pow]; have := b.isLt; omega

/-- The half-bytes as the reference computes them: widened to 32 bits, masked or shifted, converted. -/
theorem low_wide (b : BitVec 8) : ((((b.setWidth 32) &&& 15#32).toInt : ℝ) : EReal) = nat8 (b &&& 15#8) := by
  unfold nat8
  have e : b.setWidth 32 &&& 15#32 = (b &&& 15#8).setWidth 32 := by rw [BitVec.setWidth_and]; rfl
  have h := low_lt b
  rw [e, BitVec.toInt_setWidth, Int.bmod_eq_of_le (by omega) (by omega)]
  simp
theorem high_wide (b : BitVec 8) : ((((b.setWidth 32).sshiftRight 4).toInt : ℝ) : EReal) = nat8 (b >>> 4) := by
  unfold nat8
  rw [BitVec.toInt_sshiftRight, BitVec.toInt_setWidth, Int.bmod_eq_of_le (by omega) (by have := b.isLt; omega), BitVec.toNat_ushiftRight]
  norm_cast

end Cert.Proof

end

end
-- ==== Proof.Block.lean ====
/- One block of scores at the ideal instance: 384 query rows against 2048 data rows, in closed form. -/
module

public import proofs.«01_k».proof.Proof.Numbers
public import proofs.«01_k».proof.Proof.Gen.KernelIdeal.Skeleton
public import Idealize.ShloMosaic.Lib.Pointwise

@[expose] public section

set_option maxRecDepth 16384

noncomputable section

open Idealize.ShloMosaic

namespace Cert.Proof

open Cert.KernelIdeal Cert.KernelIdeal.Gen

/-- The product of a block: the query row's first half against the low half-bytes, its second half against the high ones. -/
theorem block_product (x2 : Vec Ideal S384x768 .bf16) (x3 : Vec Ideal S2048x384 .i8) (a : Fin 384) (n : Fin 2048) :
    k1_pay254 (F := Ideal) x3 x2 (ix2 a n)
      = (∑ k : Fin 384, x2 (ix2 a (⟨k.val, by omega⟩ : Fin 768)) * Ideal.ofBits .fp8e4m3 (x3 (ix2 n k) &&& 15#8))
        + ∑ k : Fin 384, x2 (ix2 a (⟨384 + k.val, by omega⟩ : Fin 768)) * Ideal.ofBits .fp8e4m3 (x3 (ix2 n k) >>> 4) := by
  unfold k1_pay254
  have h1 : ∀ k : Fin 384, bitcast S2048x384 8 (andi (bitcast S512x384 32 x3 bitcasts_S2048x384_w8_S512x384_w32) (broadcast S512x384 252645135#32)) bitcasts_S512x384_w32_S2048x384_w8 (ix2 n k) = x3 (ix2 n k) &&& 15#8 :=
    fun k => low_half x3 bitcasts_S2048x384_w8_S512x384_w32 bitcasts_S512x384_w32_S2048x384_w8 n k ⟨n.val / 4, by omega⟩ rfl
  have h2 : ∀ k : Fin 384, bitcast S2048x384 8 (andi (shrui (bitcast S512x384 32 x3 bitcasts_S2048x384_w8_S512x384_w32) (broadcast S512x384 4#32)) (broadcast S512x384 252645135#32)) bitcasts_S512x384_w32_S2048x384_w8 (ix2 n k) = x3 (ix2 n k) >>> 4 :=
    fun k => high_half x3 bitcasts_S2048x384_w8_S512x384_w32 bitcasts_S512x384_w32_S2048x384_w8 n k ⟨n.val / 4, by omega⟩ rfl
  generalize bitcast S2048x384 8 (andi (bitcast S512x384 32 x3 bitcasts_S2048x384_w8_S512x384_w32) (broadcast S512x384 252645135#32)) bitcasts_S512x384_w32_S2048x384_w8 = lo at h1 ⊢
  generalize bitcast S2048x384 8 (andi (shrui (bitcast S512x384 32 x3 bitcasts_S2048x384_w8_S512x384_w32) (broadcast S512x384 4#32)) (broadcast S512x384 252645135#32)) bitcasts_S512x384_w32_S2048x384_w8 = hi at h2 ⊢
  pointwise
  simp only [h1, h2]

/-- What holds of every element of the pieces that agrees with an index off the axis holds of the concatenation there. -/
theorem concatenate_off {α : Type} {P : α → Prop} (t : Shape) (a : Fin t.rank) (xs : List ((s : Shape) × (s.Idx → α)))
    (h : Shape.Concatenates (xs.map (·.1)) t a) (j : t.Idx)
    (hP : ∀ p ∈ xs, ∀ (hr : p.1.rank = t.rank) (i : p.1.Idx), (∀ b : Fin p.1.rank, b.cast hr ≠ a → (i b).val = (j (b.cast hr)).val) → P (p.2 i)) :
    P (concatenate t a xs h j) := by
  unfold concatenate
  refine hP _ (List.getElem_mem _) ?_ _ fun b hb => ?_
  · exact (h.2.1 _ (List.mem_map.2 ⟨_, List.getElem_mem _, rfl⟩)).1
  · rw [dif_neg hb]
    rfl

/-- Sixteen copies of a tile side by side. -/
def tiles (x : FVec Ideal S384x128 .f32) : FVec Ideal S384x2048 .f32 :=
  let y : FVec Ideal S384x128 .f32 := shapeCast S384x128 x shapeCasts_S384x128_S384x128
  concatenate S384x2048 1 [⟨S384x128, y⟩, ⟨S384x128, y⟩, ⟨S384x128, y⟩, ⟨S384x128, y⟩, ⟨S384x128, y⟩, ⟨S384x128, y⟩, ⟨S384x128, y⟩, ⟨S384x128, y⟩, ⟨S384x128, y⟩, ⟨S384x128, y⟩, ⟨S384x128, y⟩, ⟨S384x128, y⟩, ⟨S384x128, y⟩, ⟨S384x128, y⟩, ⟨S384x128, y⟩, ⟨S384x128, y⟩] concatenates_S384x128_S384x128_S384x128_S384x128_S384x128_S384x128_S384x128_S384x128_S384x128_S384x128_S384x128_S384x128_S384x128_S384x128_S384x128_S384x128_S384x2048_d1

/-- Where the tile is constant along its columns, so are the copies. -/
theorem tiles_const (x : FVec Ideal S384x128 .f32) (a : Fin 384) (n : Fin 2048) (s : EReal) (hx : ∀ l, x (ix2 a l) = s) :
    tiles x (ix2 a n) = s := by
  have e : shapeCast S384x128 x shapeCasts_S384x128_S384x128 = x := by
    funext j
    idx_vars j
    pointwise
  unfold tiles
  rw [e]
  refine concatenate_off (P := (· = s)) _ _ _ _ _ fun p hp hr i hi => ?_
  have e : p = ⟨S384x128, x⟩ := by
    rcases List.mem_cons.1 hp with h | hp
    · exact h
    · exact (List.eq_of_mem_replicate (n := 15) hp)
  subst e
  have h0 : i 0 = a := Fin.ext (hi 0 (Fin.ne_of_val_ne (by show (0 : Nat) ≠ 1; decide)))
  rw [eq_ix2 i, h0]
  exact hx _

/-- A block's scores over the tiled numbers. -/
theorem pay1_eq (d : FVec Ideal S384x2048 .f32) (w v : IVec S1x2048 32) (x5 x6 x7 : Vec Ideal S384x128 .f32) :
    k1_pay1 (F := Ideal) d w v x5 x6 x7
      = addf (addf (tiles x7) (mulf (broadcastTo S384x2048 (bitcastToFloat .f32 v : FVec Ideal S1x2048 .f32) broadcasts_S1x2048_S384x2048) (tiles x6)))
          (mulf (broadcastTo S384x2048 (bitcastToFloat .f32 (shli w (broadcast S1x2048 16#32)) : FVec Ideal S1x2048 .f32) broadcasts_S1x2048_S384x2048) (mulf (tiles x5) d)) := rfl

/-- A block's score from its product: the row's three numbers are constant along their tiles of 128 columns. -/
theorem block_score (d : FVec Ideal S384x2048 .f32) (x4 : Vec Ideal S2048 .i32) (x5 x6 x7 : Vec Ideal S384x128 .f32)
    (a : Fin 384) (n : Fin 2048) (s5 s6 s7 : EReal) (h5 : ∀ l, x5 (ix2 a l) = s5) (h6 : ∀ l, x6 (ix2 a l) = s6) (h7 : ∀ l, x7 (ix2 a l) = s7) :
    k1_pay1 (F := Ideal) d (k1_pay255 (F := Ideal) x4) (k1_pay256 (F := Ideal) x4) x5 x6 x7 (ix2 a n)
      = (s7 + Ideal.ofBits .f32 (x4 (ix1 n) &&& 4294901760#32) * s6) + Ideal.ofBits .f32 (x4 (ix1 n) <<< 16) * (s5 * d (ix2 a n)) := by
  have t5 := tiles_const x5 a n s5 h5
  have t6 := tiles_const x6 a n s6 h6
  have t7 := tiles_const x7 a n s7 h7
  rw [pay1_eq]
  generalize tiles x5 = X5 at t5 ⊢
  generalize tiles x6 = X6 at t6 ⊢
  generalize tiles x7 = X7 at t7 ⊢
  unfold k1_pay256 k1_pay255
  pointwise
  rw [t5, t6, t7, show IntOp.shli .vector (x4 (ix1 n)) 16#32 = x4 (ix1 n) <<< 16 from by simp [IntOp.shli]]
  rfl

/-- The column of the quantised row that column `d` of the reordered row takes. -/
def source (d : BitVec 32) : BitVec 32 :=
  Scalar.select (IntOp.cmpi .slt d 384#32) (IntOp.muli 2#32 d) (IntOp.addi (IntOp.muli 2#32 (IntOp.subi d 384#32)) 1#32)

theorem source_low : ∀ k : Fin 384, source (BitVec.ofNat 32 k.val) = BitVec.ofNat 32 (2 * k.val) := by
  decide +kernel
theorem source_high : ∀ k : Fin 384, source (BitVec.ofNat 32 (384 + k.val)) = BitVec.ofNat 32 (2 * k.val + 1) := by
  decide +kernel

/-- A sum against the zero-one column that is one at row `i` only. -/
theorem pick (x : Fin 768 → EReal) (i : Fin 768) :
    ∑ s : Fin 768, x s * FloatOps.sitofp (F := Ideal) FTy.f32 (BitVec.setWidth 32 (IntOp.cmpi .eq (BitVec.ofNat 32 s.val) (BitVec.ofNat 32 i.val))) = x i := by
  rw [Finset.sum_eq_single i]
  · have e : FloatOps.sitofp (F := Ideal) FTy.f32 (BitVec.setWidth 32 (1#1)) = (1 : EReal) := by
      show (((BitVec.setWidth 32 (1#1)).toInt : ℝ) : EReal) = 1
      simp
    rw [IntOp.cmpi_eq_self, e, mul_one]
  · intro s _ hs
    have h0 : IntOp.cmpi .eq (BitVec.ofNat 32 s.val) (BitVec.ofNat 32 i.val) = 0#1 := by
      have : BitVec.ofNat 32 s.val ≠ BitVec.ofNat 32 i.val := fun e => hs (Fin.ext (by
        have := congrArg BitVec.toNat e
        rw [BitVec.toNat_ofNat, BitVec.toNat_ofNat] at this
        have := s.isLt
        have := i.isLt
        omega))
      show BitVec.ofBool (BitVec.ofNat 32 s.val == BitVec.ofNat 32 i.val) = 0#1
      rw [beq_false_of_ne this]
      rfl
    have e : FloatOps.sitofp (F := Ideal) FTy.f32 (BitVec.setWidth 32 (0#1)) = (0 : EReal) := by
      show (((BitVec.setWidth 32 (0#1)).toInt : ℝ) : EReal) = 0
      simp
    rw [h0, e, mul_zero]
  · intro h
    exact absurd (Finset.mem_univ i) h

/-- The reordered and scaled row: its first half the even columns … -/
theorem reorder_low (x : FVec Ideal S384x768 .f32) (a : Fin 384) (k : Fin 384) :
    k0_pay3 (F := Ideal) x (ix2 a (⟨k.val, by omega⟩ : Fin 768)) = x (ix2 a (⟨2 * k.val, by omega⟩ : Fin 768)) * Ideal.ofBits .f32 0x44000000#32 := by
  have h := source_low k
  unfold source at h
  unfold k0_pay3
  pointwise
  rw [h]
  exact congrArg (· * _) (pick (fun s => x (ix2 a s)) ⟨2 * k.val, by omega⟩)

/-- … its second half the odd ones. -/
theorem reorder_high (x : FVec Ideal S384x768 .f32) (a : Fin 384) (k : Fin 384) :
    k0_pay3 (F := Ideal) x (ix2 a (⟨384 + k.val, by omega⟩ : Fin 768)) = x (ix2 a (⟨2 * k.val + 1, by omega⟩ : Fin 768)) * Ideal.ofBits .f32 0x44000000#32 := by
  have h := source_high k
  unfold source at h
  unfold k0_pay3
  pointwise
  rw [h]
  exact congrArg (· * _) (pick (fun s => x (ix2 a s)) ⟨2 * k.val + 1, by omega⟩)

theorem pay1_apply (v : FVec Ideal S384x1 .f32) (a : Fin 384) (l : Fin 128) : k0_pay1 (F := Ideal) v (ix2 a l) = v (ix2 a 0) := by
  pointwise! [k0_pay1]
theorem pay2_apply (v : FVec Ideal S384x1 .f32) (a : Fin 384) (l : Fin 128) : k0_pay2 (F := Ideal) v (ix2 a l) = v (ix2 a 0) := by
  pointwise! [k0_pay2]
theorem pay10_apply (X : Vec Ideal S384x768 .bf16) (a : Fin 384) (l : Fin 128) : k0_pay10 (F := Ideal) X (ix2 a l) = k0_pay5 (F := Ideal) X (ix2 a 0) := by
  pointwise! [k0_pay10]
theorem pay8_apply (X : Vec Ideal S384x768 .bf16) (a : Fin 384) :
    k0_pay8 (F := Ideal) X (ix2 a 0) = k0_pay5 (F := Ideal) X (ix2 a 0) * ∑ k : Fin 768, k0_pay6 (F := Ideal) X (ix2 a k) := by
  pointwise! [k0_pay8]
theorem pay9_apply (X : Vec Ideal S384x768 .bf16) (mu : Vec Ideal S1x768 .f32) (a : Fin 384) :
    k0_pay9 (F := Ideal) X mu (ix2 a 0) = k0_pay5 (F := Ideal) X (ix2 a 0) * ∑ k : Fin 768, k0_pay6 (F := Ideal) X (ix2 a k) * mu (ix2 0 k) := by
  pointwise! [k0_pay9]

/-- The scale of a row. -/
theorem kernel_scale (X : Vec Ideal S384x768 .bf16) (a : Fin 384) (b : Fin 1) :
    k0_pay5 (F := Ideal) X (ix2 a b) = rowScale fun k => X (ix2 a k) := by
  unfold rowScale rowMax
  pointwise! [k0_pay5, k0_pay4]

/-- The rounded number, before its conversion to eight bits. -/
theorem kernel_code (X : Vec Ideal S384x768 .bf16) (a : Fin 384) (k : Fin 768) :
    k0_pay6 (F := Ideal) X (ix2 a k) = rowCode (fun k => X (ix2 a k)) k := by
  unfold rowCode
  rw [← ofBits_127, ← ofBits_neg127]
  unfold rowScale rowMax
  pointwise! [k0_pay6, k0_pay5, k0_pay4]

/-- The score of a query row against a data row: the query row's scaled product with the mean; the data row's lower bound times
    the scaled sum of the codes; its step times the scaled product of the codes with the half-bytes — the even codes against
    the low halves, the odd ones against the high halves. -/
def rowScore (v mu : Fin 768 → EReal) (b : Fin 384 → BitVec 8) (bound step : BitVec 16) : EReal :=
  (rowScale v * ∑ k : Fin 768, rowCode v k * mu k + Ideal.ofBits .bf16 bound * (rowScale v * ∑ k : Fin 768, rowCode v k))
    + Ideal.ofBits .bf16 step * (rowScale v * ((∑ k : Fin 384, rowCode v ⟨2 * k.val, by omega⟩ * nat8 (b k &&& 15#8))
        + ∑ k : Fin 384, rowCode v ⟨2 * k.val + 1, by omega⟩ * nat8 (b k >>> 4)))

/-- A block's score from the quantised rows, the data rows' bytes and their packed bounds and steps. -/
theorem block_apply (X : Vec Ideal S384x768 .bf16) (mu : Vec Ideal S1x768 .f32) (x3 : Vec Ideal S2048x384 .i8) (x4 : Vec Ideal S2048 .i32)
    (a : Fin 384) (n : Fin 2048) (p q : BitVec 16) (h4 : x4 (ix1 n) = (p.setWidth 32 <<< 16) ||| q.setWidth 32) :
    k1_pay1 (F := Ideal) (k1_pay254 (F := Ideal) x3 (k0_pay3 (F := Ideal) (k0_pay6 (F := Ideal) X))) (k1_pay255 (F := Ideal) x4) (k1_pay256 (F := Ideal) x4)
        (k0_pay10 (F := Ideal) X) (k0_pay1 (F := Ideal) (k0_pay8 (F := Ideal) X)) (k0_pay2 (F := Ideal) (k0_pay9 (F := Ideal) X mu)) (ix2 a n)
      = rowScore (fun k => X (ix2 a k)) (fun k => mu (ix2 0 k)) (fun k => x3 (ix2 n k)) p q := by
  rw [block_score _ x4 _ _ _ a n _ _ _ (fun l => pay10_apply X a l) (fun l => (pay1_apply _ a l).trans (pay8_apply X a))
    (fun l => (pay2_apply _ a l).trans (pay9_apply X mu a)), block_product, h4, word_high, word_low, ← bf16_wide, ← bf16_wide]
  simp only [kernel_scale, kernel_code, reorder_low, reorder_high]
  unfold rowScore
  have small : ∀ (k : Fin 768) (b : BitVec 8), b.toNat < 16 →
      rowCode (fun k => X (ix2 a k)) k * Ideal.ofBits .f32 0x44000000#32 * Ideal.ofBits .fp8e4m3 b = rowCode (fun k => X (ix2 a k)) k * nat8 b := fun k b hb => by
    obtain ⟨z, -, -, hz⟩ := rowCode_int (fun k => X (ix2 a k)) k
    rw [hz]
    exact scaled_product _ b hb
  have e1 := fun k : Fin 384 => small ⟨2 * k.val, by omega⟩ (x3 (ix2 n k) &&& 15#8) (low_lt _)
  have e2 := fun k : Fin 384 => small ⟨2 * k.val + 1, by omega⟩ (x3 (ix2 n k) >>> 4) (high_lt _)
  simp only [e1, e2]

end Cert.Proof

end

end
-- ==== Proof.Scores.lean ====
/- The scores that the dense call leaves in its result, each from its query, its codes and its two numbers. -/
module

public import proofs.«01_k».proof.Proof.Quantised
public import proofs.«01_k».proof.Proof.Block
public import Idealize.ShloMosaic.Lib.Pipeline.ArrRel

@[expose] public section

set_option maxRecDepth 16384

noncomputable section

open Idealize.ShloMosaic Idealize.ShloMosaic.TcCoe Idealize.SL.Sem

namespace Cert.KernelIdeal.Dense

open Cert.KernelIdeal Cert.KernelIdeal.Gen Cert.Proof
open Idealize.ShloMosaic.Pipeline (Dat RDat Cfg Window)

section
variable {F : FTy → Type} [FloatOps F]
variable (m : (ℓ : Loc nD τ sig) → Buf (Elt F) ℓ)

/-! ## The operands that every point reads whole -/

theorem emb1_1 (t : Fin cfg1.N) (y : S384x768.Idx) : ((cfg1.win 1).blk t).view.emb y = y := by
  funext a; apply Fin.ext
  exact Pipeline.Window.rect_emb_val_of_index_zero win1_1 t a (by fin_cases a <;> rfl) y
theorem emb1_4 (t : Fin cfg1.N) (y : S384x128.Idx) : ((cfg1.win 4).blk t).view.emb y = y := by
  funext a; apply Fin.ext
  exact Pipeline.Window.rect_emb_val_of_index_zero win1_4 t a (by fin_cases a <;> rfl) y
theorem emb1_5 (t : Fin cfg1.N) (y : S384x128.Idx) : ((cfg1.win 5).blk t).view.emb y = y := by
  funext a; apply Fin.ext
  exact Pipeline.Window.rect_emb_val_of_index_zero win1_5 t a (by fin_cases a <;> rfl) y
theorem emb1_6 (t : Fin cfg1.N) (y : S384x128.Idx) : ((cfg1.win 6).blk t).view.emb y = y := by
  funext a; apply Fin.ext
  exact Pipeline.Window.rect_emb_val_of_index_zero win1_6 t a (by fin_cases a <;> rfl) y

theorem blk1_1 (c : Dev nD) (t : Fin cfg1.N) : iblk1 m c 1 t = k0_pay3 (k0_pay6 (V1 m c main_v5)) := by
  have e : entry1 m c (Pipeline.arrRef spec1 1) = k0_pay3 (k0_pay6 (V1 m c main_v5)) := (entry1_computed m c 4 (by decide)).trans (arr0_4 m c)
  unfold iblk1
  rw [e]
  generalize k0_pay3 (k0_pay6 (V1 m c main_v5)) = X
  funext i
  exact congrArg X (emb1_1 t i)
theorem blk1_4 (c : Dev nD) (t : Fin cfg1.N) : iblk1 m c 4 t = k0_pay10 (V1 m c main_v5) := by
  have e : entry1 m c (Pipeline.arrRef spec1 4) = k0_pay10 (V1 m c main_v5) := (entry1_computed m c 6 (by decide)).trans (arr0_6 m c)
  unfold iblk1
  rw [e]
  generalize k0_pay10 (V1 m c main_v5) = X
  funext i
  exact congrArg X (emb1_4 t i)
theorem blk1_5 (c : Dev nD) (t : Fin cfg1.N) : iblk1 m c 5 t = k0_pay1 (k0_pay8 (V1 m c main_v5)) := by
  have e : entry1 m c (Pipeline.arrRef spec1 5) = k0_pay1 (k0_pay8 (V1 m c main_v5)) := (entry1_computed m c 7 (by decide)).trans (arr0_7 m c)
  unfold iblk1
  rw [e]
  generalize k0_pay1 (k0_pay8 (V1 m c main_v5)) = X
  funext i
  exact congrArg X (emb1_5 t i)
theorem blk1_6 (c : Dev nD) (t : Fin cfg1.N) : iblk1 m c 6 t = k0_pay2 (k0_pay9 (V1 m c main_v5) (V1 m c main_v6)) := by
  have e : entry1 m c (Pipeline.arrRef spec1 6) = k0_pay2 (k0_pay9 (V1 m c main_v5) (V1 m c main_v6)) := (entry1_computed m c 8 (by decide)).trans (arr0_8 m c)
  unfold iblk1
  rw [e]
  generalize k0_pay2 (k0_pay9 (V1 m c main_v5) (V1 m c main_v6)) = X
  funext i
  exact congrArg X (emb1_6 t i)

/-! ## The codes and the packed numbers, inside the array -/

/-- Where the block of point `t` begins. -/
def start (t : Fin cfg1.N) : ℕ := cc1_transform_9 (grid1.coords t) 1 * 2048

/-- A place of the scores' block, in the array. -/
theorem emb8_row (t : Fin cfg1.N) (y : (win1_8.xblock (grid1.coords t)).Idx) : ((win1_8.blk t).view.emb y 0).val = (y 0).val := by
  exact Pipeline.Window.rect_emb_val_of_index_zero win1_8 t 0 rfl y
theorem emb8_col (t : Fin cfg1.N) (y : (win1_8.xblock (grid1.coords t)).Idx) : ((win1_8.blk t).view.emb y 1).val = start t + (y 1).val := by
  show start t + 1 * (y 1).val = _
  rw [Nat.one_mul]

theorem over_codes (c : Dev nD) (t : Fin cfg1.N) (d) (y : (win1_8.xblock (grid1.coords t)).Idx) (n : Fin 2048) (hn : n.val = (y 1).val) (k : Fin 384)
    (j : Fin 400000) (hj : j.val = start t + (y 1).val) :
    over1 m c 2 t d (ix2 n k) = m ((c : Thread nD τ).loc main_arg2) (ix2 j k) := by
  have e : entry1 m c (Pipeline.arrRef spec1 2) = m ((c : Thread nD τ).loc main_arg2) := entry1_kept m c main_arg2 (by decide) (by decide) (by decide)
  unfold over1 iblk1
  rw [e]
  generalize m ((c : Thread nD τ).loc main_arg2) = X
  have hx : ∀ a, ((ix2 n k : S2048x384.Idx) a).val < win1_2.xsize (grid1.coords t) a := by
    intro a
    fin_cases a
    · exact hn ▸ (y 1).isLt
    · exact k.isLt
  let z : (win1_2.xblock (grid1.coords t)).Idx := fun a => ⟨((ix2 n k : S2048x384.Idx) a).val, hx a⟩
  refine ((cfg1.win 2).fill_xinj (cfg1.grid.coords t) d _ z).trans ?_
  refine congrArg X (funext fun a => Fin.ext ?_)
  fin_cases a
  · show start t + 1 * n.val = j.val
    omega
  · show 0 * 384 + 1 * k.val = k.val
    omega

theorem over_words (c : Dev nD) (t : Fin cfg1.N) (d) (y : (win1_8.xblock (grid1.coords t)).Idx) (n : Fin 2048) (hn : n.val = (y 1).val)
    (j : Fin 400000) (hj : j.val = start t + (y 1).val) :
    over1 m c 3 t d (ix1 n) = V1 m c main_v4 (ix1 j) := by
  have e : entry1 m c (Pipeline.arrRef spec1 3) = V1 m c main_v4 := entry1_passed m c main_v4 (by decide) (by decide)
  unfold over1 iblk1
  rw [e]
  generalize V1 m c main_v4 = X
  have hx : ∀ a, ((ix1 n : S2048.Idx) a).val < win1_3.xsize (grid1.coords t) a := by
    intro a
    fin_cases a
    exact hn ▸ (y 1).isLt
  let z : (win1_3.xblock (grid1.coords t)).Idx := fun a => ⟨((ix1 n : S2048.Idx) a).val, hx a⟩
  refine ((cfg1.win 3).fill_xinj (cfg1.grid.coords t) d _ z).trans ?_
  refine congrArg X (funext fun a => Fin.ext ?_)
  fin_cases a
  show start t + 1 * n.val = j.val
  omega

/-- The packed word: the one number in its upper half, the other in its lower. -/
theorem words_eq (c : Dev nD) (j : Fin 400000) :
    V1 m c main_v4 (ix1 j) = ((m ((c : Thread nD τ).loc main_arg3) (ix1 j) : BitVec 16).setWidth 32 <<< 16) ||| (m ((c : Thread nD τ).loc main_arg4) (ix1 j) : BitVec 16).setWidth 32 := by
  have e : V1 m c main_v4 (ix1 j) = IntOp.shli .host ((m ((c : Thread nD τ).loc main_arg3) (ix1 j) : BitVec 16).setWidth 32) 16#32 ||| (m ((c : Thread nD τ).loc main_arg4) (ix1 j) : BitVec 16).setWidth 32 := rfl
  rw [e]
  simp [IntOp.shli]

end

/-! ## The array -/

variable (m : (ℓ : Loc nD τ sig) → Buf (Elt Ideal) ℓ)

/-- Every score. -/
def allScores (c : Dev nD) : Vec Ideal S384x400000 .f32 := fun i =>
  rowScore (fun k => (V1 m c main_v5 : Vec Ideal S384x768 .bf16) (ix2 (i 0) k)) (fun k => (V1 m c main_v6 : Vec Ideal S1x768 .f32) (ix2 0 k))
    (fun k => (m ((c : Thread nD τ).loc main_arg2) : Vec Ideal S400000x384 .i8) (ix2 (i 1) k))
    ((m ((c : Thread nD τ).loc main_arg3) : Vec Ideal S400000 .i16) (ix1 (i 1))) ((m ((c : Thread nD τ).loc main_arg4) : Vec Ideal S400000 .i16) (ix1 (i 1)))

/-- The block of a point holds its part of them. -/
theorem scores_at (c : Dev nD) (t : Fin cfg1.N) (X : S384x2048.Idx → EReal) (hX : IsScores m c t X) (y : (win1_8.xblock (grid1.coords t)).Idx) :
    X (win1_8.xinj (grid1.coords t) y) = allScores m c ((win1_8.blk t).view.emb y) := by
  obtain ⟨d2, d3, rfl⟩ := hX
  rw [blk1_1, blk1_4, blk1_5, blk1_6]
  obtain ⟨a, ha⟩ : ∃ a : Fin 384, a = win1_8.xinj (grid1.coords t) y 0 := ⟨_, rfl⟩
  obtain ⟨n, hn⟩ : ∃ n : Fin 2048, n = win1_8.xinj (grid1.coords t) y 1 := ⟨_, rfl⟩
  have hy : win1_8.xinj (grid1.coords t) y = (ix2 a n : S384x2048.Idx) := by rw [ha, hn]; exact eq_ix2 _
  have hn' : n.val = (y 1).val := congrArg Fin.val hn
  have ha' : a.val = (y 0).val := congrArg Fin.val ha
  obtain ⟨j, hj⟩ : ∃ j : Fin 400000, j = (win1_8.blk t).view.emb y 1 := ⟨_, rfl⟩
  have hj' : j.val = start t + (y 1).val := (congrArg Fin.val hj).trans (emb8_col t y)
  have hr : (win1_8.blk t).view.emb y 0 = a := Fin.ext ((emb8_row t y).trans ha'.symm)
  unfold allScores
  rw [hr, ← hj, hy]
  unfold scores
  rw [block_apply (V1 m c main_v5) (V1 m c main_v6) (over1 m c 2 t d2) (over1 m c 3 t d3) a n _ _ ((over_words m c t d3 y n hn' j hj').trans (words_eq m c j))]
  congr 1
  funext k
  exact over_codes m c t d2 y n hn' k j hj'

/-- What the scores' array holds in the end. -/
theorem scores_array (c : Dev nD) (G : Buf (Elt Ideal) ((c : Thread nD τ).loc main_v12_0)) (hG : (known1 m c).ArrAt 8 cfg1.N G) : G = allScores m c := by
  obtain ⟨X, hX, hA⟩ := hG.exists_exact
  refine (hA (Function.update (fun _ _ _ => Classical.arbitrary _) 8 X) fun u _ _ => by rw [Function.update_self]).trans ?_
  refine ((known1 m c).withAfter (Function.update (fun _ _ _ => Classical.arbitrary _) 8 X)).arrAt_eq_of_covers 8 _ (by decide +kernel) fun t hf y => ?_
  rw [RDat.withAfter_after, Function.update_self]
  exact scores_at m c t (X t) (Dat.toRRel_leaves (dats1 m c) rfl (hX t t.isLt hf)) y

end Cert.KernelIdeal.Dense

end

end
-- ==== Proof.Reference.lean ====
/- The reference at the ideal instance: its scales, codes and scores in closed form. -/
module

public import proofs.«01_k».proof.Proof.Block
public import proofs.«01_k».proof.Proof.Gen.ReferenceIdeal.Run
public import Idealize.ShloMosaic.Lib.Pointwise

@[expose] public section

set_option maxRecDepth 16384

noncomputable section

open Idealize.ShloMosaic Idealize.ShloMosaic.TcCoe

namespace Cert.Proof

open Cert.ReferenceIdeal Cert.ReferenceIdeal.Gen

/-- The reference's scales. -/
def refScale (X : FVec Ideal S3x128x768 .bf16) : FVec Ideal S3x128 .f32 :=
  select (cmpf .oeq (Host.reduce FloatOps.maximumf (Host.absf (extf .f32 X bitsLt_bf16_f32)) (constant S_ .f32 0xFF800000#32) reducesTo_S3x128x768_S3x128_d2 h_S_) (broadcastInDim S3x128 ![] bcast_S_S3x128 (constant S_ .f32 0x00000000#32))) (broadcastInDim S3x128 ![] bcast_S_S3x128 (constant S_ .f32 0x3F800000#32)) (Host.divf (Host.reduce FloatOps.maximumf (Host.absf (extf .f32 X bitsLt_bf16_f32)) (constant S_ .f32 0xFF800000#32) reducesTo_S3x128x768_S3x128_d2 h_S_) (broadcastInDim S3x128 ![] bcast_S_S3x128 (constant S_ .f32 0x42FE0000#32)))

/-- The reference's rounded numbers, before their conversion to integers. -/
def refCode (X : FVec Ideal S3x128x768 .bf16) : FVec Ideal S3x128x768 .f32 :=
  minimumf (broadcastInDim S3x128x768 ![] bcast_S_S3x128x768 (constant S_ .f32 0x42FE0000#32)) (maximumf (broadcastInDim S3x128x768 ![] bcast_S_S3x128x768 (constant S_ .f32 0xC2FE0000#32)) (Host.roundeven (Host.divf (extf .f32 X bitsLt_bf16_f32) (broadcastInDim S3x128x768 ![0, 1, 2] bcast_S3x128x1_S3x128x768_0_1_2 (broadcastInDim S3x128x1 ![0, 1] bcast_S3x128_S3x128x1_0_1 (refScale X))))))

/-- The reference's integers, read back as numbers. -/
def refBack (X : FVec Ideal S3x128x768 .bf16) : FVec Ideal S3x128x768 .f32 :=
  sitofp .f32 (extsi 32 (trunci 8 (fptosi 32 (refCode X)) natLt_8_32) natLt_8_32)

/-- The two products of the integers with the half-bytes, added. -/
def refProduct (Q : FVec Ideal S3x128x768 .f32) (B : IVec S400000x384 8) : FVec Ideal S3x128x400000 .f32 :=
  addf (Host.dotGeneral dot_S3x128x384_S400000x384_S3x128x400000_2_1_01_0_n_n none
      (Host.slice S3x128x384 ![0, 0, 0] ![1, 1, 2] (truncf .bf16 Q bitsLt_bf16_f32) slicesBy_S3x128x768_S3x128x384_0s1_0s1_0s2)
      (truncf .bf16 (sitofp .f32 (andi (extui 32 B natLt_8_32) (broadcastInDim S400000x384 ![] bcast_S_S400000x384 (constantI S_ 32 15#32)))) bitsLt_bf16_f32 : FVec Ideal S400000x384 .bf16))
    (Host.dotGeneral dot_S3x128x384_S400000x384_S3x128x400000_2_1_01_0_n_n none
      (Host.slice S3x128x384 ![0, 0, 1] ![1, 1, 2] (truncf .bf16 Q bitsLt_bf16_f32) slicesBy_S3x128x768_S3x128x384_0s1_0s1_1s2)
      (truncf .bf16 (sitofp .f32 (Host.shrsi (extui 32 B natLt_8_32) (broadcastInDim S400000x384 ![] bcast_S_S400000x384 (constantI S_ 32 4#32)))) bitsLt_bf16_f32 : FVec Ideal S400000x384 .bf16))

/-- The reference's scores from its scales, integers and products. -/
def refScore (S : FVec Ideal S3x128 .f32) (Q : FVec Ideal S3x128x768 .f32) (P : FVec Ideal S3x128x400000 .f32) (mu : FVec Ideal S768 .f32) (lo st : IVec S400000 16) :
    FVec Ideal S3x128x400000 .f32 :=
  addf (addf (broadcastInDim S3x128x400000 ![0, 1, 2] bcast_S3x128x1_S3x128x400000_0_1_2 (broadcastInDim S3x128x1 ![0, 1] bcast_S3x128_S3x128x1_0_1 (mulf S (Host.dotGeneral dot_S3x128x768_S768_S3x128_2_0_01_n_n_n (some .fp32) Q mu))))
      (mulf (broadcastInDim S3x128x400000 ![0, 1, 2] bcast_S1x1x400000_S3x128x400000_0_1_2 (broadcastInDim S1x1x400000 ![2] bcast_S400000_S1x1x400000_2 (extf .f32 (bitcastToFloat (F := Ideal) .bf16 lo) bitsLt_bf16_f32)))
        (broadcastInDim S3x128x400000 ![0, 1, 2] bcast_S3x128x1_S3x128x400000_0_1_2 (broadcastInDim S3x128x1 ![0, 1] bcast_S3x128_S3x128x1_0_1 (mulf S (Host.reduceAdd Q (constant S_ .f32 0x00000000#32) reducesTo_S3x128x768_S3x128_d2 h_S_))))))
    (mulf (broadcastInDim S3x128x400000 ![0, 1, 2] bcast_S1x1x400000_S3x128x400000_0_1_2 (broadcastInDim S1x1x400000 ![2] bcast_S400000_S1x1x400000_2 (extf .f32 (bitcastToFloat (F := Ideal) .bf16 st) bitsLt_bf16_f32)))
      (mulf (broadcastInDim S3x128x400000 ![0, 1, 2] bcast_S3x128x1_S3x128x400000_0_1_2 (broadcastInDim S3x128x1 ![0, 1] bcast_S3x128_S3x128x1_0_1 S)) P))

set_option maxHeartbeats 2000000 in
/-- The scores that the reference returns are those. -/
theorem ref_primary (m : (ℓ : Loc nD τ sig) → Buf (Elt Ideal) ℓ) (c : Dev nD) :
    Cert.ReferenceIdeal.Value.res_main_v55 (F := Ideal) m c
      = shapeCast S384x400000 (refScore (refScale (m ((c.tc : Thread nD τ).loc main_arg0))) (refBack (m ((c.tc : Thread nD τ).loc main_arg0)))
          (refProduct (refBack (m ((c.tc : Thread nD τ).loc main_arg0))) (m ((c.tc : Thread nD τ).loc main_arg2)))
          (m ((c.tc : Thread nD τ).loc main_arg1)) (m ((c.tc : Thread nD τ).loc main_arg3)) (m ((c.tc : Thread nD τ).loc main_arg4))) shapeCasts_S3x128x400000_S384x400000 := rfl

theorem refScale_apply (X : FVec Ideal S3x128x768 .bf16) (a : Fin 3) (b : Fin 128) :
    refScale X (ix2 a b) = rowScale fun k => X (ix3 a b k) := by
  unfold rowScale rowMax
  pointwise! [refScale]

theorem refCode_apply (X : FVec Ideal S3x128x768 .bf16) (a : Fin 3) (b : Fin 128) (k : Fin 768) :
    refCode X (ix3 a b k) = rowCode (fun k => X (ix3 a b k)) k := by
  unfold rowCode
  rw [← ofBits_127, ← ofBits_neg127, ← refScale_apply]
  pointwise! [refCode]

theorem refBack_apply (X : FVec Ideal S3x128x768 .bf16) (a : Fin 3) (b : Fin 128) (k : Fin 768) :
    refBack X (ix3 a b k) = rowCode (fun k => X (ix3 a b k)) k := by
  have e : refBack X (ix3 a b k) = (((((Ideal.fptosi 32 (refCode X (ix3 a b k))).setWidth 8).signExtend 32).toInt : ℝ) : EReal) := rfl
  rw [e, refCode_apply]
  obtain ⟨z, h1, h2, hz⟩ := rowCode_int (fun k => X (ix3 a b k)) k
  rw [hz]
  exact int_back z h1 h2

theorem refProduct_apply (Q : FVec Ideal S3x128x768 .f32) (B : IVec S400000x384 8) (a : Fin 3) (b : Fin 128) (n : Fin 400000) :
    refProduct Q B (ix3 a b n) = (∑ k : Fin 384, Q (ix3 a b (⟨2 * k.val, by omega⟩ : Fin 768)) * nat8 (B (ix2 n k) &&& 15#8))
      + ∑ k : Fin 384, Q (ix3 a b (⟨2 * k.val + 1, by omega⟩ : Fin 768)) * nat8 (B (ix2 n k) >>> 4) := by
  unfold refProduct
  pointwise
  refine congrArg₂ (· + ·) (Finset.sum_congr rfl fun k _ => ?_) (Finset.sum_congr rfl fun k _ => ?_)
  · exact congrArg₂ (· * ·) rfl (low_wide (B (ix2 n k)))
  · have e : IntOp.shrsi ArithUnit.host ((B (ix2 n k)).setWidth 32) 4#32 = ((B (ix2 n k)).setWidth 32).sshiftRight 4 := by simp [IntOp.shrsi]
    rw [e]
    have i : (⟨1 + 2 * k.val, by omega⟩ : Fin 768) = ⟨2 * k.val + 1, by omega⟩ := Fin.ext (by simp; omega)
    rw [i]
    exact congrArg₂ (· * ·) rfl (high_wide (B (ix2 n k)))

theorem refScore_apply (S : FVec Ideal S3x128 .f32) (Q : FVec Ideal S3x128x768 .f32) (P : FVec Ideal S3x128x400000 .f32) (mu : FVec Ideal S768 .f32) (lo st : IVec S400000 16)
    (a : Fin 3) (b : Fin 128) (n : Fin 400000) :
    refScore S Q P mu lo st (ix3 a b n)
      = (S (ix2 a b) * ∑ k : Fin 768, Q (ix3 a b k) * mu (ix1 k) + Ideal.ofBits .bf16 (lo (ix1 n)) * (S (ix2 a b) * ∑ k : Fin 768, Q (ix3 a b k)))
        + Ideal.ofBits .bf16 (st (ix1 n)) * (S (ix2 a b) * P (ix3 a b n)) := by
  pointwise! [refScore]

/-- One score of the reference. -/
theorem refPrimary_apply (X : FVec Ideal S3x128x768 .bf16) (mu : FVec Ideal S768 .f32) (B : IVec S400000x384 8) (lo st : IVec S400000 16)
    (a : Fin 3) (b : Fin 128) (n : Fin 400000) :
    refScore (refScale X) (refBack X) (refProduct (refBack X) B) mu lo st (ix3 a b n)
      = rowScore (fun k => X (ix3 a b k)) (fun k => mu (ix1 k)) (fun k => B (ix2 n k)) (lo (ix1 n)) (st (ix1 n)) := by
  rw [refScore_apply, refProduct_apply, refScale_apply]
  simp only [refBack_apply]
  rfl

end Cert.Proof

end

end
-- ==== Proof.Equation.lean ====
/- The kernel's results are the reference's: the scores, the codes and the scales. -/
module

public import proofs.«01_k».proof.Defs
public import proofs.«01_k».proof.Proof.Ideal.Frame
public import proofs.«01_k».proof.Proof.Scores
public import proofs.«01_k».proof.Proof.Reference

@[expose] public section

set_option maxRecDepth 16384

noncomputable section

open Idealize.ShloMosaic Idealize.ShloMosaic.TcCoe Idealize.SL.Sem

namespace Cert.Proof

/-- The codes: the kernel's conversion of its rounded numbers is the reference's. -/
theorem codes_eq (X : FVec Ideal ReferenceIdeal.S3x128x768 .bf16) :
    shapeCast ReferenceIdeal.S384x768 (trunci 8 (fptosi 32 (refCode X)) ReferenceIdeal.Gen.natLt_8_32) ReferenceIdeal.Gen.shapeCasts_S3x128x768_S384x768
      = KernelIdeal.Gen.k0_pay7 (F := Ideal) (shapeCast KernelIdeal.S384x768 X KernelIdeal.Gen.shapeCasts_S3x128x768_S384x768) := by
  funext j
  idx_vars j
  have hk : KernelIdeal.Gen.k0_pay7 (F := Ideal) (shapeCast KernelIdeal.S384x768 X KernelIdeal.Gen.shapeCasts_S3x128x768_S384x768) (ix2 j0 j1)
      = Ideal.fptosi 8 (KernelIdeal.Gen.k0_pay6 (F := Ideal) (shapeCast KernelIdeal.S384x768 X KernelIdeal.Gen.shapeCasts_S3x128x768_S384x768) (ix2 j0 j1)) := rfl
  rw [hk, kernel_code]
  pointwise
  rw [refCode_apply]
  unfold rowCode
  exact (fptosi_trunc _).symm

/-- The scales. -/
theorem scales_eq (X : FVec Ideal ReferenceIdeal.S3x128x768 .bf16) :
    shapeCast ReferenceIdeal.S384x1 (refScale X) ReferenceIdeal.Gen.shapeCasts_S3x128_S384x1
      = KernelIdeal.Gen.k0_pay5 (F := Ideal) (shapeCast KernelIdeal.S384x768 X KernelIdeal.Gen.shapeCasts_S3x128x768_S384x768) := by
  funext j
  idx_vars j
  rw [kernel_scale]
  pointwise
  rw [refScale_apply]

/-- The scores of the kernel as a function of the arguments. -/
def kernelScores (X : FVec Ideal ReferenceIdeal.S3x128x768 .bf16) (mu : FVec Ideal ReferenceIdeal.S768 .f32) (B : IVec ReferenceIdeal.S400000x384 8) (lo st : IVec ReferenceIdeal.S400000 16) :
    FVec Ideal ReferenceIdeal.S384x400000 .f32 := fun i =>
  rowScore (fun k => shapeCast KernelIdeal.S384x768 X KernelIdeal.Gen.shapeCasts_S3x128x768_S384x768 (ix2 (i 0) k))
    (fun k => shapeCast KernelIdeal.S1x768 mu KernelIdeal.Gen.shapeCasts_S768_S1x768 (ix2 0 k)) (fun k => B (ix2 (i 1) k)) (lo (ix1 (i 1))) (st (ix1 (i 1)))

theorem allScores_eq (m : (ℓ : Loc KernelIdeal.nD KernelIdeal.τ KernelIdeal.sig) → Buf (Elt Ideal) ℓ) (c : Dev KernelIdeal.nD) :
    KernelIdeal.Dense.allScores m c = kernelScores (m ((c.tc : Thread KernelIdeal.nD KernelIdeal.τ).loc KernelIdeal.main_arg0)) (m ((c.tc : Thread KernelIdeal.nD KernelIdeal.τ).loc KernelIdeal.main_arg1))
      (m ((c.tc : Thread KernelIdeal.nD KernelIdeal.τ).loc KernelIdeal.main_arg2)) (m ((c.tc : Thread KernelIdeal.nD KernelIdeal.τ).loc KernelIdeal.main_arg3)) (m ((c.tc : Thread KernelIdeal.nD KernelIdeal.τ).loc KernelIdeal.main_arg4)) := rfl

/-- The scores. -/
theorem all_eq (X : FVec Ideal ReferenceIdeal.S3x128x768 .bf16) (mu : FVec Ideal ReferenceIdeal.S768 .f32) (B : IVec ReferenceIdeal.S400000x384 8) (lo st : IVec ReferenceIdeal.S400000 16) :
    shapeCast ReferenceIdeal.S384x400000 (refScore (refScale X) (refBack X) (refProduct (refBack X) B) mu lo st) ReferenceIdeal.Gen.shapeCasts_S3x128x400000_S384x400000
      = kernelScores X mu B lo st := by
  have h := refPrimary_apply X mu B lo st
  generalize refScore (refScale X) (refBack X) (refProduct (refBack X) B) mu lo st = R at h ⊢
  funext j
  idx_vars j
  unfold kernelScores
  pointwise
  rw [h]

set_option maxHeartbeats 2000000 in
open Cert.KernelIdeal Cert.KernelIdeal.Gen Cert.KernelIdeal.Dense in
/-- The kernel and the reference end with equal scores, codes and scales. -/
theorem algebraic : Cert.algebraic_KernelIdeal_ReferenceIdeal := by
  intro m ρ m' ρ' hpre hagree
  refine ⟨fun c => allScores m c, fun c => k0_pay7 (F := Ideal) (V1 m c main_v5), fun c => k0_pay5 (F := Ideal) (V1 m c main_v5), ?_, ?_⟩
  · refine (θ_run _ _ _).mono (fun r h c => ?_) (Cert.KernelIdeal.Dense.run (F := Ideal) m (bound m hpre) ρ)
    obtain ⟨h0, h1, h2, ha⟩ := h.1 c
    exact ⟨scores_array m c _ h0, h1.trans (arr0_2 m c), h2.trans (arr0_3 m c), ha⟩
  · refine (θ_run Cert.ReferenceIdeal.defs _ _).mono (fun _ h c => ⟨(h c).1.trans ?_, (h c).2.1.trans ?_, (h c).2.2.1.trans ?_, (h c).2.2.2⟩)
      (Cert.ReferenceIdeal.Value.run (F := Ideal) m' ρ')
    · beta_reduce
      rw [ref_primary, allScores_eq, (hagree c).1, (hagree c).2.1, (hagree c).2.2.1, (hagree c).2.2.2.1, (hagree c).2.2.2.2.1]
      exact all_eq _ _ _ _ _
    · beta_reduce
      rw [(hagree c).1, queries_eq]
      exact codes_eq _
    · beta_reduce
      rw [(hagree c).1, queries_eq]
      exact scales_eq _

end Cert.Proof

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_in_range
public import Idealize.ShloMosaic.Adequacy
public import Idealize.ShloMosaic.Init
public import proofs.«01_k».proof.Proof.Gen.ReferenceIdeal.Run
public import Idealize.ShloMosaic.Lib.Quiescent
public import proofs.«01_k».proof.Proof.Bits.Frame
public import proofs.«01_k».proof.Proof.Ideal.Frame
public import proofs.«01_k».proof.Proof.Equation

@[expose] public section

noncomputable section

namespace Cert.Proof

open Idealize.ShloMosaic Idealize.SL.Sem

/-- The reference's frame, from any memory. -/
theorem reference_frame : Cert.quiescent_ReferenceIdeal := fun m g _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m g)

/-- The same, from a memory of which the precondition holds. -/
theorem reference_frame_in_range : Cert.quiescent_ReferenceIdeal_pre_in_range := fun m g _ => reference_frame m g trivial

theorem claim : Cert.Claim := ⟨Cert.Kernel.Gen.facts, Cert.KernelIdeal.Gen.facts, Cert.ReferenceIdeal.Gen.facts, Cert.Pre_in_range.Gen.facts,
  Cert.Kernel.Dense.frame, Cert.KernelIdeal.Dense.frame, reference_frame, reference_frame_in_range, trivial, algebraic⟩

end Cert.Proof

end
